-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "scale" .f32 0x3E38AA3B#32 (((1 / 8) * (Real.log 2)⁻¹ : ℝ) : EReal)
  ∧ IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v25_0)) (v1 : (c : Dev Cert.Kernel7Ideal.nD) → Buf (Elt Ideal) ((c.tc : Thread Cert.Kernel7Ideal.nD Cert.Kernel7Ideal.τ).loc Cert.Kernel7Ideal.main_v25_1)) (v2 : (c : Dev Cert.Kernel7Ideal.nD) → Buf (Elt Ideal) ((c.tc : Thread Cert.Kernel7Ideal.nD Cert.Kernel7Ideal.τ).loc Cert.Kernel7Ideal.main_v25_2)) (v3 : (c : Dev Cert.Kernel7Ideal.nD) → Buf (Elt Ideal) ((c.tc : Thread Cert.Kernel7Ideal.nD Cert.Kernel7Ideal.τ).loc Cert.Kernel7Ideal.main_v25_3)) (v4 : (c : Dev Cert.Kernel7Ideal.nD) → Buf (Elt Ideal) ((c.tc : Thread Cert.Kernel7Ideal.nD Cert.Kernel7Ideal.τ).loc Cert.Kernel7Ideal.main_v25_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25_0) = v0 c
          ∧ r.2.mem ((c.tc : Thread Cert.Kernel7Ideal.nD Cert.Kernel7Ideal.τ).loc Cert.Kernel7Ideal.main_v25_1) = v1 c
          ∧ r.2.mem ((c.tc : Thread Cert.Kernel7Ideal.nD Cert.Kernel7Ideal.τ).loc Cert.Kernel7Ideal.main_v25_2) = v2 c
          ∧ r.2.mem ((c.tc : Thread Cert.Kernel7Ideal.nD Cert.Kernel7Ideal.τ).loc Cert.Kernel7Ideal.main_v25_3) = v3 c
          ∧ r.2.mem ((c.tc : Thread Cert.Kernel7Ideal.nD Cert.Kernel7Ideal.τ).loc Cert.Kernel7Ideal.main_v25_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_v68) = v1 c
          ∧ r.2.mem ((c.tc : Thread Cert.Reference7Ideal.nD Cert.Reference7Ideal.τ).loc Cert.Reference7Ideal.main_v69) = v2 c
          ∧ r.2.mem ((c.tc : Thread Cert.Reference7Ideal.nD Cert.Reference7Ideal.τ).loc Cert.Reference7Ideal.main_v71) = v3 c
          ∧ r.2.mem ((c.tc : Thread Cert.Reference7Ideal.nD Cert.Reference7Ideal.τ).loc Cert.Reference7Ideal.main_v73) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite5 : Cert.Pre_finite5.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite5.lean ====
abbrev S32768x6144 : Shape := ⟨2, ![32768, 6144]⟩
abbrev S32768x1024 : Shape := ⟨2, ![32768, 1024]⟩
abbrev S4x64 : Shape := ⟨2, ![4, 64]⟩
abbrev S128 : Shape := ⟨1, ![128]⟩
abbrev S32768x512 : Shape := ⟨2, ![32768, 512]⟩
abbrev S_ : Shape := ⟨0, ![]⟩

class Facts : Prop where
  slices_S32768x1024_S32768x512_0_512 : S32768x1024.Slices ![0, 512] S32768x512
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x6144 .f32) (main_arg1 : FVec F S32768x1024 .bf16) (main_arg2 : FVec F S4x64 .f32) (main_arg3 : FVec F S128 .f32) : IVec S_ 1 :=
  let main_v0 : FVec F S32768x512 .bf16 := (extractStridedSlice S32768x512 ![0, 512] · slices_S32768x1024_S32768x512_0_512) main_arg1
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_c : IVec S_ 1 := constantI S_ 1 1#1
  let main_v5 : IVec S_ 1 := (fun x v => Host.reduce IntOp.andi x v reducesTo_S32768x512_S_d0_1 h_S_) main_v4 main_c
  let main_v6 : FVec F S4x64 .f32 := Host.absf main_arg2
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  main_v10
-- ==== Kernel.lean ====
abbrev S262144x128 : Shape := ⟨2, ![262144, 128]⟩
abbrev S32768x128 : Shape := ⟨2, ![32768, 128]⟩
abbrev S1024x512 : Shape := ⟨2, ![1024, 512]⟩
abbrev S32768x512 : Shape := ⟨2, ![32768, 512]⟩
abbrev S2048x128 : Shape := ⟨2, ![2048, 128]⟩
abbrev S256x128 : Shape := ⟨2, ![256, 128]⟩
abbrev S16384x128 : Shape := ⟨2, ![16384, 128]⟩
abbrev S256x512 : Shape := ⟨2, ![256, 512]⟩
abbrev S128x256x128 : Shape := ⟨3, ![128, 256, 128]⟩
abbrev S4x256x128 : Shape := ⟨3, ![4, 256, 128]⟩
abbrev S512x128 : Shape := ⟨2, ![512, 128]⟩
abbrev S1024x128 : Shape := ⟨2, ![1024, 128]⟩
abbrev S256x1 : Shape := ⟨2, ![256, 1]⟩
abbrev S1x256x128 : Shape := ⟨3, ![1, 256, 128]⟩
abbrev S1x8x128 : Shape := ⟨3, ![1, 8, 128]⟩
abbrev S8x128 : Shape := ⟨2, ![8, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S4x256x512 : Shape := ⟨3, ![4, 256, 512]⟩
abbrev S1x256x512 : Shape := ⟨3, ![1, 256, 512]⟩
abbrev S1024 : Shape := ⟨1, ![1024]⟩
abbrev S1024x1 : Shape := ⟨2, ![1024, 1]⟩
abbrev S256x1024 : Shape := ⟨2, ![256, 1024]⟩

abbrev nBuf : Space → Nat
  | .hbm => 7
  | .vmem => 18
  | .smem => 0
  | _ => 0

abbrev bufTy : (tb : Table) → Fin (tcTables nBuf tb) → BufTy
  | .hbm, ⟨0, _⟩ => ⟨S262144x128, .bf16⟩
  | .hbm, ⟨1, _⟩ => ⟨S262144x128, .bf16⟩
  | .hbm, ⟨2, _⟩ => ⟨S32768x128, .f32⟩
  | .hbm, ⟨3, _⟩ => ⟨S32768x128, .bf16⟩
  | .hbm, ⟨4, _⟩ => ⟨S32768x128, .bf16⟩
  | .hbm, ⟨5, _⟩ => ⟨S1024x512, .bf16⟩
  | .hbm, ⟨6, _⟩ => ⟨S32768x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S256x128, .f32⟩
  | .local _ .vmem, ⟨5, _⟩ => ⟨S256x128, .f32⟩
  | .local _ .vmem, ⟨6, _⟩ => ⟨S16384x128, .bf16⟩
  | .local _ .vmem, ⟨7, _⟩ => ⟨S16384x128, .bf16⟩
  | .local _ .vmem, ⟨8, _⟩ => ⟨S1024x512, .bf16⟩
  | .local _ .vmem, ⟨9, _⟩ => ⟨S256x512, .f32⟩
  | .local _ .vmem, ⟨10, _⟩ => ⟨S256x512, .f32⟩
  | .local _ .vmem, ⟨11, _⟩ => ⟨S128x256x128, .i32⟩
  | .local _ .vmem, ⟨12, _⟩ => ⟨S4x256x128, .i32⟩
  | .local _ .vmem, ⟨13, _⟩ => ⟨S4x256x128, .i32⟩
  | .local _ .vmem, ⟨14, _⟩ => ⟨S4x256x128, .i32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S262144x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_26 : BitVec 32 := 1#32
  ⟨c0_i32_24, v68, c1_i32_26⟩
def k0_mult1 (i : grid0.Coords) (k0_t1 : Fin (k0_t1_loop i).trips) : BitVec 32 :=
  let c4_i32_114 : BitVec 32 := 4#32
  let c0_i32_24 : BitVec 32 := 0#32
  let c1_i32_26 : BitVec 32 := 1#32
  let arg16 : BitVec 32 := Scf.iv c0_i32_24 c1_i32_26 k0_t1
  let v226 : BitVec 32 := Scalar.muli c4_i32_114 arg16
  let c0_i32_115 : BitVec 32 := 0#32
  let v227 : BitVec 32 := Scalar.addi v226 c0_i32_115
  let c512_i32_116 : BitVec 32 := 512#32
  let v228 : BitVec 32 := Scalar.muli v227 c512_i32_116
  v228
def k0_off1 (i : grid0.Coords) (k0_t1 : Fin (k0_t1_loop i).trips) (c0_i32_115 : BitVec 32) : Fin 2 → Nat :=
  let c4_i32_114 : BitVec 32 := 4#32
  let c0_i32_24 : BitVec 32 := 0#32
  let c1_i32_26 : BitVec 32 := 1#32
  let arg16 : BitVec 32 := Scf.iv c0_i32_24 c1_i32_26 k0_t1
  let v226 : BitVec 32 := Scalar.muli c4_i32_114 arg16
  let v227 : BitVec 32 := Scalar.addi v226 c0_i32_115
  let c512_i32_116 : BitVec 32 := 512#32
  let v228 : BitVec 32 := Scalar.muli v227 c512_i32_116
  let v229 : BitVec 32 := v228
  let v230 : Index := Scalar.indexCast v229
  let c0_117 : Index := 0#32
  ![v230.toNat, 0]
def k0_off2 (i : grid0.Coords) (k0_t1 : Fin (k0_t1_loop i).trips) (c0_i32_115 : BitVec 32) (c0_i32_134 : BitVec 32) : Fin 3 → Nat :=
  let c4_i32_114 : BitVec 32 := 4#32
  let c0_i32_24 : BitVec 32 := 0#32
  let c1_i32_26 : BitVec 32 := 1#32
  let arg16 : BitVec 32 := Scf.iv c0_i32_24 c1_i32_26 k0_t1
  let v226 : BitVec 32 := Scalar.muli c4_i32_114 arg16
  let v227 : BitVec 32 := Scalar.addi v226 c0_i32_115
  let c4_i32_133 : BitVec 32 := 4#32
  let v305 : BitVec 32 := Scalar.muli v227 c4_i32_133
  let v306 : BitVec 32 := Scalar.addi v305 c0_i32_134
  let v307 : Index := Scalar.indexCast v306
  let c0_135 : Index := 0#32
  let c0_136 : Index := 0#32
  ![v307.toNat, 0, 0]
def k0_mult2 (i : grid0.Coords) (k0_t1 : Fin (k0_t1_loop i).trips) : BitVec 32 :=
  let c4_i32_149 : BitVec 32 := 4#32
  let c0_i32_24 : BitVec 32 := 0#32
  let c1_i32_26 : BitVec 32 := 1#32
  let arg16 : BitVec 32 := Scf.iv c0_i32_24 c1_i32_26 k0_t1
  let v332 : BitVec 32 := Scalar.muli c4_i32_149 arg16
  let c1_i32_150 : BitVec 32 := 1#32
  let v333 : BitVec 32 := Scalar.addi v332 c1_i32_150
  let c512_i32_151 : BitVec 32 := 512#32
  let v334 : BitVec 32 := Scalar.muli v333 c512_i32_151
  v334
def k0_mult3 (i : grid0.Coords) (k0_t1 : Fin (k0_t1_loop i).trips) : BitVec 32 :=
  let c4_i32_187 : BitVec 32 := 4#32
  let c0_i32_24 : BitVec 32 := 0#32
  let c1_i32_26 : BitVec 32 := 1#32
  let arg16 : BitVec 32 := Scf.iv c0_i32_24 c1_i32_26 k0_t1
  let v438 : BitVec 32 := Scalar.muli c4_i32_187 arg16
  let c2_i32_188 : BitVec 32 := 2#32
  let v439 : BitVec 32 := Scalar.addi v438 c2_i32_188
  let c512_i32_189 : BitVec 32 := 512#32
  let v440 : BitVec 32 := Scalar.muli v439 c512_i32_189
  v440
def k0_mult4 (i : grid0.Coords) (k0_t1 : Fin (k0_t1_loop i).trips) : BitVec 32 :=
  let c4_i32_225 : BitVec 32 := 4#32
  let c0_i32_24 : BitVec 32 := 0#32
  let c1_i32_26 : BitVec 32 := 1#32
  let arg16 : BitVec 32 := Scf.iv c0_i32_24 c1_i32_26 k0_t1
  let v544 : BitVec 32 := Scalar.muli c4_i32_225 arg16
  let c3_i32_226 : BitVec 32 := 3#32
  let v545 : BitVec 32 := Scalar.addi v544 c3_i32_226
  let c512_i32_227 : BitVec 32 := 512#32
  let v546 : BitVec 32 := Scalar.muli v545 c512_i32_227
  v546
@[reducible] def k0_t2_loop (i : grid0.Coords) : Scf.Loop 32 :=
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let v65 : BitVec 32 := Scalar.addi c0_i32_24 v64
  let c1_i32_27 : BitVec 32 := 1#32
  ⟨v68, v65, c1_i32_27⟩
def k0_mult5 (i : grid0.Coords) (k0_t2 : Fin (k0_t2_loop i).trips) : BitVec 32 :=
  let c4_i32_114 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v226 : BitVec 32 := Scalar.muli c4_i32_114 arg16
  let c0_i32_115 : BitVec 32 := 0#32
  let v227 : BitVec 32 := Scalar.addi v226 c0_i32_115
  let c512_i32_116 : BitVec 32 := 512#32
  let v228 : BitVec 32 := Scalar.muli v227 c512_i32_116
  v228
def k0_off3 (i : grid0.Coords) (k0_t2 : Fin (k0_t2_loop i).trips) (c0_i32_115 : BitVec 32) : Fin 2 → Nat :=
  let c4_i32_114 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v226 : BitVec 32 := Scalar.muli c4_i32_114 arg16
  let v227 : BitVec 32 := Scalar.addi v226 c0_i32_115
  let c512_i32_116 : BitVec 32 := 512#32
  let v228 : BitVec 32 := Scalar.muli v227 c512_i32_116
  let v229 : BitVec 32 := v228
  let v230 : Index := Scalar.indexCast v229
  let c0_117 : Index := 0#32
  ![v230.toNat, 0]
def k0_off4 (i : grid0.Coords) (k0_t2 : Fin (k0_t2_loop i).trips) (c0_i32_115 : BitVec 32) (c0_i32_134 : BitVec 32) : Fin 3 → Nat :=
  let c4_i32_114 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v226 : BitVec 32 := Scalar.muli c4_i32_114 arg16
  let v227 : BitVec 32 := Scalar.addi v226 c0_i32_115
  let c4_i32_133 : BitVec 32 := 4#32
  let v305 : BitVec 32 := Scalar.muli v227 c4_i32_133
  let v306 : BitVec 32 := Scalar.addi v305 c0_i32_134
  let v307 : Index := Scalar.indexCast v306
  let c0_135 : Index := 0#32
  let c0_136 : Index := 0#32
  ![v307.toNat, 0, 0]
def k0_mult6 (i : grid0.Coords) (k0_t2 : Fin (k0_t2_loop i).trips) : BitVec 32 :=
  let c4_i32_149 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v332 : BitVec 32 := Scalar.muli c4_i32_149 arg16
  let c1_i32_150 : BitVec 32 := 1#32
  let v333 : BitVec 32 := Scalar.addi v332 c1_i32_150
  let c512_i32_151 : BitVec 32 := 512#32
  let v334 : BitVec 32 := Scalar.muli v333 c512_i32_151
  v334
def k0_mult7 (i : grid0.Coords) (k0_t2 : Fin (k0_t2_loop i).trips) : BitVec 32 :=
  let c4_i32_187 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v438 : BitVec 32 := Scalar.muli c4_i32_187 arg16
  let c2_i32_188 : BitVec 32 := 2#32
  let v439 : BitVec 32 := Scalar.addi v438 c2_i32_188
  let c512_i32_189 : BitVec 32 := 512#32
  let v440 : BitVec 32 := Scalar.muli v439 c512_i32_189
  v440
def k0_mult8 (i : grid0.Coords) (k0_t2 : Fin (k0_t2_loop i).trips) : BitVec 32 :=
  let c4_i32_225 : BitVec 32 := 4#32
  let c0_i32_24 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_17 : BitVec 32 := 0#32
  let v48 : BitVec 1 := Scalar.cmpi .sgt v20 c0_i32_17
  let v49 : BitVec 32 := Scalar.extui v48
  let c0_i32_18 : BitVec 32 := 0#32
  let v50 : BitVec 1 := Scalar.cmpi .slt v20 c0_i32_18
  let v51 : BitVec 32 := Scalar.extui v50
  let v52 : BitVec 32 := Scalar.subi v49 v51
  let c4_i32 : BitVec 32 := 4#32
  let c0_i32_19 : BitVec 32 := 0#32
  let v53 : BitVec 1 := Scalar.cmpi .sgt c4_i32 c0_i32_19
  let v54 : BitVec 32 := Scalar.extui v53
  let c0_i32_20 : BitVec 32 := 0#32
  let v55 : BitVec 1 := Scalar.cmpi .slt c4_i32 c0_i32_20
  let v56 : BitVec 32 := Scalar.extui v55
  let v57 : BitVec 32 := Scalar.subi v54 v56
  let v58 : BitVec 1 := Scalar.cmpi .ne v52 v57
  let v59 : BitVec 32 := Scalar.remsi v20 c4_i32
  let c0_i32_21 : BitVec 32 := 0#32
  let v60 : BitVec 1 := Scalar.cmpi .ne v59 c0_i32_21
  let v61 : BitVec 1 := Scalar.andi v58 v60
  let v47 : BitVec 32 := Scalar.divsi v20 c4_i32
  let c1_i32_22 : BitVec 32 := 1#32
  let v62 : BitVec 32 := Scalar.subi v47 c1_i32_22
  let v63 : BitVec 32 := Scalar.select v61 v62 v47
  let v64 : BitVec 32 := Scalar.subi v63 c0_i32_24
  let c1_i32_25 : BitVec 32 := 1#32
  let v66 : BitVec 32 := Scalar.divsi v64 c1_i32_25
  let v67 : BitVec 32 := Scalar.muli v66 c1_i32_25
  let v68 : BitVec 32 := Scalar.addi c0_i32_24 v67
  let c1_i32_27 : BitVec 32 := 1#32
  let arg16 : BitVec 32 := Scf.iv v68 c1_i32_27 k0_t2
  let v544 : BitVec 32 := Scalar.muli c4_i32_225 arg16
  let c3_i32_226 : BitVec 32 := 3#32
  let v545 : BitVec 32 := Scalar.addi v544 c3_i32_226
  let c512_i32_227 : BitVec 32 := 512#32
  let v546 : BitVec 32 := Scalar.muli v545 c512_i32_227
  v546
def k0_cond1 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v87 : BitVec 32 := Scalar.subi v20 v86
  let c2_i32 : BitVec 32 := 2#32
  let v88 : BitVec 1 := Scalar.cmpi .sge v87 c2_i32
  let v89 : BitVec 32 := Scalar.extui v88
  let c0_i32_36 : BitVec 32 := 0#32
  let v90 : BitVec 1 := Scalar.cmpi .ne v89 c0_i32_36
  v90

def k0_mult9 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let c0_i32_114 : BitVec 32 := 0#32
  let v226 : BitVec 32 := Scalar.addi v86 c0_i32_114
  let c512_i32_115 : BitVec 32 := 512#32
  let v227 : BitVec 32 := Scalar.muli v226 c512_i32_115
  v227
def k0_off5 (i : grid0.Coords) (c0_i32_114 : BitVec 32) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v226 : BitVec 32 := Scalar.addi v86 c0_i32_114
  let c512_i32_115 : BitVec 32 := 512#32
  let v227 : BitVec 32 := Scalar.muli v226 c512_i32_115
  let v228 : BitVec 32 := v227
  let v229 : Index := Scalar.indexCast v228
  let c0_116 : Index := 0#32
  ![v229.toNat, 0]
def k0_off6 (i : grid0.Coords) (c0_i32_114 : BitVec 32) (c0_i32_133 : BitVec 32) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v226 : BitVec 32 := Scalar.addi v86 c0_i32_114
  let c4_i32_132 : BitVec 32 := 4#32
  let v304 : BitVec 32 := Scalar.muli v226 c4_i32_132
  let v305 : BitVec 32 := Scalar.addi v304 c0_i32_133
  let v306 : Index := Scalar.indexCast v305
  let c0_134 : Index := 0#32
  let c0_135 : Index := 0#32
  ![v306.toNat, 0, 0]
def k0_mult10 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let c1_i32_148 : BitVec 32 := 1#32
  let v331 : BitVec 32 := Scalar.addi v86 c1_i32_148
  let c512_i32_149 : BitVec 32 := 512#32
  let v332 : BitVec 32 := Scalar.muli v331 c512_i32_149
  v332
def k0_cond2 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v87 : BitVec 32 := Scalar.subi v20 v86
  let c2_i32 : BitVec 32 := 2#32
  let v88 : BitVec 1 := Scalar.cmpi .sge v87 c2_i32
  let c2_i32_37 : BitVec 32 := 2#32
  let c0_i32_38 : BitVec 32 := 0#32
  let v91 : BitVec 32 := Scalar.select v88 c2_i32_37 c0_i32_38
  let v92 : BitVec 32 := Scalar.addi v86 v91
  let v93 : BitVec 32 := Scalar.subi v20 v92
  let c1_i32_39 : BitVec 32 := 1#32
  let v94 : BitVec 1 := Scalar.cmpi .sge v93 c1_i32_39
  let v95 : BitVec 32 := Scalar.extui v94
  let c0_i32_40 : BitVec 32 := 0#32
  let v96 : BitVec 1 := Scalar.cmpi .ne v95 c0_i32_40
  v96

def k0_mult11 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v87 : BitVec 32 := Scalar.subi v20 v86
  let c2_i32 : BitVec 32 := 2#32
  let v88 : BitVec 1 := Scalar.cmpi .sge v87 c2_i32
  let c2_i32_37 : BitVec 32 := 2#32
  let c0_i32_38 : BitVec 32 := 0#32
  let v91 : BitVec 32 := Scalar.select v88 c2_i32_37 c0_i32_38
  let v92 : BitVec 32 := Scalar.addi v86 v91
  let c0_i32_114 : BitVec 32 := 0#32
  let v226 : BitVec 32 := Scalar.addi v92 c0_i32_114
  let c512_i32_115 : BitVec 32 := 512#32
  let v227 : BitVec 32 := Scalar.muli v226 c512_i32_115
  v227
def k0_off7 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v87 : BitVec 32 := Scalar.subi v20 v86
  let c2_i32 : BitVec 32 := 2#32
  let v88 : BitVec 1 := Scalar.cmpi .sge v87 c2_i32
  let c2_i32_37 : BitVec 32 := 2#32
  let c0_i32_38 : BitVec 32 := 0#32
  let v91 : BitVec 32 := Scalar.select v88 c2_i32_37 c0_i32_38
  let v92 : BitVec 32 := Scalar.addi v86 v91
  let c0_i32_114 : BitVec 32 := 0#32
  let v226 : BitVec 32 := Scalar.addi v92 c0_i32_114
  let c512_i32_115 : BitVec 32 := 512#32
  let v227 : BitVec 32 := Scalar.muli v226 c512_i32_115
  let v228 : BitVec 32 := v227
  let v229 : Index := Scalar.indexCast v228
  let c0_116 : Index := 0#32
  ![v229.toNat, 0]
def k0_off8 (i : grid0.Coords) (c0_i32_133 : BitVec 32) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_29 : BitVec 32 := 0#32
  let v70 : BitVec 1 := Scalar.cmpi .sgt v20 c0_i32_29
  let v71 : BitVec 32 := Scalar.extui v70
  let c0_i32_30 : BitVec 32 := 0#32
  let v72 : BitVec 1 := Scalar.cmpi .slt v20 c0_i32_30
  let v73 : BitVec 32 := Scalar.extui v72
  let v74 : BitVec 32 := Scalar.subi v71 v73
  let c4_i32_28 : BitVec 32 := 4#32
  let c0_i32_31 : BitVec 32 := 0#32
  let v75 : BitVec 1 := Scalar.cmpi .sgt c4_i32_28 c0_i32_31
  let v76 : BitVec 32 := Scalar.extui v75
  let c0_i32_32 : BitVec 32 := 0#32
  let v77 : BitVec 1 := Scalar.cmpi .slt c4_i32_28 c0_i32_32
  let v78 : BitVec 32 := Scalar.extui v77
  let v79 : BitVec 32 := Scalar.subi v76 v78
  let v80 : BitVec 1 := Scalar.cmpi .ne v74 v79
  let v81 : BitVec 32 := Scalar.remsi v20 c4_i32_28
  let c0_i32_33 : BitVec 32 := 0#32
  let v82 : BitVec 1 := Scalar.cmpi .ne v81 c0_i32_33
  let v83 : BitVec 1 := Scalar.andi v80 v82
  let v69 : BitVec 32 := Scalar.divsi v20 c4_i32_28
  let c1_i32_34 : BitVec 32 := 1#32
  let v84 : BitVec 32 := Scalar.subi v69 c1_i32_34
  let v85 : BitVec 32 := Scalar.select v83 v84 v69
  let c4_i32_35 : BitVec 32 := 4#32
  let v86 : BitVec 32 := Scalar.muli v85 c4_i32_35
  let v87 : BitVec 32 := Scalar.subi v20 v86
  let c2_i32 : BitVec 32 := 2#32
  let v88 : BitVec 1 := Scalar.cmpi .sge v87 c2_i32
  let c2_i32_37 : BitVec 32 := 2#32
  let c0_i32_38 : BitVec 32 := 0#32
  let v91 : BitVec 32 := Scalar.select v88 c2_i32_37 c0_i32_38
  let v92 : BitVec 32 := Scalar.addi v86 v91
  let c0_i32_114 : BitVec 32 := 0#32
  let v226 : BitVec 32 := Scalar.addi v92 c0_i32_114
  let c4_i32_132 : BitVec 32 := 4#32
  let v304 : BitVec 32 := Scalar.muli v226 c4_i32_132
  let v305 : BitVec 32 := Scalar.addi v304 c0_i32_133
  let v306 : Index := Scalar.indexCast v305
  let c0_134 : Index := 0#32
  let c0_135 : Index := 0#32
  ![v306.toNat, 0, 0]
@[reducible] def k0_t3_loop (i : grid0.Coords) : Scf.Loop 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_41 : BitVec 32 := 4#32
  let v97 : BitVec 32 := Scalar.muli v20 c4_i32_41
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c32_i32 : BitVec 32 := 32#32
  let v98 : BitVec 32 := Scalar.muli v39 c32_i32
  let v99 : BitVec 32 := Scalar.subi v98 v97
  let c1_i32_43 : BitVec 32 := 1#32
  let v101 : BitVec 32 := Scalar.divsi v99 c1_i32_43
  let v102 : BitVec 32 := Scalar.muli v101 c1_i32_43
  let v103 : BitVec 32 := Scalar.addi v97 v102
  let c1_i32_44 : BitVec 32 := 1#32
  ⟨v97, v103, c1_i32_44⟩
def k0_off9 (i : grid0.Coords) (k0_t3 : Fin (k0_t3_loop i).trips) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_41 : BitVec 32 := 4#32
  let v97 : BitVec 32 := Scalar.muli v20 c4_i32_41
  let c1_i32_44 : BitVec 32 := 1#32
  let arg16 : BitVec 32 := Scf.iv v97 c1_i32_44 k0_t3
  let v227 : Index := Scalar.indexCast arg16
  let c0_115 : Index := 0#32
  let c0_116 : Index := 0#32
  ![v227.toNat, 0, 0]
@[reducible] def k0_t4_loop (i : grid0.Coords) : Scf.Loop 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_41 : BitVec 32 := 4#32
  let v97 : BitVec 32 := Scalar.muli v20 c4_i32_41
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c32_i32 : BitVec 32 := 32#32
  let v98 : BitVec 32 := Scalar.muli v39 c32_i32
  let v99 : BitVec 32 := Scalar.subi v98 v97
  let c1_i32_43 : BitVec 32 := 1#32
  let v101 : BitVec 32 := Scalar.divsi v99 c1_i32_43
  let v102 : BitVec 32 := Scalar.muli v101 c1_i32_43
  let v103 : BitVec 32 := Scalar.addi v97 v102
  let v100 : BitVec 32 := Scalar.addi v97 v99
  let c1_i32_45 : BitVec 32 := 1#32
  ⟨v103, v100, c1_i32_45⟩
def k0_off10 (i : grid0.Coords) (k0_t4 : Fin (k0_t4_loop i).trips) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_41 : BitVec 32 := 4#32
  let v97 : BitVec 32 := Scalar.muli v20 c4_i32_41
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c32_i32 : BitVec 32 := 32#32
  let v98 : BitVec 32 := Scalar.muli v39 c32_i32
  let v99 : BitVec 32 := Scalar.subi v98 v97
  let c1_i32_43 : BitVec 32 := 1#32
  let v101 : BitVec 32 := Scalar.divsi v99 c1_i32_43
  let v102 : BitVec 32 := Scalar.muli v101 c1_i32_43
  let v103 : BitVec 32 := Scalar.addi v97 v102
  let c1_i32_45 : BitVec 32 := 1#32
  let arg16 : BitVec 32 := Scf.iv v103 c1_i32_45 k0_t4
  let v227 : Index := Scalar.indexCast arg16
  let c0_115 : Index := 0#32
  let c0_116 : Index := 0#32
  ![v227.toNat, 0, 0]
@[reducible] def k0_t5_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v104 : BitVec 32 := Scalar.subi v39 c0_i32_47
  let c1_i32_48 : BitVec 32 := 1#32
  let v106 : BitVec 32 := Scalar.divsi v104 c1_i32_48
  let v107 : BitVec 32 := Scalar.muli v106 c1_i32_48
  let v108 : BitVec 32 := Scalar.addi c0_i32_47 v107
  let c1_i32_49 : BitVec 32 := 1#32
  ⟨c0_i32_47, v108, c1_i32_49⟩
@[reducible] def k0_t6_loop : Scf.Loop 32 :=
  let c0_i32_115 : BitVec 32 := 0#32
  let c32_i32_116 : BitVec 32 := 32#32
  let v226 : BitVec 32 := Scalar.addi c0_i32_115 c32_i32_116
  let c1_i32_117 : BitVec 32 := 1#32
  ⟨c0_i32_115, v226, c1_i32_117⟩
def k0_mult12 (k0_t6 : Fin k0_t6_loop.trips) : BitVec 32 :=
  let c0_i32_115 : BitVec 32 := 0#32
  let c1_i32_117 : BitVec 32 := 1#32
  let arg17 : BitVec 32 := Scf.iv c0_i32_115 c1_i32_117 k0_t6
  let c8_i32_124 : BitVec 32 := 8#32
  let v237 : BitVec 32 := Scalar.muli arg17 c8_i32_124
  v237
def k0_off11 (i : grid0.Coords) (k0_t5 : Fin (k0_t5_loop i).trips) (k0_t6 : Fin k0_t6_loop.trips) (c0_i32_126 : BitVec 32) : Fin 3 → Nat :=
  let c0_i32_47 : BitVec 32 := 0#32
  let c1_i32_49 : BitVec 32 := 1#32
  let arg16 : BitVec 32 := Scf.iv c0_i32_47 c1_i32_49 k0_t5
  let c32_i32_125 : BitVec 32 := 32#32
  let v239 : BitVec 32 := Scalar.muli arg16 c32_i32_125
  let v240 : BitVec 32 := Scalar.addi v239 c0_i32_126
  let v241 : Index := Scalar.indexCast v240
  let c0_i32_115 : BitVec 32 := 0#32
  let c1_i32_117 : BitVec 32 := 1#32
  let arg17 : BitVec 32 := Scf.iv c0_i32_115 c1_i32_117 k0_t6
  let c8_i32_124 : BitVec 32 := 8#32
  let v237 : BitVec 32 := Scalar.muli arg17 c8_i32_124
  let v238 : BitVec 32 := v237
  let v242 : Index := Scalar.indexCast v238
  let c0_127 : Index := 0#32
  ![v241.toNat, v242.toNat, 0]
def k0_off12 (i : grid0.Coords) (k0_t5 : Fin (k0_t5_loop i).trips) : Fin 3 → Nat :=
  let c0_i32_47 : BitVec 32 := 0#32
  let c1_i32_49 : BitVec 32 := 1#32
  let arg16 : BitVec 32 := Scf.iv c0_i32_47 c1_i32_49 k0_t5
  let v228 : Index := Scalar.indexCast arg16
  let c0_119 : Index := 0#32
  let c0_120 : Index := 0#32
  ![v228.toNat, 0, 0]
@[reducible] def k0_t7_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v104 : BitVec 32 := Scalar.subi v39 c0_i32_47
  let c1_i32_48 : BitVec 32 := 1#32
  let v106 : BitVec 32 := Scalar.divsi v104 c1_i32_48
  let v107 : BitVec 32 := Scalar.muli v106 c1_i32_48
  let v108 : BitVec 32 := Scalar.addi c0_i32_47 v107
  let v105 : BitVec 32 := Scalar.addi c0_i32_47 v104
  let c1_i32_50 : BitVec 32 := 1#32
  ⟨v108, v105, c1_i32_50⟩
@[reducible] def k0_t8_loop : Scf.Loop 32 :=
  let c0_i32_115 : BitVec 32 := 0#32
  let c32_i32_116 : BitVec 32 := 32#32
  let v226 : BitVec 32 := Scalar.addi c0_i32_115 c32_i32_116
  let c1_i32_117 : BitVec 32 := 1#32
  ⟨c0_i32_115, v226, c1_i32_117⟩
def k0_mult13 (k0_t8 : Fin k0_t8_loop.trips) : BitVec 32 :=
  let c0_i32_115 : BitVec 32 := 0#32
  let c1_i32_117 : BitVec 32 := 1#32
  let arg17 : BitVec 32 := Scf.iv c0_i32_115 c1_i32_117 k0_t8
  let c8_i32_124 : BitVec 32 := 8#32
  let v237 : BitVec 32 := Scalar.muli arg17 c8_i32_124
  v237
def k0_off13 (i : grid0.Coords) (k0_t7 : Fin (k0_t7_loop i).trips) (k0_t8 : Fin k0_t8_loop.trips) (c0_i32_126 : BitVec 32) : Fin 3 → Nat :=
  let c0_i32_47 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v104 : BitVec 32 := Scalar.subi v39 c0_i32_47
  let c1_i32_48 : BitVec 32 := 1#32
  let v106 : BitVec 32 := Scalar.divsi v104 c1_i32_48
  let v107 : BitVec 32 := Scalar.muli v106 c1_i32_48
  let v108 : BitVec 32 := Scalar.addi c0_i32_47 v107
  let c1_i32_50 : BitVec 32 := 1#32
  let arg16 : BitVec 32 := Scf.iv v108 c1_i32_50 k0_t7
  let c32_i32_125 : BitVec 32 := 32#32
  let v239 : BitVec 32 := Scalar.muli arg16 c32_i32_125
  let v240 : BitVec 32 := Scalar.addi v239 c0_i32_126
  let v241 : Index := Scalar.indexCast v240
  let c0_i32_115 : BitVec 32 := 0#32
  let c1_i32_117 : BitVec 32 := 1#32
  let arg17 : BitVec 32 := Scf.iv c0_i32_115 c1_i32_117 k0_t8
  let c8_i32_124 : BitVec 32 := 8#32
  let v237 : BitVec 32 := Scalar.muli arg17 c8_i32_124
  let v238 : BitVec 32 := v237
  let v242 : Index := Scalar.indexCast v238
  let c0_127 : Index := 0#32
  ![v241.toNat, v242.toNat, 0]
def k0_off14 (i : grid0.Coords) (k0_t7 : Fin (k0_t7_loop i).trips) : Fin 3 → Nat :=
  let c0_i32_47 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v104 : BitVec 32 := Scalar.subi v39 c0_i32_47
  let c1_i32_48 : BitVec 32 := 1#32
  let v106 : BitVec 32 := Scalar.divsi v104 c1_i32_48
  let v107 : BitVec 32 := Scalar.muli v106 c1_i32_48
  let v108 : BitVec 32 := Scalar.addi c0_i32_47 v107
  let c1_i32_50 : BitVec 32 := 1#32
  let arg16 : BitVec 32 := Scf.iv v108 c1_i32_50 k0_t7
  let v228 : Index := Scalar.indexCast arg16
  let c0_119 : Index := 0#32
  let c0_120 : Index := 0#32
  ![v228.toNat, 0, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c1_i32_51 : BitVec 32 := 1#32
  let v109 : BitVec 32 := Scalar.subi v39 c1_i32_51
  let c0_i32_52 : BitVec 32 := 0#32
  let v110 : BitVec 32 := Scalar.maxsi v109 c0_i32_52
  let c3_i32 : BitVec 32 := 3#32
  let v111 : BitVec 32 := Scalar.minsi v110 c3_i32
  let c0_i32_53 : BitVec 32 := 0#32
  let v112 : BitVec 1 := Scalar.cmpi .ne v111 c0_i32_53
  v112

def k0_cond4 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c1_i32_51 : BitVec 32 := 1#32
  let v109 : BitVec 32 := Scalar.subi v39 c1_i32_51
  let c0_i32_52 : BitVec 32 := 0#32
  let v110 : BitVec 32 := Scalar.maxsi v109 c0_i32_52
  let c3_i32 : BitVec 32 := 3#32
  let v111 : BitVec 32 := Scalar.minsi v110 c3_i32
  let c1_i32_114 : BitVec 32 := 1#32
  let v226 : BitVec 32 := Scalar.subi v111 c1_i32_114
  let c0_i32_115 : BitVec 32 := 0#32
  let v227 : BitVec 1 := Scalar.cmpi .ne v226 c0_i32_115
  v227

def k0_cond5 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let c1_i32_51 : BitVec 32 := 1#32
  let v109 : BitVec 32 := Scalar.subi v39 c1_i32_51
  let c0_i32_52 : BitVec 32 := 0#32
  let v110 : BitVec 32 := Scalar.maxsi v109 c0_i32_52
  let c3_i32 : BitVec 32 := 3#32
  let v111 : BitVec 32 := Scalar.minsi v110 c3_i32
  let c1_i32_114 : BitVec 32 := 1#32
  let v226 : BitVec 32 := Scalar.subi v111 c1_i32_114
  let c1_i32_116 : BitVec 32 := 1#32
  let v229 : BitVec 32 := Scalar.subi v226 c1_i32_116
  let c0_i32_117 : BitVec 32 := 0#32
  let v230 : BitVec 1 := Scalar.cmpi .ne v229 c0_i32_117
  v230

@[reducible] def k0_t9_loop : Scf.Loop 32 :=
  let c0_i32_142 : BitVec 32 := 0#32
  let c32_i32_143 : BitVec 32 := 32#32
  let v270 : BitVec 32 := Scalar.addi c0_i32_142 c32_i32_143
  let c1_i32_144 : BitVec 32 := 1#32
  ⟨c0_i32_142, v270, c1_i32_144⟩
def k0_off15 (k0_t9 : Fin k0_t9_loop.trips) (c0_i32_155 : BitVec 32) : Fin 3 → Nat :=
  let c0_i32_142 : BitVec 32 := 0#32
  let c1_i32_144 : BitVec 32 := 1#32
  let arg16 : BitVec 32 := Scf.iv c0_i32_142 c1_i32_144 k0_t9
  let v287 : BitVec 32 := Scalar.addi c0_i32_155 arg16
  let v288 : Index := Scalar.indexCast v287
  let c0_156 : Index := 0#32
  let c0_157 : Index := 0#32
  ![v288.toNat, 0, 0]
def k0_off16 (k0_t9 : Fin k0_t9_loop.trips) (c0_i32_167 : BitVec 32) : Fin 3 → Nat :=
  let c0_i32_142 : BitVec 32 := 0#32
  let c1_i32_144 : BitVec 32 := 1#32
  let arg16 : BitVec 32 := Scf.iv c0_i32_142 c1_i32_144 k0_t9
  let c1_i32_149 : BitVec 32 := 1#32
  let v281 : BitVec 32 := Scalar.addi arg16 c1_i32_149
  let c31_i32 : BitVec 32 := 31#32
  let v282 : BitVec 32 := Scalar.minsi v281 c31_i32
  let v306 : BitVec 32 := Scalar.addi c0_i32_167 v282
  let v307 : Index := Scalar.indexCast v306
  let c0_168 : Index := 0#32
  let c0_169 : Index := 0#32
  ![v307.toNat, 0, 0]
def k0_off17 (k0_t9 : Fin k0_t9_loop.trips) (c0_i32_173 : BitVec 32) : Fin 3 → Nat :=
  let c0_i32_142 : BitVec 32 := 0#32
  let c1_i32_144 : BitVec 32 := 1#32
  let arg16 : BitVec 32 := Scf.iv c0_i32_142 c1_i32_144 k0_t9
  let v315 : BitVec 32 := Scalar.addi c0_i32_173 arg16
  let v316 : Index := Scalar.indexCast v315
  let c128_174 : Index := 128#32
  let c0_175 : Index := 0#32
  ![v316.toNat, 128, 0]
def k0_off18 (k0_t9 : Fin k0_t9_loop.trips) (c0_i32_185 : BitVec 32) : Fin 3 → Nat :=
  let c0_i32_142 : BitVec 32 := 0#32
  let c1_i32_144 : BitVec 32 := 1#32
  let arg16 : BitVec 32 := Scf.iv c0_i32_142 c1_i32_144 k0_t9
  let c1_i32_149 : BitVec 32 := 1#32
  let v281 : BitVec 32 := Scalar.addi arg16 c1_i32_149
  let c31_i32 : BitVec 32 := 31#32
  let v282 : BitVec 32 := Scalar.minsi v281 c31_i32
  let v334 : BitVec 32 := Scalar.addi c0_i32_185 v282
  let v335 : Index := Scalar.indexCast v334
  let c128_186 : Index := 128#32
  let c0_187 : Index := 0#32
  ![v335.toNat, 128, 0]
@[reducible] def k0_t10_loop : Scf.Loop 32 :=
  let c0_i32_137 : BitVec 32 := 0#32
  let c32_i32_138 : BitVec 32 := 32#32
  let v262 : BitVec 32 := Scalar.addi c0_i32_137 c32_i32_138
  let c1_i32_139 : BitVec 32 := 1#32
  ⟨c0_i32_137, v262, c1_i32_139⟩
def k0_off19 (k0_t10 : Fin k0_t10_loop.trips) (c0_i32_150 : BitVec 32) : Fin 3 → Nat :=
  let c0_i32_137 : BitVec 32 := 0#32
  let c1_i32_139 : BitVec 32 := 1#32
  let arg16 : BitVec 32 := Scf.iv c0_i32_137 c1_i32_139 k0_t10
  let v279 : BitVec 32 := Scalar.addi c0_i32_150 arg16
  let v280 : Index := Scalar.indexCast v279
  let c0_151 : Index := 0#32
  let c0_152 : Index := 0#32
  ![v280.toNat, 0, 0]
def k0_off20 (k0_t10 : Fin k0_t10_loop.trips) (c0_i32_162 : BitVec 32) : Fin 3 → Nat :=
  let c0_i32_137 : BitVec 32 := 0#32
  let c1_i32_139 : BitVec 32 := 1#32
  let arg16 : BitVec 32 := Scf.iv c0_i32_137 c1_i32_139 k0_t10
  let c1_i32_144 : BitVec 32 := 1#32
  let v273 : BitVec 32 := Scalar.addi arg16 c1_i32_144
  let c31_i32 : BitVec 32 := 31#32
  let v274 : BitVec 32 := Scalar.minsi v273 c31_i32
  let v298 : BitVec 32 := Scalar.addi c0_i32_162 v274
  let v299 : Index := Scalar.indexCast v298
  let c0_163 : Index := 0#32
  let c0_164 : Index := 0#32
  ![v299.toNat, 0, 0]
def k0_off21 (k0_t10 : Fin k0_t10_loop.trips) (c0_i32_168 : BitVec 32) : Fin 3 → Nat :=
  let c0_i32_137 : BitVec 32 := 0#32
  let c1_i32_139 : BitVec 32 := 1#32
  let arg16 : BitVec 32 := Scf.iv c0_i32_137 c1_i32_139 k0_t10
  let v307 : BitVec 32 := Scalar.addi c0_i32_168 arg16
  let v308 : Index := Scalar.indexCast v307
  let c128_169 : Index := 128#32
  let c0_170 : Index := 0#32
  ![v308.toNat, 128, 0]
def k0_off22 (k0_t10 : Fin k0_t10_loop.trips) (c0_i32_180 : BitVec 32) : Fin 3 → Nat :=
  let c0_i32_137 : BitVec 32 := 0#32
  let c1_i32_139 : BitVec 32 := 1#32
  let arg16 : BitVec 32 := Scf.iv c0_i32_137 c1_i32_139 k0_t10
  let c1_i32_144 : BitVec 32 := 1#32
  let v273 : BitVec 32 := Scalar.addi arg16 c1_i32_144
  let c31_i32 : BitVec 32 := 31#32
  let v274 : BitVec 32 := Scalar.minsi v273 c31_i32
  let v326 : BitVec 32 := Scalar.addi c0_i32_180 v274
  let v327 : Index := Scalar.indexCast v326
  let c128_181 : Index := 128#32
  let c0_182 : Index := 0#32
  ![v327.toNat, 128, 0]
@[reducible] def k0_t11_loop : Scf.Loop 32 :=
  let c0_i32_130 : BitVec 32 := 0#32
  let c32_i32_131 : BitVec 32 := 32#32
  let v251 : BitVec 32 := Scalar.addi c0_i32_130 c32_i32_131
  let c1_i32_132 : BitVec 32 := 1#32
  ⟨c0_i32_130, v251, c1_i32_132⟩
def k0_off23 (k0_t11 : Fin k0_t11_loop.trips) (c0_i32_143 : BitVec 32) : Fin 3 → Nat :=
  let c0_i32_130 : BitVec 32 := 0#32
  let c1_i32_132 : BitVec 32 := 1#32
  let arg16 : BitVec 32 := Scf.iv c0_i32_130 c1_i32_132 k0_t11
  let v268 : BitVec 32 := Scalar.addi c0_i32_143 arg16
  let v269 : Index := Scalar.indexCast v268
  let c0_144 : Index := 0#32
  let c0_145 : Index := 0#32
  ![v269.toNat, 0, 0]
def k0_off24 (k0_t11 : Fin k0_t11_loop.trips) (c0_i32_155 : BitVec 32) : Fin 3 → Nat :=
  let c0_i32_130 : BitVec 32 := 0#32
  let c1_i32_132 : BitVec 32 := 1#32
  let arg16 : BitVec 32 := Scf.iv c0_i32_130 c1_i32_132 k0_t11
  let c1_i32_137 : BitVec 32 := 1#32
  let v262 : BitVec 32 := Scalar.addi arg16 c1_i32_137
  let c31_i32 : BitVec 32 := 31#32
  let v263 : BitVec 32 := Scalar.minsi v262 c31_i32
  let v287 : BitVec 32 := Scalar.addi c0_i32_155 v263
  let v288 : Index := Scalar.indexCast v287
  let c0_156 : Index := 0#32
  let c0_157 : Index := 0#32
  ![v288.toNat, 0, 0]
def k0_off25 (k0_t11 : Fin k0_t11_loop.trips) (c0_i32_161 : BitVec 32) : Fin 3 → Nat :=
  let c0_i32_130 : BitVec 32 := 0#32
  let c1_i32_132 : BitVec 32 := 1#32
  let arg16 : BitVec 32 := Scf.iv c0_i32_130 c1_i32_132 k0_t11
  let v296 : BitVec 32 := Scalar.addi c0_i32_161 arg16
  let v297 : Index := Scalar.indexCast v296
  let c128_162 : Index := 128#32
  let c0_163 : Index := 0#32
  ![v297.toNat, 128, 0]
def k0_off26 (k0_t11 : Fin k0_t11_loop.trips) (c0_i32_173 : BitVec 32) : Fin 3 → Nat :=
  let c0_i32_130 : BitVec 32 := 0#32
  let c1_i32_132 : BitVec 32 := 1#32
  let arg16 : BitVec 32 := Scf.iv c0_i32_130 c1_i32_132 k0_t11
  let c1_i32_137 : BitVec 32 := 1#32
  let v262 : BitVec 32 := Scalar.addi arg16 c1_i32_137
  let c31_i32 : BitVec 32 := 31#32
  let v263 : BitVec 32 := Scalar.minsi v262 c31_i32
  let v315 : BitVec 32 := Scalar.addi c0_i32_173 v263
  let v316 : Index := Scalar.indexCast v315
  let c128_174 : Index := 128#32
  let c0_175 : Index := 0#32
  ![v316.toNat, 128, 0]
@[reducible] def k0_t12_loop : Scf.Loop 32 :=
  let c0_i32_123 : BitVec 32 := 0#32
  let c32_i32_124 : BitVec 32 := 32#32
  let v240 : BitVec 32 := Scalar.addi c0_i32_123 c32_i32_124
  let c1_i32_125 : BitVec 32 := 1#32
  ⟨c0_i32_123, v240, c1_i32_125⟩
def k0_off27 (k0_t12 : Fin k0_t12_loop.trips) : Fin 3 → Nat :=
  let c0_i32_136 : BitVec 32 := 0#32
  let c0_i32_123 : BitVec 32 := 0#32
  let c1_i32_125 : BitVec 32 := 1#32
  let arg16 : BitVec 32 := Scf.iv c0_i32_123 c1_i32_125 k0_t12
  let v257 : BitVec 32 := Scalar.addi c0_i32_136 arg16
  let v258 : Index := Scalar.indexCast v257
  let c0_137 : Index := 0#32
  let c0_138 : Index := 0#32
  ![v258.toNat, 0, 0]
def k0_off28 (k0_t12 : Fin k0_t12_loop.trips) : Fin 3 → Nat :=
  let c0_i32_148 : BitVec 32 := 0#32
  let c0_i32_123 : BitVec 32 := 0#32
  let c1_i32_125 : BitVec 32 := 1#32
  let arg16 : BitVec 32 := Scf.iv c0_i32_123 c1_i32_125 k0_t12
  let c1_i32_130 : BitVec 32 := 1#32
  let v251 : BitVec 32 := Scalar.addi arg16 c1_i32_130
  let c31_i32 : BitVec 32 := 31#32
  let v252 : BitVec 32 := Scalar.minsi v251 c31_i32
  let v276 : BitVec 32 := Scalar.addi c0_i32_148 v252
  let v277 : Index := Scalar.indexCast v276
  let c0_149 : Index := 0#32
  let c0_150 : Index := 0#32
  ![v277.toNat, 0, 0]
def k0_off29 (k0_t12 : Fin k0_t12_loop.trips) : Fin 3 → Nat :=
  let c0_i32_154 : BitVec 32 := 0#32
  let c0_i32_123 : BitVec 32 := 0#32
  let c1_i32_125 : BitVec 32 := 1#32
  let arg16 : BitVec 32 := Scf.iv c0_i32_123 c1_i32_125 k0_t12
  let v285 : BitVec 32 := Scalar.addi c0_i32_154 arg16
  let v286 : Index := Scalar.indexCast v285
  let c128_155 : Index := 128#32
  let c0_156 : Index := 0#32
  ![v286.toNat, 128, 0]
def k0_off30 (k0_t12 : Fin k0_t12_loop.trips) : Fin 3 → Nat :=
  let c0_i32_166 : BitVec 32 := 0#32
  let c0_i32_123 : BitVec 32 := 0#32
  let c1_i32_125 : BitVec 32 := 1#32
  let arg16 : BitVec 32 := Scf.iv c0_i32_123 c1_i32_125 k0_t12
  let c1_i32_130 : BitVec 32 := 1#32
  let v251 : BitVec 32 := Scalar.addi arg16 c1_i32_130
  let c31_i32 : BitVec 32 := 31#32
  let v252 : BitVec 32 := Scalar.minsi v251 c31_i32
  let v304 : BitVec 32 := Scalar.addi c0_i32_166 v252
  let v305 : Index := Scalar.indexCast v304
  let c128_167 : Index := 128#32
  let c0_168 : Index := 0#32
  ![v305.toNat, 128, 0]
@[reducible] def k0_t13_loop (i : grid0.Coords) : Scf.Loop 32 :=
  let c0_i32_55 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v115 : BitVec 32 := Scalar.subi v39 c0_i32_55
  let c1_i32_56 : BitVec 32 := 1#32
  let v117 : BitVec 32 := Scalar.divsi v115 c1_i32_56
  let v118 : BitVec 32 := Scalar.muli v117 c1_i32_56
  let v119 : BitVec 32 := Scalar.addi c0_i32_55 v118
  let c1_i32_57 : BitVec 32 := 1#32
  ⟨c0_i32_55, v119, c1_i32_57⟩
def k0_off31 (i : grid0.Coords) (k0_t13 : Fin (k0_t13_loop i).trips) : Fin 3 → Nat :=
  let c0_i32_55 : BitVec 32 := 0#32
  let c1_i32_57 : BitVec 32 := 1#32
  let arg16 : BitVec 32 := Scf.iv c0_i32_55 c1_i32_57 k0_t13
  let v226 : Index := Scalar.indexCast arg16
  let c0_114 : Index := 0#32
  let c0_115 : Index := 0#32
  ![v226.toNat, 0, 0]
@[reducible] def k0_t14_loop (i : grid0.Coords) : Scf.Loop 32 :=
  let c0_i32_55 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v115 : BitVec 32 := Scalar.subi v39 c0_i32_55
  let c1_i32_56 : BitVec 32 := 1#32
  let v117 : BitVec 32 := Scalar.divsi v115 c1_i32_56
  let v118 : BitVec 32 := Scalar.muli v117 c1_i32_56
  let v119 : BitVec 32 := Scalar.addi c0_i32_55 v118
  let v116 : BitVec 32 := Scalar.addi c0_i32_55 v115
  let c1_i32_58 : BitVec 32 := 1#32
  ⟨v119, v116, c1_i32_58⟩
def k0_off32 (i : grid0.Coords) (k0_t14 : Fin (k0_t14_loop i).trips) : Fin 3 → Nat :=
  let c0_i32_55 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v115 : BitVec 32 := Scalar.subi v39 c0_i32_55
  let c1_i32_56 : BitVec 32 := 1#32
  let v117 : BitVec 32 := Scalar.divsi v115 c1_i32_56
  let v118 : BitVec 32 := Scalar.muli v117 c1_i32_56
  let v119 : BitVec 32 := Scalar.addi c0_i32_55 v118
  let c1_i32_58 : BitVec 32 := 1#32
  let arg16 : BitVec 32 := Scf.iv v119 c1_i32_58 k0_t14
  let v226 : Index := Scalar.indexCast arg16
  let c0_114 : Index := 0#32
  let c0_115 : Index := 0#32
  ![v226.toNat, 0, 0]
@[reducible] def k0_t15_loop : Scf.Loop 32 :=
  let c0_i32_115 : BitVec 32 := 0#32
  let c14_i32 : BitVec 32 := 14#32
  let v227 : BitVec 32 := Scalar.addi c0_i32_115 c14_i32
  let c1_i32_116 : BitVec 32 := 1#32
  ⟨c0_i32_115, v227, c1_i32_116⟩
@[reducible] def k0_t16_loop (i : grid0.Coords) : Scf.Loop 32 :=
  let c0_i32_122 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v239 : BitVec 32 := Scalar.subi v39 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_124 : BitVec 32 := 1#32
  ⟨c0_i32_122, v243, c1_i32_124⟩
def k0_off33 (i : grid0.Coords) (k0_t16 : Fin (k0_t16_loop i).trips) : Fin 3 → Nat :=
  let c0_i32_122 : BitVec 32 := 0#32
  let c1_i32_124 : BitVec 32 := 1#32
  let arg18 : BitVec 32 := Scf.iv c0_i32_122 c1_i32_124 k0_t16
  let v251 : Index := Scalar.indexCast arg18
  let c0_127 : Index := 0#32
  let c0_128 : Index := 0#32
  ![v251.toNat, 0, 0]
@[reducible] def k0_t17_loop (i : grid0.Coords) : Scf.Loop 32 :=
  let c0_i32_122 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v239 : BitVec 32 := Scalar.subi v39 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let v240 : BitVec 32 := Scalar.addi c0_i32_122 v239
  let c1_i32_125 : BitVec 32 := 1#32
  ⟨v243, v240, c1_i32_125⟩
def k0_off34 (i : grid0.Coords) (k0_t17 : Fin (k0_t17_loop i).trips) : Fin 3 → Nat :=
  let c0_i32_122 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v239 : BitVec 32 := Scalar.subi v39 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_125 : BitVec 32 := 1#32
  let arg18 : BitVec 32 := Scf.iv v243 c1_i32_125 k0_t17
  let v251 : Index := Scalar.indexCast arg18
  let c0_127 : Index := 0#32
  let c0_128 : Index := 0#32
  ![v251.toNat, 0, 0]
@[reducible] def k0_t18_loop (i : grid0.Coords) : Scf.Loop 32 :=
  let c0_i32_66 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v143 : BitVec 32 := Scalar.subi v39 c0_i32_66
  let c1_i32_67 : BitVec 32 := 1#32
  let v145 : BitVec 32 := Scalar.divsi v143 c1_i32_67
  let v146 : BitVec 32 := Scalar.muli v145 c1_i32_67
  let v147 : BitVec 32 := Scalar.addi c0_i32_66 v146
  let c1_i32_68 : BitVec 32 := 1#32
  ⟨c0_i32_66, v147, c1_i32_68⟩
def k0_off35 (i : grid0.Coords) (k0_t18 : Fin (k0_t18_loop i).trips) : Fin 3 → Nat :=
  let c0_i32_66 : BitVec 32 := 0#32
  let c1_i32_68 : BitVec 32 := 1#32
  let arg16 : BitVec 32 := Scf.iv c0_i32_66 c1_i32_68 k0_t18
  let v226 : Index := Scalar.indexCast arg16
  let c0_114 : Index := 0#32
  let c0_115 : Index := 0#32
  ![v226.toNat, 0, 0]
@[reducible] def k0_t19_loop (i : grid0.Coords) : Scf.Loop 32 :=
  let c0_i32_66 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v143 : BitVec 32 := Scalar.subi v39 c0_i32_66
  let c1_i32_67 : BitVec 32 := 1#32
  let v145 : BitVec 32 := Scalar.divsi v143 c1_i32_67
  let v146 : BitVec 32 := Scalar.muli v145 c1_i32_67
  let v147 : BitVec 32 := Scalar.addi c0_i32_66 v146
  let v144 : BitVec 32 := Scalar.addi c0_i32_66 v143
  let c1_i32_69 : BitVec 32 := 1#32
  ⟨v147, v144, c1_i32_69⟩
def k0_off36 (i : grid0.Coords) (k0_t19 : Fin (k0_t19_loop i).trips) : Fin 3 → Nat :=
  let c0_i32_66 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v21 : BitVec 32 := Scalar.addi v20 c8_i32
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c8_i32_8 : BitVec 32 := 8#32
  let c0_i32_11 : BitVec 32 := 0#32
  let v29 : BitVec 1 := Scalar.cmpi .sgt c8_i32_8 c0_i32_11
  let v30 : BitVec 32 := Scalar.extui v29
  let c0_i32_12 : BitVec 32 := 0#32
  let v31 : BitVec 1 := Scalar.cmpi .slt c8_i32_8 c0_i32_12
  let v32 : BitVec 32 := Scalar.extui v31
  let v33 : BitVec 32 := Scalar.subi v30 v32
  let v34 : BitVec 1 := Scalar.cmpi .ne v28 v33
  let v35 : BitVec 32 := Scalar.remsi v22 c8_i32_8
  let c0_i32_13 : BitVec 32 := 0#32
  let v36 : BitVec 1 := Scalar.cmpi .ne v35 c0_i32_13
  let v37 : BitVec 1 := Scalar.andi v34 v36
  let v23 : BitVec 32 := Scalar.divsi v22 c8_i32_8
  let c1_i32_14 : BitVec 32 := 1#32
  let v38 : BitVec 32 := Scalar.subi v23 c1_i32_14
  let v39 : BitVec 32 := Scalar.select v37 v38 v23
  let v143 : BitVec 32 := Scalar.subi v39 c0_i32_66
  let c1_i32_67 : BitVec 32 := 1#32
  let v145 : BitVec 32 := Scalar.divsi v143 c1_i32_67
  let v146 : BitVec 32 := Scalar.muli v145 c1_i32_67
  let v147 : BitVec 32 := Scalar.addi c0_i32_66 v146
  let c1_i32_69 : BitVec 32 := 1#32
  let arg16 : BitVec 32 := Scf.iv v147 c1_i32_69 k0_t19
  let v226 : Index := Scalar.indexCast arg16
  let c0_114 : Index := 0#32
  let c0_115 : Index := 0#32
  ![v226.toNat, 0, 0]
@[reducible] def k0_t20_loop (i : grid0.Coords) : Scf.Loop 32 :=
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_89 : BitVec 32 := 1#32
  ⟨c0_i32_87, v181, c1_i32_89⟩
def k0_mult14 (i : grid0.Coords) (k0_t20 : Fin (k0_t20_loop i).trips) : BitVec 32 :=
  let c4_i32_114 : BitVec 32 := 4#32
  let c0_i32_87 : BitVec 32 := 0#32
  let c1_i32_89 : BitVec 32 := 1#32
  let arg16 : BitVec 32 := Scf.iv c0_i32_87 c1_i32_89 k0_t20
  let v226 : BitVec 32 := Scalar.muli c4_i32_114 arg16
  let c0_i32_115 : BitVec 32 := 0#32
  let v227 : BitVec 32 := Scalar.addi v226 c0_i32_115
  let c512_i32_116 : BitVec 32 := 512#32
  let v228 : BitVec 32 := Scalar.muli v227 c512_i32_116
  v228
def k0_off37 (i : grid0.Coords) (k0_t20 : Fin (k0_t20_loop i).trips) (c0_i32_115 : BitVec 32) : Fin 3 → Nat :=
  let c4_i32_114 : BitVec 32 := 4#32
  let c0_i32_87 : BitVec 32 := 0#32
  let c1_i32_89 : BitVec 32 := 1#32
  let arg16 : BitVec 32 := Scf.iv c0_i32_87 c1_i32_89 k0_t20
  let v226 : BitVec 32 := Scalar.muli c4_i32_114 arg16
  let v227 : BitVec 32 := Scalar.addi v226 c0_i32_115
  let c0_i32_118 : BitVec 32 := 0#32
  let v231 : BitVec 1 := Scalar.cmpi .sgt v227 c0_i32_118
  let v232 : BitVec 32 := Scalar.extui v231
  let c0_i32_119 : BitVec 32 := 0#32
  let v233 : BitVec 1 := Scalar.cmpi .slt v227 c0_i32_119
  let v234 : BitVec 32 := Scalar.extui v233
  let v235 : BitVec 32 := Scalar.subi v232 v234
  let c8_i32_117 : BitVec 32 := 8#32
  let c0_i32_120 : BitVec 32 := 0#32
  let v236 : BitVec 1 := Scalar.cmpi .sgt c8_i32_117 c0_i32_120
  let v237 : BitVec 32 := Scalar.extui v236
  let c0_i32_121 : BitVec 32 := 0#32
  let v238 : BitVec 1 := Scalar.cmpi .slt c8_i32_117 c0_i32_121
  let v239 : BitVec 32 := Scalar.extui v238
  let v240 : BitVec 32 := Scalar.subi v237 v239
  let v241 : BitVec 1 := Scalar.cmpi .ne v235 v240
  let v242 : BitVec 32 := Scalar.remsi v227 c8_i32_117
  let c0_i32_122 : BitVec 32 := 0#32
  let v243 : BitVec 1 := Scalar.cmpi .ne v242 c0_i32_122
  let v244 : BitVec 1 := Scalar.andi v241 v243
  let v230 : BitVec 32 := Scalar.divsi v227 c8_i32_117
  let c1_i32_123 : BitVec 32 := 1#32
  let v245 : BitVec 32 := Scalar.subi v230 c1_i32_123
  let v246 : BitVec 32 := Scalar.select v244 v245 v230
  let v247 : Index := Scalar.indexCast v246
  let c0_124 : Index := 0#32
  let c0_125 : Index := 0#32
  ![v247.toNat, 0, 0]
def k0_off38 (i : grid0.Coords) (k0_t20 : Fin (k0_t20_loop i).trips) (c0_i32_115 : BitVec 32) : Fin 2 → Nat :=
  let c4_i32_114 : BitVec 32 := 4#32
  let c0_i32_87 : BitVec 32 := 0#32
  let c1_i32_89 : BitVec 32 := 1#32
  let arg16 : BitVec 32 := Scf.iv c0_i32_87 c1_i32_89 k0_t20
  let v226 : BitVec 32 := Scalar.muli c4_i32_114 arg16
  let v227 : BitVec 32 := Scalar.addi v226 c0_i32_115
  let c512_i32_116 : BitVec 32 := 512#32
  let v228 : BitVec 32 := Scalar.muli v227 c512_i32_116
  let v229 : BitVec 32 := v228
  let v294 : Index := Scalar.indexCast v229
  let c0_149 : Index := 0#32
  ![v294.toNat, 0]
def k0_mult15 (i : grid0.Coords) (k0_t20 : Fin (k0_t20_loop i).trips) : BitVec 32 :=
  let c4_i32_185 : BitVec 32 := 4#32
  let c0_i32_87 : BitVec 32 := 0#32
  let c1_i32_89 : BitVec 32 := 1#32
  let arg16 : BitVec 32 := Scf.iv c0_i32_87 c1_i32_89 k0_t20
  let v370 : BitVec 32 := Scalar.muli c4_i32_185 arg16
  let c1_i32_186 : BitVec 32 := 1#32
  let v371 : BitVec 32 := Scalar.addi v370 c1_i32_186
  let c512_i32_187 : BitVec 32 := 512#32
  let v372 : BitVec 32 := Scalar.muli v371 c512_i32_187
  v372
def k0_mult16 (i : grid0.Coords) (k0_t20 : Fin (k0_t20_loop i).trips) : BitVec 32 :=
  let c4_i32_257 : BitVec 32 := 4#32
  let c0_i32_87 : BitVec 32 := 0#32
  let c1_i32_89 : BitVec 32 := 1#32
  let arg16 : BitVec 32 := Scf.iv c0_i32_87 c1_i32_89 k0_t20
  let v514 : BitVec 32 := Scalar.muli c4_i32_257 arg16
  let c2_i32_258 : BitVec 32 := 2#32
  let v515 : BitVec 32 := Scalar.addi v514 c2_i32_258
  let c512_i32_259 : BitVec 32 := 512#32
  let v516 : BitVec 32 := Scalar.muli v515 c512_i32_259
  v516
def k0_mult17 (i : grid0.Coords) (k0_t20 : Fin (k0_t20_loop i).trips) : BitVec 32 :=
  let c4_i32_329 : BitVec 32 := 4#32
  let c0_i32_87 : BitVec 32 := 0#32
  let c1_i32_89 : BitVec 32 := 1#32
  let arg16 : BitVec 32 := Scf.iv c0_i32_87 c1_i32_89 k0_t20
  let v658 : BitVec 32 := Scalar.muli c4_i32_329 arg16
  let c3_i32_330 : BitVec 32 := 3#32
  let v659 : BitVec 32 := Scalar.addi v658 c3_i32_330
  let c512_i32_331 : BitVec 32 := 512#32
  let v660 : BitVec 32 := Scalar.muli v659 c512_i32_331
  v660
@[reducible] def k0_t21_loop (i : grid0.Coords) : Scf.Loop 32 :=
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let v178 : BitVec 32 := Scalar.addi c0_i32_87 v177
  let c1_i32_90 : BitVec 32 := 1#32
  ⟨v181, v178, c1_i32_90⟩
def k0_mult18 (i : grid0.Coords) (k0_t21 : Fin (k0_t21_loop i).trips) : BitVec 32 :=
  let c4_i32_114 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v226 : BitVec 32 := Scalar.muli c4_i32_114 arg16
  let c0_i32_115 : BitVec 32 := 0#32
  let v227 : BitVec 32 := Scalar.addi v226 c0_i32_115
  let c512_i32_116 : BitVec 32 := 512#32
  let v228 : BitVec 32 := Scalar.muli v227 c512_i32_116
  v228
def k0_off39 (i : grid0.Coords) (k0_t21 : Fin (k0_t21_loop i).trips) (c0_i32_115 : BitVec 32) : Fin 3 → Nat :=
  let c4_i32_114 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v226 : BitVec 32 := Scalar.muli c4_i32_114 arg16
  let v227 : BitVec 32 := Scalar.addi v226 c0_i32_115
  let c0_i32_118 : BitVec 32 := 0#32
  let v231 : BitVec 1 := Scalar.cmpi .sgt v227 c0_i32_118
  let v232 : BitVec 32 := Scalar.extui v231
  let c0_i32_119 : BitVec 32 := 0#32
  let v233 : BitVec 1 := Scalar.cmpi .slt v227 c0_i32_119
  let v234 : BitVec 32 := Scalar.extui v233
  let v235 : BitVec 32 := Scalar.subi v232 v234
  let c8_i32_117 : BitVec 32 := 8#32
  let c0_i32_120 : BitVec 32 := 0#32
  let v236 : BitVec 1 := Scalar.cmpi .sgt c8_i32_117 c0_i32_120
  let v237 : BitVec 32 := Scalar.extui v236
  let c0_i32_121 : BitVec 32 := 0#32
  let v238 : BitVec 1 := Scalar.cmpi .slt c8_i32_117 c0_i32_121
  let v239 : BitVec 32 := Scalar.extui v238
  let v240 : BitVec 32 := Scalar.subi v237 v239
  let v241 : BitVec 1 := Scalar.cmpi .ne v235 v240
  let v242 : BitVec 32 := Scalar.remsi v227 c8_i32_117
  let c0_i32_122 : BitVec 32 := 0#32
  let v243 : BitVec 1 := Scalar.cmpi .ne v242 c0_i32_122
  let v244 : BitVec 1 := Scalar.andi v241 v243
  let v230 : BitVec 32 := Scalar.divsi v227 c8_i32_117
  let c1_i32_123 : BitVec 32 := 1#32
  let v245 : BitVec 32 := Scalar.subi v230 c1_i32_123
  let v246 : BitVec 32 := Scalar.select v244 v245 v230
  let v247 : Index := Scalar.indexCast v246
  let c0_124 : Index := 0#32
  let c0_125 : Index := 0#32
  ![v247.toNat, 0, 0]
def k0_off40 (i : grid0.Coords) (k0_t21 : Fin (k0_t21_loop i).trips) (c0_i32_115 : BitVec 32) : Fin 2 → Nat :=
  let c4_i32_114 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v226 : BitVec 32 := Scalar.muli c4_i32_114 arg16
  let v227 : BitVec 32 := Scalar.addi v226 c0_i32_115
  let c512_i32_116 : BitVec 32 := 512#32
  let v228 : BitVec 32 := Scalar.muli v227 c512_i32_116
  let v229 : BitVec 32 := v228
  let v294 : Index := Scalar.indexCast v229
  let c0_149 : Index := 0#32
  ![v294.toNat, 0]
def k0_mult19 (i : grid0.Coords) (k0_t21 : Fin (k0_t21_loop i).trips) : BitVec 32 :=
  let c4_i32_185 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v370 : BitVec 32 := Scalar.muli c4_i32_185 arg16
  let c1_i32_186 : BitVec 32 := 1#32
  let v371 : BitVec 32 := Scalar.addi v370 c1_i32_186
  let c512_i32_187 : BitVec 32 := 512#32
  let v372 : BitVec 32 := Scalar.muli v371 c512_i32_187
  v372
def k0_mult20 (i : grid0.Coords) (k0_t21 : Fin (k0_t21_loop i).trips) : BitVec 32 :=
  let c4_i32_257 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v514 : BitVec 32 := Scalar.muli c4_i32_257 arg16
  let c2_i32_258 : BitVec 32 := 2#32
  let v515 : BitVec 32 := Scalar.addi v514 c2_i32_258
  let c512_i32_259 : BitVec 32 := 512#32
  let v516 : BitVec 32 := Scalar.muli v515 c512_i32_259
  v516
def k0_mult21 (i : grid0.Coords) (k0_t21 : Fin (k0_t21_loop i).trips) : BitVec 32 :=
  let c4_i32_329 : BitVec 32 := 4#32
  let c0_i32_87 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_80 : BitVec 32 := 0#32
  let v161 : BitVec 1 := Scalar.cmpi .sgt v20 c0_i32_80
  let v162 : BitVec 32 := Scalar.extui v161
  let c0_i32_81 : BitVec 32 := 0#32
  let v163 : BitVec 1 := Scalar.cmpi .slt v20 c0_i32_81
  let v164 : BitVec 32 := Scalar.extui v163
  let v165 : BitVec 32 := Scalar.subi v162 v164
  let c4_i32_79 : BitVec 32 := 4#32
  let c0_i32_82 : BitVec 32 := 0#32
  let v166 : BitVec 1 := Scalar.cmpi .sgt c4_i32_79 c0_i32_82
  let v167 : BitVec 32 := Scalar.extui v166
  let c0_i32_83 : BitVec 32 := 0#32
  let v168 : BitVec 1 := Scalar.cmpi .slt c4_i32_79 c0_i32_83
  let v169 : BitVec 32 := Scalar.extui v168
  let v170 : BitVec 32 := Scalar.subi v167 v169
  let v171 : BitVec 1 := Scalar.cmpi .ne v165 v170
  let v172 : BitVec 32 := Scalar.remsi v20 c4_i32_79
  let c0_i32_84 : BitVec 32 := 0#32
  let v173 : BitVec 1 := Scalar.cmpi .ne v172 c0_i32_84
  let v174 : BitVec 1 := Scalar.andi v171 v173
  let v160 : BitVec 32 := Scalar.divsi v20 c4_i32_79
  let c1_i32_85 : BitVec 32 := 1#32
  let v175 : BitVec 32 := Scalar.subi v160 c1_i32_85
  let v176 : BitVec 32 := Scalar.select v174 v175 v160
  let v177 : BitVec 32 := Scalar.subi v176 c0_i32_87
  let c1_i32_88 : BitVec 32 := 1#32
  let v179 : BitVec 32 := Scalar.divsi v177 c1_i32_88
  let v180 : BitVec 32 := Scalar.muli v179 c1_i32_88
  let v181 : BitVec 32 := Scalar.addi c0_i32_87 v180
  let c1_i32_90 : BitVec 32 := 1#32
  let arg16 : BitVec 32 := Scf.iv v181 c1_i32_90 k0_t21
  let v658 : BitVec 32 := Scalar.muli c4_i32_329 arg16
  let c3_i32_330 : BitVec 32 := 3#32
  let v659 : BitVec 32 := Scalar.addi v658 c3_i32_330
  let c512_i32_331 : BitVec 32 := 512#32
  let v660 : BitVec 32 := Scalar.muli v659 c512_i32_331
  v660
def k0_cond7 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v200 : BitVec 32 := Scalar.subi v20 v199
  let c2_i32_99 : BitVec 32 := 2#32
  let v201 : BitVec 1 := Scalar.cmpi .sge v200 c2_i32_99
  let v202 : BitVec 32 := Scalar.extui v201
  let c0_i32_100 : BitVec 32 := 0#32
  let v203 : BitVec 1 := Scalar.cmpi .ne v202 c0_i32_100
  v203

def k0_mult22 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let c0_i32_114 : BitVec 32 := 0#32
  let v226 : BitVec 32 := Scalar.addi v199 c0_i32_114
  let c512_i32_115 : BitVec 32 := 512#32
  let v227 : BitVec 32 := Scalar.muli v226 c512_i32_115
  v227
def k0_off41 (i : grid0.Coords) (c0_i32_114 : BitVec 32) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v226 : BitVec 32 := Scalar.addi v199 c0_i32_114
  let c0_i32_117 : BitVec 32 := 0#32
  let v230 : BitVec 1 := Scalar.cmpi .sgt v226 c0_i32_117
  let v231 : BitVec 32 := Scalar.extui v230
  let c0_i32_118 : BitVec 32 := 0#32
  let v232 : BitVec 1 := Scalar.cmpi .slt v226 c0_i32_118
  let v233 : BitVec 32 := Scalar.extui v232
  let v234 : BitVec 32 := Scalar.subi v231 v233
  let c8_i32_116 : BitVec 32 := 8#32
  let c0_i32_119 : BitVec 32 := 0#32
  let v235 : BitVec 1 := Scalar.cmpi .sgt c8_i32_116 c0_i32_119
  let v236 : BitVec 32 := Scalar.extui v235
  let c0_i32_120 : BitVec 32 := 0#32
  let v237 : BitVec 1 := Scalar.cmpi .slt c8_i32_116 c0_i32_120
  let v238 : BitVec 32 := Scalar.extui v237
  let v239 : BitVec 32 := Scalar.subi v236 v238
  let v240 : BitVec 1 := Scalar.cmpi .ne v234 v239
  let v241 : BitVec 32 := Scalar.remsi v226 c8_i32_116
  let c0_i32_121 : BitVec 32 := 0#32
  let v242 : BitVec 1 := Scalar.cmpi .ne v241 c0_i32_121
  let v243 : BitVec 1 := Scalar.andi v240 v242
  let v229 : BitVec 32 := Scalar.divsi v226 c8_i32_116
  let c1_i32_122 : BitVec 32 := 1#32
  let v244 : BitVec 32 := Scalar.subi v229 c1_i32_122
  let v245 : BitVec 32 := Scalar.select v243 v244 v229
  let v246 : Index := Scalar.indexCast v245
  let c0_123 : Index := 0#32
  let c0_124 : Index := 0#32
  ![v246.toNat, 0, 0]
def k0_off42 (i : grid0.Coords) (c0_i32_114 : BitVec 32) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v226 : BitVec 32 := Scalar.addi v199 c0_i32_114
  let c512_i32_115 : BitVec 32 := 512#32
  let v227 : BitVec 32 := Scalar.muli v226 c512_i32_115
  let v228 : BitVec 32 := v227
  let v293 : Index := Scalar.indexCast v228
  let c0_148 : Index := 0#32
  ![v293.toNat, 0]
def k0_mult23 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let c1_i32_184 : BitVec 32 := 1#32
  let v369 : BitVec 32 := Scalar.addi v199 c1_i32_184
  let c512_i32_185 : BitVec 32 := 512#32
  let v370 : BitVec 32 := Scalar.muli v369 c512_i32_185
  v370
def k0_cond8 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v200 : BitVec 32 := Scalar.subi v20 v199
  let c2_i32_99 : BitVec 32 := 2#32
  let v201 : BitVec 1 := Scalar.cmpi .sge v200 c2_i32_99
  let c2_i32_101 : BitVec 32 := 2#32
  let c0_i32_102 : BitVec 32 := 0#32
  let v204 : BitVec 32 := Scalar.select v201 c2_i32_101 c0_i32_102
  let v205 : BitVec 32 := Scalar.addi v199 v204
  let v206 : BitVec 32 := Scalar.subi v20 v205
  let c1_i32_103 : BitVec 32 := 1#32
  let v207 : BitVec 1 := Scalar.cmpi .sge v206 c1_i32_103
  let v208 : BitVec 32 := Scalar.extui v207
  let c0_i32_104 : BitVec 32 := 0#32
  let v209 : BitVec 1 := Scalar.cmpi .ne v208 c0_i32_104
  v209

def k0_mult24 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v200 : BitVec 32 := Scalar.subi v20 v199
  let c2_i32_99 : BitVec 32 := 2#32
  let v201 : BitVec 1 := Scalar.cmpi .sge v200 c2_i32_99
  let c2_i32_101 : BitVec 32 := 2#32
  let c0_i32_102 : BitVec 32 := 0#32
  let v204 : BitVec 32 := Scalar.select v201 c2_i32_101 c0_i32_102
  let v205 : BitVec 32 := Scalar.addi v199 v204
  let c0_i32_114 : BitVec 32 := 0#32
  let v226 : BitVec 32 := Scalar.addi v205 c0_i32_114
  let c512_i32_115 : BitVec 32 := 512#32
  let v227 : BitVec 32 := Scalar.muli v226 c512_i32_115
  v227
def k0_off43 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v200 : BitVec 32 := Scalar.subi v20 v199
  let c2_i32_99 : BitVec 32 := 2#32
  let v201 : BitVec 1 := Scalar.cmpi .sge v200 c2_i32_99
  let c2_i32_101 : BitVec 32 := 2#32
  let c0_i32_102 : BitVec 32 := 0#32
  let v204 : BitVec 32 := Scalar.select v201 c2_i32_101 c0_i32_102
  let v205 : BitVec 32 := Scalar.addi v199 v204
  let c0_i32_114 : BitVec 32 := 0#32
  let v226 : BitVec 32 := Scalar.addi v205 c0_i32_114
  let c0_i32_117 : BitVec 32 := 0#32
  let v230 : BitVec 1 := Scalar.cmpi .sgt v226 c0_i32_117
  let v231 : BitVec 32 := Scalar.extui v230
  let c0_i32_118 : BitVec 32 := 0#32
  let v232 : BitVec 1 := Scalar.cmpi .slt v226 c0_i32_118
  let v233 : BitVec 32 := Scalar.extui v232
  let v234 : BitVec 32 := Scalar.subi v231 v233
  let c8_i32_116 : BitVec 32 := 8#32
  let c0_i32_119 : BitVec 32 := 0#32
  let v235 : BitVec 1 := Scalar.cmpi .sgt c8_i32_116 c0_i32_119
  let v236 : BitVec 32 := Scalar.extui v235
  let c0_i32_120 : BitVec 32 := 0#32
  let v237 : BitVec 1 := Scalar.cmpi .slt c8_i32_116 c0_i32_120
  let v238 : BitVec 32 := Scalar.extui v237
  let v239 : BitVec 32 := Scalar.subi v236 v238
  let v240 : BitVec 1 := Scalar.cmpi .ne v234 v239
  let v241 : BitVec 32 := Scalar.remsi v226 c8_i32_116
  let c0_i32_121 : BitVec 32 := 0#32
  let v242 : BitVec 1 := Scalar.cmpi .ne v241 c0_i32_121
  let v243 : BitVec 1 := Scalar.andi v240 v242
  let v229 : BitVec 32 := Scalar.divsi v226 c8_i32_116
  let c1_i32_122 : BitVec 32 := 1#32
  let v244 : BitVec 32 := Scalar.subi v229 c1_i32_122
  let v245 : BitVec 32 := Scalar.select v243 v244 v229
  let v246 : Index := Scalar.indexCast v245
  let c0_123 : Index := 0#32
  let c0_124 : Index := 0#32
  ![v246.toNat, 0, 0]
def k0_off44 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v183 : BitVec 1 := Scalar.cmpi .sgt v20 c0_i32_92
  let v184 : BitVec 32 := Scalar.extui v183
  let c0_i32_93 : BitVec 32 := 0#32
  let v185 : BitVec 1 := Scalar.cmpi .slt v20 c0_i32_93
  let v186 : BitVec 32 := Scalar.extui v185
  let v187 : BitVec 32 := Scalar.subi v184 v186
  let c4_i32_91 : BitVec 32 := 4#32
  let c0_i32_94 : BitVec 32 := 0#32
  let v188 : BitVec 1 := Scalar.cmpi .sgt c4_i32_91 c0_i32_94
  let v189 : BitVec 32 := Scalar.extui v188
  let c0_i32_95 : BitVec 32 := 0#32
  let v190 : BitVec 1 := Scalar.cmpi .slt c4_i32_91 c0_i32_95
  let v191 : BitVec 32 := Scalar.extui v190
  let v192 : BitVec 32 := Scalar.subi v189 v191
  let v193 : BitVec 1 := Scalar.cmpi .ne v187 v192
  let v194 : BitVec 32 := Scalar.remsi v20 c4_i32_91
  let c0_i32_96 : BitVec 32 := 0#32
  let v195 : BitVec 1 := Scalar.cmpi .ne v194 c0_i32_96
  let v196 : BitVec 1 := Scalar.andi v193 v195
  let v182 : BitVec 32 := Scalar.divsi v20 c4_i32_91
  let c1_i32_97 : BitVec 32 := 1#32
  let v197 : BitVec 32 := Scalar.subi v182 c1_i32_97
  let v198 : BitVec 32 := Scalar.select v196 v197 v182
  let c4_i32_98 : BitVec 32 := 4#32
  let v199 : BitVec 32 := Scalar.muli v198 c4_i32_98
  let v200 : BitVec 32 := Scalar.subi v20 v199
  let c2_i32_99 : BitVec 32 := 2#32
  let v201 : BitVec 1 := Scalar.cmpi .sge v200 c2_i32_99
  let c2_i32_101 : BitVec 32 := 2#32
  let c0_i32_102 : BitVec 32 := 0#32
  let v204 : BitVec 32 := Scalar.select v201 c2_i32_101 c0_i32_102
  let v205 : BitVec 32 := Scalar.addi v199 v204
  let c0_i32_114 : BitVec 32 := 0#32
  let v226 : BitVec 32 := Scalar.addi v205 c0_i32_114
  let c512_i32_115 : BitVec 32 := 512#32
  let v227 : BitVec 32 := Scalar.muli v226 c512_i32_115
  let v228 : BitVec 32 := v227
  let v293 : Index := Scalar.indexCast v228
  let c0_148 : Index := 0#32
  ![v293.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S16384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S32768x1024 : Shape := ⟨2, ![32768, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x1024 : Shape := ⟨2, ![32768, 1024]⟩
abbrev S1024x4096 : Shape := ⟨2, ![1024, 4096]⟩
abbrev S4096x1024 : Shape := ⟨2, ![4096, 1024]⟩
abbrev S1024 : Shape := ⟨1, ![1024]⟩
abbrev S32768x4096 : Shape := ⟨2, ![32768, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S32768x4096, .f32⟩
  | .hbm, ⟨6, _⟩ => ⟨S_, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S32768x1024 : Shape := ⟨2, ![32768, 1024]⟩
abbrev S1024x7120 : Shape := ⟨2, ![1024, 7120]⟩
abbrev S1024x64 : Shape := ⟨2, ![1024, 64]⟩
abbrev S1024x8 : Shape := ⟨2, ![1024, 8]⟩
abbrev S1024x4 : Shape := ⟨2, ![1024, 4]⟩
abbrev S_ : Shape := ⟨0, ![]⟩
abbrev S1024x48 : Shape := ⟨2, ![1024, 48]⟩
abbrev S1024x128 : Shape := ⟨2, ![1024, 128]⟩
abbrev S1024x1536 : Shape := ⟨2, ![1024, 1536]⟩
abbrev S1024x512 : Shape := ⟨2, ![1024, 512]⟩
abbrev S1024x256 : Shape := ⟨2, ![1024, 256]⟩
abbrev S1024x3072 : Shape := ⟨2, ![1024, 3072]⟩
abbrev S1024x6144 : Shape := ⟨2, ![1024, 6144]⟩
abbrev S1024x1024 : Shape := ⟨2, ![1024, 1024]⟩
abbrev S32768x6144 : Shape := ⟨2, ![32768, 6144]⟩

abbrev nBuf : Space → Nat
  | .hbm => 20
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x7120, .f32⟩
  | .hbm, ⟨2, _⟩ => ⟨S1024x64, .f32⟩
  | .hbm, ⟨3, _⟩ => ⟨S1024x8, .f32⟩
  | .hbm, ⟨4, _⟩ => ⟨S1024x4, .f32⟩
  | .hbm, ⟨5, _⟩ => ⟨S1024x4, .f32⟩
  | .hbm, ⟨6, _⟩ => ⟨S_, .f32⟩
  | .hbm, ⟨7, _⟩ => ⟨S1024x48, .f32⟩
  | .hbm, ⟨8, _⟩ => ⟨S1024x128, .f32⟩
  | .hbm, ⟨9, _⟩ => ⟨S1024x1536, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x128, .f32⟩
  | .hbm, ⟨14, _⟩ => ⟨S1024x3072, .f32⟩
  | .hbm, ⟨15, _⟩ => ⟨S1024x6144, .f32⟩
  | .hbm, ⟨16, _⟩ => ⟨S1024x6144, .bf16⟩
  | .hbm, ⟨17, _⟩ => ⟨S1024x1024, .f32⟩
  | .hbm, ⟨18, _⟩ => ⟨S1024x1024, .bf16⟩
  | .hbm, ⟨19, _⟩ => ⟨S32768x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x1024 : Shape := ⟨2, ![32768, 1024]⟩
abbrev S1024x7120 : Shape := ⟨2, ![1024, 7120]⟩
abbrev S32768x7120 : Shape := ⟨2, ![32768, 7120]⟩
abbrev S32768x1536 : Shape := ⟨2, ![32768, 1536]⟩
abbrev S32768x512 : Shape := ⟨2, ![32768, 512]⟩
abbrev S32768x256 : Shape := ⟨2, ![32768, 256]⟩
abbrev S32768x128 : Shape := ⟨2, ![32768, 128]⟩
abbrev S32768x64 : Shape := ⟨2, ![32768, 64]⟩
abbrev S32768x8 : Shape := ⟨2, ![32768, 8]⟩
abbrev S32768x4 : Shape := ⟨2, ![32768, 4]⟩
abbrev S_ : Shape := ⟨0, ![]⟩
abbrev S32768x48 : Shape := ⟨2, ![32768, 48]⟩
abbrev S32768x3072 : Shape := ⟨2, ![32768, 3072]⟩
abbrev S32768x6144 : Shape := ⟨2, ![32768, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7120, .f32⟩
  | .hbm, ⟨2, _⟩ => ⟨S32768x7120, .f32⟩
  | .hbm, ⟨3, _⟩ => ⟨S32768x1536, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x128, .f32⟩
  | .hbm, ⟨8, _⟩ => ⟨S32768x64, .f32⟩
  | .hbm, ⟨9, _⟩ => ⟨S32768x8, .f32⟩
  | .hbm, ⟨10, _⟩ => ⟨S32768x4, .f32⟩
  | .hbm, ⟨11, _⟩ => ⟨S32768x4, .f32⟩
  | .hbm, ⟨12, _⟩ => ⟨S_, .f32⟩
  | .hbm, ⟨13, _⟩ => ⟨S32768x48, .f32⟩
  | .hbm, ⟨14, _⟩ => ⟨S32768x3072, .f32⟩
  | .hbm, ⟨15, _⟩ => ⟨S32768x6144, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S32768x1024 : Shape := ⟨2, ![32768, 1024]⟩
abbrev S1024x7120 : Shape := ⟨2, ![1024, 7120]⟩
abbrev S1024x64 : Shape := ⟨2, ![1024, 64]⟩
abbrev S1024x8 : Shape := ⟨2, ![1024, 8]⟩
abbrev S1024x4 : Shape := ⟨2, ![1024, 4]⟩
abbrev S_ : Shape := ⟨0, ![]⟩
abbrev S1024x48 : Shape := ⟨2, ![1024, 48]⟩
abbrev S1024x128 : Shape := ⟨2, ![1024, 128]⟩
abbrev S1024x1536 : Shape := ⟨2, ![1024, 1536]⟩
abbrev S1024x512 : Shape := ⟨2, ![1024, 512]⟩
abbrev S1024x256 : Shape := ⟨2, ![1024, 256]⟩
abbrev S1024x3072 : Shape := ⟨2, ![1024, 3072]⟩
abbrev S1024x6144 : Shape := ⟨2, ![1024, 6144]⟩
abbrev S1024x1024 : Shape := ⟨2, ![1024, 1024]⟩

abbrev nBuf : Space → Nat
  | .hbm => 20
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x7120, .f32⟩
  | .hbm, ⟨2, _⟩ => ⟨S1024x64, .f32⟩
  | .hbm, ⟨3, _⟩ => ⟨S1024x8, .f32⟩
  | .hbm, ⟨4, _⟩ => ⟨S1024x4, .f32⟩
  | .hbm, ⟨5, _⟩ => ⟨S1024x4, .f32⟩
  | .hbm, ⟨6, _⟩ => ⟨S_, .f32⟩
  | .hbm, ⟨7, _⟩ => ⟨S1024x48, .f32⟩
  | .hbm, ⟨8, _⟩ => ⟨S1024x128, .f32⟩
  | .hbm, ⟨9, _⟩ => ⟨S1024x1536, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x128, .f32⟩
  | .hbm, ⟨14, _⟩ => ⟨S1024x3072, .f32⟩
  | .hbm, ⟨15, _⟩ => ⟨S1024x6144, .f32⟩
  | .hbm, ⟨16, _⟩ => ⟨S1024x6144, .bf16⟩
  | .hbm, ⟨17, _⟩ => ⟨S1024x1024, .f32⟩
  | .hbm, ⟨18, _⟩ => ⟨S1024x1024, .bf16⟩
  | .hbm, ⟨19, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x7120 : Shape := ⟨2, ![1024, 7120]⟩
abbrev S32768x7120 : Shape := ⟨2, ![32768, 7120]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7120, .f32⟩
  | .hbm, ⟨2, _⟩ => ⟨S32768x7120, .f32⟩
  | .hbm, ⟨3, _⟩ => ⟨S32768x1024, .f32⟩
  | .hbm, ⟨4, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x6144 : Shape := ⟨2, ![32768, 6144]⟩
abbrev S32768x1024 : Shape := ⟨2, ![32768, 1024]⟩
abbrev S4x64 : Shape := ⟨2, ![4, 64]⟩
abbrev S128 : Shape := ⟨1, ![128]⟩
abbrev S1x128 : Shape := ⟨2, ![1, 128]⟩
abbrev S32768x512 : Shape := ⟨2, ![32768, 512]⟩
abbrev S512x128 : Shape := ⟨2, ![512, 128]⟩
abbrev S16384x128 : Shape := ⟨2, ![16384, 128]⟩
abbrev S1024x128 : Shape := ⟨2, ![1024, 128]⟩
abbrev S512x512 : Shape := ⟨2, ![512, 512]⟩
abbrev S512 : Shape := ⟨1, ![512]⟩
abbrev S512x1 : Shape := ⟨2, ![512, 1]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S32768x6144, .f32⟩
  | .hbm, ⟨1, _⟩ => ⟨S32768x1024, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S32768x512, .f32⟩
  | .local _ .vmem, ⟨0, _⟩ => ⟨S4x64, .f32⟩
  | .local _ .vmem, ⟨1, _⟩ => ⟨S1x128, .f32⟩
  | .local _ .vmem, ⟨2, _⟩ => ⟨S512x128, .f32⟩
  | .local _ .vmem, ⟨3, _⟩ => ⟨S512x128, .f32⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S512x128, .f32⟩
  | .local _ .vmem, ⟨9, _⟩ => ⟨S512x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_21 : BitVec 32 := 1#32
  ⟨c0_i32_19, v48, c1_i32_21⟩
def k0_mult1 (i : grid0.Coords) (k0_t1 : Fin (k0_t1_loop i).trips) : BitVec 32 :=
  let c4_i32_92 : BitVec 32 := 4#32
  let c0_i32_19 : BitVec 32 := 0#32
  let c1_i32_21 : BitVec 32 := 1#32
  let arg12 : BitVec 32 := Scf.iv c0_i32_19 c1_i32_21 k0_t1
  let v203 : BitVec 32 := Scalar.muli c4_i32_92 arg12
  let c0_i32_93 : BitVec 32 := 0#32
  let v204 : BitVec 32 := Scalar.addi v203 c0_i32_93
  let c512_i32_94 : BitVec 32 := 512#32
  let v205 : BitVec 32 := Scalar.muli v204 c512_i32_94
  v205
def k0_off1 (i : grid0.Coords) (k0_t1 : Fin (k0_t1_loop i).trips) (c0_i32_93 : BitVec 32) : Fin 2 → Nat :=
  let c4_i32_92 : BitVec 32 := 4#32
  let c0_i32_19 : BitVec 32 := 0#32
  let c1_i32_21 : BitVec 32 := 1#32
  let arg12 : BitVec 32 := Scf.iv c0_i32_19 c1_i32_21 k0_t1
  let v203 : BitVec 32 := Scalar.muli c4_i32_92 arg12
  let v204 : BitVec 32 := Scalar.addi v203 c0_i32_93
  let c512_i32_94 : BitVec 32 := 512#32
  let v205 : BitVec 32 := Scalar.muli v204 c512_i32_94
  let v206 : BitVec 32 := v205
  let v207 : Index := Scalar.indexCast v206
  let c0_95 : Index := 0#32
  ![v207.toNat, 0]
def k0_mult2 (i : grid0.Coords) (k0_t1 : Fin (k0_t1_loop i).trips) : BitVec 32 :=
  let c4_i32_129 : BitVec 32 := 4#32
  let c0_i32_19 : BitVec 32 := 0#32
  let c1_i32_21 : BitVec 32 := 1#32
  let arg12 : BitVec 32 := Scf.iv c0_i32_19 c1_i32_21 k0_t1
  let v275 : BitVec 32 := Scalar.muli c4_i32_129 arg12
  let c1_i32_130 : BitVec 32 := 1#32
  let v276 : BitVec 32 := Scalar.addi v275 c1_i32_130
  let c512_i32_131 : BitVec 32 := 512#32
  let v277 : BitVec 32 := Scalar.muli v276 c512_i32_131
  v277
def k0_mult3 (i : grid0.Coords) (k0_t1 : Fin (k0_t1_loop i).trips) : BitVec 32 :=
  let c4_i32_166 : BitVec 32 := 4#32
  let c0_i32_19 : BitVec 32 := 0#32
  let c1_i32_21 : BitVec 32 := 1#32
  let arg12 : BitVec 32 := Scf.iv c0_i32_19 c1_i32_21 k0_t1
  let v347 : BitVec 32 := Scalar.muli c4_i32_166 arg12
  let c2_i32_167 : BitVec 32 := 2#32
  let v348 : BitVec 32 := Scalar.addi v347 c2_i32_167
  let c512_i32_168 : BitVec 32 := 512#32
  let v349 : BitVec 32 := Scalar.muli v348 c512_i32_168
  v349
def k0_mult4 (i : grid0.Coords) (k0_t1 : Fin (k0_t1_loop i).trips) : BitVec 32 :=
  let c4_i32_203 : BitVec 32 := 4#32
  let c0_i32_19 : BitVec 32 := 0#32
  let c1_i32_21 : BitVec 32 := 1#32
  let arg12 : BitVec 32 := Scf.iv c0_i32_19 c1_i32_21 k0_t1
  let v419 : BitVec 32 := Scalar.muli c4_i32_203 arg12
  let c3_i32 : BitVec 32 := 3#32
  let v420 : BitVec 32 := Scalar.addi v419 c3_i32
  let c512_i32_204 : BitVec 32 := 512#32
  let v421 : BitVec 32 := Scalar.muli v420 c512_i32_204
  v421
@[reducible] def k0_t2_loop (i : grid0.Coords) : Scf.Loop 32 :=
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let v45 : BitVec 32 := Scalar.addi c0_i32_19 v44
  let c1_i32_22 : BitVec 32 := 1#32
  ⟨v48, v45, c1_i32_22⟩
def k0_mult5 (i : grid0.Coords) (k0_t2 : Fin (k0_t2_loop i).trips) : BitVec 32 :=
  let c4_i32_92 : BitVec 32 := 4#32
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v203 : BitVec 32 := Scalar.muli c4_i32_92 arg12
  let c0_i32_93 : BitVec 32 := 0#32
  let v204 : BitVec 32 := Scalar.addi v203 c0_i32_93
  let c512_i32_94 : BitVec 32 := 512#32
  let v205 : BitVec 32 := Scalar.muli v204 c512_i32_94
  v205
def k0_off2 (i : grid0.Coords) (k0_t2 : Fin (k0_t2_loop i).trips) (c0_i32_93 : BitVec 32) : Fin 2 → Nat :=
  let c4_i32_92 : BitVec 32 := 4#32
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v203 : BitVec 32 := Scalar.muli c4_i32_92 arg12
  let v204 : BitVec 32 := Scalar.addi v203 c0_i32_93
  let c512_i32_94 : BitVec 32 := 512#32
  let v205 : BitVec 32 := Scalar.muli v204 c512_i32_94
  let v206 : BitVec 32 := v205
  let v207 : Index := Scalar.indexCast v206
  let c0_95 : Index := 0#32
  ![v207.toNat, 0]
def k0_mult6 (i : grid0.Coords) (k0_t2 : Fin (k0_t2_loop i).trips) : BitVec 32 :=
  let c4_i32_129 : BitVec 32 := 4#32
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v275 : BitVec 32 := Scalar.muli c4_i32_129 arg12
  let c1_i32_130 : BitVec 32 := 1#32
  let v276 : BitVec 32 := Scalar.addi v275 c1_i32_130
  let c512_i32_131 : BitVec 32 := 512#32
  let v277 : BitVec 32 := Scalar.muli v276 c512_i32_131
  v277
def k0_mult7 (i : grid0.Coords) (k0_t2 : Fin (k0_t2_loop i).trips) : BitVec 32 :=
  let c4_i32_166 : BitVec 32 := 4#32
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v347 : BitVec 32 := Scalar.muli c4_i32_166 arg12
  let c2_i32_167 : BitVec 32 := 2#32
  let v348 : BitVec 32 := Scalar.addi v347 c2_i32_167
  let c512_i32_168 : BitVec 32 := 512#32
  let v349 : BitVec 32 := Scalar.muli v348 c512_i32_168
  v349
def k0_mult8 (i : grid0.Coords) (k0_t2 : Fin (k0_t2_loop i).trips) : BitVec 32 :=
  let c4_i32_203 : BitVec 32 := 4#32
  let c0_i32_19 : BitVec 32 := 0#32
  let arg2 : BitVec 32 := BitVec.ofNat 32 (i 2).val
  let c1_i32 : BitVec 32 := 1#32
  let v26 : BitVec 32 := Scalar.muli arg2 c1_i32
  let c0_i32 : BitVec 32 := 0#32
  let v28 : BitVec 1 := Scalar.cmpi .sgt v26 c0_i32
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c4_i32 : BitVec 32 := 4#32
  let c0_i32_14 : BitVec 32 := 0#32
  let v33 : BitVec 1 := Scalar.cmpi .sgt c4_i32 c0_i32_14
  let v34 : BitVec 32 := Scalar.extui v33
  let c0_i32_15 : BitVec 32 := 0#32
  let v35 : BitVec 1 := Scalar.cmpi .slt c4_i32 c0_i32_15
  let v36 : BitVec 32 := Scalar.extui v35
  let v37 : BitVec 32 := Scalar.subi v34 v36
  let v38 : BitVec 1 := Scalar.cmpi .ne v32 v37
  let v39 : BitVec 32 := Scalar.remsi v26 c4_i32
  let c0_i32_16 : BitVec 32 := 0#32
  let v40 : BitVec 1 := Scalar.cmpi .ne v39 c0_i32_16
  let v41 : BitVec 1 := Scalar.andi v38 v40
  let v27 : BitVec 32 := Scalar.divsi v26 c4_i32
  let c1_i32_17 : BitVec 32 := 1#32
  let v42 : BitVec 32 := Scalar.subi v27 c1_i32_17
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v419 : BitVec 32 := Scalar.muli c4_i32_203 arg12
  let c3_i32 : BitVec 32 := 3#32
  let v420 : BitVec 32 := Scalar.addi v419 c3_i32
  let c512_i32_204 : BitVec 32 := 512#32
  let v421 : BitVec 32 := Scalar.muli v420 c512_i32_204
  v421
def k0_cond1 (i : grid0.Coords) : BitVec 1 :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let v67 : BitVec 32 := Scalar.subi v26 v66
  let c2_i32 : BitVec 32 := 2#32
  let v68 : BitVec 1 := Scalar.cmpi .sge v67 c2_i32
  let v69 : BitVec 32 := Scalar.extui v68
  let c0_i32_31 : BitVec 32 := 0#32
  let v70 : BitVec 1 := Scalar.cmpi .ne v69 c0_i32_31
  v70

def k0_mult9 (i : grid0.Coords) : BitVec 32 :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let c0_i32_92 : BitVec 32 := 0#32
  let v203 : BitVec 32 := Scalar.addi v66 c0_i32_92
  let c512_i32_93 : BitVec 32 := 512#32
  let v204 : BitVec 32 := Scalar.muli v203 c512_i32_93
  v204
def k0_off3 (i : grid0.Coords) (c0_i32_92 : BitVec 32) : Fin 2 → Nat :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let v203 : BitVec 32 := Scalar.addi v66 c0_i32_92
  let c512_i32_93 : BitVec 32 := 512#32
  let v204 : BitVec 32 := Scalar.muli v203 c512_i32_93
  let v205 : BitVec 32 := v204
  let v206 : Index := Scalar.indexCast v205
  let c0_94 : Index := 0#32
  ![v206.toNat, 0]
def k0_mult10 (i : grid0.Coords) : BitVec 32 :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let c1_i32_128 : BitVec 32 := 1#32
  let v274 : BitVec 32 := Scalar.addi v66 c1_i32_128
  let c512_i32_129 : BitVec 32 := 512#32
  let v275 : BitVec 32 := Scalar.muli v274 c512_i32_129
  v275
def k0_cond2 (i : grid0.Coords) : BitVec 1 :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let v67 : BitVec 32 := Scalar.subi v26 v66
  let c2_i32 : BitVec 32 := 2#32
  let v68 : BitVec 1 := Scalar.cmpi .sge v67 c2_i32
  let c2_i32_32 : BitVec 32 := 2#32
  let c0_i32_33 : BitVec 32 := 0#32
  let v71 : BitVec 32 := Scalar.select v68 c2_i32_32 c0_i32_33
  let v72 : BitVec 32 := Scalar.addi v66 v71
  let v73 : BitVec 32 := Scalar.subi v26 v72
  let c1_i32_34 : BitVec 32 := 1#32
  let v74 : BitVec 1 := Scalar.cmpi .sge v73 c1_i32_34
  let v75 : BitVec 32 := Scalar.extui v74
  let c0_i32_35 : BitVec 32 := 0#32
  let v76 : BitVec 1 := Scalar.cmpi .ne v75 c0_i32_35
  v76

def k0_mult11 (i : grid0.Coords) : BitVec 32 :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let v67 : BitVec 32 := Scalar.subi v26 v66
  let c2_i32 : BitVec 32 := 2#32
  let v68 : BitVec 1 := Scalar.cmpi .sge v67 c2_i32
  let c2_i32_32 : BitVec 32 := 2#32
  let c0_i32_33 : BitVec 32 := 0#32
  let v71 : BitVec 32 := Scalar.select v68 c2_i32_32 c0_i32_33
  let v72 : BitVec 32 := Scalar.addi v66 v71
  let c0_i32_92 : BitVec 32 := 0#32
  let v203 : BitVec 32 := Scalar.addi v72 c0_i32_92
  let c512_i32_93 : BitVec 32 := 512#32
  let v204 : BitVec 32 := Scalar.muli v203 c512_i32_93
  v204
def k0_off4 (i : grid0.Coords) : Fin 2 → Nat :=
  let arg2 : BitVec 32 := BitVec.ofNat 32 (i 2).val
  let c1_i32 : BitVec 32 := 1#32
  let v26 : BitVec 32 := Scalar.muli arg2 c1_i32
  let c0_i32_24 : BitVec 32 := 0#32
  let v50 : BitVec 1 := Scalar.cmpi .sgt v26 c0_i32_24
  let v51 : BitVec 32 := Scalar.extui v50
  let c0_i32_25 : BitVec 32 := 0#32
  let v52 : BitVec 1 := Scalar.cmpi .slt v26 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v26 c4_i32_23
  let c0_i32_28 : BitVec 32 := 0#32
  let v62 : BitVec 1 := Scalar.cmpi .ne v61 c0_i32_28
  let v63 : BitVec 1 := Scalar.andi v60 v62
  let v49 : BitVec 32 := Scalar.divsi v26 c4_i32_23
  let c1_i32_29 : BitVec 32 := 1#32
  let v64 : BitVec 32 := Scalar.subi v49 c1_i32_29
  let v65 : BitVec 32 := Scalar.select v63 v64 v49
  let c4_i32_30 : BitVec 32 := 4#32
  let v66 : BitVec 32 := Scalar.muli v65 c4_i32_30
  let v67 : BitVec 32 := Scalar.subi v26 v66
  let c2_i32 : BitVec 32 := 2#32
  let v68 : BitVec 1 := Scalar.cmpi .sge v67 c2_i32
  let c2_i32_32 : BitVec 32 := 2#32
  let c0_i32_33 : BitVec 32 := 0#32
  let v71 : BitVec 32 := Scalar.select v68 c2_i32_32 c0_i32_33
  let v72 : BitVec 32 := Scalar.addi v66 v71
  let c0_i32_92 : BitVec 32 := 0#32
  let v203 : BitVec 32 := Scalar.addi v72 c0_i32_92
  let c512_i32_93 : BitVec 32 := 512#32
  let v204 : BitVec 32 := Scalar.muli v203 c512_i32_93
  let v205 : BitVec 32 := v204
  let v206 : Index := Scalar.indexCast v205
  let c0_94 : Index := 0#32
  ![v206.toNat, 0]
def k0_mult12 (i : grid0.Coords) : BitVec 32 :=
  let arg2 : BitVec 32 := BitVec.ofNat 32 (i 2).val
  let c1_i32_36 : BitVec 32 := 1#32
  let v77 : BitVec 32 := Scalar.muli arg2 c1_i32_36
  let c0_i32_37 : BitVec 32 := 0#32
  let v78 : BitVec 32 := Scalar.addi v77 c0_i32_37
  let c512_i32 : BitVec 32 := 512#32
  let v79 : BitVec 32 := Scalar.muli v78 c512_i32
  v79
def k0_off5 (i : grid0.Coords) : Fin 2 → Nat :=
  let arg2 : BitVec 32 := BitVec.ofNat 32 (i 2).val
  let c1_i32_36 : BitVec 32 := 1#32
  let v77 : BitVec 32 := Scalar.muli arg2 c1_i32_36
  let c0_i32_37 : BitVec 32 := 0#32
  let v78 : BitVec 32 := Scalar.addi v77 c0_i32_37
  let c512_i32 : BitVec 32 := 512#32
  let v79 : BitVec 32 := Scalar.muli v78 c512_i32
  let v80 : BitVec 32 := v79
  let v81 : Index := Scalar.indexCast v80
  let c0_38 : Index := 0#32
  ![v81.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel5Ideal.lean ====
variable {F : FTy → Type} [FloatOps F] [Named F]
def κ : String → Option EReal := fun
  | "mask" => some ⊥
  | "scale" => some (((1 / 8) * (Real.log 2)⁻¹ : ℝ) : EReal)
  | _ => none
-- ==== Reference5Ideal.lean ====
abbrev S32768x6144 : Shape := ⟨2, ![32768, 6144]⟩
abbrev S32768x1024 : Shape := ⟨2, ![32768, 1024]⟩
abbrev S4x64 : Shape := ⟨2, ![4, 64]⟩
abbrev S128 : Shape := ⟨1, ![128]⟩
abbrev S32768x512 : Shape := ⟨2, ![32768, 512]⟩
abbrev S2x16384x4x2x64 : Shape := ⟨5, ![2, 16384, 4, 2, 64]⟩
abbrev S2x16384x4x128 : Shape := ⟨4, ![2, 16384, 4, 128]⟩
abbrev S1x64 : Shape := ⟨2, ![1, 64]⟩
abbrev S64 : Shape := ⟨1, ![64]⟩
abbrev S_ : Shape := ⟨0, ![]⟩
abbrev S2x4x2x16384x16384 : Shape := ⟨5, ![2, 4, 2, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S32768x1024, .bf16⟩
  | .hbm, ⟨2, _⟩ => ⟨S4x64, .f32⟩
  | .hbm, ⟨3, _⟩ => ⟨S128, .f32⟩
  | .hbm, ⟨4, _⟩ => ⟨S32768x512, .f32⟩
  | .hbm, ⟨5, _⟩ => ⟨S2x16384x4x2x64, .f32⟩
  | .hbm, ⟨6, _⟩ => ⟨S32768x512, .bf16⟩
  | .hbm, ⟨7, _⟩ => ⟨S32768x512, .f32⟩
  | .hbm, ⟨8, _⟩ => ⟨S2x16384x4x2x64, .f32⟩
  | .hbm, ⟨9, _⟩ => ⟨S32768x512, .bf16⟩
  | .hbm, ⟨10, _⟩ => ⟨S32768x512, .f32⟩
  | .hbm, ⟨11, _⟩ => ⟨S2x16384x4x128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x4x2x16384x16384, .f32⟩
  | .hbm, ⟨32, _⟩ => ⟨S_, .f32⟩
  | .hbm, ⟨33, _⟩ => ⟨S2x4x2x16384x16384, .f32⟩
  | .hbm, ⟨34, _⟩ => ⟨S2x4x2x16384x16384, .f32⟩
  | .hbm, ⟨35, _⟩ => ⟨S2x4x2x16384x16384, .i32⟩
  | .hbm, ⟨36, _⟩ => ⟨S2x4x2x16384x16384, .i32⟩
  | .hbm, ⟨37, _⟩ => ⟨S2x4x2x16384x16384, .i1⟩
  | .hbm, ⟨38, _⟩ => ⟨S_, .f32⟩
  | .hbm, ⟨39, _⟩ => ⟨S_, .f32⟩
  | .hbm, ⟨40, _⟩ => ⟨S2x4x2x16384x16384, .f32⟩
  | .hbm, ⟨41, _⟩ => ⟨S2x4x2x16384x16384, .f32⟩
  | .hbm, ⟨42, _⟩ => ⟨S_, .f32⟩
  | .hbm, ⟨43, _⟩ => ⟨S2x4x2x16384, .f32⟩
  | .hbm, ⟨44, _⟩ => ⟨S_, .f32⟩
  | .hbm, ⟨45, _⟩ => ⟨S2x4x2x16384, .f32⟩
  | .hbm, ⟨46, _⟩ => ⟨S2x4x2x16384, .f32⟩
  | .hbm, ⟨47, _⟩ => ⟨S2x4x2x16384x1, .f32⟩
  | .hbm, ⟨48, _⟩ => ⟨S2x4x2x16384x16384, .f32⟩
  | .hbm, ⟨49, _⟩ => ⟨S2x4x2x16384x16384, .f32⟩
  | .hbm, ⟨50, _⟩ => ⟨S2x4x2x16384x16384, .f32⟩
  | .hbm, ⟨51, _⟩ => ⟨S_, .f32⟩
  | .hbm, ⟨52, _⟩ => ⟨S2x4x2x16384, .f32⟩
  | .hbm, ⟨53, _⟩ => ⟨S2x4x2x16384x1, .f32⟩
  | .hbm, ⟨54, _⟩ => ⟨S2x4x2x16384x16384, .f32⟩
  | .hbm, ⟨55, _⟩ => ⟨S2x4x2x16384x16384, .f32⟩
  | .hbm, ⟨56, _⟩ => ⟨S2x4x1x16384x16384, .f32⟩
  | .hbm, ⟨57, _⟩ => ⟨S2x4x16384x16384, .f32⟩
  | .hbm, ⟨58, _⟩ => ⟨S2x4x1x16384x16384, .f32⟩
  | .hbm, ⟨59, _⟩ => ⟨S2x4x16384x16384, .f32⟩
  | .hbm, ⟨60, _⟩ => ⟨S2x4x16384x16384, .f32⟩
  | .hbm, ⟨61, _⟩ => ⟨S2x4x16384x16384, .f32⟩
  | .hbm, ⟨62, _⟩ => ⟨S2x4x16384x16384, .f32⟩
  | .hbm, ⟨63, _⟩ => ⟨S2x4x128x16384, .f32⟩
  | .hbm, ⟨64, _⟩ => ⟨S2x16384x4x128, .f32⟩
  | .hbm, ⟨65, _⟩ => ⟨S2x16384x4x128, .f32⟩
  | .hbm, ⟨66, _⟩ => ⟨S_, .f32⟩
  | .hbm, ⟨67, _⟩ => ⟨S2x16384x4, .f32⟩
  | .hbm, ⟨68, _⟩ => ⟨S2x16384x4x1, .f32⟩
  | .hbm, ⟨69, _⟩ => ⟨S_, .f32⟩
  | .hbm, ⟨70, _⟩ => ⟨S2x16384x4x1, .f32⟩
  | .hbm, ⟨71, _⟩ => ⟨S2x16384x4x1, .f32⟩
  | .hbm, ⟨72, _⟩ => ⟨S_, .f32⟩
  | .hbm, ⟨73, _⟩ => ⟨S2x16384x4x1, .f32⟩
  | .hbm, ⟨74, _⟩ => ⟨S2x16384x4x1, .f32⟩
  | .hbm, ⟨75, _⟩ => ⟨S2x16384x4x1, .f32⟩
  | .hbm, ⟨76, _⟩ => ⟨S2x16384x4x128, .f32⟩
  | .hbm, ⟨77, _⟩ => ⟨S2x16384x4x128, .f32⟩
  | .hbm, ⟨78, _⟩ => ⟨S1x1x1x128, .f32⟩
  | .hbm, ⟨79, _⟩ => ⟨S2x16384x4x128, .f32⟩
  | .hbm, ⟨80, _⟩ => ⟨S2x16384x4x128, .f32⟩
  | .hbm, ⟨81, _⟩ => ⟨S_, .f32⟩
  | .hbm, ⟨82, _⟩ => ⟨S2x16384x4x128, .f32⟩
  | .hbm, ⟨83, _⟩ => ⟨S2x16384x4x128, .f32⟩
  | .hbm, ⟨84, _⟩ => ⟨S32768x512, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel6.lean ====
abbrev S32768x1024 : Shape := ⟨2, ![32768, 1024]⟩
abbrev S32768x6144 : Shape := ⟨2, ![32768, 6144]⟩
abbrev S32768x512 : Shape := ⟨2, ![32768, 512]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S3x1024 : Shape := ⟨2, ![3, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S3x1024, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S3x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S32768x1024 : Shape := ⟨2, ![32768, 1024]⟩
abbrev S32768x6144 : Shape := ⟨2, ![32768, 6144]⟩
abbrev S32768x512 : Shape := ⟨2, ![32768, 512]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S32768x3072 : Shape := ⟨2, ![32768, 3072]⟩
abbrev S1x3072 : Shape := ⟨2, ![1, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S32768x3072, .f32⟩
  | .hbm, ⟨13, _⟩ => ⟨S1x3072, .f32⟩
  | .hbm, ⟨14, _⟩ => ⟨S32768x3072, .f32⟩
  | .hbm, ⟨15, _⟩ => ⟨S32768x3072, .f32⟩
  | .hbm, ⟨16, _⟩ => ⟨S32768x3072, .f32⟩
  | .hbm, ⟨17, _⟩ => ⟨S32768x3072, .f32⟩
  | .hbm, ⟨18, _⟩ => ⟨S_, .f32⟩
  | .hbm, ⟨19, _⟩ => ⟨S32768x3072, .f32⟩
  | .hbm, ⟨20, _⟩ => ⟨S32768x3072, .f32⟩
  | .hbm, ⟨21, _⟩ => ⟨S_, .f32⟩
  | .hbm, ⟨22, _⟩ => ⟨S32768x3072, .f32⟩
  | .hbm, ⟨23, _⟩ => ⟨S32768x3072, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel7.lean ====
abbrev S32768x6144 : Shape := ⟨2, ![32768, 6144]⟩
abbrev S256 : Shape := ⟨1, ![256]⟩
abbrev S128 : Shape := ⟨1, ![128]⟩
abbrev S64 : Shape := ⟨1, ![64]⟩
abbrev S256x8x64 : Shape := ⟨3, ![256, 8, 64]⟩
abbrev S128x8x64 : Shape := ⟨3, ![128, 8, 64]⟩
abbrev S256x512 : Shape := ⟨2, ![256, 512]⟩
abbrev S8x8 : Shape := ⟨2, ![8, 8]⟩
abbrev S_ : Shape := ⟨0, ![]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S256x8x128 : Shape := ⟨3, ![256, 8, 128]⟩
abbrev S256x1024 : Shape := ⟨2, ![256, 1024]⟩
abbrev S1x256 : Shape := ⟨2, ![1, 256]⟩
abbrev S1x128 : Shape := ⟨2, ![1, 128]⟩
abbrev S262144x128 : Shape := ⟨2, ![262144, 128]⟩
abbrev S32768x128 : Shape := ⟨2, ![32768, 128]⟩
abbrev S256x256 : Shape := ⟨2, ![256, 256]⟩
abbrev S256x128 : Shape := ⟨2, ![256, 128]⟩
abbrev S2048x128 : Shape := ⟨2, ![2048, 128]⟩
abbrev S256x1 : Shape := ⟨2, ![256, 1]⟩

abbrev nBuf : Space → Nat
  | .hbm => 45
  | .vmem => 23
  | .smem => 0
  | _ => 0

abbrev bufTy : (tb : Table) → Fin (tcTables nBuf tb) → BufTy
  | .hbm, ⟨0, _⟩ => ⟨S32768x6144, .f32⟩
  | .hbm, ⟨1, _⟩ => ⟨S256, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S256x8x64, .f32⟩
  | .hbm, ⟨6, _⟩ => ⟨S256x8x64, .f32⟩
  | .hbm, ⟨7, _⟩ => ⟨S128x8x64, .f32⟩
  | .hbm, ⟨8, _⟩ => ⟨S256x512, .f32⟩
  | .hbm, ⟨9, _⟩ => ⟨S256x512, .bf16⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x64x128, .f32⟩
  | .hbm, ⟨18, _⟩ => ⟨S8x64x1x128, .f32⟩
  | .hbm, ⟨19, _⟩ => ⟨S8x1x8x1, .f32⟩
  | .hbm, ⟨20, _⟩ => ⟨S8x64x8x128, .f32⟩
  | .hbm, ⟨21, _⟩ => ⟨S8x64x8x128, .f32⟩
  | .hbm, ⟨22, _⟩ => ⟨S8x64x8x128, .f32⟩
  | .hbm, ⟨23, _⟩ => ⟨S512x1024, .f32⟩
  | .hbm, ⟨24, _⟩ => ⟨S512x1024, .bf16⟩
  | .hbm, ⟨25, _⟩ => ⟨S_, .i32⟩
  | .hbm, ⟨26, _⟩ => ⟨S_, .f32⟩
  | .hbm, ⟨27, _⟩ => ⟨S256x8x128, .f32⟩
  | .hbm, ⟨28, _⟩ => ⟨S256x1024, .f32⟩
  | .hbm, ⟨29, _⟩ => ⟨S256x1024, .bf16⟩
  | .hbm, ⟨30, _⟩ => ⟨S1x256, .f32⟩
  | .hbm, ⟨31, _⟩ => ⟨S1x128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S262144x128, .bf16⟩
  | .hbm, ⟨41, _⟩ => ⟨S262144x128, .bf16⟩
  | .hbm, ⟨42, _⟩ => ⟨S32768x128, .bf16⟩
  | .hbm, ⟨43, _⟩ => ⟨S32768x128, .bf16⟩
  | .hbm, ⟨44, _⟩ => ⟨S32768x128, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S256x512, .bf16⟩
  | .local _ .vmem, ⟨11, _⟩ => ⟨S512x1024, .bf16⟩
  | .local _ .vmem, ⟨12, _⟩ => ⟨S256x1024, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .f32⟩
  | .local _ .vmem, ⟨22, _⟩ => ⟨S256x128, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v25_3 : Ref sig .tc := ⟨.hbm, 43, rfl⟩
abbrev main_v25_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S32768x6144 : Shape := ⟨2, ![32768, 6144]⟩
abbrev S256 : Shape := ⟨1, ![256]⟩
abbrev S128 : Shape := ⟨1, ![128]⟩
abbrev S64 : Shape := ⟨1, ![64]⟩
abbrev S256x8x64 : Shape := ⟨3, ![256, 8, 64]⟩
abbrev S128x8x64 : Shape := ⟨3, ![128, 8, 64]⟩
abbrev S32768x128 : Shape := ⟨2, ![32768, 128]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S32768x8x64 : Shape := ⟨3, ![32768, 8, 64]⟩
abbrev S8x128x32768 : Shape := ⟨3, ![8, 128, 32768]⟩
abbrev S32768x8x128 : Shape := ⟨3, ![32768, 8, 128]⟩
abbrev S1x128 : Shape := ⟨2, ![1, 128]⟩
abbrev S32768x64 : Shape := ⟨2, ![32768, 64]⟩
abbrev S1x64 : Shape := ⟨2, ![1, 64]⟩
abbrev S128x256x8x128 : Shape := ⟨4, ![128, 256, 8, 128]⟩
abbrev S128x8x256x128 : Shape := ⟨4, ![128, 8, 256, 128]⟩
abbrev S262144x128 : Shape := ⟨2, ![262144, 128]⟩

abbrev nBuf : Space → Nat
  | .hbm => 99
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S256, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S256x8x64, .f32⟩
  | .hbm, ⟨6, _⟩ => ⟨S256x8x64, .f32⟩
  | .hbm, ⟨7, _⟩ => ⟨S128x8x64, .f32⟩
  | .hbm, ⟨8, _⟩ => ⟨S32768x128, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x256, .f32⟩
  | .hbm, ⟨22, _⟩ => ⟨S32768x256, .f32⟩
  | .hbm, ⟨23, _⟩ => ⟨S1x256, .f32⟩
  | .hbm, ⟨24, _⟩ => ⟨S32768x256, .f32⟩
  | .hbm, ⟨25, _⟩ => ⟨S32768x256, .f32⟩
  | .hbm, ⟨26, _⟩ => ⟨S32768x8x64, .f32⟩
  | .hbm, ⟨27, _⟩ => ⟨S8x128x32768, .f32⟩
  | .hbm, ⟨28, _⟩ => ⟨S32768x8x128, .f32⟩
  | .hbm, ⟨29, _⟩ => ⟨S_, .f32⟩
  | .hbm, ⟨30, _⟩ => ⟨S32768x8x128, .f32⟩
  | .hbm, ⟨31, _⟩ => ⟨S32768x8x128, .f32⟩
  | .hbm, ⟨32, _⟩ => ⟨S32768x8x64, .f32⟩
  | .hbm, ⟨33, _⟩ => ⟨S32768x128, .f32⟩
  | .hbm, ⟨34, _⟩ => ⟨S32768x128, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x128, .f32⟩
  | .hbm, ⟨46, _⟩ => ⟨S32768x128, .f32⟩
  | .hbm, ⟨47, _⟩ => ⟨S1x128, .f32⟩
  | .hbm, ⟨48, _⟩ => ⟨S32768x128, .f32⟩
  | .hbm, ⟨49, _⟩ => ⟨S32768x128, .f32⟩
  | .hbm, ⟨50, _⟩ => ⟨S32768x64, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x64, .f32⟩
  | .hbm, ⟨58, _⟩ => ⟨S32768x64, .f32⟩
  | .hbm, ⟨59, _⟩ => ⟨S32768x64, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x64, .f32⟩
  | .hbm, ⟨67, _⟩ => ⟨S32768x64, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x64, .f32⟩
  | .hbm, ⟨73, _⟩ => ⟨S32768x64, .f32⟩
  | .hbm, ⟨74, _⟩ => ⟨S1x64, .f32⟩
  | .hbm, ⟨75, _⟩ => ⟨S32768x64, .f32⟩
  | .hbm, ⟨76, _⟩ => ⟨S32768x64, .f32⟩
  | .hbm, ⟨77, _⟩ => ⟨S1x64, .f32⟩
  | .hbm, ⟨78, _⟩ => ⟨S32768x64, .f32⟩
  | .hbm, ⟨79, _⟩ => ⟨S32768x64, .f32⟩
  | .hbm, ⟨80, _⟩ => ⟨S128x256x8x128, .f32⟩
  | .hbm, ⟨81, _⟩ => ⟨S128x8x256x128, .f32⟩
  | .hbm, ⟨82, _⟩ => ⟨S262144x128, .f32⟩
  | .hbm, ⟨83, _⟩ => ⟨S262144x128, .bf16⟩
  | .hbm, ⟨84, _⟩ => ⟨S_, .i32⟩
  | .hbm, ⟨85, _⟩ => ⟨S_, .f32⟩
  | .hbm, ⟨86, _⟩ => ⟨S32768x8x128, .f32⟩
  | .hbm, ⟨87, _⟩ => ⟨S128x256x8x128, .f32⟩
  | .hbm, ⟨88, _⟩ => ⟨S128x8x256x128, .f32⟩
  | .hbm, ⟨89, _⟩ => ⟨S262144x128, .f32⟩
  | .hbm, ⟨90, _⟩ => ⟨S262144x128, .bf16⟩
  | .hbm, ⟨91, _⟩ => ⟨S32768x128, .bf16⟩
  | .hbm, ⟨92, _⟩ => ⟨S_, .i32⟩
  | .hbm, ⟨93, _⟩ => ⟨S_, .f32⟩
  | .hbm, ⟨94, _⟩ => ⟨S32768x128, .f32⟩
  | .hbm, ⟨95, _⟩ => ⟨S32768x128, .bf16⟩
  | .hbm, ⟨96, _⟩ => ⟨S_, .f32⟩
  | .hbm, ⟨97, _⟩ => ⟨S32768x128, .f32⟩
  | .hbm, ⟨98, _⟩ => ⟨S32768x128, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_11 : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel8.lean ====
abbrev S32768x512 : Shape := ⟨2, ![32768, 512]⟩
abbrev S2048x512 : Shape := ⟨2, ![2048, 512]⟩
abbrev S32768x6144 : Shape := ⟨2, ![32768, 6144]⟩
abbrev S128 : Shape := ⟨1, ![128]⟩
abbrev S1x128 : Shape := ⟨2, ![1, 128]⟩
abbrev S512x512 : Shape := ⟨2, ![512, 512]⟩
abbrev S32x512 : Shape := ⟨2, ![32, 512]⟩
abbrev S4x128x128 : Shape := ⟨3, ![4, 128, 128]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 10
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S2048x512, .f32⟩
  | .hbm, ⟨6, _⟩ => ⟨S32768x6144, .f32⟩
  | .hbm, ⟨7, _⟩ => ⟨S128, .f32⟩
  | .hbm, ⟨8, _⟩ => ⟨S1x128, .f32⟩
  | .hbm, ⟨9, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S32x512, .f32⟩
  | .local _ .vmem, ⟨11, _⟩ => ⟨S32x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S512x512, .f32⟩
  | .local _ .vmem, ⟨16, _⟩ => ⟨S512x512, .f32⟩
  | .local _ .vmem, ⟨17, _⟩ => ⟨S4x128x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S32768x512 : Shape := ⟨2, ![32768, 512]⟩
abbrev S2048x512 : Shape := ⟨2, ![2048, 512]⟩
abbrev S32768x6144 : Shape := ⟨2, ![32768, 6144]⟩
abbrev S128 : Shape := ⟨1, ![128]⟩
abbrev S2x128x8x4x128 : Shape := ⟨5, ![2, 128, 8, 4, 128]⟩
abbrev S2x128x1x4x128 : Shape := ⟨5, ![2, 128, 1, 4, 128]⟩
abbrev S2x128x4x128 : Shape := ⟨4, ![2, 128, 4, 128]⟩
abbrev S128x2x4x128 : Shape := ⟨4, ![128, 2, 4, 128]⟩
abbrev S2x128x128x4x128 : Shape := ⟨5, ![2, 128, 128, 4, 128]⟩
abbrev S128x2x4x128x128 : Shape := ⟨5, ![128, 2, 4, 128, 128]⟩
abbrev S_ : Shape := ⟨0, ![]⟩
abbrev S2x4x128x128 : Shape := ⟨4, ![2, 4, 128, 128]⟩
abbrev S1x2x4x128x128 : Shape := ⟨5, ![1, 2, 4, 128, 128]⟩
abbrev S1x2x4x128 : Shape := ⟨4, ![1, 2, 4, 128]⟩
abbrev S2x4x128 : Shape := ⟨3, ![2, 4, 128]⟩
abbrev S2x4x1x128 : Shape := ⟨4, ![2, 4, 1, 128]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S2048x512, .f32⟩
  | .hbm, ⟨6, _⟩ => ⟨S32768x6144, .f32⟩
  | .hbm, ⟨7, _⟩ => ⟨S128, .f32⟩
  | .hbm, ⟨8, _⟩ => ⟨S2x128x8x4x128, .f32⟩
  | .hbm, ⟨9, _⟩ => ⟨S2x128x1x4x128, .f32⟩
  | .hbm, ⟨10, _⟩ => ⟨S2x128x4x128, .f32⟩
  | .hbm, ⟨11, _⟩ => ⟨S128x2x4x128, .f32⟩
  | .hbm, ⟨12, _⟩ => ⟨S2x128x128x4x128, .f32⟩
  | .hbm, ⟨13, _⟩ => ⟨S128x2x4x128x128, .f32⟩
  | .hbm, ⟨14, _⟩ => ⟨S2x128x128x4x128, .f32⟩
  | .hbm, ⟨15, _⟩ => ⟨S128x2x4x128x128, .f32⟩
  | .hbm, ⟨16, _⟩ => ⟨S2x128x128x4x128, .f32⟩
  | .hbm, ⟨17, _⟩ => ⟨S128x2x4x128x128, .f32⟩
  | .hbm, ⟨18, _⟩ => ⟨S2x128x128x4x128, .f32⟩
  | .hbm, ⟨19, _⟩ => ⟨S128x2x4x128x128, .f32⟩
  | .hbm, ⟨20, _⟩ => ⟨S2x128x128x4x128, .f32⟩
  | .hbm, ⟨21, _⟩ => ⟨S128x2x4x128x128, .f32⟩
  | .hbm, ⟨22, _⟩ => ⟨S_, .f32⟩
  | .hbm, ⟨23, _⟩ => ⟨S2x4x128x128, .f32⟩
  | .hbm, ⟨24, _⟩ => ⟨S_, .f32⟩
  | .hbm, ⟨25, _⟩ => ⟨S128x2x4x128x128, .f32⟩
  | .hbm, ⟨26, _⟩ => ⟨S_, .i32⟩
  | .hbm, ⟨27, _⟩ => ⟨S128x2x4x128x128, .f32⟩
  | .hbm, ⟨28, _⟩ => ⟨S128x2x4x128x128, .f32⟩
  | .hbm, ⟨29, _⟩ => ⟨S128x2x4x128x128, .f32⟩
  | .hbm, ⟨30, _⟩ => ⟨S128x2x4x128x128, .f32⟩
  | .hbm, ⟨31, _⟩ => ⟨S128x2x4x128x128, .f32⟩
  | .hbm, ⟨32, _⟩ => ⟨S128x2x4x128, .f32⟩
  | .hbm, ⟨33, _⟩ => ⟨S_, .i32⟩
  | .hbm, ⟨34, _⟩ => ⟨S2x4x128x128, .f32⟩
  | .hbm, ⟨35, _⟩ => ⟨S128x2x4x128x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x4x128x128, .f32⟩
  | .hbm, ⟨43, _⟩ => ⟨S2x4x128x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x2x4x128x128, .f32⟩
  | .hbm, ⟨49, _⟩ => ⟨S2x4x128x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x2x4x128x128, .f32⟩
  | .hbm, ⟨55, _⟩ => ⟨S2x4x128x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x2x4x128x128, .f32⟩
  | .hbm, ⟨61, _⟩ => ⟨S2x4x128x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x2x4x128x128, .f32⟩
  | .hbm, ⟨67, _⟩ => ⟨S2x4x128x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x2x4x128, .f32⟩
  | .hbm, ⟨72, _⟩ => ⟨S2x4x128, .f32⟩
  | .hbm, ⟨73, _⟩ => ⟨S2x4x128x128, .f32⟩
  | .hbm, ⟨74, _⟩ => ⟨S2x4x128x128, .f32⟩
  | .hbm, ⟨75, _⟩ => ⟨S2x4x128x128, .f32⟩
  | .hbm, ⟨76, _⟩ => ⟨S2x4x128x128, .f32⟩
  | .hbm, ⟨77, _⟩ => ⟨S2x4x128x128, .f32⟩
  | .hbm, ⟨78, _⟩ => ⟨S2x4x1x128, .f32⟩
  | .hbm, ⟨79, _⟩ => ⟨S2x4x128x128, .f32⟩
  | .hbm, ⟨80, _⟩ => ⟨S2x4x128x128, .f32⟩
  | .hbm, ⟨81, _⟩ => ⟨S2x4x128x128, .f32⟩
  | .hbm, ⟨82, _⟩ => ⟨S2x4x128x128, .f32⟩
  | .hbm, ⟨83, _⟩ => ⟨S1x2x4x128x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S128x2x4x128x128, .f32⟩
  | .hbm, ⟨89, _⟩ => ⟨S_, .i32⟩
  | .hbm, ⟨90, _⟩ => ⟨S_, .i32⟩
  | .hbm, ⟨91, _⟩ => ⟨S2x128x128x4x128, .f32⟩
  | .hbm, ⟨92, _⟩ => ⟨S32768x4x128, .f32⟩
  | .hbm, ⟨93, _⟩ => ⟨S32768x512, .f32⟩
  | .hbm, ⟨94, _⟩ => ⟨S32768x4x128, .f32⟩
  | .hbm, ⟨95, _⟩ => ⟨S32768x4x128, .f32⟩
  | .hbm, ⟨96, _⟩ => ⟨S_, .f32⟩
  | .hbm, ⟨97, _⟩ => ⟨S32768x4, .f32⟩
  | .hbm, ⟨98, _⟩ => ⟨S32768x4x1, .f32⟩
  | .hbm, ⟨99, _⟩ => ⟨S_, .f32⟩
  | .hbm, ⟨100, _⟩ => ⟨S32768x4x1, .f32⟩
  | .hbm, ⟨101, _⟩ => ⟨S32768x4x1, .f32⟩
  | .hbm, ⟨102, _⟩ => ⟨S_, .f32⟩
  | .hbm, ⟨103, _⟩ => ⟨S32768x4x1, .f32⟩
  | .hbm, ⟨104, _⟩ => ⟨S32768x4x1, .f32⟩
  | .hbm, ⟨105, _⟩ => ⟨S32768x4x1, .f32⟩
  | .hbm, ⟨106, _⟩ => ⟨S32768x4x128, .f32⟩
  | .hbm, ⟨107, _⟩ => ⟨S32768x4x128, .f32⟩
  | .hbm, ⟨108, _⟩ => ⟨S1x1x128, .f32⟩
  | .hbm, ⟨109, _⟩ => ⟨S32768x4x128, .f32⟩
  | .hbm, ⟨110, _⟩ => ⟨S32768x4x128, .f32⟩
  | .hbm, ⟨111, _⟩ => ⟨S32768x4x128, .f32⟩
  | .hbm, ⟨112, _⟩ => ⟨S32768x4x128, .f32⟩
  | .hbm, ⟨113, _⟩ => ⟨S_, .f32⟩
  | .hbm, ⟨114, _⟩ => ⟨S32768x4x128, .f32⟩
  | .hbm, ⟨115, _⟩ => ⟨S32768x4x128, .f32⟩
  | .hbm, ⟨116, _⟩ => ⟨S_, .f32⟩
  | .hbm, ⟨117, _⟩ => ⟨S32768x4x128, .f32⟩
  | .hbm, ⟨118, _⟩ => ⟨S32768x4x128, .f32⟩
  | .hbm, ⟨119, _⟩ => ⟨S32768x4x128, .f32⟩
  | .hbm, ⟨120, _⟩ => ⟨S32768x4x128, .f32⟩
  | .hbm, ⟨121, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_while0c_c_12 : Ref sig .tc := ⟨.hbm, 36, rfl⟩
abbrev main_while0c_v37 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v37 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v38 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v39 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v40 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v41 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_v0 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_v53 : Ref sig .tc := ⟨.hbm, 88, rfl⟩
abbrev main_while0b_c_12 : Ref sig .tc := ⟨.hbm, 89, rfl⟩
abbrev main_while0b_v54 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_cst_1 : Ref sig .tc := ⟨.hbm, 96, rfl⟩
abbrev main_v22 : Ref sig .tc := ⟨.hbm, 97, rfl⟩
abbrev main_v23 : Ref sig .tc := ⟨.hbm, 98, rfl⟩
abbrev main_cst_2 : Ref sig .tc := ⟨.hbm, 99, rfl⟩
abbrev main_v24 : Ref sig .tc := ⟨.hbm, 100, rfl⟩
abbrev main_v25 : Ref sig .tc := ⟨.hbm, 101, rfl⟩
abbrev main_cst_3 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_call7_v0 : Ref sig .tc := ⟨.hbm, 111, rfl⟩
abbrev main_call7_v1 : Ref sig .tc := ⟨.hbm, 112, rfl⟩
abbrev main_call7_cst : Ref sig .tc := ⟨.hbm, 113, rfl⟩
abbrev main_call7_v2 : Ref sig .tc := ⟨.hbm, 114, rfl⟩
abbrev main_call7_v3 : Ref sig .tc := ⟨.hbm, 115, rfl⟩
abbrev main_call7_cst_0 : Ref sig .tc := ⟨.hbm, 116, rfl⟩
abbrev main_call7_v4 : Ref sig .tc := ⟨.hbm, 117, rfl⟩
abbrev main_call7_v5 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩

abbrev nD : Nat := 1
abbrev τ : Topo := Topo.v7x

variable {F : FTy → Type} [FloatOps F]

abbrev main_while0_count : Scf.Loop 32 := ⟨0#32, 128#32, 1#32⟩
-- ==== Proof.Walk.lean ====
/-
  Hand-written. A small Hoare logic for kernel bodies that only load and store whole memrefs, loop and branch.
  The resource is a family `R : σ → sProp` over a plain state `σ` (the contents of the buffers), a triple
  `Tri … R P p Q` says: from any state meeting `P`, holding `R` of it, the program runs to a result and a state
  that meet `Q`, holding `R` of that state. Loads read the state, stores update it, and everything else is
  ordinary logic about states: no separation logic is left in the proofs that use it.
-/
module

public import Idealize.ShloMosaic.Lib.Pipeline.Frame
public import Idealize.ShloMosaic.Lib.Scf
public import Idealize.ShloMosaic.Lib.Tactic
public import Idealize.ShloMosaic.Lib.Writes

@[expose] public section

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Labels}
variable (defs₀ : Defs nD τ sig Val Λ₀) (c : Dev nD)

variable {σ : Type} (R : σ → sProp (MT nD τ sig Unit Val ℕ (UR sig nD τ) ℕ))

/-- The triple: from a state meeting `P`, the program ends at a result and a state meeting `Q`. -/
def Tri {α : Type} (P : σ → Prop) (p : Prog (TpuEff nD τ sig Val Λ₀ .tc) α) (Q : α → σ → Prop) : Prop :=
  ∀ st, P st → (R st : sProp (MT nD τ sig Unit Val ℕ (UR sig nD τ) ℕ)) ⊢ wp frame (wpE (Ix := Unit) (Name := ℕ) (U := UR sig nD τ) (Lvl := ℕ) defs₀ Variants.none (c : Thread nD τ) none)
    Set.univ p (fun a => iprop(∃ st', ⌜Q a st'⌝ ∗ R st'))

/-- The buffer of `m` is part of the resource at the contents `get st`, and may be taken out and put back. -/
def CellR {s : Shape} {e : EltTy} (m : Memref sig .tc .vmem s e) (get : σ → s.Idx → Val e) : Prop :=
  ∀ st, R st ⊢ iprop(owns (c : Thread nD τ) m fullShare (get st) ∗ (owns (c : Thread nD τ) m fullShare (get st) -∗ R st))

/-- The buffer of `m` is part of the resource and may be put back at any contents `X`, the state then `put X st`. -/
def CellW {s : Shape} {e : EltTy} (m : Memref sig .tc .vmem s e) (get : σ → s.Idx → Val e)
    (put : (s.Idx → Val e) → σ → σ) : Prop :=
  ∀ st, R st ⊢ iprop(owns (c : Thread nD τ) m fullShare (get st)
    ∗ (∀ X, owns (c : Thread nD τ) m fullShare X -∗ R (put X st)))

variable {R}

theorem Tri.pure {α : Type} {P : σ → Prop} {a : α} {Q : α → σ → Prop} (h : ∀ st, P st → Q a st) :
    Tri defs₀ c R P (Pure.pure a) Q := by
  intro st hP
  refine BIBase.Entails.trans ?_ (le_wp_ret _ _ _ a _)
  iintro H; iexists st; isplitr
  · ipureintro; exact h st hP
  · iexact H

theorem Tri.bind {α β : Type} {P : σ → Prop} {p : Prog (TpuEff nD τ sig Val Λ₀ .tc) α}
    {k : α → Prog (TpuEff nD τ sig Val Λ₀ .tc) β} {Q : α → σ → Prop} {Q' : β → σ → Prop}
    (hp : Tri defs₀ c R P p Q) (hk : ∀ a, Tri defs₀ c R (Q a) (k a) Q') : Tri defs₀ c R P (p >>= k) Q' := by
  intro st hP
  rw [wp_bind]
  refine (hp st hP).trans (wp_mono _ _ _ fun a => ?_)
  iintro ⟨%st', %hQ, H⟩
  iapply (hk a st' hQ); iexact H

theorem Tri.weaken {α : Type} {P P' : σ → Prop} {p : Prog (TpuEff nD τ sig Val Λ₀ .tc) α} {Q Q' : α → σ → Prop}
    (h : Tri defs₀ c R P p Q) (hP : ∀ st, P' st → P st) (hQ : ∀ a st, Q a st → Q' a st) : Tri defs₀ c R P' p Q' := by
  intro st h'
  refine (h st (hP st h')).trans (wp_mono _ _ _ fun a => ?_)
  iintro ⟨%st', %hq, H⟩
  iexists st'; isplitr
  · ipureintro; exact hQ a st' hq
  · iexact H

theorem Tri.load {s : Shape} {e : EltTy} {m : Memref sig .tc .vmem s e} {r : LoadRect s} {hl : m.view.LoadsAt r}
    {get : σ → s.Idx → Val e} (hc : CellR c R m get) {P : σ → Prop} {Q : (r.shape.Idx → Val e) → σ → Prop}
    (h : ∀ st, P st → Q (fun x => get st (r.idx x)) st) :
    Tri defs₀ c R P (Prog.lift (.load m r hl)) Q := by
  intro st hP
  refine (hc st).trans ?_
  unfold owns
  iintro ⟨⟨%f, %hf, H⟩, Hb⟩
  iapply (wp_load Variants.none (c : Thread nD τ) none Set.univ (m := m) (r := r) (hl := hl) (S := m.view.set) (f := f)
    (q := fullShare) (View.setOn_subset_set _ _)) $$ H
  iintro H
  iapply (le_wp_ret _ _ _ (m.view.readAt Val r f) _)
  iexists st; isplitr
  · ipureintro
    have : m.view.readAt Val r f = fun x => get st (r.idx x) := by
      funext x; rw [View.readAt_apply, hf]
    rw [this]; exact h st hP
  · iapply Hb; iexists f; isplitr
    · ipureintro; exact hf
    · iexact H

/-- What a whole memref reads after `w` is stored through the rectangle `r`. -/
def overwrite {s : Shape} {e : EltTy} (r : Rect s) (w : r.shape.Idx → Val e) (X : s.Idx → Val e) : s.Idx → Val e :=
  fun y => match preimage? r.emb y with
    | some x => w x
    | none => X y

theorem read_slice_write {s : Shape} {e : EltTy} {sp : Space} {κ : Kind} (v : View sig κ sp s e) (r : Rect s)
    (f : v.ty.Contents Val) (w : r.shape.Idx → Val e) :
    v.read Val ((v.slice r).write Val f w Finset.univ) = overwrite r w (v.read Val f) := by
  funext y
  unfold overwrite
  by_cases hy : y ∈ Finset.univ.map r.emb
  · obtain ⟨x, -, rfl⟩ := Finset.mem_map.mp hy
    rw [preimage?_emb]
    exact View.read_slice_write_emb r f w (Finset.mem_univ x)
  · rw [preimage?_eq_none_of_not_mem hy]
    exact View.read_slice_write_of_not_mem r f w _ hy

theorem Tri.store {s : Shape} {e : EltTy} {m : Memref sig .tc .vmem s e} {r : Rect s} {w : r.shape.Idx → Val e}
    {hx : (m.access r).Stores Finset.univ} {hm : (Finset.univ : Finset r.shape.Idx) = Finset.univ ∨ ∀ a, r.stride a = 1}
    {get : σ → s.Idx → Val e} {put : (s.Idx → Val e) → σ → σ} (hc : CellW c R m get put) {P : σ → Prop} {Q : PUnit → σ → Prop}
    (h : ∀ st, P st → Q ⟨⟩ (put (overwrite r w (get st)) st)) :
    Tri defs₀ c R P (Prog.lift (.store m r w Finset.univ hx hm)) Q := by
  intro st hP
  refine (hc st).trans ?_
  unfold owns
  iintro ⟨⟨%f, %hf, H⟩, Hb⟩
  iapply (wp_store Variants.none (c : Thread nD τ) none Set.univ (m := m) (r := r) (w := w) (hx := hx) (hm := hm)
    (S := m.view.set) (f := f) (View.set_slice_subset _ _)) $$ H
  iintro H
  iapply (le_wp_ret _ _ _ PUnit.unit _)
  iexists put (overwrite r w (get st)) st; isplitr
  · ipureintro; exact h st hP
  · iapply Hb; iexists _; isplitr; swap
    · iexact H
    · ipureintro
      rw [read_slice_write, hf]

theorem CellW.toR {s : Shape} {e : EltTy} {m : Memref sig .tc .vmem s e} {get : σ → s.Idx → Val e} {put : (s.Idx → Val e) → σ → σ}
    (hc : CellW c R m get put) (hp : ∀ st, put (get st) st = st) : CellR c R m get := by
  intro st
  refine (hc st).trans ?_
  iintro ⟨H, Hb⟩
  isplitl [H]
  · iexact H
  · iintro H
    ihave H2 := Hb $$ %(get st) H
    rw [hp st]; iexact H2

/-- A counted loop, by an invariant on the state and the carried values. -/
theorem Tri.loop {w : Nat} {β : Type} (l : Scf.Loop w) (hok : l.OK) (init : β)
    (body : Fin l.trips → β → Prog (TpuEff nD τ sig Val Λ₀ .tc) β) (I : ℕ → β → σ → Prop) {P : σ → Prop} {Q : β → σ → Prop}
    (h0 : ∀ st, P st → I 0 init st) (hb : ∀ (k : Fin l.trips) (acc : β), Tri defs₀ c R (I k.val acc) (body k acc) (I (k.val + 1)))
    (hQ : ∀ acc st, I l.trips acc st → Q acc st) : Tri defs₀ c R P (Scf.Loop.for l hok init body) Q := by
  intro st hP
  refine BIBase.Entails.trans ?_ (Scf.wp_for frame (wpE defs₀ Variants.none (c : Thread nD τ) none) Set.univ l.lb l.ub l.st hok init body
    (fun k acc => iprop(∃ st, ⌜I k acc st⌝ ∗ R st)) (fun k acc => ?_))
  · iintro H
    isplitl [H]
    · iexists st; isplitr
      · ipureintro; exact h0 st hP
      · iexact H
    · iintro %acc ⟨%st', %hI, H⟩
      iexists st'; isplitr
      · ipureintro; exact hQ acc st' hI
      · iexact H
  · iintro ⟨%st', %hI, H⟩
    iapply (hb k acc st' hI); iexact H

/-- `Safe`: the program runs from any state to some state. -/
def Safe {α : Type} (R : σ → sProp (MT nD τ sig Unit Val ℕ (UR sig nD τ) ℕ)) (p : Prog (TpuEff nD τ sig Val Λ₀ .tc) α) : Prop :=
  Tri defs₀ c R (fun _ => True) p (fun _ _ => True)

theorem Safe.pure {α : Type} (a : α) : Safe defs₀ c R (Pure.pure a : Prog (TpuEff nD τ sig Val Λ₀ .tc) α) :=
  Tri.pure defs₀ c fun _ _ => trivial
theorem Safe.bind {α β : Type} {p : Prog (TpuEff nD τ sig Val Λ₀ .tc) α} {k : α → Prog (TpuEff nD τ sig Val Λ₀ .tc) β}
    (hp : Safe defs₀ c R p) (hk : ∀ a, Safe defs₀ c R (k a)) : Safe defs₀ c R (p >>= k) := Tri.bind defs₀ c hp hk
theorem Safe.load {s : Shape} {e : EltTy} {m : Memref sig .tc .vmem s e} {r : LoadRect s} {hl : m.view.LoadsAt r}
    {get : σ → s.Idx → Val e} (hc : CellR c R m get) : Safe defs₀ c R (Prog.lift (.load m r hl)) :=
  Tri.load defs₀ c hc fun _ _ => trivial
theorem Safe.store {s : Shape} {e : EltTy} {m : Memref sig .tc .vmem s e} {r : Rect s} {w : r.shape.Idx → Val e}
    {hx : (m.access r).Stores Finset.univ} {hm : (Finset.univ : Finset r.shape.Idx) = Finset.univ ∨ ∀ a, r.stride a = 1}
    {get : σ → s.Idx → Val e} {put : (s.Idx → Val e) → σ → σ} (hc : CellW c R m get put) :
    Safe defs₀ c R (Prog.lift (.store m r w Finset.univ hx hm)) :=
  Tri.store defs₀ c hc fun _ _ => trivial
theorem Safe.loop {w : Nat} {β : Type} {l : Scf.Loop w} {hok : l.OK} {init : β}
    {body : Fin l.trips → β → Prog (TpuEff nD τ sig Val Λ₀ .tc) β} (hb : ∀ k acc, Safe defs₀ c R (body k acc)) :
    Safe defs₀ c R (Scf.Loop.for l hok init body) :=
  Tri.loop defs₀ c l hok init body (fun _ _ _ => True) (fun _ _ => trivial) hb fun _ _ _ => trivial
theorem Safe.ite {α : Type} {p : Prop} [Decidable p] {t e : Prog (TpuEff nD τ sig Val Λ₀ .tc) α} (ht : Safe defs₀ c R t) (he : Safe defs₀ c R e) :
    Safe defs₀ c R (if p then t else e) := by split <;> assumption
theorem Safe.dite {α : Type} {p : Prop} [Decidable p] {t : p → Prog (TpuEff nD τ sig Val Λ₀ .tc) α} {e : ¬ p → Prog (TpuEff nD τ sig Val Λ₀ .tc) α}
    (ht : ∀ h, Safe defs₀ c R (t h)) (he : ∀ h, Safe defs₀ c R (e h)) : Safe defs₀ c R (if h : p then t h else e h) := by
  split
  · exact ht _
  · exact he _

/-- What a run does not touch is kept. -/
theorem wp_keep {α : Type} {A B : sProp (MT nD τ sig Unit Val ℕ (UR sig nD τ) ℕ)} {p : Prog (TpuEff nD τ sig Val Λ₀ .tc) α}
    {Q : α → sProp (MT nD τ sig Unit Val ℕ (UR sig nD τ) ℕ)}
    (h : A ⊢ wp frame (wpE (Ix := Unit) (Name := ℕ) (U := UR sig nD τ) (Lvl := ℕ) defs₀ Variants.none (c : Thread nD τ) none) Set.univ p Q) :
    iprop(A ∗ B) ⊢ wp frame (wpE (Ix := Unit) (Name := ℕ) (U := UR sig nD τ) (Lvl := ℕ) defs₀ Variants.none (c : Thread nD τ) none) Set.univ p
      (fun a => iprop(Q a ∗ B)) :=
  (sep_mono_l h).trans (wp_frame_r _ _ _)

end Cert.Walk
-- ==== Proof.Cells.lean ====
/-
  Hand-written. The buffers the body of the sparse-attention kernel works on, as the resource of `Cert.Walk`'s triples: the six
  inputs at fixed contents, the output window and the seven scratch buffers at the contents of the state.
-/
module

public import proofs.«01_k».proof.Proof.Walk
public import proofs.«01_k».proof.Proof.Gen.Kernel.Skeleton

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The contents of the buffers the body writes. -/
structure St (F : FTy → Type) where
  out : S256x512.Idx → Elt F .f32
  key : S128x256x128.Idx → Elt F .i32
  alive : S4x256x128.Idx → Elt F .i32
  gt : S4x256x128.Idx → Elt F .i32
  sel : S4x256x128.Idx → Elt F .i32
  mx : S2048x128.Idx → Elt F .f32
  den : S2048x128.Idx → Elt F .f32
  acc : S2048x128.Idx → Elt F .f32

/-- Each operand of the body may be taken out of the resource `R` and put back, the written ones at new contents. -/
structure Cells (c : Dev nD) (R : St F → sProp (MT nD τ sig Unit (Elt F) ℕ (UR sig nD τ) ℕ))
    (arg2 : Memref sig .tc .vmem S2048x128 .bf16) (arg3 : Memref sig .tc .vmem S2048x128 .bf16) (arg4 : Memref sig .tc .vmem S256x128 .f32) (arg5 : Memref sig .tc .vmem S16384x128 .bf16) (arg6 : Memref sig .tc .vmem S16384x128 .bf16) (arg7 : Memref sig .tc .vmem S1024x512 .bf16) (arg8 : Memref sig .tc .vmem S256x512 .f32) (arg9 : Memref sig .tc .vmem S128x256x128 .i32) (arg10 : Memref sig .tc .vmem S4x256x128 .i32) (arg11 : Memref sig .tc .vmem S4x256x128 .i32) (arg12 : Memref sig .tc .vmem S4x256x128 .i32) (arg13 : Memref sig .tc .vmem S2048x128 .f32) (arg14 : Memref sig .tc .vmem S2048x128 .f32) (arg15 : Memref sig .tc .vmem S2048x128 .f32)
    (X2 : S2048x128.Idx → Elt F .bf16) (X3 : S2048x128.Idx → Elt F .bf16) (X4 : S256x128.Idx → Elt F .f32) (X5 : S16384x128.Idx → Elt F .bf16) (X6 : S16384x128.Idx → Elt F .bf16) (X7 : S1024x512.Idx → Elt F .bf16) : Prop where
  r2 : CellR c R arg2 (fun _ => X2)
  r3 : CellR c R arg3 (fun _ => X3)
  r4 : CellR c R arg4 (fun _ => X4)
  r5 : CellR c R arg5 (fun _ => X5)
  r6 : CellR c R arg6 (fun _ => X6)
  r7 : CellR c R arg7 (fun _ => X7)
  w8 : CellW c R arg8 St.out (fun X st => { st with out := X })
  w9 : CellW c R arg9 St.key (fun X st => { st with key := X })
  w10 : CellW c R arg10 St.alive (fun X st => { st with alive := X })
  w11 : CellW c R arg11 St.gt (fun X st => { st with gt := X })
  w12 : CellW c R arg12 St.sel (fun X st => { st with sel := X })
  w13 : CellW c R arg13 St.mx (fun X st => { st with mx := X })
  w14 : CellW c R arg14 St.den (fun X st => { st with den := X })
  w15 : CellW c R arg15 St.acc (fun X st => { st with acc := X })

section
variable {c : Dev nD} {R : St F → sProp (MT nD τ sig Unit (Elt F) ℕ (UR sig nD τ) ℕ)}
variable {arg2 : Memref sig .tc .vmem S2048x128 .bf16} {arg3 : Memref sig .tc .vmem S2048x128 .bf16} {arg4 : Memref sig .tc .vmem S256x128 .f32} {arg5 : Memref sig .tc .vmem S16384x128 .bf16} {arg6 : Memref sig .tc .vmem S16384x128 .bf16} {arg7 : Memref sig .tc .vmem S1024x512 .bf16} {arg8 : Memref sig .tc .vmem S256x512 .f32} {arg9 : Memref sig .tc .vmem S128x256x128 .i32} {arg10 : Memref sig .tc .vmem S4x256x128 .i32} {arg11 : Memref sig .tc .vmem S4x256x128 .i32} {arg12 : Memref sig .tc .vmem S4x256x128 .i32} {arg13 : Memref sig .tc .vmem S2048x128 .f32} {arg14 : Memref sig .tc .vmem S2048x128 .f32} {arg15 : Memref sig .tc .vmem S2048x128 .f32}
variable {X2 : S2048x128.Idx → Elt F .bf16} {X3 : S2048x128.Idx → Elt F .bf16} {X4 : S256x128.Idx → Elt F .f32} {X5 : S16384x128.Idx → Elt F .bf16} {X6 : S16384x128.Idx → Elt F .bf16} {X7 : S1024x512.Idx → Elt F .bf16}
variable (H : Cells c R arg2 arg3 arg4 arg5 arg6 arg7 arg8 arg9 arg10 arg11 arg12 arg13 arg14 arg15 X2 X3 X4 X5 X6 X7)
include H
theorem Cells.r8 : CellR c R arg8 St.out := H.w8.toR c fun _ => rfl
theorem Cells.r9 : CellR c R arg9 St.key := H.w9.toR c fun _ => rfl
theorem Cells.r10 : CellR c R arg10 St.alive := H.w10.toR c fun _ => rfl
theorem Cells.r11 : CellR c R arg11 St.gt := H.w11.toR c fun _ => rfl
theorem Cells.r12 : CellR c R arg12 St.sel := H.w12.toR c fun _ => rfl
theorem Cells.r13 : CellR c R arg13 St.mx := H.w13.toR c fun _ => rfl
theorem Cells.r14 : CellR c R arg14 St.den := H.w14.toR c fun _ => rfl
theorem Cells.r15 : CellR c R arg15 St.acc := H.w15.toR c fun _ => rfl

end

/-- The resource: each operand owned whole, the inputs at `X2` … `X7`, the others at the state's contents. -/
def res (c : Dev nD) (arg2 : Memref sig .tc .vmem S2048x128 .bf16) (arg3 : Memref sig .tc .vmem S2048x128 .bf16) (arg4 : Memref sig .tc .vmem S256x128 .f32) (arg5 : Memref sig .tc .vmem S16384x128 .bf16) (arg6 : Memref sig .tc .vmem S16384x128 .bf16) (arg7 : Memref sig .tc .vmem S1024x512 .bf16) (arg8 : Memref sig .tc .vmem S256x512 .f32) (arg9 : Memref sig .tc .vmem S128x256x128 .i32) (arg10 : Memref sig .tc .vmem S4x256x128 .i32) (arg11 : Memref sig .tc .vmem S4x256x128 .i32) (arg12 : Memref sig .tc .vmem S4x256x128 .i32) (arg13 : Memref sig .tc .vmem S2048x128 .f32) (arg14 : Memref sig .tc .vmem S2048x128 .f32) (arg15 : Memref sig .tc .vmem S2048x128 .f32)
    (X2 : S2048x128.Idx → Elt F .bf16) (X3 : S2048x128.Idx → Elt F .bf16) (X4 : S256x128.Idx → Elt F .f32) (X5 : S16384x128.Idx → Elt F .bf16) (X6 : S16384x128.Idx → Elt F .bf16) (X7 : S1024x512.Idx → Elt F .bf16)
    (st : St F) : sProp (MT nD τ sig Unit (Elt F) ℕ (UR sig nD τ) ℕ) :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare st.out ∗ owns (c : Thread nD τ) arg9 fullShare st.key ∗ owns (c : Thread nD τ) arg10 fullShare st.alive ∗ owns (c : Thread nD τ) arg11 fullShare st.gt ∗ owns (c : Thread nD τ) arg12 fullShare st.sel ∗ owns (c : Thread nD τ) arg13 fullShare st.mx ∗ owns (c : Thread nD τ) arg14 fullShare st.den ∗ owns (c : Thread nD τ) arg15 fullShare st.acc)

theorem res_cells (c : Dev nD) (arg2 : Memref sig .tc .vmem S2048x128 .bf16) (arg3 : Memref sig .tc .vmem S2048x128 .bf16) (arg4 : Memref sig .tc .vmem S256x128 .f32) (arg5 : Memref sig .tc .vmem S16384x128 .bf16) (arg6 : Memref sig .tc .vmem S16384x128 .bf16) (arg7 : Memref sig .tc .vmem S1024x512 .bf16) (arg8 : Memref sig .tc .vmem S256x512 .f32) (arg9 : Memref sig .tc .vmem S128x256x128 .i32) (arg10 : Memref sig .tc .vmem S4x256x128 .i32) (arg11 : Memref sig .tc .vmem S4x256x128 .i32) (arg12 : Memref sig .tc .vmem S4x256x128 .i32) (arg13 : Memref sig .tc .vmem S2048x128 .f32) (arg14 : Memref sig .tc .vmem S2048x128 .f32) (arg15 : Memref sig .tc .vmem S2048x128 .f32)
    (X2 : S2048x128.Idx → Elt F .bf16) (X3 : S2048x128.Idx → Elt F .bf16) (X4 : S256x128.Idx → Elt F .f32) (X5 : S16384x128.Idx → Elt F .bf16) (X6 : S16384x128.Idx → Elt F .bf16) (X7 : S1024x512.Idx → Elt F .bf16) :
    Cells c (res c arg2 arg3 arg4 arg5 arg6 arg7 arg8 arg9 arg10 arg11 arg12 arg13 arg14 arg15 X2 X3 X4 X5 X6 X7) arg2 arg3 arg4 arg5 arg6 arg7 arg8 arg9 arg10 arg11 arg12 arg13 arg14 arg15 X2 X3 X4 X5 X6 X7 where
  r2 := by
    intro st; unfold res
    iintro ⟨H2, H3, H4, H5, H6, H7, H8, H9, H10, H11, H12, H13, H14, H15⟩
    isplitl [H2]; · iexact H2
    iintro H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  r3 := by
    intro st; unfold res
    iintro ⟨H2, H3, H4, H5, H6, H7, H8, H9, H10, H11, H12, H13, H14, H15⟩
    isplitl [H3]; · iexact H3
    iintro H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  r4 := by
    intro st; unfold res
    iintro ⟨H2, H3, H4, H5, H6, H7, H8, H9, H10, H11, H12, H13, H14, H15⟩
    isplitl [H4]; · iexact H4
    iintro H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  r5 := by
    intro st; unfold res
    iintro ⟨H2, H3, H4, H5, H6, H7, H8, H9, H10, H11, H12, H13, H14, H15⟩
    isplitl [H5]; · iexact H5
    iintro H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  r6 := by
    intro st; unfold res
    iintro ⟨H2, H3, H4, H5, H6, H7, H8, H9, H10, H11, H12, H13, H14, H15⟩
    isplitl [H6]; · iexact H6
    iintro H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  r7 := by
    intro st; unfold res
    iintro ⟨H2, H3, H4, H5, H6, H7, H8, H9, H10, H11, H12, H13, H14, H15⟩
    isplitl [H7]; · iexact H7
    iintro H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w8 := by
    intro st; unfold res
    iintro ⟨H2, H3, H4, H5, H6, H7, H8, H9, H10, H11, H12, H13, H14, H15⟩
    isplitl [H8]; · iexact H8
    iintro %X H8
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w9 := by
    intro st; unfold res
    iintro ⟨H2, H3, H4, H5, H6, H7, H8, H9, H10, H11, H12, H13, H14, H15⟩
    isplitl [H9]; · iexact H9
    iintro %X H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w10 := by
    intro st; unfold res
    iintro ⟨H2, H3, H4, H5, H6, H7, H8, H9, H10, H11, H12, H13, H14, H15⟩
    isplitl [H10]; · iexact H10
    iintro %X H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w11 := by
    intro st; unfold res
    iintro ⟨H2, H3, H4, H5, H6, H7, H8, H9, H10, H11, H12, H13, H14, H15⟩
    isplitl [H11]; · iexact H11
    iintro %X H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w12 := by
    intro st; unfold res
    iintro ⟨H2, H3, H4, H5, H6, H7, H8, H9, H10, H11, H12, H13, H14, H15⟩
    isplitl [H12]; · iexact H12
    iintro %X H12
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w13 := by
    intro st; unfold res
    iintro ⟨H2, H3, H4, H5, H6, H7, H8, H9, H10, H11, H12, H13, H14, H15⟩
    isplitl [H13]; · iexact H13
    iintro %X H13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w14 := by
    intro st; unfold res
    iintro ⟨H2, H3, H4, H5, H6, H7, H8, H9, H10, H11, H12, H13, H14, H15⟩
    isplitl [H14]; · iexact H14
    iintro %X H14
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  w15 := by
    intro st; unfold res
    iintro ⟨H2, H3, H4, H5, H6, H7, H8, H9, H10, H11, H12, H13, H14, H15⟩
    isplitl [H15]; · iexact H15
    iintro %X H15
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Kernel.Main

end
-- ==== Proof.Safe1.lean ====
/-
  Hand-written. Each part and loop body of the sparse-attention kernel runs to its end from any contents of its buffers (1 of 4).
-/
module

public import proofs.«01_k».proof.Proof.Walk
public import proofs.«01_k».proof.Proof.Gen.Kernel.Skeleton
public import proofs.«01_k».proof.Proof.Cells

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : St F → sProp (MT nD τ sig Unit (Elt F) ℕ (UR sig nD τ) ℕ)}
variable {arg2 : Memref sig .tc .vmem S2048x128 .bf16} {harg2 : arg2.IsWhole} {arg3 : Memref sig .tc .vmem S2048x128 .bf16} {harg3 : arg3.IsWhole} {arg4 : Memref sig .tc .vmem S256x128 .f32} {harg4 : arg4.IsWhole} {arg5 : Memref sig .tc .vmem S16384x128 .bf16} {harg5 : arg5.IsWhole} {arg6 : Memref sig .tc .vmem S16384x128 .bf16} {harg6 : arg6.IsWhole} {arg7 : Memref sig .tc .vmem S1024x512 .bf16} {harg7 : arg7.IsWhole} {arg8 : Memref sig .tc .vmem S256x512 .f32} {harg8 : arg8.IsWhole} {arg9 : Memref sig .tc .vmem S128x256x128 .i32} {harg9 : arg9.IsWhole} {arg10 : Memref sig .tc .vmem S4x256x128 .i32} {harg10 : arg10.IsWhole} {arg11 : Memref sig .tc .vmem S4x256x128 .i32} {harg11 : arg11.IsWhole} {arg12 : Memref sig .tc .vmem S4x256x128 .i32} {harg12 : arg12.IsWhole} {arg13 : Memref sig .tc .vmem S2048x128 .f32} {harg13 : arg13.IsWhole} {arg14 : Memref sig .tc .vmem S2048x128 .f32} {harg14 : arg14.IsWhole} {arg15 : Memref sig .tc .vmem S2048x128 .f32} {harg15 : arg15.IsWhole}
variable {X2 : S2048x128.Idx → Elt F .bf16} {X3 : S2048x128.Idx → Elt F .bf16} {X4 : S256x128.Idx → Elt F .f32} {X5 : S16384x128.Idx → Elt F .bf16} {X6 : S16384x128.Idx → Elt F .bf16} {X7 : S1024x512.Idx → Elt F .bf16}
variable (H : Cells c R arg2 arg3 arg4 arg5 arg6 arg7 arg8 arg9 arg10 arg11 arg12 arg13 arg14 arg15 X2 X3 X4 X5 X6 X7)
include H

theorem safe_part141 (i : grid0.Coords)  : Safe defs₀ c R (k0_part141 i arg2 harg2 arg3 harg3 arg4 harg4 arg5 harg5 arg6 harg6 arg7 harg7 arg8 harg8 arg9 harg9 arg10 harg10 arg11 harg11 arg12 harg12 arg13 harg13 arg14 harg14 arg15 harg15 ) := by
  rw [k0_part141_eq_skeleton]; unfold k0_part141_skel
  with_reducible_and_instances repeat' first | refine Safe.bind _ _ ?_ (fun _ => ?_) | exact Safe.pure _ _ _

theorem safe_part1 (i : grid0.Coords) (v46 : Vec F S256x128 .f32) (c0_i32_24 : BitVec 32) (c1_i32_26 : BitVec 32) (k0_t1 : Fin (k0_t1_loop i).trips) : Safe defs₀ c R (k0_part1 i arg2 harg2 arg3 harg3 arg4 harg4 arg5 harg5 arg6 harg6 arg7 harg7 arg8 harg8 arg9 harg9 arg10 harg10 arg11 harg11 arg12 harg12 arg13 harg13 arg14 harg14 arg15 harg15 v46 c0_i32_24 c1_i32_26 k0_t1) := by
  rw [k0_part1_eq_skeleton]; unfold k0_part1_skel
  with_reducible_and_instances repeat' first | refine Safe.bind _ _ ?_ (fun _ => ?_) | exact Safe.pure _ _ _ | exact Safe.load _ _ H.r3 | exact Safe.load _ _ H.r5

theorem safe_part2 (i : grid0.Coords) (v43 : IVec S256x512 32) (v44 : IVec S256x512 32) (v46 : Vec F S256x128 .f32) (k0_t1 : Fin (k0_t1_loop i).trips) (v227 : BitVec 32) (v229 : BitVec 32) (v235 : FVec F S1024x512 .f32) (v269 : FVec F S256x512 .f32) : Safe defs₀ c R (k0_part2 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_t1 v227 v229 v235 v269) := by
  rw [k0_part2_eq_skeleton]; unfold k0_part2_skel
  with_reducible_and_instances repeat' first | refine Safe.bind _ _ ?_ (fun _ => ?_) | exact Safe.pure _ _ _ | exact Safe.load _ _ H.r9 | exact Safe.store _ _ H.w9

theorem safe_part3 (i : grid0.Coords) (v46 : Vec F S256x128 .f32) (k0_t1 : Fin (k0_t1_loop i).trips) (arg16 : BitVec 32) (v227 : BitVec 32) (v303 : IVec S256x512 32) (v311 : IVec S256x128 32) : Safe defs₀ c R (k0_part3 i arg2 harg2 arg3 harg3 arg4 harg4 arg5 harg5 arg6 harg6 arg7 harg7 arg8 harg8 arg9 harg9 arg10 harg10 arg11 harg11 arg12 harg12 arg13 harg13 arg14 harg14 arg15 harg15 v46 k0_t1 arg16 v227 v303 v311) := by
  rw [k0_part3_eq_skeleton]; unfold k0_part3_skel
  with_reducible_and_instances repeat' first | refine Safe.bind _ _ ?_ (fun _ => ?_) | exact Safe.pure _ _ _ | exact Safe.load _ _ H.r3 | exact Safe.load _ _ H.r5 | exact Safe.load _ _ H.r9 | exact Safe.store _ _ H.w9

theorem safe_part4 (i : grid0.Coords) (v43 : IVec S256x512 32) (v44 : IVec S256x512 32) (v46 : Vec F S256x128 .f32) (v335 : BitVec 32) (v339 : FVec F S1024x512 .f32) (v341 : FVec F S1024x512 .f32) (v347 : FVec F S256x512 .f32) (v350 : FVec F S256x512 .f32) : Safe defs₀ c R (k0_part4 i arg2 harg2 arg3 harg3 arg4 harg4 arg5 harg5 arg6 harg6 arg7 harg7 arg8 harg8 arg9 harg9 arg10 harg10 arg11 harg11 arg12 harg12 arg13 harg13 arg14 harg14 arg15 harg15 v43 v44 v46 v335 v339 v341 v347 v350) := by
  rw [k0_part4_eq_skeleton]; unfold k0_part4_skel
  with_reducible_and_instances repeat' first | refine Safe.bind _ _ ?_ (fun _ => ?_) | exact Safe.pure _ _ _

theorem safe_part5 (i : grid0.Coords) (k0_t1 : Fin (k0_t1_loop i).trips) (arg16 : BitVec 32) (v333 : BitVec 32) (v399 : IVec S256x512 1) (v400 : IVec S256x512 32) (v402 : IVec S256x512 1) (c2147483647_i32_168 : BitVec 32) : Safe defs₀ c R (k0_part5 i arg2 harg2 arg3 harg3 arg4 harg4 arg5 harg5 arg6 harg6 arg7 harg7 arg8 harg8 arg9 harg9 arg10 harg10 arg11 harg11 arg12 harg12 arg13 harg13 arg14 harg14 arg15 harg15 k0_t1 arg16 v333 v399 v400 v402 c2147483647_i32_168) := by
  rw [k0_part5_eq_skeleton]; unfold k0_part5_skel
  with_reducible_and_instances repeat' first | refine Safe.bind _ _ ?_ (fun _ => ?_) | exact Safe.pure _ _ _ | exact Safe.load _ _ H.r9 | exact Safe.store _ _ H.w9

theorem safe_part6 (i : grid0.Coords) (v46 : Vec F S256x128 .f32) (k0_t1 : Fin (k0_t1_loop i).trips) (v438 : BitVec 32) (c2_i32_188 : BitVec 32) : Safe defs₀ c R (k0_part6 i arg2 harg2 arg3 harg3 arg4 harg4 arg5 harg5 arg6 harg6 arg7 harg7 arg8 harg8 arg9 harg9 arg10 harg10 arg11 harg11 arg12 harg12 arg13 harg13 arg14 harg14 arg15 harg15 v46 k0_t1 v438 c2_i32_188) := by
  rw [k0_part6_eq_skeleton]; unfold k0_part6_skel
  with_reducible_and_instances repeat' first | refine Safe.bind _ _ ?_ (fun _ => ?_) | exact Safe.pure _ _ _ | exact Safe.load _ _ H.r3 | exact Safe.load _ _ H.r5

theorem safe_part7 (i : grid0.Coords) (v43 : IVec S256x512 32) (v44 : IVec S256x512 32) (v46 : Vec F S256x128 .f32) (k0_t1 : Fin (k0_t1_loop i).trips) (v439 : BitVec 32) (v441 : BitVec 32) (v447 : FVec F S1024x512 .f32) (v481 : FVec F S256x512 .f32) (v484 : FVec F S256x512 .f32) : Safe defs₀ c R (k0_part7 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_t1 v439 v441 v447 v481 v484) := by
  rw [k0_part7_eq_skeleton]; unfold k0_part7_skel
  with_reducible_and_instances repeat' first | refine Safe.bind _ _ ?_ (fun _ => ?_) | exact Safe.pure _ _ _ | exact Safe.load _ _ H.r9 | exact Safe.store _ _ H.w9

theorem safe_part8 (i : grid0.Coords) (v46 : Vec F S256x128 .f32) (k0_t1 : Fin (k0_t1_loop i).trips) (arg16 : BitVec 32) (v439 : BitVec 32) (v515 : IVec S256x512 32) (v529 : IVec S1x256x128 32) : Safe defs₀ c R (k0_part8 i arg2 harg2 arg3 harg3 arg4 harg4 arg5 harg5 arg6 harg6 arg7 harg7 arg8 harg8 arg9 harg9 arg10 harg10 arg11 harg11 arg12 harg12 arg13 harg13 arg14 harg14 arg15 harg15 v46 k0_t1 arg16 v439 v515 v529) := by
  rw [k0_part8_eq_skeleton]; unfold k0_part8_skel
  with_reducible_and_instances repeat' first | refine Safe.bind _ _ ?_ (fun _ => ?_) | exact Safe.pure _ _ _ | exact Safe.load _ _ H.r3 | exact Safe.load _ _ H.r5 | exact Safe.load _ _ H.r9 | exact Safe.store _ _ H.w9

theorem safe_part9 (i : grid0.Coords) (v43 : IVec S256x512 32) (v44 : IVec S256x512 32) (v46 : Vec F S256x128 .f32) (v547 : BitVec 32) (v551 : FVec F S1024x512 .f32) (v553 : FVec F S1024x512 .f32) (v566 : FVec F S256x512 .f32) : Safe defs₀ c R (k0_part9 i arg2 harg2 arg3 harg3 arg4 harg4 arg5 harg5 arg6 harg6 arg7 harg7 arg8 harg8 arg9 harg9 arg10 harg10 arg11 harg11 arg12 harg12 arg13 harg13 arg14 harg14 arg15 harg15 v43 v44 v46 v547 v551 v553 v566) := by
  rw [k0_part9_eq_skeleton]; unfold k0_part9_skel
  with_reducible_and_instances repeat' first | refine Safe.bind _ _ ?_ (fun _ => ?_) | exact Safe.pure _ _ _

theorem safe_part10 (i : grid0.Coords) (v43 : IVec S256x512 32) (v44 : IVec S256x512 32) (v46 : Vec F S256x128 .f32) (c0_i32_24 : BitVec 32) (c1_i32_26 : BitVec 32) (k0_t1 : Fin (k0_t1_loop i).trips) : Safe defs₀ c R (k0_part10 i arg2 harg2 arg3 harg3 arg4 harg4 arg5 harg5 arg6 harg6 arg7 harg7 arg8 harg8 arg9 harg9 arg10 harg10 arg11 harg11 arg12 harg12 arg13 harg13 arg14 harg14 arg15 harg15 v43 v44 v46 c0_i32_24 c1_i32_26 k0_t1) := by
  rw [k0_part10_eq_skeleton]; unfold k0_part10_skel
  with_reducible_and_instances repeat' first | refine Safe.bind _ _ ?_ (fun _ => ?_) | exact Safe.pure _ _ _ | exact Safe.load _ _ H.r9 | exact Safe.store _ _ H.w9 | exact safe_part1 H _ _ _ _ _ | exact safe_part2 H _ _ _ _ _ _ _ _ _ | exact safe_part3 H _ _ _ _ _ _ _ | exact safe_part4 H _ _ _ _ _ _ _ _ _ | exact safe_part5 H _ _ _ _ _ _ _ _ | exact safe_part6 H _ _ _ _ _ | exact safe_part7 H _ _ _ _ _ _ _ _ _ _ | exact safe_part8 H _ _ _ _ _ _ _ | exact safe_part9 H _ _ _ _ _ _ _ _

theorem safe_t1_body (i : grid0.Coords) (arg1 : BitVec 32) (v20 : BitVec 32) (v23 : BitVec 32) (v37 : BitVec 1) (c1_i32_14 : BitVec 32) (v44 : IVec S256x512 32) (v46 : Vec F S256x128 .f32) (k : Fin (k0_t1_loop i).trips) (a : Unit) : Safe defs₀ c R (k0_t1_body i arg2 harg2 arg3 harg3 arg4 harg4 arg5 harg5 arg6 harg6 arg7 harg7 arg8 harg8 arg9 harg9 arg10 harg10 arg11 harg11 arg12 harg12 arg13 harg13 arg14 harg14 arg15 harg15 arg1 v20 v23 v37 c1_i32_14 v44 v46 k a) := by
  unfold k0_t1_body
  with_reducible_and_instances repeat' first | refine Safe.bind _ _ ?_ (fun _ => ?_) | exact Safe.pure _ _ _ | exact Safe.store _ _ H.w9 | exact safe_part10 H _ _ _ _ _ _ _

theorem safe_part11 (i : grid0.Coords) (v46 : Vec F S256x128 .f32) (v68 : BitVec 32) (c1_i32_27 : BitVec 32) (k0_t2 : Fin (k0_t2_loop i).trips) : Safe defs₀ c R (k0_part11 i arg2 harg2 arg3 harg3 arg4 harg4 arg5 harg5 arg6 harg6 arg7 harg7 arg8 harg8 arg9 harg9 arg10 harg10 arg11 harg11 arg12 harg12 arg13 harg13 arg14 harg14 arg15 harg15 v46 v68 c1_i32_27 k0_t2) := by
  rw [k0_part11_eq_skeleton]; unfold k0_part11_skel
  with_reducible_and_instances repeat' first | refine Safe.bind _ _ ?_ (fun _ => ?_) | exact Safe.pure _ _ _ | exact Safe.load _ _ H.r3 | exact Safe.load _ _ H.r5

theorem safe_part12 (i : grid0.Coords) (v43 : IVec S256x512 32) (v44 : IVec S256x512 32) (v46 : Vec F S256x128 .f32) (k0_t2 : Fin (k0_t2_loop i).trips) (v227 : BitVec 32) (v229 : BitVec 32) (v235 : FVec F S1024x512 .f32) (v269 : FVec F S256x512 .f32) : Safe defs₀ c R (k0_part12 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_t2 v227 v229 v235 v269) := by
  rw [k0_part12_eq_skeleton]; unfold k0_part12_skel
  with_reducible_and_instances repeat' first | refine Safe.bind _ _ ?_ (fun _ => ?_) | exact Safe.pure _ _ _ | exact Safe.load _ _ H.r9 | exact Safe.store _ _ H.w9

theorem safe_part13 (i : grid0.Coords) (v46 : Vec F S256x128 .f32) (k0_t2 : Fin (k0_t2_loop i).trips) (arg16 : BitVec 32) (v227 : BitVec 32) (v303 : IVec S256x512 32) (v311 : IVec S256x128 32) : Safe defs₀ c R (k0_part13 i arg2 harg2 arg3 harg3 arg4 harg4 arg5 harg5 arg6 harg6 arg7 harg7 arg8 harg8 arg9 harg9 arg10 harg10 arg11 harg11 arg12 harg12 arg13 harg13 arg14 harg14 arg15 harg15 v46 k0_t2 arg16 v227 v303 v311) := by
  rw [k0_part13_eq_skeleton]; unfold k0_part13_skel
  with_reducible_and_instances repeat' first | refine Safe.bind _ _ ?_ (fun _ => ?_) | exact Safe.pure _ _ _ | exact Safe.load _ _ H.r3 | exact Safe.load _ _ H.r5 | exact Safe.load _ _ H.r9 | exact Safe.store _ _ H.w9

theorem safe_part14 (i : grid0.Coords) (v43 : IVec S256x512 32) (v44 : IVec S256x512 32) (v46 : Vec F S256x128 .f32) (v335 : BitVec 32) (v339 : FVec F S1024x512 .f32) (v341 : FVec F S1024x512 .f32) (v347 : FVec F S256x512 .f32) (v350 : FVec F S256x512 .f32) : Safe defs₀ c R (k0_part14 i arg2 harg2 arg3 harg3 arg4 harg4 arg5 harg5 arg6 harg6 arg7 harg7 arg8 harg8 arg9 harg9 arg10 harg10 arg11 harg11 arg12 harg12 arg13 harg13 arg14 harg14 arg15 harg15 v43 v44 v46 v335 v339 v341 v347 v350) := by
  rw [k0_part14_eq_skeleton]; unfold k0_part14_skel
  with_reducible_and_instances repeat' first | refine Safe.bind _ _ ?_ (fun _ => ?_) | exact Safe.pure _ _ _

theorem safe_part15 (i : grid0.Coords) (k0_t2 : Fin (k0_t2_loop i).trips) (arg16 : BitVec 32) (v333 : BitVec 32) (v399 : IVec S256x512 1) (v400 : IVec S256x512 32) (v402 : IVec S256x512 1) (c2147483647_i32_168 : BitVec 32) : Safe defs₀ c R (k0_part15 i arg2 harg2 arg3 harg3 arg4 harg4 arg5 harg5 arg6 harg6 arg7 harg7 arg8 harg8 arg9 harg9 arg10 harg10 arg11 harg11 arg12 harg12 arg13 harg13 arg14 harg14 arg15 harg15 k0_t2 arg16 v333 v399 v400 v402 c2147483647_i32_168) := by
  rw [k0_part15_eq_skeleton]; unfold k0_part15_skel
  with_reducible_and_instances repeat' first | refine Safe.bind _ _ ?_ (fun _ => ?_) | exact Safe.pure _ _ _ | exact Safe.load _ _ H.r9 | exact Safe.store _ _ H.w9

theorem safe_part16 (i : grid0.Coords) (v46 : Vec F S256x128 .f32) (k0_t2 : Fin (k0_t2_loop i).trips) (v438 : BitVec 32) (c2_i32_188 : BitVec 32) : Safe defs₀ c R (k0_part16 i arg2 harg2 arg3 harg3 arg4 harg4 arg5 harg5 arg6 harg6 arg7 harg7 arg8 harg8 arg9 harg9 arg10 harg10 arg11 harg11 arg12 harg12 arg13 harg13 arg14 harg14 arg15 harg15 v46 k0_t2 v438 c2_i32_188) := by
  rw [k0_part16_eq_skeleton]; unfold k0_part16_skel
  with_reducible_and_instances repeat' first | refine Safe.bind _ _ ?_ (fun _ => ?_) | exact Safe.pure _ _ _ | exact Safe.load _ _ H.r3 | exact Safe.load _ _ H.r5

theorem safe_part17 (i : grid0.Coords) (v43 : IVec S256x512 32) (v44 : IVec S256x512 32) (v46 : Vec F S256x128 .f32) (k0_t2 : Fin (k0_t2_loop i).trips) (v439 : BitVec 32) (v441 : BitVec 32) (v447 : FVec F S1024x512 .f32) (v481 : FVec F S256x512 .f32) (v484 : FVec F S256x512 .f32) : Safe defs₀ c R (k0_part17 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_t2 v439 v441 v447 v481 v484) := by
  rw [k0_part17_eq_skeleton]; unfold k0_part17_skel
  with_reducible_and_instances repeat' first | refine Safe.bind _ _ ?_ (fun _ => ?_) | exact Safe.pure _ _ _ | exact Safe.load _ _ H.r9 | exact Safe.store _ _ H.w9

theorem safe_part18 (i : grid0.Coords) (v46 : Vec F S256x128 .f32) (k0_t2 : Fin (k0_t2_loop i).trips) (arg16 : BitVec 32) (v439 : BitVec 32) (v515 : IVec S256x512 32) (v529 : IVec S1x256x128 32) : Safe defs₀ c R (k0_part18 i arg2 harg2 arg3 harg3 arg4 harg4 arg5 harg5 arg6 harg6 arg7 harg7 arg8 harg8 arg9 harg9 arg10 harg10 arg11 harg11 arg12 harg12 arg13 harg13 arg14 harg14 arg15 harg15 v46 k0_t2 arg16 v439 v515 v529) := by
  rw [k0_part18_eq_skeleton]; unfold k0_part18_skel
  with_reducible_and_instances repeat' first | refine Safe.bind _ _ ?_ (fun _ => ?_) | exact Safe.pure _ _ _ | exact Safe.load _ _ H.r3 | exact Safe.load _ _ H.r5 | exact Safe.load _ _ H.r9 | exact Safe.store _ _ H.w9

theorem safe_part19 (i : grid0.Coords) (v43 : IVec S256x512 32) (v44 : IVec S256x512 32) (v46 : Vec F S256x128 .f32) (v547 : BitVec 32) (v551 : FVec F S1024x512 .f32) (v553 : FVec F S1024x512 .f32) (v566 : FVec F S256x512 .f32) : Safe defs₀ c R (k0_part19 i arg2 harg2 arg3 harg3 arg4 harg4 arg5 harg5 arg6 harg6 arg7 harg7 arg8 harg8 arg9 harg9 arg10 harg10 arg11 harg11 arg12 harg12 arg13 harg13 arg14 harg14 arg15 harg15 v43 v44 v46 v547 v551 v553 v566) := by
  rw [k0_part19_eq_skeleton]; unfold k0_part19_skel
  with_reducible_and_instances repeat' first | refine Safe.bind _ _ ?_ (fun _ => ?_) | exact Safe.pure _ _ _

theorem safe_part20 (i : grid0.Coords) (v43 : IVec S256x512 32) (v44 : IVec S256x512 32) (v46 : Vec F S256x128 .f32) (v68 : BitVec 32) (c1_i32_27 : BitVec 32) (k0_t2 : Fin (k0_t2_loop i).trips) : Safe defs₀ c R (k0_part20 i arg2 harg2 arg3 harg3 arg4 harg4 arg5 harg5 arg6 harg6 arg7 harg7 arg8 harg8 arg9 harg9 arg10 harg10 arg11 harg11 arg12 harg12 arg13 harg13 arg14 harg14 arg15 harg15 v43 v44 v46 v68 c1_i32_27 k0_t2) := by
  rw [k0_part20_eq_skeleton]; unfold k0_part20_skel
  with_reducible_and_instances repeat' first | refine Safe.bind _ _ ?_ (fun _ => ?_) | exact Safe.pure _ _ _ | exact Safe.load _ _ H.r9 | exact Safe.store _ _ H.w9 | exact safe_part11 H _ _ _ _ _ | exact safe_part12 H _ _ _ _ _ _ _ _ _ | exact safe_part13 H _ _ _ _ _ _ _ | exact safe_part14 H _ _ _ _ _ _ _ _ _ | exact safe_part15 H _ _ _ _ _ _ _ _ | exact safe_part16 H _ _ _ _ _ | exact safe_part17 H _ _ _ _ _ _ _ _ _ _ | exact safe_part18 H _ _ _ _ _ _ _ | exact safe_part19 H _ _ _ _ _ _ _ _

theorem safe_t2_body (i : grid0.Coords) (arg1 : BitVec 32) (v20 : BitVec 32) (v23 : BitVec 32) (v37 : BitVec 1) (c1_i32_14 : BitVec 32) (v44 : IVec S256x512 32) (v46 : Vec F S256x128 .f32) (v68 : BitVec 32) (k : Fin (k0_t2_loop i).trips) (a : Unit) : Safe defs₀ c R (k0_t2_body i arg2 harg2 arg3 harg3 arg4 harg4 arg5 harg5 arg6 harg6 arg7 harg7 arg8 harg8 arg9 harg9 arg10 harg10 arg11 harg11 arg12 harg12 arg13 harg13 arg14 harg14 arg15 harg15 arg1 v20 v23 v37 c1_i32_14 v44 v46 v68 k a) := by
  unfold k0_t2_body
  with_reducible_and_instances repeat' first | refine Safe.bind _ _ ?_ (fun _ => ?_) | exact Safe.pure _ _ _ | exact Safe.store _ _ H.w9 | exact safe_part20 H _ _ _ _ _ _ _

theorem safe_part142 (i : grid0.Coords) (arg1 : BitVec 32) (v20 : BitVec 32) (v23 : BitVec 32) (v37 : BitVec 1) (c1_i32_14 : BitVec 32) : Safe defs₀ c R (k0_part142 i arg2 harg2 arg3 harg3 arg4 harg4 arg5 harg5 arg6 harg6 arg7 harg7 arg8 harg8 arg9 harg9 arg10 harg10 arg11 harg11 arg12 harg12 arg13 harg13 arg14 harg14 arg15 harg15 arg1 v20 v23 v37 c1_i32_14) := by
  rw [k0_part142_eq_skeleton]; unfold k0_part142_skel
  with_reducible_and_instances repeat' first | refine Safe.bind _ _ ?_ (fun _ => ?_) | exact Safe.pure _ _ _ | exact Safe.load _ _ H.r4 | exact Safe.loop _ _ fun _ _ => safe_t1_body H _ _ _ _ _ _ _ _ _ _ | exact Safe.loop _ _ fun _ _ => safe_t2_body H _ _ _ _ _ _ _ _ _ _ _

theorem safe_part21 (i : grid0.Coords) (v46 : Vec F S256x128 .f32) (v86 : BitVec 32) (k0_h1 : k0_cond1 i = 1#1) : Safe defs₀ c R (k0_part21 i arg2 harg2 arg3 harg3 arg4 harg4 arg5 harg5 arg6 harg6 arg7 harg7 arg8 harg8 arg9 harg9 arg10 harg10 arg11 harg11 arg12 harg12 arg13 harg13 arg14 harg14 arg15 harg15 v46 v86 k0_h1) := by
  rw [k0_part21_eq_skeleton]; unfold k0_part21_skel
  with_reducible_and_instances repeat' first | refine Safe.bind _ _ ?_ (fun _ => ?_) | exact Safe.pure _ _ _ | exact Safe.load _ _ H.r3 | exact Safe.load _ _ H.r5

theorem safe_part22 (i : grid0.Coords) (v43 : IVec S256x512 32) (v44 : IVec S256x512 32) (v46 : Vec F S256x128 .f32) (k0_h1 : k0_cond1 i = 1#1) (v226 : BitVec 32) (v228 : BitVec 32) (v234 : FVec F S1024x512 .f32) (v268 : FVec F S256x512 .f32) (v269 : FVec F S256x512 .f32) (v270 : FVec F S256x512 .f32) : Safe defs₀ c R (k0_part22 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_h1 v226 v228 v234 v268 v269 v270) := by
  rw [k0_part22_eq_skeleton]; unfold k0_part22_skel
  with_reducible_and_instances repeat' first | refine Safe.bind _ _ ?_ (fun _ => ?_) | exact Safe.pure _ _ _ | exact Safe.load _ _ H.r9 | exact Safe.store _ _ H.w9

theorem safe_part23 (i : grid0.Coords) (v46 : Vec F S256x128 .f32) (v86 : BitVec 32) (k0_h1 : k0_cond1 i = 1#1) (v226 : BitVec 32) (v302 : IVec S256x512 32) (v310 : IVec S256x128 32) : Safe defs₀ c R (k0_part23 i arg2 harg2 arg3 harg3 arg4 harg4 arg5 harg5 arg6 harg6 arg7 harg7 arg8 harg8 arg9 harg9 arg10 harg10 arg11 harg11 arg12 harg12 arg13 harg13 arg14 harg14 arg15 harg15 v46 v86 k0_h1 v226 v302 v310) := by
  rw [k0_part23_eq_skeleton]; unfold k0_part23_skel
  with_reducible_and_instances repeat' first | refine Safe.bind _ _ ?_ (fun _ => ?_) | exact Safe.pure _ _ _ | exact Safe.load _ _ H.r3 | exact Safe.load _ _ H.r5 | exact Safe.load _ _ H.r9 | exact Safe.store _ _ H.w9

theorem safe_part24 (i : grid0.Coords) (v43 : IVec S256x512 32) (v44 : IVec S256x512 32) (v46 : Vec F S256x128 .f32) (v333 : BitVec 32) (v337 : FVec F S1024x512 .f32) (v339 : FVec F S1024x512 .f32) (v352 : FVec F S256x512 .f32) (v353 : FVec F S256x512 .f32) : Safe defs₀ c R (k0_part24 i arg2 harg2 arg3 harg3 arg4 harg4 arg5 harg5 arg6 harg6 arg7 harg7 arg8 harg8 arg9 harg9 arg10 harg10 arg11 harg11 arg12 harg12 arg13 harg13 arg14 harg14 arg15 harg15 v43 v44 v46 v333 v337 v339 v352 v353) := by
  rw [k0_part24_eq_skeleton]; unfold k0_part24_skel
  with_reducible_and_instances repeat' first | refine Safe.bind _ _ ?_ (fun _ => ?_) | exact Safe.pure _ _ _

theorem safe_part25 (i : grid0.Coords) (v46 : Vec F S256x128 .f32) (v92 : BitVec 32) (k0_h2 : k0_cond2 i = 1#1) : Safe defs₀ c R (k0_part25 i arg2 harg2 arg3 harg3 arg4 harg4 arg5 harg5 arg6 harg6 arg7 harg7 arg8 harg8 arg9 harg9 arg10 harg10 arg11 harg11 arg12 harg12 arg13 harg13 arg14 harg14 arg15 harg15 v46 v92 k0_h2) := by
  rw [k0_part25_eq_skeleton]; unfold k0_part25_skel
  with_reducible_and_instances repeat' first | refine Safe.bind _ _ ?_ (fun _ => ?_) | exact Safe.pure _ _ _ | exact Safe.load _ _ H.r3 | exact Safe.load _ _ H.r5

theorem safe_part26 (i : grid0.Coords) (v43 : IVec S256x512 32) (v44 : IVec S256x512 32) (v46 : Vec F S256x128 .f32) (k0_h2 : k0_cond2 i = 1#1) (v226 : BitVec 32) (v228 : BitVec 32) (v234 : FVec F S1024x512 .f32) (v268 : FVec F S256x512 .f32) (v269 : FVec F S256x512 .f32) (v270 : FVec F S256x512 .f32) : Safe defs₀ c R (k0_part26 i arg2 harg2 arg3 harg3 arg4 harg4 arg5 harg5 arg6 harg6 arg7 harg7 arg8 harg8 arg9 harg9 arg10 harg10 arg11 harg11 arg12 harg12 arg13 harg13 arg14 harg14 arg15 harg15 v43 v44 v46 k0_h2 v226 v228 v234 v268 v269 v270) := by
  rw [k0_part26_eq_skeleton]; unfold k0_part26_skel
  with_reducible_and_instances repeat' first | refine Safe.bind _ _ ?_ (fun _ => ?_) | exact Safe.pure _ _ _ | exact Safe.load _ _ H.r9 | exact Safe.store _ _ H.w9

theorem safe_t3_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (k : Fin (k0_t3_loop i).trips) (a : Unit) : Safe defs₀ c R (k0_t3_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 k a) := by
  unfold k0_t3_body
  with_reducible_and_instances repeat' first | refine Safe.bind _ _ ?_ (fun _ => ?_) | exact Safe.pure _ _ _ | exact Safe.load _ _ H.r9 | exact Safe.store _ _ H.w9

theorem safe_t4_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (k : Fin (k0_t4_loop i).trips) (a : Unit) : Safe defs₀ c R (k0_t4_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 k a) := by
  unfold k0_t4_body
  with_reducible_and_instances repeat' first | refine Safe.bind _ _ ?_ (fun _ => ?_) | exact Safe.pure _ _ _ | exact Safe.load _ _ H.r9 | exact Safe.store _ _ H.w9

theorem safe_part27 (i : grid0.Coords) (k0_t5 : Fin (k0_t5_loop i).trips) (arg16 : BitVec 32) (c0_i32_115 : BitVec 32) (c1_i32_117 : BitVec 32) (k0_t6 : Fin k0_t6_loop.trips) : Safe defs₀ c R (k0_part27 i arg2 harg2 arg3 harg3 arg4 harg4 arg5 harg5 arg6 harg6 arg7 harg7 arg8 harg8 arg9 harg9 arg10 harg10 arg11 harg11 arg12 harg12 arg13 harg13 arg14 harg14 arg15 harg15 k0_t5 arg16 c0_i32_115 c1_i32_117 k0_t6) := by
  rw [k0_part27_eq_skeleton]; unfold k0_part27_skel
  with_reducible_and_instances repeat' first | refine Safe.bind _ _ ?_ (fun _ => ?_) | exact Safe.pure _ _ _ | exact Safe.load _ _ H.r9

theorem safe_part28 (i : grid0.Coords) (k0_t5 : Fin (k0_t5_loop i).trips) (arg16 : BitVec 32) (k0_t6 : Fin k0_t6_loop.trips) (v238 : BitVec 32) (v275 : BitVec 32) : Safe defs₀ c R (k0_part28 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v275) := by
  rw [k0_part28_eq_skeleton]; unfold k0_part28_skel
  with_reducible_and_instances repeat' first | refine Safe.bind _ _ ?_ (fun _ => ?_) | exact Safe.pure _ _ _ | exact Safe.load _ _ H.r9

theorem safe_part29 (i : grid0.Coords) (k0_t5 : Fin (k0_t5_loop i).trips) (arg16 : BitVec 32) (k0_t6 : Fin k0_t6_loop.trips) (v238 : BitVec 32) (v315 : Vec F S1x8x128 .i32) : Safe defs₀ c R (k0_part29 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v315) := by
  rw [k0_part29_eq_skeleton]; unfold k0_part29_skel
  with_reducible_and_instances repeat' first | refine Safe.bind _ _ ?_ (fun _ => ?_) | exact Safe.pure _ _ _ | exact Safe.load _ _ H.r9

theorem safe_part30 (i : grid0.Coords) (k0_t5 : Fin (k0_t5_loop i).trips) (arg16 : BitVec 32) (k0_t6 : Fin k0_t6_loop.trips) (v238 : BitVec 32) : Safe defs₀ c R (k0_part30 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238) := by
  rw [k0_part30_eq_skeleton]; unfold k0_part30_skel
  with_reducible_and_instances repeat' first | refine Safe.bind _ _ ?_ (fun _ => ?_) | exact Safe.pure _ _ _ | exact Safe.load _ _ H.r9

theorem safe_part31 (i : grid0.Coords) (k0_t5 : Fin (k0_t5_loop i).trips) (arg16 : BitVec 32) (k0_t6 : Fin k0_t6_loop.trips) (v238 : BitVec 32) (v244 : IVec S8x128 32) (v340 : IVec S8x128 32) (v395 : BitVec 32) : Safe defs₀ c R (k0_part31 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v244 v340 v395) := by
  rw [k0_part31_eq_skeleton]; unfold k0_part31_skel
  with_reducible_and_instances repeat' first | refine Safe.bind _ _ ?_ (fun _ => ?_) | exact Safe.pure _ _ _ | exact Safe.load _ _ H.r9

theorem safe_part32 (i : grid0.Coords) (v250 : IVec S8x128 32) (v256 : IVec S8x128 32) (v262 : IVec S8x128 32) (v268 : IVec S8x128 32) (v274 : IVec S8x128 32) (v340 : IVec S8x128 32) (v346 : IVec S8x128 32) (v352 : IVec S8x128 32) (v358 : IVec S8x128 32) (v364 : IVec S8x128 32) (v370 : IVec S8x128 32) (v435 : IVec S8x128 32) : Safe defs₀ c R (k0_part32 i arg2 harg2 arg3 harg3 arg4 harg4 arg5 harg5 arg6 harg6 arg7 harg7 arg8 harg8 arg9 harg9 arg10 harg10 arg11 harg11 arg12 harg12 arg13 harg13 arg14 harg14 arg15 harg15 v250 v256 v262 v268 v274 v340 v346 v352 v358 v364 v370 v435) := by
  rw [k0_part32_eq_skeleton]; unfold k0_part32_skel
  with_reducible_and_instances repeat' first | refine Safe.bind _ _ ?_ (fun _ => ?_) | exact Safe.pure _ _ _

theorem safe_part33 (i : grid0.Coords) (v280 : IVec S8x128 32) (v286 : IVec S8x128 32) (v292 : IVec S8x128 32) (v298 : IVec S8x128 32) (v304 : IVec S8x128 32) (v370 : IVec S8x128 32) (v376 : IVec S8x128 32) (v382 : IVec S8x128 32) (v388 : IVec S8x128 32) (v394 : IVec S8x128 32) (v400 : IVec S8x128 32) (v480 : IVec S8x128 32) : Safe defs₀ c R (k0_part33 i arg2 harg2 arg3 harg3 arg4 harg4 arg5 harg5 arg6 harg6 arg7 harg7 arg8 harg8 arg9 harg9 arg10 harg10 arg11 harg11 arg12 harg12 arg13 harg13 arg14 harg14 arg15 harg15 v280 v286 v292 v298 v304 v370 v376 v382 v388 v394 v400 v480) := by
  rw [k0_part33_eq_skeleton]; unfold k0_part33_skel
  with_reducible_and_instances repeat' first | refine Safe.bind _ _ ?_ (fun _ => ?_) | exact Safe.pure _ _ _

theorem safe_part34 (i : grid0.Coords) (v310 : IVec S8x128 32) (v316 : IVec S8x128 32) (v322 : IVec S8x128 32) (v328 : IVec S8x128 32) (v334 : IVec S8x128 32) (v400 : IVec S8x128 32) (v406 : IVec S8x128 32) (v412 : IVec S8x128 32) (v418 : IVec S8x128 32) (v424 : IVec S8x128 32) (v430 : IVec S8x128 32) (v525 : IVec S8x128 32) : Safe defs₀ c R (k0_part34 i arg2 harg2 arg3 harg3 arg4 harg4 arg5 harg5 arg6 harg6 arg7 harg7 arg8 harg8 arg9 harg9 arg10 harg10 arg11 harg11 arg12 harg12 arg13 harg13 arg14 harg14 arg15 harg15 v310 v316 v322 v328 v334 v400 v406 v412 v418 v424 v430 v525) := by
  rw [k0_part34_eq_skeleton]; unfold k0_part34_skel
  with_reducible_and_instances repeat' first | refine Safe.bind _ _ ?_ (fun _ => ?_) | exact Safe.pure _ _ _

theorem safe_part35 (i : grid0.Coords) (v430 : IVec S8x128 32) (v436 : IVec S8x128 32) (v445 : IVec S8x128 32) (v454 : IVec S8x128 32) (v463 : IVec S8x128 32) (v472 : IVec S8x128 32) (v508 : IVec S8x128 32) (v517 : IVec S8x128 32) (v526 : IVec S8x128 32) (v535 : IVec S8x128 32) (v544 : IVec S8x128 32) (v570 : IVec S8x128 32) : Safe defs₀ c R (k0_part35 i arg2 harg2 arg3 harg3 arg4 harg4 arg5 harg5 arg6 harg6 arg7 harg7 arg8 harg8 arg9 harg9 arg10 harg10 arg11 harg11 arg12 harg12 arg13 harg13 arg14 harg14 arg15 harg15 v430 v436 v445 v454 v463 v472 v508 v517 v526 v535 v544 v570) := by
  rw [k0_part35_eq_skeleton]; unfold k0_part35_skel
  with_reducible_and_instances repeat' first | refine Safe.bind _ _ ?_ (fun _ => ?_) | exact Safe.pure _ _ _

theorem safe_part36 (i : grid0.Coords) (v439 : IVec S8x128 32) (v448 : IVec S8x128 32) (v481 : IVec S8x128 32) (v490 : IVec S8x128 32) (v499 : IVec S8x128 32) (v511 : IVec S8x128 32) (v520 : IVec S8x128 32) (v544 : IVec S8x128 32) (v553 : IVec S8x128 32) (v562 : IVec S8x128 32) (v571 : IVec S8x128 32) (v615 : IVec S8x128 32) : Safe defs₀ c R (k0_part36 i arg2 harg2 arg3 harg3 arg4 harg4 arg5 harg5 arg6 harg6 arg7 harg7 arg8 harg8 arg9 harg9 arg10 harg10 arg11 harg11 arg12 harg12 arg13 harg13 arg14 harg14 arg15 harg15 v439 v448 v481 v490 v499 v511 v520 v544 v553 v562 v571 v615) := by
  rw [k0_part36_eq_skeleton]; unfold k0_part36_skel
  with_reducible_and_instances repeat' first | refine Safe.bind _ _ ?_ (fun _ => ?_) | exact Safe.pure _ _ _

theorem safe_part37 (i : grid0.Coords) (v457 : IVec S8x128 32) (v466 : IVec S8x128 32) (v475 : IVec S8x128 32) (v484 : IVec S8x128 32) (v493 : IVec S8x128 32) (v520 : IVec S8x128 32) (v529 : IVec S8x128 32) (v538 : IVec S8x128 32) (v547 : IVec S8x128 32) (v556 : IVec S8x128 32) (v565 : IVec S8x128 32) (v660 : IVec S8x128 32) : Safe defs₀ c R (k0_part37 i arg2 harg2 arg3 harg3 arg4 harg4 arg5 harg5 arg6 harg6 arg7 harg7 arg8 harg8 arg9 harg9 arg10 harg10 arg11 harg11 arg12 harg12 arg13 harg13 arg14 harg14 arg15 harg15 v457 v466 v475 v484 v493 v520 v529 v538 v547 v556 v565 v660) := by
  rw [k0_part37_eq_skeleton]; unfold k0_part37_skel
  with_reducible_and_instances repeat' first | refine Safe.bind _ _ ?_ (fun _ => ?_) | exact Safe.pure _ _ _

theorem safe_part38 (i : grid0.Coords) (v502 : IVec S8x128 32) (v565 : IVec S8x128 32) (v574 : IVec S8x128 32) (v580 : IVec S8x128 32) (v589 : IVec S8x128 32) (v598 : IVec S8x128 32) (v607 : IVec S8x128 32) (v616 : IVec S8x128 32) (v625 : IVec S8x128 32) (v634 : IVec S8x128 32) (v643 : IVec S8x128 32) (v705 : IVec S8x128 32) : Safe defs₀ c R (k0_part38 i arg2 harg2 arg3 harg3 arg4 harg4 arg5 harg5 arg6 harg6 arg7 harg7 arg8 harg8 arg9 harg9 arg10 harg10 arg11 harg11 arg12 harg12 arg13 harg13 arg14 harg14 arg15 harg15 v502 v565 v574 v580 v589 v598 v607 v616 v625 v634 v643 v705) := by
  rw [k0_part38_eq_skeleton]; unfold k0_part38_skel
  with_reducible_and_instances repeat' first | refine Safe.bind _ _ ?_ (fun _ => ?_) | exact Safe.pure _ _ _

theorem safe_part39 (i : grid0.Coords) (v583 : IVec S8x128 32) (v592 : IVec S8x128 32) (v601 : IVec S8x128 32) (v610 : IVec S8x128 32) (v619 : IVec S8x128 32) (v628 : IVec S8x128 32) (v637 : IVec S8x128 32) (v643 : IVec S8x128 32) (v646 : IVec S8x128 32) (v652 : IVec S8x128 32) (v688 : IVec S8x128 32) (v750 : IVec S8x128 32) : Safe defs₀ c R (k0_part39 i arg2 harg2 arg3 harg3 arg4 harg4 arg5 harg5 arg6 harg6 arg7 harg7 arg8 harg8 arg9 harg9 arg10 harg10 arg11 harg11 arg12 harg12 arg13 harg13 arg14 harg14 arg15 harg15 v583 v592 v601 v610 v619 v628 v637 v643 v646 v652 v688 v750) := by
  rw [k0_part39_eq_skeleton]; unfold k0_part39_skel
  with_reducible_and_instances repeat' first | refine Safe.bind _ _ ?_ (fun _ => ?_) | exact Safe.pure _ _ _

theorem safe_part40 (i : grid0.Coords) (v655 : IVec S8x128 32) (v661 : IVec S8x128 32) (v664 : IVec S8x128 32) (v670 : IVec S8x128 32) (v679 : IVec S8x128 32) (v688 : IVec S8x128 32) (v691 : IVec S8x128 32) (v697 : IVec S8x128 32) (v700 : IVec S8x128 32) (v706 : IVec S8x128 32) (v715 : IVec S8x128 32) (v795 : IVec S8x128 32) : Safe defs₀ c R (k0_part40 i arg2 harg2 arg3 harg3 arg4 harg4 arg5 harg5 arg6 harg6 arg7 harg7 arg8 harg8 arg9 harg9 arg10 harg10 arg11 harg11 arg12 harg12 arg13 harg13 arg14 harg14 arg15 harg15 v655 v661 v664 v670 v679 v688 v691 v697 v700 v706 v715 v795) := by
  rw [k0_part40_eq_skeleton]; unfold k0_part40_skel
  with_reducible_and_instances repeat' first | refine Safe.bind _ _ ?_ (fun _ => ?_) | exact Safe.pure _ _ _

theorem safe_part41 (i : grid0.Coords) (v673 : IVec S8x128 32) (v682 : IVec S8x128 32) (v700 : IVec S8x128 32) (v709 : IVec S8x128 32) (v718 : IVec S8x128 32) (v724 : IVec S8x128 32) (v727 : IVec S8x128 32) (v733 : IVec S8x128 32) (v742 : IVec S8x128 32) (v745 : IVec S8x128 32) (v751 : IVec S8x128 32) (v840 : IVec S8x128 32) : Safe defs₀ c R (k0_part41 i arg2 harg2 arg3 harg3 arg4 harg4 arg5 harg5 arg6 harg6 arg7 harg7 arg8 harg8 arg9 harg9 arg10 harg10 arg11 harg11 arg12 harg12 arg13 harg13 arg14 harg14 arg15 harg15 v673 v682 v700 v709 v718 v724 v727 v733 v742 v745 v751 v840) := by
  rw [k0_part41_eq_skeleton]; unfold k0_part41_skel
  with_reducible_and_instances repeat' first | refine Safe.bind _ _ ?_ (fun _ => ?_) | exact Safe.pure _ _ _

theorem safe_part42 (i : grid0.Coords) (v736 : IVec S8x128 32) (v745 : IVec S8x128 32) (v754 : IVec S8x128 32) (v760 : IVec S8x128 32) (v763 : IVec S8x128 32) (v769 : IVec S8x128 32) (v772 : IVec S8x128 32) (v778 : IVec S8x128 32) (v781 : IVec S8x128 32) (v787 : IVec S8x128 32) (v790 : IVec S8x128 32) (v885 : IVec S8x128 32) : Safe defs₀ c R (k0_part42 i arg2 harg2 arg3 harg3 arg4 harg4 arg5 harg5 arg6 harg6 arg7 harg7 arg8 harg8 arg9 harg9 arg10 harg10 arg11 harg11 arg12 harg12 arg13 harg13 arg14 harg14 arg15 harg15 v736 v745 v754 v760 v763 v769 v772 v778 v781 v787 v790 v885) := by
  rw [k0_part42_eq_skeleton]; unfold k0_part42_skel
  with_reducible_and_instances repeat' first | refine Safe.bind _ _ ?_ (fun _ => ?_) | exact Safe.pure _ _ _

end Cert.Kernel.Main

end
-- ==== Proof.Safe2.lean ====
/-
  Hand-written. Each part and loop body of the sparse-attention kernel runs to its end from any contents of its buffers (2 of 4).
-/
module

public import proofs.«01_k».proof.Proof.Walk
public import proofs.«01_k».proof.Proof.Gen.Kernel.Skeleton
public import proofs.«01_k».proof.Proof.Safe1

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : St F → sProp (MT nD τ sig Unit (Elt F) ℕ (UR sig nD τ) ℕ)}
variable {arg2 : Memref sig .tc .vmem S2048x128 .bf16} {harg2 : arg2.IsWhole} {arg3 : Memref sig .tc .vmem S2048x128 .bf16} {harg3 : arg3.IsWhole} {arg4 : Memref sig .tc .vmem S256x128 .f32} {harg4 : arg4.IsWhole} {arg5 : Memref sig .tc .vmem S16384x128 .bf16} {harg5 : arg5.IsWhole} {arg6 : Memref sig .tc .vmem S16384x128 .bf16} {harg6 : arg6.IsWhole} {arg7 : Memref sig .tc .vmem S1024x512 .bf16} {harg7 : arg7.IsWhole} {arg8 : Memref sig .tc .vmem S256x512 .f32} {harg8 : arg8.IsWhole} {arg9 : Memref sig .tc .vmem S128x256x128 .i32} {harg9 : arg9.IsWhole} {arg10 : Memref sig .tc .vmem S4x256x128 .i32} {harg10 : arg10.IsWhole} {arg11 : Memref sig .tc .vmem S4x256x128 .i32} {harg11 : arg11.IsWhole} {arg12 : Memref sig .tc .vmem S4x256x128 .i32} {harg12 : arg12.IsWhole} {arg13 : Memref sig .tc .vmem S2048x128 .f32} {harg13 : arg13.IsWhole} {arg14 : Memref sig .tc .vmem S2048x128 .f32} {harg14 : arg14.IsWhole} {arg15 : Memref sig .tc .vmem S2048x128 .f32} {harg15 : arg15.IsWhole}
variable {X2 : S2048x128.Idx → Elt F .bf16} {X3 : S2048x128.Idx → Elt F .bf16} {X4 : S256x128.Idx → Elt F .f32} {X5 : S16384x128.Idx → Elt F .bf16} {X6 : S16384x128.Idx → Elt F .bf16} {X7 : S1024x512.Idx → Elt F .bf16}
variable (H : Cells c R arg2 arg3 arg4 arg5 arg6 arg7 arg8 arg9 arg10 arg11 arg12 arg13 arg14 arg15 X2 X3 X4 X5 X6 X7)
include H

theorem safe_part43 (i : grid0.Coords) (v790 : IVec S8x128 32) (v796 : IVec S8x128 32) (v799 : IVec S8x128 32) (v805 : IVec S8x128 32) (v808 : IVec S8x128 32) (v814 : IVec S8x128 32) (v817 : IVec S8x128 32) (v823 : IVec S8x128 32) (v826 : IVec S8x128 32) (v832 : IVec S8x128 32) (v850 : IVec S8x128 32) (v930 : IVec S8x128 32) : Safe defs₀ c R (k0_part43 i arg2 harg2 arg3 harg3 arg4 harg4 arg5 harg5 arg6 harg6 arg7 harg7 arg8 harg8 arg9 harg9 arg10 harg10 arg11 harg11 arg12 harg12 arg13 harg13 arg14 harg14 arg15 harg15 v790 v796 v799 v805 v808 v814 v817 v823 v826 v832 v850 v930) := by
  rw [k0_part43_eq_skeleton]; unfold k0_part43_skel
  with_reducible_and_instances repeat' first | refine Safe.bind _ _ ?_ (fun _ => ?_) | exact Safe.pure _ _ _

theorem safe_part44 (i : grid0.Coords) (v835 : IVec S8x128 32) (v841 : IVec S8x128 32) (v844 : IVec S8x128 32) (v850 : IVec S8x128 32) (v853 : IVec S8x128 32) (v859 : IVec S8x128 32) (v862 : IVec S8x128 32) (v868 : IVec S8x128 32) (v871 : IVec S8x128 32) (v877 : IVec S8x128 32) (v880 : IVec S8x128 32) (v975 : IVec S8x128 32) : Safe defs₀ c R (k0_part44 i arg2 harg2 arg3 harg3 arg4 harg4 arg5 harg5 arg6 harg6 arg7 harg7 arg8 harg8 arg9 harg9 arg10 harg10 arg11 harg11 arg12 harg12 arg13 harg13 arg14 harg14 arg15 harg15 v835 v841 v844 v850 v853 v859 v862 v868 v871 v877 v880 v975) := by
  rw [k0_part44_eq_skeleton]; unfold k0_part44_skel
  with_reducible_and_instances repeat' first | refine Safe.bind _ _ ?_ (fun _ => ?_) | exact Safe.pure _ _ _

theorem safe_part45 (i : grid0.Coords) (v880 : IVec S8x128 32) (v886 : IVec S8x128 32) (v889 : IVec S8x128 32) (v895 : IVec S8x128 32) (v898 : IVec S8x128 32) (v904 : IVec S8x128 32) (v907 : IVec S8x128 32) (v913 : IVec S8x128 32) (v916 : IVec S8x128 32) (v922 : IVec S8x128 32) (v931 : IVec S8x128 32) (v1020 : IVec S8x128 32) : Safe defs₀ c R (k0_part45 i arg2 harg2 arg3 harg3 arg4 harg4 arg5 harg5 arg6 harg6 arg7 harg7 arg8 harg8 arg9 harg9 arg10 harg10 arg11 harg11 arg12 harg12 arg13 harg13 arg14 harg14 arg15 harg15 v880 v886 v889 v895 v898 v904 v907 v913 v916 v922 v931 v1020) := by
  rw [k0_part45_eq_skeleton]; unfold k0_part45_skel
  with_reducible_and_instances repeat' first | refine Safe.bind _ _ ?_ (fun _ => ?_) | exact Safe.pure _ _ _

theorem safe_part46 (i : grid0.Coords) (v925 : IVec S8x128 32) (v931 : IVec S8x128 32) (v934 : IVec S8x128 32) (v940 : IVec S8x128 32) (v943 : IVec S8x128 32) (v949 : IVec S8x128 32) (v952 : IVec S8x128 32) (v958 : IVec S8x128 32) (v961 : IVec S8x128 32) (v967 : IVec S8x128 32) (v970 : IVec S8x128 32) (v1065 : IVec S8x128 32) : Safe defs₀ c R (k0_part46 i arg2 harg2 arg3 harg3 arg4 harg4 arg5 harg5 arg6 harg6 arg7 harg7 arg8 harg8 arg9 harg9 arg10 harg10 arg11 harg11 arg12 harg12 arg13 harg13 arg14 harg14 arg15 harg15 v925 v931 v934 v940 v943 v949 v952 v958 v961 v967 v970 v1065) := by
  rw [k0_part46_eq_skeleton]; unfold k0_part46_skel
  with_reducible_and_instances repeat' first | refine Safe.bind _ _ ?_ (fun _ => ?_) | exact Safe.pure _ _ _

theorem safe_part47 (i : grid0.Coords) (k0_t5 : Fin (k0_t5_loop i).trips) (arg16 : BitVec 32) (k0_t6 : Fin k0_t6_loop.trips) (v238 : BitVec 32) (v970 : IVec S8x128 32) (v976 : IVec S8x128 32) (v979 : IVec S8x128 32) (v985 : IVec S8x128 32) (v988 : IVec S8x128 32) (v994 : IVec S8x128 32) (v997 : IVec S8x128 32) (v1003 : IVec S8x128 32) (v1006 : IVec S8x128 32) (v1110 : IVec S8x128 32) : Safe defs₀ c R (k0_part47 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v970 v976 v979 v985 v988 v994 v997 v1003 v1006 v1110) := by
  rw [k0_part47_eq_skeleton]; unfold k0_part47_skel
  with_reducible_and_instances repeat' first | refine Safe.bind _ _ ?_ (fun _ => ?_) | exact Safe.pure _ _ _ | exact Safe.load _ _ H.r9

theorem safe_part48 (i : grid0.Coords) (k0_t5 : Fin (k0_t5_loop i).trips) (arg16 : BitVec 32) (k0_t6 : Fin k0_t6_loop.trips) (v238 : BitVec 32) (v1012 : IVec S8x128 32) (v1015 : IVec S8x128 32) (v1021 : IVec S8x128 32) (v1024 : IVec S8x128 32) (v1030 : IVec S8x128 32) (v1033 : IVec S8x128 32) (v1155 : Vec F S1x8x128 .i32) : Safe defs₀ c R (k0_part48 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v1012 v1015 v1021 v1024 v1030 v1033 v1155) := by
  rw [k0_part48_eq_skeleton]; unfold k0_part48_skel
  with_reducible_and_instances repeat' first | refine Safe.bind _ _ ?_ (fun _ => ?_) | exact Safe.pure _ _ _ | exact Safe.load _ _ H.r9 | exact Safe.store _ _ H.w9

theorem safe_part49 (i : grid0.Coords) (k0_t5 : Fin (k0_t5_loop i).trips) (arg16 : BitVec 32) (k0_t6 : Fin k0_t6_loop.trips) (v238 : BitVec 32) (v1039 : IVec S8x128 32) (v1042 : IVec S8x128 32) (v1048 : IVec S8x128 32) (v1051 : IVec S8x128 32) (v1057 : IVec S8x128 32) (v1193 : BitVec 32) : Safe defs₀ c R (k0_part49 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v1039 v1042 v1048 v1051 v1057 v1193) := by
  rw [k0_part49_eq_skeleton]; unfold k0_part49_skel
  with_reducible_and_instances repeat' first | refine Safe.bind _ _ ?_ (fun _ => ?_) | exact Safe.pure _ _ _ | exact Safe.load _ _ H.r9 | exact Safe.store _ _ H.w9

theorem safe_part50 (i : grid0.Coords) (k0_t5 : Fin (k0_t5_loop i).trips) (arg16 : BitVec 32) (k0_t6 : Fin k0_t6_loop.trips) (v238 : BitVec 32) (v1060 : IVec S8x128 32) (v1066 : IVec S8x128 32) (v1069 : IVec S8x128 32) (v1075 : IVec S8x128 32) (v1078 : IVec S8x128 32) (v1084 : IVec S8x128 32) : Safe defs₀ c R (k0_part50 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v1060 v1066 v1069 v1075 v1078 v1084) := by
  rw [k0_part50_eq_skeleton]; unfold k0_part50_skel
  with_reducible_and_instances repeat' first | refine Safe.bind _ _ ?_ (fun _ => ?_) | exact Safe.pure _ _ _ | exact Safe.load _ _ H.r9 | exact Safe.store _ _ H.w9

theorem safe_part51 (i : grid0.Coords) (k0_t5 : Fin (k0_t5_loop i).trips) (arg16 : BitVec 32) (k0_t6 : Fin k0_t6_loop.trips) (v238 : BitVec 32) (v1087 : IVec S8x128 32) (v1093 : IVec S8x128 32) (v1096 : IVec S8x128 32) (v1102 : IVec S8x128 32) (v1105 : IVec S8x128 32) (c32_i32_481 : BitVec 32) : Safe defs₀ c R (k0_part51 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v1087 v1093 v1096 v1102 v1105 c32_i32_481) := by
  rw [k0_part51_eq_skeleton]; unfold k0_part51_skel
  with_reducible_and_instances repeat' first | refine Safe.bind _ _ ?_ (fun _ => ?_) | exact Safe.pure _ _ _ | exact Safe.load _ _ H.r9 | exact Safe.store _ _ H.w9

theorem safe_part52 (i : grid0.Coords) (k0_t5 : Fin (k0_t5_loop i).trips) (arg16 : BitVec 32) (k0_t6 : Fin k0_t6_loop.trips) (v238 : BitVec 32) (v1111 : IVec S8x128 32) (v1114 : IVec S8x128 32) (v1120 : IVec S8x128 32) (v1123 : IVec S8x128 32) (v1129 : IVec S8x128 32) (v1132 : IVec S8x128 32) : Safe defs₀ c R (k0_part52 i arg2 harg2 arg3 harg3 arg4 harg4 arg5 harg5 arg6 harg6 arg7 harg7 arg8 harg8 arg9 harg9 arg10 harg10 arg11 harg11 arg12 harg12 arg13 harg13 arg14 harg14 arg15 harg15 k0_t5 arg16 k0_t6 v238 v1111 v1114 v1120 v1123 v1129 v1132) := by
  rw [k0_part52_eq_skeleton]; unfold k0_part52_skel
  with_reducible_and_instances repeat' first | refine Safe.bind _ _ ?_ (fun _ => ?_) | exact Safe.pure _ _ _ | exact Safe.load _ _ H.r9 | exact Safe.store _ _ H.w9

theorem safe_part53 (i : grid0.Coords) (k0_t5 : Fin (k0_t5_loop i).trips) (arg16 : BitVec 32) (c0_i32_115 : BitVec 32) (c1_i32_117 : BitVec 32) (k0_t6 : Fin k0_t6_loop.trips) : Safe defs₀ c R (k0_part53 i arg2 harg2 arg3 harg3 arg4 harg4 arg5 harg5 arg6 harg6 arg7 harg7 arg8 harg8 arg9 harg9 arg10 harg10 arg11 harg11 arg12 harg12 arg13 harg13 arg14 harg14 arg15 harg15 k0_t5 arg16 c0_i32_115 c1_i32_117 k0_t6) := by
  rw [k0_part53_eq_skeleton]; unfold k0_part53_skel
  with_reducible_and_instances repeat' first | refine Safe.bind _ _ ?_ (fun _ => ?_) | exact Safe.pure _ _ _ | exact Safe.load _ _ H.r9 | exact Safe.store _ _ H.w9 | exact safe_part27 H _ _ _ _ _ _ | exact safe_part28 H _ _ _ _ _ _ | exact safe_part29 H _ _ _ _ _ _ | exact safe_part30 H _ _ _ _ _ | exact safe_part31 H _ _ _ _ _ _ _ _ | exact safe_part32 H _ _ _ _ _ _ _ _ _ _ _ _ _ | exact safe_part33 H _ _ _ _ _ _ _ _ _ _ _ _ _ | exact safe_part34 H _ _ _ _ _ _ _ _ _ _ _ _ _ | exact safe_part35 H _ _ _ _ _ _ _ _ _ _ _ _ _ | exact safe_part36 H _ _ _ _ _ _ _ _ _ _ _ _ _ | exact safe_part37 H _ _ _ _ _ _ _ _ _ _ _ _ _ | exact safe_part38 H _ _ _ _ _ _ _ _ _ _ _ _ _ | exact safe_part39 H _ _ _ _ _ _ _ _ _ _ _ _ _ | exact safe_part40 H _ _ _ _ _ _ _ _ _ _ _ _ _ | exact safe_part41 H _ _ _ _ _ _ _ _ _ _ _ _ _ | exact safe_part42 H _ _ _ _ _ _ _ _ _ _ _ _ _ | exact safe_part43 H _ _ _ _ _ _ _ _ _ _ _ _ _ | exact safe_part44 H _ _ _ _ _ _ _ _ _ _ _ _ _ | exact safe_part45 H _ _ _ _ _ _ _ _ _ _ _ _ _ | exact safe_part46 H _ _ _ _ _ _ _ _ _ _ _ _ _ | exact safe_part47 H _ _ _ _ _ _ _ _ _ _ _ _ _ _ _ | exact safe_part48 H _ _ _ _ _ _ _ _ _ _ _ _ | exact safe_part49 H _ _ _ _ _ _ _ _ _ _ _ | exact safe_part50 H _ _ _ _ _ _ _ _ _ _ _ | exact safe_part51 H _ _ _ _ _ _ _ _ _ _ _ | exact safe_part52 H _ _ _ _ _ _ _ _ _ _ _

theorem safe_t6_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (k0_t5 : Fin (k0_t5_loop i).trips) (arg16 : BitVec 32) (k : Fin k0_t6_loop.trips) (a : Unit) : Safe defs₀ c R (k0_t6_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 k0_t5 arg16 k a) := by
  unfold k0_t6_body
  with_reducible_and_instances repeat' first | refine Safe.bind _ _ ?_ (fun _ => ?_) | exact Safe.pure _ _ _ | exact Safe.load _ _ H.r9 | exact Safe.store _ _ H.w9 | exact safe_part53 H _ _ _ _ _ _

theorem safe_t5_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (k : Fin (k0_t5_loop i).trips) (a : Unit) : Safe defs₀ c R (k0_t5_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 k a) := by
  unfold k0_t5_body
  with_reducible_and_instances repeat' first | refine Safe.bind _ _ ?_ (fun _ => ?_) | exact Safe.pure _ _ _ | exact Safe.load _ _ H.r10 | exact Safe.load _ _ H.r11 | exact Safe.store _ _ H.w10 | exact Safe.store _ _ H.w11 | exact Safe.loop _ _ fun _ _ => safe_t6_body H _ _ _ _ _ _ _ _ _ _ _ _ _ _

theorem safe_part54 (i : grid0.Coords) (k0_t7 : Fin (k0_t7_loop i).trips) (arg16 : BitVec 32) (c0_i32_115 : BitVec 32) (c1_i32_117 : BitVec 32) (k0_t8 : Fin k0_t8_loop.trips) : Safe defs₀ c R (k0_part54 i arg2 harg2 arg3 harg3 arg4 harg4 arg5 harg5 arg6 harg6 arg7 harg7 arg8 harg8 arg9 harg9 arg10 harg10 arg11 harg11 arg12 harg12 arg13 harg13 arg14 harg14 arg15 harg15 k0_t7 arg16 c0_i32_115 c1_i32_117 k0_t8) := by
  rw [k0_part54_eq_skeleton]; unfold k0_part54_skel
  with_reducible_and_instances repeat' first | refine Safe.bind _ _ ?_ (fun _ => ?_) | exact Safe.pure _ _ _ | exact Safe.load _ _ H.r9

theorem safe_part55 (i : grid0.Coords) (k0_t7 : Fin (k0_t7_loop i).trips) (arg16 : BitVec 32) (k0_t8 : Fin k0_t8_loop.trips) (v238 : BitVec 32) (v275 : BitVec 32) : Safe defs₀ c R (k0_part55 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v275) := by
  rw [k0_part55_eq_skeleton]; unfold k0_part55_skel
  with_reducible_and_instances repeat' first | refine Safe.bind _ _ ?_ (fun _ => ?_) | exact Safe.pure _ _ _ | exact Safe.load _ _ H.r9

theorem safe_part56 (i : grid0.Coords) (k0_t7 : Fin (k0_t7_loop i).trips) (arg16 : BitVec 32) (k0_t8 : Fin k0_t8_loop.trips) (v238 : BitVec 32) (v315 : Vec F S1x8x128 .i32) : Safe defs₀ c R (k0_part56 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v315) := by
  rw [k0_part56_eq_skeleton]; unfold k0_part56_skel
  with_reducible_and_instances repeat' first | refine Safe.bind _ _ ?_ (fun _ => ?_) | exact Safe.pure _ _ _ | exact Safe.load _ _ H.r9

theorem safe_part57 (i : grid0.Coords) (k0_t7 : Fin (k0_t7_loop i).trips) (arg16 : BitVec 32) (k0_t8 : Fin k0_t8_loop.trips) (v238 : BitVec 32) : Safe defs₀ c R (k0_part57 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238) := by
  rw [k0_part57_eq_skeleton]; unfold k0_part57_skel
  with_reducible_and_instances repeat' first | refine Safe.bind _ _ ?_ (fun _ => ?_) | exact Safe.pure _ _ _ | exact Safe.load _ _ H.r9

theorem safe_part58 (i : grid0.Coords) (k0_t7 : Fin (k0_t7_loop i).trips) (arg16 : BitVec 32) (k0_t8 : Fin k0_t8_loop.trips) (v238 : BitVec 32) (v244 : IVec S8x128 32) (v340 : IVec S8x128 32) (v395 : BitVec 32) : Safe defs₀ c R (k0_part58 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v244 v340 v395) := by
  rw [k0_part58_eq_skeleton]; unfold k0_part58_skel
  with_reducible_and_instances repeat' first | refine Safe.bind _ _ ?_ (fun _ => ?_) | exact Safe.pure _ _ _ | exact Safe.load _ _ H.r9

theorem safe_part59 (i : grid0.Coords) (v250 : IVec S8x128 32) (v256 : IVec S8x128 32) (v262 : IVec S8x128 32) (v268 : IVec S8x128 32) (v274 : IVec S8x128 32) (v340 : IVec S8x128 32) (v346 : IVec S8x128 32) (v352 : IVec S8x128 32) (v358 : IVec S8x128 32) (v364 : IVec S8x128 32) (v370 : IVec S8x128 32) (v435 : IVec S8x128 32) : Safe defs₀ c R (k0_part59 i arg2 harg2 arg3 harg3 arg4 harg4 arg5 harg5 arg6 harg6 arg7 harg7 arg8 harg8 arg9 harg9 arg10 harg10 arg11 harg11 arg12 harg12 arg13 harg13 arg14 harg14 arg15 harg15 v250 v256 v262 v268 v274 v340 v346 v352 v358 v364 v370 v435) := by
  rw [k0_part59_eq_skeleton]; unfold k0_part59_skel
  with_reducible_and_instances repeat' first | refine Safe.bind _ _ ?_ (fun _ => ?_) | exact Safe.pure _ _ _

theorem safe_part60 (i : grid0.Coords) (v280 : IVec S8x128 32) (v286 : IVec S8x128 32) (v292 : IVec S8x128 32) (v298 : IVec S8x128 32) (v304 : IVec S8x128 32) (v370 : IVec S8x128 32) (v376 : IVec S8x128 32) (v382 : IVec S8x128 32) (v388 : IVec S8x128 32) (v394 : IVec S8x128 32) (v400 : IVec S8x128 32) (v480 : IVec S8x128 32) : Safe defs₀ c R (k0_part60 i arg2 harg2 arg3 harg3 arg4 harg4 arg5 harg5 arg6 harg6 arg7 harg7 arg8 harg8 arg9 harg9 arg10 harg10 arg11 harg11 arg12 harg12 arg13 harg13 arg14 harg14 arg15 harg15 v280 v286 v292 v298 v304 v370 v376 v382 v388 v394 v400 v480) := by
  rw [k0_part60_eq_skeleton]; unfold k0_part60_skel
  with_reducible_and_instances repeat' first | refine Safe.bind _ _ ?_ (fun _ => ?_) | exact Safe.pure _ _ _

theorem safe_part61 (i : grid0.Coords) (v310 : IVec S8x128 32) (v316 : IVec S8x128 32) (v322 : IVec S8x128 32) (v328 : IVec S8x128 32) (v334 : IVec S8x128 32) (v400 : IVec S8x128 32) (v406 : IVec S8x128 32) (v412 : IVec S8x128 32) (v418 : IVec S8x128 32) (v424 : IVec S8x128 32) (v430 : IVec S8x128 32) (v525 : IVec S8x128 32) : Safe defs₀ c R (k0_part61 i arg2 harg2 arg3 harg3 arg4 harg4 arg5 harg5 arg6 harg6 arg7 harg7 arg8 harg8 arg9 harg9 arg10 harg10 arg11 harg11 arg12 harg12 arg13 harg13 arg14 harg14 arg15 harg15 v310 v316 v322 v328 v334 v400 v406 v412 v418 v424 v430 v525) := by
  rw [k0_part61_eq_skeleton]; unfold k0_part61_skel
  with_reducible_and_instances repeat' first | refine Safe.bind _ _ ?_ (fun _ => ?_) | exact Safe.pure _ _ _

theorem safe_part62 (i : grid0.Coords) (v430 : IVec S8x128 32) (v436 : IVec S8x128 32) (v445 : IVec S8x128 32) (v454 : IVec S8x128 32) (v463 : IVec S8x128 32) (v472 : IVec S8x128 32) (v508 : IVec S8x128 32) (v517 : IVec S8x128 32) (v526 : IVec S8x128 32) (v535 : IVec S8x128 32) (v544 : IVec S8x128 32) (v570 : IVec S8x128 32) : Safe defs₀ c R (k0_part62 i arg2 harg2 arg3 harg3 arg4 harg4 arg5 harg5 arg6 harg6 arg7 harg7 arg8 harg8 arg9 harg9 arg10 harg10 arg11 harg11 arg12 harg12 arg13 harg13 arg14 harg14 arg15 harg15 v430 v436 v445 v454 v463 v472 v508 v517 v526 v535 v544 v570) := by
  rw [k0_part62_eq_skeleton]; unfold k0_part62_skel
  with_reducible_and_instances repeat' first | refine Safe.bind _ _ ?_ (fun _ => ?_) | exact Safe.pure _ _ _

theorem safe_part63 (i : grid0.Coords) (v439 : IVec S8x128 32) (v448 : IVec S8x128 32) (v481 : IVec S8x128 32) (v490 : IVec S8x128 32) (v499 : IVec S8x128 32) (v511 : IVec S8x128 32) (v520 : IVec S8x128 32) (v544 : IVec S8x128 32) (v553 : IVec S8x128 32) (v562 : IVec S8x128 32) (v571 : IVec S8x128 32) (v615 : IVec S8x128 32) : Safe defs₀ c R (k0_part63 i arg2 harg2 arg3 harg3 arg4 harg4 arg5 harg5 arg6 harg6 arg7 harg7 arg8 harg8 arg9 harg9 arg10 harg10 arg11 harg11 arg12 harg12 arg13 harg13 arg14 harg14 arg15 harg15 v439 v448 v481 v490 v499 v511 v520 v544 v553 v562 v571 v615) := by
  rw [k0_part63_eq_skeleton]; unfold k0_part63_skel
  with_reducible_and_instances repeat' first | refine Safe.bind _ _ ?_ (fun _ => ?_) | exact Safe.pure _ _ _

theorem safe_part64 (i : grid0.Coords) (v457 : IVec S8x128 32) (v466 : IVec S8x128 32) (v475 : IVec S8x128 32) (v484 : IVec S8x128 32) (v493 : IVec S8x128 32) (v520 : IVec S8x128 32) (v529 : IVec S8x128 32) (v538 : IVec S8x128 32) (v547 : IVec S8x128 32) (v556 : IVec S8x128 32) (v565 : IVec S8x128 32) (v660 : IVec S8x128 32) : Safe defs₀ c R (k0_part64 i arg2 harg2 arg3 harg3 arg4 harg4 arg5 harg5 arg6 harg6 arg7 harg7 arg8 harg8 arg9 harg9 arg10 harg10 arg11 harg11 arg12 harg12 arg13 harg13 arg14 harg14 arg15 harg15 v457 v466 v475 v484 v493 v520 v529 v538 v547 v556 v565 v660) := by
  rw [k0_part64_eq_skeleton]; unfold k0_part64_skel
  with_reducible_and_instances repeat' first | refine Safe.bind _ _ ?_ (fun _ => ?_) | exact Safe.pure _ _ _

theorem safe_part65 (i : grid0.Coords) (v502 : IVec S8x128 32) (v565 : IVec S8x128 32) (v574 : IVec S8x128 32) (v580 : IVec S8x128 32) (v589 : IVec S8x128 32) (v598 : IVec S8x128 32) (v607 : IVec S8x128 32) (v616 : IVec S8x128 32) (v625 : IVec S8x128 32) (v634 : IVec S8x128 32) (v643 : IVec S8x128 32) (v705 : IVec S8x128 32) : Safe defs₀ c R (k0_part65 i arg2 harg2 arg3 harg3 arg4 harg4 arg5 harg5 arg6 harg6 arg7 harg7 arg8 harg8 arg9 harg9 arg10 harg10 arg11 harg11 arg12 harg12 arg13 harg13 arg14 harg14 arg15 harg15 v502 v565 v574 v580 v589 v598 v607 v616 v625 v634 v643 v705) := by
  rw [k0_part65_eq_skeleton]; unfold k0_part65_skel
  with_reducible_and_instances repeat' first | refine Safe.bind _ _ ?_ (fun _ => ?_) | exact Safe.pure _ _ _

theorem safe_part66 (i : grid0.Coords) (v583 : IVec S8x128 32) (v592 : IVec S8x128 32) (v601 : IVec S8x128 32) (v610 : IVec S8x128 32) (v619 : IVec S8x128 32) (v628 : IVec S8x128 32) (v637 : IVec S8x128 32) (v643 : IVec S8x128 32) (v646 : IVec S8x128 32) (v652 : IVec S8x128 32) (v688 : IVec S8x128 32) (v750 : IVec S8x128 32) : Safe defs₀ c R (k0_part66 i arg2 harg2 arg3 harg3 arg4 harg4 arg5 harg5 arg6 harg6 arg7 harg7 arg8 harg8 arg9 harg9 arg10 harg10 arg11 harg11 arg12 harg12 arg13 harg13 arg14 harg14 arg15 harg15 v583 v592 v601 v610 v619 v628 v637 v643 v646 v652 v688 v750) := by
  rw [k0_part66_eq_skeleton]; unfold k0_part66_skel
  with_reducible_and_instances repeat' first | refine Safe.bind _ _ ?_ (fun _ => ?_) | exact Safe.pure _ _ _

theorem safe_part67 (i : grid0.Coords) (v655 : IVec S8x128 32) (v661 : IVec S8x128 32) (v664 : IVec S8x128 32) (v670 : IVec S8x128 32) (v679 : IVec S8x128 32) (v688 : IVec S8x128 32) (v691 : IVec S8x128 32) (v697 : IVec S8x128 32) (v700 : IVec S8x128 32) (v706 : IVec S8x128 32) (v715 : IVec S8x128 32) (v795 : IVec S8x128 32) : Safe defs₀ c R (k0_part67 i arg2 harg2 arg3 harg3 arg4 harg4 arg5 harg5 arg6 harg6 arg7 harg7 arg8 harg8 arg9 harg9 arg10 harg10 arg11 harg11 arg12 harg12 arg13 harg13 arg14 harg14 arg15 harg15 v655 v661 v664 v670 v679 v688 v691 v697 v700 v706 v715 v795) := by
  rw [k0_part67_eq_skeleton]; unfold k0_part67_skel
  with_reducible_and_instances repeat' first | refine Safe.bind _ _ ?_ (fun _ => ?_) | exact Safe.pure _ _ _

theorem safe_part68 (i : grid0.Coords) (v673 : IVec S8x128 32) (v682 : IVec S8x128 32) (v700 : IVec S8x128 32) (v709 : IVec S8x128 32) (v718 : IVec S8x128 32) (v724 : IVec S8x128 32) (v727 : IVec S8x128 32) (v733 : IVec S8x128 32) (v742 : IVec S8x128 32) (v745 : IVec S8x128 32) (v751 : IVec S8x128 32) (v840 : IVec S8x128 32) : Safe defs₀ c R (k0_part68 i arg2 harg2 arg3 harg3 arg4 harg4 arg5 harg5 arg6 harg6 arg7 harg7 arg8 harg8 arg9 harg9 arg10 harg10 arg11 harg11 arg12 harg12 arg13 harg13 arg14 harg14 arg15 harg15 v673 v682 v700 v709 v718 v724 v727 v733 v742 v745 v751 v840) := by
  rw [k0_part68_eq_skeleton]; unfold k0_part68_skel
  with_reducible_and_instances repeat' first | refine Safe.bind _ _ ?_ (fun _ => ?_) | exact Safe.pure _ _ _

theorem safe_part69 (i : grid0.Coords) (v736 : IVec S8x128 32) (v745 : IVec S8x128 32) (v754 : IVec S8x128 32) (v760 : IVec S8x128 32) (v763 : IVec S8x128 32) (v769 : IVec S8x128 32) (v772 : IVec S8x128 32) (v778 : IVec S8x128 32) (v781 : IVec S8x128 32) (v787 : IVec S8x128 32) (v790 : IVec S8x128 32) (v885 : IVec S8x128 32) : Safe defs₀ c R (k0_part69 i arg2 harg2 arg3 harg3 arg4 harg4 arg5 harg5 arg6 harg6 arg7 harg7 arg8 harg8 arg9 harg9 arg10 harg10 arg11 harg11 arg12 harg12 arg13 harg13 arg14 harg14 arg15 harg15 v736 v745 v754 v760 v763 v769 v772 v778 v781 v787 v790 v885) := by
  rw [k0_part69_eq_skeleton]; unfold k0_part69_skel
  with_reducible_and_instances repeat' first | refine Safe.bind _ _ ?_ (fun _ => ?_) | exact Safe.pure _ _ _

theorem safe_part70 (i : grid0.Coords) (v790 : IVec S8x128 32) (v796 : IVec S8x128 32) (v799 : IVec S8x128 32) (v805 : IVec S8x128 32) (v808 : IVec S8x128 32) (v814 : IVec S8x128 32) (v817 : IVec S8x128 32) (v823 : IVec S8x128 32) (v826 : IVec S8x128 32) (v832 : IVec S8x128 32) (v850 : IVec S8x128 32) (v930 : IVec S8x128 32) : Safe defs₀ c R (k0_part70 i arg2 harg2 arg3 harg3 arg4 harg4 arg5 harg5 arg6 harg6 arg7 harg7 arg8 harg8 arg9 harg9 arg10 harg10 arg11 harg11 arg12 harg12 arg13 harg13 arg14 harg14 arg15 harg15 v790 v796 v799 v805 v808 v814 v817 v823 v826 v832 v850 v930) := by
  rw [k0_part70_eq_skeleton]; unfold k0_part70_skel
  with_reducible_and_instances repeat' first | refine Safe.bind _ _ ?_ (fun _ => ?_) | exact Safe.pure _ _ _

theorem safe_part71 (i : grid0.Coords) (v835 : IVec S8x128 32) (v841 : IVec S8x128 32) (v844 : IVec S8x128 32) (v850 : IVec S8x128 32) (v853 : IVec S8x128 32) (v859 : IVec S8x128 32) (v862 : IVec S8x128 32) (v868 : IVec S8x128 32) (v871 : IVec S8x128 32) (v877 : IVec S8x128 32) (v880 : IVec S8x128 32) (v975 : IVec S8x128 32) : Safe defs₀ c R (k0_part71 i arg2 harg2 arg3 harg3 arg4 harg4 arg5 harg5 arg6 harg6 arg7 harg7 arg8 harg8 arg9 harg9 arg10 harg10 arg11 harg11 arg12 harg12 arg13 harg13 arg14 harg14 arg15 harg15 v835 v841 v844 v850 v853 v859 v862 v868 v871 v877 v880 v975) := by
  rw [k0_part71_eq_skeleton]; unfold k0_part71_skel
  with_reducible_and_instances repeat' first | refine Safe.bind _ _ ?_ (fun _ => ?_) | exact Safe.pure _ _ _

theorem safe_part72 (i : grid0.Coords) (v880 : IVec S8x128 32) (v886 : IVec S8x128 32) (v889 : IVec S8x128 32) (v895 : IVec S8x128 32) (v898 : IVec S8x128 32) (v904 : IVec S8x128 32) (v907 : IVec S8x128 32) (v913 : IVec S8x128 32) (v916 : IVec S8x128 32) (v922 : IVec S8x128 32) (v931 : IVec S8x128 32) (v1020 : IVec S8x128 32) : Safe defs₀ c R (k0_part72 i arg2 harg2 arg3 harg3 arg4 harg4 arg5 harg5 arg6 harg6 arg7 harg7 arg8 harg8 arg9 harg9 arg10 harg10 arg11 harg11 arg12 harg12 arg13 harg13 arg14 harg14 arg15 harg15 v880 v886 v889 v895 v898 v904 v907 v913 v916 v922 v931 v1020) := by
  rw [k0_part72_eq_skeleton]; unfold k0_part72_skel
  with_reducible_and_instances repeat' first | refine Safe.bind _ _ ?_ (fun _ => ?_) | exact Safe.pure _ _ _

theorem safe_part73 (i : grid0.Coords) (v925 : IVec S8x128 32) (v931 : IVec S8x128 32) (v934 : IVec S8x128 32) (v940 : IVec S8x128 32) (v943 : IVec S8x128 32) (v949 : IVec S8x128 32) (v952 : IVec S8x128 32) (v958 : IVec S8x128 32) (v961 : IVec S8x128 32) (v967 : IVec S8x128 32) (v970 : IVec S8x128 32) (v1065 : IVec S8x128 32) : Safe defs₀ c R (k0_part73 i arg2 harg2 arg3 harg3 arg4 harg4 arg5 harg5 arg6 harg6 arg7 harg7 arg8 harg8 arg9 harg9 arg10 harg10 arg11 harg11 arg12 harg12 arg13 harg13 arg14 harg14 arg15 harg15 v925 v931 v934 v940 v943 v949 v952 v958 v961 v967 v970 v1065) := by
  rw [k0_part73_eq_skeleton]; unfold k0_part73_skel
  with_reducible_and_instances repeat' first | refine Safe.bind _ _ ?_ (fun _ => ?_) | exact Safe.pure _ _ _

theorem safe_part74 (i : grid0.Coords) (k0_t7 : Fin (k0_t7_loop i).trips) (arg16 : BitVec 32) (k0_t8 : Fin k0_t8_loop.trips) (v238 : BitVec 32) (v970 : IVec S8x128 32) (v976 : IVec S8x128 32) (v979 : IVec S8x128 32) (v985 : IVec S8x128 32) (v988 : IVec S8x128 32) (v994 : IVec S8x128 32) (v997 : IVec S8x128 32) (v1003 : IVec S8x128 32) (v1006 : IVec S8x128 32) (v1110 : IVec S8x128 32) : Safe defs₀ c R (k0_part74 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v970 v976 v979 v985 v988 v994 v997 v1003 v1006 v1110) := by
  rw [k0_part74_eq_skeleton]; unfold k0_part74_skel
  with_reducible_and_instances repeat' first | refine Safe.bind _ _ ?_ (fun _ => ?_) | exact Safe.pure _ _ _ | exact Safe.load _ _ H.r9

theorem safe_part75 (i : grid0.Coords) (k0_t7 : Fin (k0_t7_loop i).trips) (arg16 : BitVec 32) (k0_t8 : Fin k0_t8_loop.trips) (v238 : BitVec 32) (v1012 : IVec S8x128 32) (v1015 : IVec S8x128 32) (v1021 : IVec S8x128 32) (v1024 : IVec S8x128 32) (v1030 : IVec S8x128 32) (v1033 : IVec S8x128 32) (v1155 : Vec F S1x8x128 .i32) : Safe defs₀ c R (k0_part75 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v1012 v1015 v1021 v1024 v1030 v1033 v1155) := by
  rw [k0_part75_eq_skeleton]; unfold k0_part75_skel
  with_reducible_and_instances repeat' first | refine Safe.bind _ _ ?_ (fun _ => ?_) | exact Safe.pure _ _ _ | exact Safe.load _ _ H.r9 | exact Safe.store _ _ H.w9

theorem safe_part76 (i : grid0.Coords) (k0_t7 : Fin (k0_t7_loop i).trips) (arg16 : BitVec 32) (k0_t8 : Fin k0_t8_loop.trips) (v238 : BitVec 32) (v1039 : IVec S8x128 32) (v1042 : IVec S8x128 32) (v1048 : IVec S8x128 32) (v1051 : IVec S8x128 32) (v1057 : IVec S8x128 32) (v1193 : BitVec 32) : Safe defs₀ c R (k0_part76 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v1039 v1042 v1048 v1051 v1057 v1193) := by
  rw [k0_part76_eq_skeleton]; unfold k0_part76_skel
  with_reducible_and_instances repeat' first | refine Safe.bind _ _ ?_ (fun _ => ?_) | exact Safe.pure _ _ _ | exact Safe.load _ _ H.r9 | exact Safe.store _ _ H.w9

theorem safe_part77 (i : grid0.Coords) (k0_t7 : Fin (k0_t7_loop i).trips) (arg16 : BitVec 32) (k0_t8 : Fin k0_t8_loop.trips) (v238 : BitVec 32) (v1060 : IVec S8x128 32) (v1066 : IVec S8x128 32) (v1069 : IVec S8x128 32) (v1075 : IVec S8x128 32) (v1078 : IVec S8x128 32) (v1084 : IVec S8x128 32) : Safe defs₀ c R (k0_part77 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v1060 v1066 v1069 v1075 v1078 v1084) := by
  rw [k0_part77_eq_skeleton]; unfold k0_part77_skel
  with_reducible_and_instances repeat' first | refine Safe.bind _ _ ?_ (fun _ => ?_) | exact Safe.pure _ _ _ | exact Safe.load _ _ H.r9 | exact Safe.store _ _ H.w9

theorem safe_part78 (i : grid0.Coords) (k0_t7 : Fin (k0_t7_loop i).trips) (arg16 : BitVec 32) (k0_t8 : Fin k0_t8_loop.trips) (v238 : BitVec 32) (v1087 : IVec S8x128 32) (v1093 : IVec S8x128 32) (v1096 : IVec S8x128 32) (v1102 : IVec S8x128 32) (v1105 : IVec S8x128 32) (c32_i32_481 : BitVec 32) : Safe defs₀ c R (k0_part78 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v1087 v1093 v1096 v1102 v1105 c32_i32_481) := by
  rw [k0_part78_eq_skeleton]; unfold k0_part78_skel
  with_reducible_and_instances repeat' first | refine Safe.bind _ _ ?_ (fun _ => ?_) | exact Safe.pure _ _ _ | exact Safe.load _ _ H.r9 | exact Safe.store _ _ H.w9

theorem safe_part79 (i : grid0.Coords) (k0_t7 : Fin (k0_t7_loop i).trips) (arg16 : BitVec 32) (k0_t8 : Fin k0_t8_loop.trips) (v238 : BitVec 32) (v1111 : IVec S8x128 32) (v1114 : IVec S8x128 32) (v1120 : IVec S8x128 32) (v1123 : IVec S8x128 32) (v1129 : IVec S8x128 32) (v1132 : IVec S8x128 32) : Safe defs₀ c R (k0_part79 i arg2 harg2 arg3 harg3 arg4 harg4 arg5 harg5 arg6 harg6 arg7 harg7 arg8 harg8 arg9 harg9 arg10 harg10 arg11 harg11 arg12 harg12 arg13 harg13 arg14 harg14 arg15 harg15 k0_t7 arg16 k0_t8 v238 v1111 v1114 v1120 v1123 v1129 v1132) := by
  rw [k0_part79_eq_skeleton]; unfold k0_part79_skel
  with_reducible_and_instances repeat' first | refine Safe.bind _ _ ?_ (fun _ => ?_) | exact Safe.pure _ _ _ | exact Safe.load _ _ H.r9 | exact Safe.store _ _ H.w9

theorem safe_part80 (i : grid0.Coords) (k0_t7 : Fin (k0_t7_loop i).trips) (arg16 : BitVec 32) (c0_i32_115 : BitVec 32) (c1_i32_117 : BitVec 32) (k0_t8 : Fin k0_t8_loop.trips) : Safe defs₀ c R (k0_part80 i arg2 harg2 arg3 harg3 arg4 harg4 arg5 harg5 arg6 harg6 arg7 harg7 arg8 harg8 arg9 harg9 arg10 harg10 arg11 harg11 arg12 harg12 arg13 harg13 arg14 harg14 arg15 harg15 k0_t7 arg16 c0_i32_115 c1_i32_117 k0_t8) := by
  rw [k0_part80_eq_skeleton]; unfold k0_part80_skel
  with_reducible_and_instances repeat' first | refine Safe.bind _ _ ?_ (fun _ => ?_) | exact Safe.pure _ _ _ | exact Safe.load _ _ H.r9 | exact Safe.store _ _ H.w9 | exact safe_part54 H _ _ _ _ _ _ | exact safe_part55 H _ _ _ _ _ _ | exact safe_part56 H _ _ _ _ _ _ | exact safe_part57 H _ _ _ _ _ | exact safe_part58 H _ _ _ _ _ _ _ _ | exact safe_part59 H _ _ _ _ _ _ _ _ _ _ _ _ _ | exact safe_part60 H _ _ _ _ _ _ _ _ _ _ _ _ _ | exact safe_part61 H _ _ _ _ _ _ _ _ _ _ _ _ _ | exact safe_part62 H _ _ _ _ _ _ _ _ _ _ _ _ _ | exact safe_part63 H _ _ _ _ _ _ _ _ _ _ _ _ _ | exact safe_part64 H _ _ _ _ _ _ _ _ _ _ _ _ _ | exact safe_part65 H _ _ _ _ _ _ _ _ _ _ _ _ _ | exact safe_part66 H _ _ _ _ _ _ _ _ _ _ _ _ _ | exact safe_part67 H _ _ _ _ _ _ _ _ _ _ _ _ _ | exact safe_part68 H _ _ _ _ _ _ _ _ _ _ _ _ _ | exact safe_part69 H _ _ _ _ _ _ _ _ _ _ _ _ _ | exact safe_part70 H _ _ _ _ _ _ _ _ _ _ _ _ _ | exact safe_part71 H _ _ _ _ _ _ _ _ _ _ _ _ _ | exact safe_part72 H _ _ _ _ _ _ _ _ _ _ _ _ _ | exact safe_part73 H _ _ _ _ _ _ _ _ _ _ _ _ _ | exact safe_part74 H _ _ _ _ _ _ _ _ _ _ _ _ _ _ _ | exact safe_part75 H _ _ _ _ _ _ _ _ _ _ _ _ | exact safe_part76 H _ _ _ _ _ _ _ _ _ _ _ | exact safe_part77 H _ _ _ _ _ _ _ _ _ _ _ | exact safe_part78 H _ _ _ _ _ _ _ _ _ _ _ | exact safe_part79 H _ _ _ _ _ _ _ _ _ _ _

theorem safe_t8_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (k0_t7 : Fin (k0_t7_loop i).trips) (arg16 : BitVec 32) (k : Fin k0_t8_loop.trips) (a : Unit) : Safe defs₀ c R (k0_t8_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 k0_t7 arg16 k a) := by
  unfold k0_t8_body
  with_reducible_and_instances repeat' first | refine Safe.bind _ _ ?_ (fun _ => ?_) | exact Safe.pure _ _ _ | exact Safe.load _ _ H.r9 | exact Safe.store _ _ H.w9 | exact safe_part80 H _ _ _ _ _ _

end Cert.Kernel.Main

end
-- ==== Proof.Safe3.lean ====
/-
  Hand-written. Each part and loop body of the sparse-attention kernel runs to its end from any contents of its buffers (3 of 4).
-/
module

public import proofs.«01_k».proof.Proof.Walk
public import proofs.«01_k».proof.Proof.Gen.Kernel.Skeleton
public import proofs.«01_k».proof.Proof.Safe2

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : St F → sProp (MT nD τ sig Unit (Elt F) ℕ (UR sig nD τ) ℕ)}
variable {arg2 : Memref sig .tc .vmem S2048x128 .bf16} {harg2 : arg2.IsWhole} {arg3 : Memref sig .tc .vmem S2048x128 .bf16} {harg3 : arg3.IsWhole} {arg4 : Memref sig .tc .vmem S256x128 .f32} {harg4 : arg4.IsWhole} {arg5 : Memref sig .tc .vmem S16384x128 .bf16} {harg5 : arg5.IsWhole} {arg6 : Memref sig .tc .vmem S16384x128 .bf16} {harg6 : arg6.IsWhole} {arg7 : Memref sig .tc .vmem S1024x512 .bf16} {harg7 : arg7.IsWhole} {arg8 : Memref sig .tc .vmem S256x512 .f32} {harg8 : arg8.IsWhole} {arg9 : Memref sig .tc .vmem S128x256x128 .i32} {harg9 : arg9.IsWhole} {arg10 : Memref sig .tc .vmem S4x256x128 .i32} {harg10 : arg10.IsWhole} {arg11 : Memref sig .tc .vmem S4x256x128 .i32} {harg11 : arg11.IsWhole} {arg12 : Memref sig .tc .vmem S4x256x128 .i32} {harg12 : arg12.IsWhole} {arg13 : Memref sig .tc .vmem S2048x128 .f32} {harg13 : arg13.IsWhole} {arg14 : Memref sig .tc .vmem S2048x128 .f32} {harg14 : arg14.IsWhole} {arg15 : Memref sig .tc .vmem S2048x128 .f32} {harg15 : arg15.IsWhole}
variable {X2 : S2048x128.Idx → Elt F .bf16} {X3 : S2048x128.Idx → Elt F .bf16} {X4 : S256x128.Idx → Elt F .f32} {X5 : S16384x128.Idx → Elt F .bf16} {X6 : S16384x128.Idx → Elt F .bf16} {X7 : S1024x512.Idx → Elt F .bf16}
variable (H : Cells c R arg2 arg3 arg4 arg5 arg6 arg7 arg8 arg9 arg10 arg11 arg12 arg13 arg14 arg15 X2 X3 X4 X5 X6 X7)
include H

theorem safe_t7_body (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) (v108 : BitVec 32) (k : Fin (k0_t7_loop i).trips) (a : Unit) : Safe defs₀ c R (k0_t7_body i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76 v108 k a) := by
  unfold k0_t7_body
  with_reducible_and_instances repeat' first | refine Safe.bind _ _ ?_ (fun _ => ?_) | exact Safe.pure _ _ _ | exact Safe.load _ _ H.r10 | exact Safe.load _ _ H.r11 | exact Safe.store _ _ H.w10 | exact Safe.store _ _ H.w11 | exact Safe.loop _ _ fun _ _ => safe_t8_body H _ _ _ _ _ _ _ _ _ _ _ _ _ _

theorem safe_part143 (i : grid0.Coords) (v20 : BitVec 32) (v39 : BitVec 32) (v43 : IVec S256x512 32) (v44 : IVec S256x512 32) (v46 : Vec F S256x128 .f32) (c4_i32_28 : BitVec 32) (v69 : BitVec 32) (v74 : BitVec 32) (v76 : BitVec 32) : Safe defs₀ c R (k0_part143 i arg2 harg2 arg3 harg3 arg4 harg4 arg5 harg5 arg6 harg6 arg7 harg7 arg8 harg8 arg9 harg9 arg10 harg10 arg11 harg11 arg12 harg12 arg13 harg13 arg14 harg14 arg15 harg15 v20 v39 v43 v44 v46 c4_i32_28 v69 v74 v76) := by
  rw [k0_part143_eq_skeleton]; unfold k0_part143_skel
  with_reducible_and_instances repeat' first | refine Safe.bind _ _ ?_ (fun _ => ?_) | exact Safe.pure _ _ _ | exact Safe.load _ _ H.r9 | exact Safe.store _ _ H.w9 | exact safe_part21 H _ _ _ _ | exact safe_part22 H _ _ _ _ _ _ _ _ _ _ _ | exact safe_part23 H _ _ _ _ _ _ _ | exact safe_part24 H _ _ _ _ _ _ _ _ _ | exact safe_part25 H _ _ _ _ | exact safe_part26 H _ _ _ _ _ _ _ _ _ _ _ | exact Safe.loop _ _ fun _ _ => safe_t3_body H _ _ _ _ _ _ _ _ _ _ _ _ | exact Safe.loop _ _ fun _ _ => safe_t4_body H _ _ _ _ _ _ _ _ _ _ _ _ | exact Safe.loop _ _ fun _ _ => safe_t5_body H _ _ _ _ _ _ _ _ _ _ _ _ | exact Safe.loop _ _ fun _ _ => safe_t7_body H _ _ _ _ _ _ _ _ _ _ _ _ _ | refine Safe.dite _ _ (fun _ => ?_) (fun _ => ?_) | refine Safe.ite _ _ ?_ ?_

theorem safe_part88 (i : grid0.Coords)  : Safe defs₀ c R (k0_part88 i arg2 harg2 arg3 harg3 arg4 harg4 arg5 harg5 arg6 harg6 arg7 harg7 arg8 harg8 arg9 harg9 arg10 harg10 arg11 harg11 arg12 harg12 arg13 harg13 arg14 harg14 arg15 harg15 ) := by
  rw [k0_part88_eq_skeleton]; unfold k0_part88_skel
  with_reducible_and_instances repeat' first | refine Safe.bind _ _ ?_ (fun _ => ?_) | exact Safe.pure _ _ _ | exact Safe.load _ _ H.r9

theorem safe_part81 (i : grid0.Coords) (k0_h3 : k0_cond3 i = 1#1) (k0_h4 : k0_cond4 i = 1#1) (k0_h5 : k0_cond5 i = 1#1) (c0_i32_142 : BitVec 32) (c1_i32_144 : BitVec 32) (k0_t9 : Fin k0_t9_loop.trips) (arg17 : FVec F S128x1 .f32) (arg18 : FVec F S128x1 .f32) (arg19 : FVec F S128x1 .f32) (arg20 : FVec F S128x1 .f32) : Safe defs₀ c R (k0_part81 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 c0_i32_142 c1_i32_144 k0_t9 arg17 arg18 arg19 arg20) := by
  rw [k0_part81_eq_skeleton]; unfold k0_part81_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part82 (i : grid0.Coords) (k0_h3 : k0_cond3 i = 1#1) (k0_h4 : k0_cond4 i = 1#1) (k0_h5 : k0_cond5 i = 1#1) (k0_t9 : Fin k0_t9_loop.trips) (arg16 : BitVec 32) (v280 : IVec S128x1 32) (v282 : BitVec 32) (v283 : IVec S128x128 32) (v284 : IVec S128x128 32) (v302 : IVec S128x128 32) (c0_i32_167 : BitVec 32) : Safe defs₀ c R (k0_part82 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t9 arg16 v280 v282 v283 v284 v302 c0_i32_167) := by
  rw [k0_part82_eq_skeleton]; unfold k0_part82_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part83 (i : grid0.Coords) (k0_h3 : k0_cond3 i = 1#1) (k0_h4 : k0_cond4 i = 1#1) (k0_h5 : k0_cond5 i = 1#1) (k0_t9 : Fin k0_t9_loop.trips) (arg16 : BitVec 32) (v277 : IVec S128x1 32) (v282 : BitVec 32) (v312 : IVec S128x128 32) : Safe defs₀ c R (k0_part83 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t9 arg16 v277 v282 v312) := by
  rw [k0_part83_eq_skeleton]; unfold k0_part83_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part84 (i : grid0.Coords) (k0_h3 : k0_cond3 i = 1#1) (k0_h4 : k0_cond4 i = 1#1) (k0_h5 : k0_cond5 i = 1#1) (k0_t9 : Fin k0_t9_loop.trips) (arg16 : BitVec 32) (v277 : IVec S128x1 32) (v280 : IVec S128x1 32) (v282 : BitVec 32) (v340 : IVec S128x128 32) (v370 : IVec S128x128 32) (v374 : IVec S128x128 32) : Safe defs₀ c R (k0_part84 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t9 arg16 v277 v280 v282 v340 v370 v374) := by
  rw [k0_part84_eq_skeleton]; unfold k0_part84_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part85 (i : grid0.Coords) (k0_h3 : k0_cond3 i = 1#1) (k0_h4 : k0_cond4 i = 1#1) (k0_h5 : k0_cond5 i = 1#1) (k0_t9 : Fin k0_t9_loop.trips) (arg16 : BitVec 32) (v277 : IVec S128x1 32) (v280 : IVec S128x1 32) (v282 : BitVec 32) (v368 : IVec S128x128 32) (v398 : IVec S128x128 32) (v402 : IVec S128x128 32) (v411 : IVec S1x128x128 32) : Safe defs₀ c R (k0_part85 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t9 arg16 v277 v280 v282 v368 v398 v402 v411) := by
  rw [k0_part85_eq_skeleton]; unfold k0_part85_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part86 (i : grid0.Coords) (k0_h3 : k0_cond3 i = 1#1) (k0_h4 : k0_cond4 i = 1#1) (k0_h5 : k0_cond5 i = 1#1) (k0_t9 : Fin k0_t9_loop.trips) (arg16 : BitVec 32) (v277 : IVec S128x1 32) (v282 : BitVec 32) (v396 : IVec S128x128 32) (v424 : IVec S128x128 32) (v442 : IVec S128x128 32) (c64_i32_254 : BitVec 32) : Safe defs₀ c R (k0_part86 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t9 arg16 v277 v282 v396 v424 v442 c64_i32_254) := by
  rw [k0_part86_eq_skeleton]; unfold k0_part86_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part87 (i : grid0.Coords) (k0_h3 : k0_cond3 i = 1#1) (k0_h4 : k0_cond4 i = 1#1) (k0_h5 : k0_cond5 i = 1#1) (c0_i32_142 : BitVec 32) (c1_i32_144 : BitVec 32) (k0_t9 : Fin k0_t9_loop.trips) (arg17 : FVec F S128x1 .f32) (arg18 : FVec F S128x1 .f32) (arg19 : FVec F S128x1 .f32) (arg20 : FVec F S128x1 .f32) : Safe defs₀ c R (k0_part87 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 c0_i32_142 c1_i32_144 k0_t9 arg17 arg18 arg19 arg20) := by
  rw [k0_part87_eq_skeleton]; unfold k0_part87_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11 | exact safe_part81 H _ _ _ _ _ _ _ _ _ _ _ | exact safe_part82 H _ _ _ _ _ _ _ _ _ _ _ _ | exact safe_part83 H _ _ _ _ _ _ _ _ _ | exact safe_part84 H _ _ _ _ _ _ _ _ _ _ _ _ | exact safe_part85 H _ _ _ _ _ _ _ _ _ _ _ _ _ | exact safe_part86 H _ _ _ _ _ _ _ _ _ _ _ _

theorem safe_t9_body (i : grid0.Coords) (arg1 : BitVec 32) (v39 : BitVec 32) (v45 : IVec S256x128 32) (c1_i32_51 : BitVec 32) (k0_h3 : k0_cond3 i = 1#1) (k0_h4 : k0_cond4 i = 1#1) (k0_h5 : k0_cond5 i = 1#1) (k : Fin k0_t9_loop.trips) (a : FVec F S128x1 .f32 × FVec F S128x1 .f32 × FVec F S128x1 .f32 × FVec F S128x1 .f32) : Safe defs₀ c R (k0_t9_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_h3 k0_h4 k0_h5 k a) := by
  unfold k0_t9_body
  with_reducible_and_instances repeat' first | refine Safe.bind _ _ ?_ (fun _ => ?_) | exact Safe.pure _ _ _ | exact safe_part87 H _ _ _ _ _ _ _ _ _ _ _

theorem safe_part89 (i : grid0.Coords) (k0_h3 : k0_cond3 i = 1#1) (k0_h4 : k0_cond4 i = 1#1) (k0_h5 : ¬(k0_cond5 i = 1#1)) (c0_i32_137 : BitVec 32) (c1_i32_139 : BitVec 32) (k0_t10 : Fin k0_t10_loop.trips) (arg17 : FVec F S128x1 .f32) (arg18 : FVec F S128x1 .f32) (arg19 : FVec F S128x1 .f32) (arg20 : FVec F S128x1 .f32) : Safe defs₀ c R (k0_part89 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 c0_i32_137 c1_i32_139 k0_t10 arg17 arg18 arg19 arg20) := by
  rw [k0_part89_eq_skeleton]; unfold k0_part89_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part90 (i : grid0.Coords) (k0_h3 : k0_cond3 i = 1#1) (k0_h4 : k0_cond4 i = 1#1) (k0_h5 : ¬(k0_cond5 i = 1#1)) (k0_t10 : Fin k0_t10_loop.trips) (arg16 : BitVec 32) (v272 : IVec S128x1 32) (v274 : BitVec 32) (v275 : IVec S128x128 32) (v276 : IVec S128x128 32) (v294 : IVec S128x128 32) (c0_i32_162 : BitVec 32) : Safe defs₀ c R (k0_part90 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t10 arg16 v272 v274 v275 v276 v294 c0_i32_162) := by
  rw [k0_part90_eq_skeleton]; unfold k0_part90_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part91 (i : grid0.Coords) (k0_h3 : k0_cond3 i = 1#1) (k0_h4 : k0_cond4 i = 1#1) (k0_h5 : ¬(k0_cond5 i = 1#1)) (k0_t10 : Fin k0_t10_loop.trips) (arg16 : BitVec 32) (v269 : IVec S128x1 32) (v274 : BitVec 32) (v304 : IVec S128x128 32) : Safe defs₀ c R (k0_part91 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t10 arg16 v269 v274 v304) := by
  rw [k0_part91_eq_skeleton]; unfold k0_part91_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part92 (i : grid0.Coords) (k0_h3 : k0_cond3 i = 1#1) (k0_h4 : k0_cond4 i = 1#1) (k0_h5 : ¬(k0_cond5 i = 1#1)) (k0_t10 : Fin k0_t10_loop.trips) (arg16 : BitVec 32) (v269 : IVec S128x1 32) (v272 : IVec S128x1 32) (v274 : BitVec 32) (v332 : IVec S128x128 32) (v362 : IVec S128x128 32) (v366 : IVec S128x128 32) : Safe defs₀ c R (k0_part92 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t10 arg16 v269 v272 v274 v332 v362 v366) := by
  rw [k0_part92_eq_skeleton]; unfold k0_part92_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part93 (i : grid0.Coords) (k0_h3 : k0_cond3 i = 1#1) (k0_h4 : k0_cond4 i = 1#1) (k0_h5 : ¬(k0_cond5 i = 1#1)) (k0_t10 : Fin k0_t10_loop.trips) (arg16 : BitVec 32) (v269 : IVec S128x1 32) (v272 : IVec S128x1 32) (v274 : BitVec 32) (v360 : IVec S128x128 32) (v390 : IVec S128x128 32) (v394 : IVec S128x128 32) (v403 : IVec S1x128x128 32) : Safe defs₀ c R (k0_part93 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_h5 k0_t10 arg16 v269 v272 v274 v360 v390 v394 v403) := by
  rw [k0_part93_eq_skeleton]; unfold k0_part93_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_t10_body (i : grid0.Coords) (arg1 : BitVec 32) (v39 : BitVec 32) (v45 : IVec S256x128 32) (c1_i32_51 : BitVec 32) (k0_h3 : k0_cond3 i = 1#1) (k0_h4 : k0_cond4 i = 1#1) (k0_h5 : ¬k0_cond5 i = 1#1) (k : Fin k0_t10_loop.trips) (a : FVec F S128x1 .f32 × FVec F S128x1 .f32 × FVec F S128x1 .f32 × FVec F S128x1 .f32) : Safe defs₀ c R (k0_t10_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_h3 k0_h4 k0_h5 k a) := by
  unfold k0_t10_body
  with_reducible_and_instances repeat' first | refine Safe.bind _ _ ?_ (fun _ => ?_) | exact Safe.pure _ _ _ | exact Safe.load _ _ H.r9 | exact safe_part89 H _ _ _ _ _ _ _ _ _ _ _ | exact safe_part90 H _ _ _ _ _ _ _ _ _ _ _ _ | exact safe_part91 H _ _ _ _ _ _ _ _ _ | exact safe_part92 H _ _ _ _ _ _ _ _ _ _ _ _ | exact safe_part93 H _ _ _ _ _ _ _ _ _ _ _ _ _

theorem safe_part94 (i : grid0.Coords) (k0_h3 : k0_cond3 i = 1#1) (k0_h4 : ¬(k0_cond4 i = 1#1)) (c0_i32_130 : BitVec 32) (c1_i32_132 : BitVec 32) (k0_t11 : Fin k0_t11_loop.trips) (arg17 : FVec F S128x1 .f32) (arg18 : FVec F S128x1 .f32) (arg19 : FVec F S128x1 .f32) (arg20 : FVec F S128x1 .f32) : Safe defs₀ c R (k0_part94 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 c0_i32_130 c1_i32_132 k0_t11 arg17 arg18 arg19 arg20) := by
  rw [k0_part94_eq_skeleton]; unfold k0_part94_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part95 (i : grid0.Coords) (k0_h3 : k0_cond3 i = 1#1) (k0_h4 : ¬(k0_cond4 i = 1#1)) (k0_t11 : Fin k0_t11_loop.trips) (arg16 : BitVec 32) (v261 : IVec S128x1 32) (v263 : BitVec 32) (v264 : IVec S128x128 32) (v265 : IVec S128x128 32) (v283 : IVec S128x128 32) (c0_i32_155 : BitVec 32) : Safe defs₀ c R (k0_part95 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_t11 arg16 v261 v263 v264 v265 v283 c0_i32_155) := by
  rw [k0_part95_eq_skeleton]; unfold k0_part95_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part96 (i : grid0.Coords) (k0_h3 : k0_cond3 i = 1#1) (k0_h4 : ¬(k0_cond4 i = 1#1)) (k0_t11 : Fin k0_t11_loop.trips) (arg16 : BitVec 32) (v258 : IVec S128x1 32) (v263 : BitVec 32) (v293 : IVec S128x128 32) : Safe defs₀ c R (k0_part96 i arg2 harg2 arg3 harg3 arg4 harg4 arg5 harg5 arg6 harg6 arg7 harg7 arg8 harg8 arg9 harg9 arg10 harg10 arg11 harg11 arg12 harg12 arg13 harg13 arg14 harg14 arg15 harg15 k0_h3 k0_h4 k0_t11 arg16 v258 v263 v293) := by
  rw [k0_part96_eq_skeleton]; unfold k0_part96_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_t11_body (i : grid0.Coords) (arg1 : BitVec 32) (v39 : BitVec 32) (v45 : IVec S256x128 32) (c1_i32_51 : BitVec 32) (k0_h3 : k0_cond3 i = 1#1) (k0_h4 : ¬k0_cond4 i = 1#1) (k : Fin k0_t11_loop.trips) (a : FVec F S128x1 .f32 × FVec F S128x1 .f32 × FVec F S128x1 .f32 × FVec F S128x1 .f32) : Safe defs₀ c R (k0_t11_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_h3 k0_h4 k a) := by
  unfold k0_t11_body
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11 | exact safe_part94 H _ _ _ _ _ _ _ _ _ _ | exact safe_part95 H _ _ _ _ _ _ _ _ _ _ _ | exact safe_part96 H _ _ _ _ _ _ _ _

theorem safe_part97 (i : grid0.Coords) (k0_h3 : ¬(k0_cond3 i = 1#1)) (c0_i32_123 : BitVec 32) (c1_i32_125 : BitVec 32) (k0_t12 : Fin k0_t12_loop.trips) (arg17 : FVec F S128x1 .f32) (arg18 : FVec F S128x1 .f32) (arg19 : FVec F S128x1 .f32) (arg20 : FVec F S128x1 .f32) : Safe defs₀ c R (k0_part97 i arg2 harg2 arg3 harg3 arg4 harg4 arg5 harg5 arg6 harg6 arg7 harg7 arg8 harg8 arg9 harg9 arg10 harg10 arg11 harg11 arg12 harg12 arg13 harg13 arg14 harg14 arg15 harg15 k0_h3 c0_i32_123 c1_i32_125 k0_t12 arg17 arg18 arg19 arg20) := by
  rw [k0_part97_eq_skeleton]; unfold k0_part97_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_part98 (i : grid0.Coords) (k0_h3 : ¬(k0_cond3 i = 1#1)) (k0_t12 : Fin k0_t12_loop.trips) (arg16 : BitVec 32) (v250 : IVec S128x1 32) (v252 : BitVec 32) (v253 : IVec S128x128 32) (v254 : IVec S128x128 32) (v272 : IVec S128x128 32) (c0_i32_148 : BitVec 32) : Safe defs₀ c R (k0_part98 i arg2 harg2 arg3 harg3 arg4 harg4 arg5 harg5 arg6 harg6 arg7 harg7 arg8 harg8 arg9 harg9 arg10 harg10 arg11 harg11 arg12 harg12 arg13 harg13 arg14 harg14 arg15 harg15 k0_h3 k0_t12 arg16 v250 v252 v253 v254 v272 c0_i32_148) := by
  rw [k0_part98_eq_skeleton]; unfold k0_part98_skel
  with_reducible_and_instances repeat' first | refine Safe.bind _ _ ?_ (fun _ => ?_) | exact Safe.pure _ _ _ | exact Safe.load _ _ H.r9 | exact Safe.load _ _ H.r10 | exact Safe.load _ _ H.r11 | exact Safe.store _ _ H.w10 | exact Safe.store _ _ H.w11

theorem safe_t12_body (i : grid0.Coords) (arg1 : BitVec 32) (v39 : BitVec 32) (v45 : IVec S256x128 32) (c1_i32_51 : BitVec 32) (k0_h3 : ¬k0_cond3 i = 1#1) (k : Fin k0_t12_loop.trips) (a : FVec F S128x1 .f32 × FVec F S128x1 .f32 × FVec F S128x1 .f32 × FVec F S128x1 .f32) : Safe defs₀ c R (k0_t12_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_h3 k a) := by
  unfold k0_t12_body
  with_reducible_and_instances repeat' first | refine Safe.bind _ _ ?_ (fun _ => ?_) | exact Safe.pure _ _ _ | exact safe_part97 H _ _ _ _ _ _ _ _ _ | exact safe_part98 H _ _ _ _ _ _ _ _ _ _

theorem safe_t13_body (i : grid0.Coords) (arg1 : BitVec 32) (v39 : BitVec 32) (v45 : IVec S256x128 32) (c1_i32_51 : BitVec 32) (k : Fin (k0_t13_loop i).trips) (a : IVec S256x128 32) : Safe defs₀ c R (k0_t13_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k a) := by
  unfold k0_t13_body
  with_reducible_and_instances repeat' first | refine Safe.bind _ _ ?_ (fun _ => ?_) | exact Safe.pure _ _ _ | exact Safe.load _ _ H.r10

theorem safe_t14_body (i : grid0.Coords) (arg1 : BitVec 32) (v39 : BitVec 32) (v45 : IVec S256x128 32) (c1_i32_51 : BitVec 32) (k : Fin (k0_t14_loop i).trips) (a : IVec S256x128 32) : Safe defs₀ c R (k0_t14_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k a) := by
  unfold k0_t14_body
  with_reducible_and_instances repeat' first | refine Safe.bind _ _ ?_ (fun _ => ?_) | exact Safe.pure _ _ _ | exact Safe.load _ _ H.r10

theorem safe_t16_body (i : grid0.Coords) (arg1 : BitVec 32) (v39 : BitVec 32) (v45 : IVec S256x128 32) (c1_i32_51 : BitVec 32) (k0_t15 : Fin k0_t15_loop.trips) (arg17 : IVec S256x1 32) (k : Fin (k0_t16_loop i).trips) (a : IVec S256x128 32) : Safe defs₀ c R (k0_t16_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_t15 arg17 k a) := by
  unfold k0_t16_body
  with_reducible_and_instances repeat' first | refine Safe.bind _ _ ?_ (fun _ => ?_) | exact Safe.pure _ _ _ | exact Safe.load _ _ H.r10

theorem safe_t17_body (i : grid0.Coords) (arg1 : BitVec 32) (v39 : BitVec 32) (v45 : IVec S256x128 32) (c1_i32_51 : BitVec 32) (k0_t15 : Fin k0_t15_loop.trips) (arg17 : IVec S256x1 32) (k : Fin (k0_t17_loop i).trips) (a : IVec S256x128 32) : Safe defs₀ c R (k0_t17_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 k0_t15 arg17 k a) := by
  unfold k0_t17_body
  with_reducible_and_instances repeat' first | refine Safe.bind _ _ ?_ (fun _ => ?_) | exact Safe.pure _ _ _ | exact Safe.load _ _ H.r10

theorem safe_t15_body (i : grid0.Coords) (arg1 : BitVec 32) (v39 : BitVec 32) (v45 : IVec S256x128 32) (c1_i32_51 : BitVec 32) (v113 : FVec F S256x1 .f32) (k : Fin k0_t15_loop.trips) (a : IVec S256x1 32) : Safe defs₀ c R (k0_t15_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 v113 k a) := by
  unfold k0_t15_body
  with_reducible_and_instances repeat' first | refine Safe.bind _ _ ?_ (fun _ => ?_) | exact Safe.pure _ _ _ | exact Safe.loop _ _ fun _ _ => safe_t16_body H _ _ _ _ _ _ _ _ _ | exact Safe.loop _ _ fun _ _ => safe_t17_body H _ _ _ _ _ _ _ _ _

theorem safe_part99 (i : grid0.Coords) (v45 : IVec S256x128 32) (v128 : IVec S256x1 32) (v142 : IVec S256x1 32) (c0_i32_66 : BitVec 32) (c1_i32_68 : BitVec 32) (k0_t18 : Fin (k0_t18_loop i).trips) : Safe defs₀ c R (k0_part99 i arg2 harg2 arg3 harg3 arg4 harg4 arg5 harg5 arg6 harg6 arg7 harg7 arg8 harg8 arg9 harg9 arg10 harg10 arg11 harg11 arg12 harg12 arg13 harg13 arg14 harg14 arg15 harg15 v45 v128 v142 c0_i32_66 c1_i32_68 k0_t18) := by
  rw [k0_part99_eq_skeleton]; unfold k0_part99_skel
  with_reducible_and_instances repeat' first | refine Safe.bind _ _ ?_ (fun _ => ?_) | exact Safe.pure _ _ _ | exact Safe.load _ _ H.r10 | exact Safe.load _ _ H.r11

theorem safe_t18_body (i : grid0.Coords) (arg1 : BitVec 32) (v39 : BitVec 32) (v45 : IVec S256x128 32) (c1_i32_51 : BitVec 32) (v142 : IVec S256x1 32) (k : Fin (k0_t18_loop i).trips) (a : Unit) : Safe defs₀ c R (k0_t18_body i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51 v142 k a) := by
  unfold k0_t18_body
  with_reducible_and_instances repeat' first | refine Safe.bind _ _ ?_ (fun _ => ?_) | exact Safe.pure _ _ _ | exact Safe.load _ _ H.r12 | exact Safe.store _ _ H.w12 | exact safe_part99 H _ _ _ _ _ _ _

theorem safe_part144 (i : grid0.Coords) (arg1 : BitVec 32) (v39 : BitVec 32) (v45 : IVec S256x128 32) (c1_i32_51 : BitVec 32) : Safe defs₀ c R (k0_part144 i arg2 harg2 arg3 harg3 arg4 harg4 arg5 harg5 arg6 harg6 arg7 harg7 arg8 harg8 arg9 harg9 arg10 harg10 arg11 harg11 arg12 harg12 arg13 harg13 arg14 harg14 arg15 harg15 arg1 v39 v45 c1_i32_51) := by
  rw [k0_part144_eq_skeleton]; unfold k0_part144_skel
  with_reducible_and_instances repeat' first | refine Safe.bind _ _ ?_ (fun _ => ?_) | exact Safe.pure _ _ _ | exact Safe.load _ _ H.r9 | exact safe_part88 H _ | exact Safe.loop _ _ fun _ _ => safe_t9_body H _ _ _ _ _ _ _ _ _ _ | exact Safe.loop _ _ fun _ _ => safe_t10_body H _ _ _ _ _ _ _ _ _ _ | exact Safe.loop _ _ fun _ _ => safe_t11_body H _ _ _ _ _ _ _ _ _ | exact Safe.loop _ _ fun _ _ => safe_t12_body H _ _ _ _ _ _ _ _ | exact Safe.loop _ _ fun _ _ => safe_t13_body H _ _ _ _ _ _ _ | exact Safe.loop _ _ fun _ _ => safe_t14_body H _ _ _ _ _ _ _ | exact Safe.loop _ _ fun _ _ => safe_t15_body H _ _ _ _ _ _ _ _ | exact Safe.loop _ _ fun _ _ => safe_t18_body H _ _ _ _ _ _ _ _ | refine Safe.dite _ _ (fun _ => ?_) (fun _ => ?_) | refine Safe.ite _ _ ?_ ?_

theorem safe_part100 (i : grid0.Coords) (v45 : IVec S256x128 32) (v128 : IVec S256x1 32) (v142 : IVec S256x1 32) (v147 : BitVec 32) (c1_i32_69 : BitVec 32) (k0_t19 : Fin (k0_t19_loop i).trips) : Safe defs₀ c R (k0_part100 i arg2 harg2 arg3 harg3 arg4 harg4 arg5 harg5 arg6 harg6 arg7 harg7 arg8 harg8 arg9 harg9 arg10 harg10 arg11 harg11 arg12 harg12 arg13 harg13 arg14 harg14 arg15 harg15 v45 v128 v142 v147 c1_i32_69 k0_t19) := by
  rw [k0_part100_eq_skeleton]; unfold k0_part100_skel
  with_reducible_and_instances repeat' first | refine Safe.bind _ _ ?_ (fun _ => ?_) | exact Safe.pure _ _ _ | exact Safe.load _ _ H.r10 | exact Safe.load _ _ H.r11

theorem safe_t19_body (i : grid0.Coords) (v20 : BitVec 32) (v45 : IVec S256x128 32) (v128 : IVec S256x1 32) (v130 : IVec S256x1 1) (v142 : IVec S256x1 32) (v147 : BitVec 32) (k : Fin (k0_t19_loop i).trips) (a : Unit) : Safe defs₀ c R (k0_t19_body i arg2 harg2 arg3 harg3 arg4 harg4 arg5 harg5 arg6 harg6 arg7 harg7 arg8 harg8 arg9 harg9 arg10 harg10 arg11 harg11 arg12 harg12 arg13 harg13 arg14 harg14 arg15 harg15 v20 v45 v128 v130 v142 v147 k a) := by
  unfold k0_t19_body
  with_reducible_and_instances repeat' first | refine Safe.bind _ _ ?_ (fun _ => ?_) | exact Safe.pure _ _ _ | exact Safe.load _ _ H.r12 | exact Safe.store _ _ H.w12 | exact safe_part100 H _ _ _ _ _ _ _

theorem safe_part101 (i : grid0.Coords) (c0_i32_87 : BitVec 32) (c1_i32_89 : BitVec 32) (k0_t20 : Fin (k0_t20_loop i).trips) : Safe defs₀ c R (k0_part101 i arg2 harg2 arg3 harg3 arg4 harg4 arg5 harg5 arg6 harg6 arg7 harg7 arg8 harg8 arg9 harg9 arg10 harg10 arg11 harg11 arg12 harg12 arg13 harg13 arg14 harg14 arg15 harg15 c0_i32_87 c1_i32_89 k0_t20) := by
  rw [k0_part101_eq_skeleton]; unfold k0_part101_skel
  with_reducible_and_instances repeat' first | refine Safe.bind _ _ ?_ (fun _ => ?_) | exact Safe.pure _ _ _ | exact Safe.load _ _ H.r12

theorem safe_part102 (i : grid0.Coords) (k0_t20 : Fin (k0_t20_loop i).trips) (v229 : BitVec 32) (v249 : IVec S256x128 32) (v260 : BitVec 32) (v263 : IVec S256x128 32) (c0_i32_134 : BitVec 32) : Safe defs₀ c R (k0_part102 i arg2 harg2 arg3 harg3 arg4 harg4 arg5 harg5 arg6 harg6 arg7 harg7 arg8 harg8 arg9 harg9 arg10 harg10 arg11 harg11 arg12 harg12 arg13 harg13 arg14 harg14 arg15 harg15 k0_t20 v229 v249 v260 v263 c0_i32_134) := by
  rw [k0_part102_eq_skeleton]; unfold k0_part102_skel
  with_reducible_and_instances repeat' first | refine Safe.bind _ _ ?_ (fun _ => ?_) | exact Safe.pure _ _ _ | exact Safe.load _ _ H.r2 | exact Safe.load _ _ H.r6

theorem safe_part103 (i : grid0.Coords) (v293 : FVec F S256x512 .f32) (v295 : Vec F S512x128 .bf16) (v299 : FVec F S1024x512 .f32) (v300 : FVec F S4x256x512 .f32) (v302 : FVec F S4x256x512 .f32) : Safe defs₀ c R (k0_part103 i arg2 harg2 arg3 harg3 arg4 harg4 arg5 harg5 arg6 harg6 arg7 harg7 arg8 harg8 arg9 harg9 arg10 harg10 arg11 harg11 arg12 harg12 arg13 harg13 arg14 harg14 arg15 harg15 v293 v295 v299 v300 v302) := by
  rw [k0_part103_eq_skeleton]; unfold k0_part103_skel
  with_reducible_and_instances repeat' first | refine Safe.bind _ _ ?_ (fun _ => ?_) | exact Safe.pure _ _ _ | exact Safe.load _ _ H.r13 | exact Safe.load _ _ H.r14 | exact Safe.store _ _ H.w13 | exact Safe.store _ _ H.w14

theorem safe_part104 (i : grid0.Coords) (arg16 : BitVec 32) (v319 : FVec F S1024x128 .f32) (v321 : FVec F S1024x128 .f32) (v323 : FVec F S1024x128 .f32) (v329 : FVec F S1024x512 .f32) (v331 : FVec F S1024x128 .f32) (v333 : FVec F S1024x128 .f32) : Safe defs₀ c R (k0_part104 i arg2 harg2 arg3 harg3 arg4 harg4 arg5 harg5 arg6 harg6 arg7 harg7 arg8 harg8 arg9 harg9 arg10 harg10 arg11 harg11 arg12 harg12 arg13 harg13 arg14 harg14 arg15 harg15 arg16 v319 v321 v323 v329 v331 v333) := by
  rw [k0_part104_eq_skeleton]; unfold k0_part104_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part105 (i : grid0.Coords) (k0_t20 : Fin (k0_t20_loop i).trips) (v371 : BitVec 32) (c8_i32_188 : BitVec 32) (v374 : BitVec 32) (v379 : BitVec 32) (c0_i32_191 : BitVec 32) : Safe defs₀ c R (k0_part105 i arg2 harg2 arg3 harg3 arg4 harg4 arg5 harg5 arg6 harg6 arg7 harg7 arg8 harg8 arg9 harg9 arg10 harg10 arg11 harg11 arg12 harg12 arg13 harg13 arg14 harg14 arg15 harg15 k0_t20 v371 c8_i32_188 v374 v379 c0_i32_191) := by
  rw [k0_part105_eq_skeleton]; unfold k0_part105_skel
  with_reducible_and_instances repeat' first | refine Safe.bind _ _ ?_ (fun _ => ?_) | exact Safe.pure _ _ _ | exact Safe.load _ _ H.r12

theorem safe_part106 (i : grid0.Coords) (k0_t20 : Fin (k0_t20_loop i).trips) (v373 : BitVec 32) (v393 : IVec S256x128 32) (v404 : BitVec 32) (v412 : FVec F S256x128 .f32) (v417 : IVec S256x128 1) (v418 : FVec F S256x128 .f32) (v419 : FVec F S256x128 .f32) : Safe defs₀ c R (k0_part106 i arg2 harg2 arg3 harg3 arg4 harg4 arg5 harg5 arg6 harg6 arg7 harg7 arg8 harg8 arg9 harg9 arg10 harg10 arg11 harg11 arg12 harg12 arg13 harg13 arg14 harg14 arg15 harg15 k0_t20 v373 v393 v404 v412 v417 v418 v419) := by
  rw [k0_part106_eq_skeleton]; unfold k0_part106_skel
  with_reducible_and_instances repeat' first | refine Safe.bind _ _ ?_ (fun _ => ?_) | exact Safe.pure _ _ _ | exact Safe.load _ _ H.r2 | exact Safe.load _ _ H.r6 | exact Safe.load _ _ H.r13

theorem safe_part107 (i : grid0.Coords) (v439 : Vec F S512x128 .bf16) (v448 : FVec F S1024x512 .f32) (v453 : FVec F S1024x512 .f32) (v454 : Vec F S1024x128 .f32) (v455 : Vec F S1024x128 .f32) (v459 : FVec F S1024x128 .f32) : Safe defs₀ c R (k0_part107 i arg2 harg2 arg3 harg3 arg4 harg4 arg5 harg5 arg6 harg6 arg7 harg7 arg8 harg8 arg9 harg9 arg10 harg10 arg11 harg11 arg12 harg12 arg13 harg13 arg14 harg14 arg15 harg15 v439 v448 v453 v454 v455 v459) := by
  rw [k0_part107_eq_skeleton]; unfold k0_part107_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

end Cert.Kernel.Main

end
-- ==== Proof.Safe4.lean ====
/-
  Hand-written. Each part and loop body of the sparse-attention kernel runs to its end from any contents of its buffers (4 of 4).
-/
module

public import proofs.«01_k».proof.Proof.Walk
public import proofs.«01_k».proof.Proof.Gen.Kernel.Skeleton
public import proofs.«01_k».proof.Proof.Safe3

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : St F → sProp (MT nD τ sig Unit (Elt F) ℕ (UR sig nD τ) ℕ)}
variable {arg2 : Memref sig .tc .vmem S2048x128 .bf16} {harg2 : arg2.IsWhole} {arg3 : Memref sig .tc .vmem S2048x128 .bf16} {harg3 : arg3.IsWhole} {arg4 : Memref sig .tc .vmem S256x128 .f32} {harg4 : arg4.IsWhole} {arg5 : Memref sig .tc .vmem S16384x128 .bf16} {harg5 : arg5.IsWhole} {arg6 : Memref sig .tc .vmem S16384x128 .bf16} {harg6 : arg6.IsWhole} {arg7 : Memref sig .tc .vmem S1024x512 .bf16} {harg7 : arg7.IsWhole} {arg8 : Memref sig .tc .vmem S256x512 .f32} {harg8 : arg8.IsWhole} {arg9 : Memref sig .tc .vmem S128x256x128 .i32} {harg9 : arg9.IsWhole} {arg10 : Memref sig .tc .vmem S4x256x128 .i32} {harg10 : arg10.IsWhole} {arg11 : Memref sig .tc .vmem S4x256x128 .i32} {harg11 : arg11.IsWhole} {arg12 : Memref sig .tc .vmem S4x256x128 .i32} {harg12 : arg12.IsWhole} {arg13 : Memref sig .tc .vmem S2048x128 .f32} {harg13 : arg13.IsWhole} {arg14 : Memref sig .tc .vmem S2048x128 .f32} {harg14 : arg14.IsWhole} {arg15 : Memref sig .tc .vmem S2048x128 .f32} {harg15 : arg15.IsWhole}
variable {X2 : S2048x128.Idx → Elt F .bf16} {X3 : S2048x128.Idx → Elt F .bf16} {X4 : S256x128.Idx → Elt F .f32} {X5 : S16384x128.Idx → Elt F .bf16} {X6 : S16384x128.Idx → Elt F .bf16} {X7 : S1024x512.Idx → Elt F .bf16}
variable (H : Cells c R arg2 arg3 arg4 arg5 arg6 arg7 arg8 arg9 arg10 arg11 arg12 arg13 arg14 arg15 X2 X3 X4 X5 X6 X7)
include H

theorem safe_part108 (i : grid0.Coords) (k0_t20 : Fin (k0_t20_loop i).trips) (arg16 : BitVec 32) (v463 : FVec F S1024x128 .f32) (v467 : FVec F S1024x128 .f32) (v477 : FVec F S1024x128 .f32) (v497 : FVec F S1024x128 .f32) (v499 : FVec F S1024x1 .f32) : Safe defs₀ c R (k0_part108 i arg2 harg2 arg3 harg3 arg4 harg4 arg5 harg5 arg6 harg6 arg7 harg7 arg8 harg8 arg9 harg9 arg10 harg10 arg11 harg11 arg12 harg12 arg13 harg13 arg14 harg14 arg15 harg15 k0_t20 arg16 v463 v467 v477 v497 v499) := by
  rw [k0_part108_eq_skeleton]; unfold k0_part108_skel
  with_reducible_and_instances repeat' first | refine Safe.bind _ _ ?_ (fun _ => ?_) | exact Safe.pure _ _ _ | exact Safe.load _ _ H.r12 | exact Safe.load _ _ H.r13 | exact Safe.load _ _ H.r14 | exact Safe.load _ _ H.r15 | exact Safe.store _ _ H.w13 | exact Safe.store _ _ H.w14 | exact Safe.store _ _ H.w15

theorem safe_part109 (i : grid0.Coords) (v515 : BitVec 32) (v536 : Vec F S1x256x128 .i32) : Safe defs₀ c R (k0_part109 i arg2 harg2 arg3 harg3 arg4 harg4 arg5 harg5 arg6 harg6 arg7 harg7 arg8 harg8 arg9 harg9 arg10 harg10 arg11 harg11 arg12 harg12 arg13 harg13 arg14 harg14 arg15 harg15 v515 v536) := by
  rw [k0_part109_eq_skeleton]; unfold k0_part109_skel
  with_reducible_and_instances repeat' first | refine Safe.bind _ _ ?_ (fun _ => ?_) | exact Safe.pure _ _ _

theorem safe_part110 (i : grid0.Coords) (k0_t20 : Fin (k0_t20_loop i).trips) (v517 : BitVec 32) (v556 : FVec F S256x128 .f32) (v564 : FVec F S256x128 .f32) (v572 : FVec F S256x128 .f32) (v575 : IVec S256x128 32) (c0_i32_289 : BitVec 32) : Safe defs₀ c R (k0_part110 i arg2 harg2 arg3 harg3 arg4 harg4 arg5 harg5 arg6 harg6 arg7 harg7 arg8 harg8 arg9 harg9 arg10 harg10 arg11 harg11 arg12 harg12 arg13 harg13 arg14 harg14 arg15 harg15 k0_t20 v517 v556 v564 v572 v575 c0_i32_289) := by
  rw [k0_part110_eq_skeleton]; unfold k0_part110_skel
  with_reducible_and_instances repeat' first | refine Safe.bind _ _ ?_ (fun _ => ?_) | exact Safe.pure _ _ _ | exact Safe.load _ _ H.r2 | exact Safe.load _ _ H.r6 | exact Safe.load _ _ H.r13

theorem safe_part111 (i : grid0.Coords) (v583 : Vec F S512x128 .bf16) (v603 : FVec F S1024x128 .f32) (v607 : FVec F S1024x128 .f32) (v609 : FVec F S1024x128 .f32) (v611 : FVec F S1024x128 .f32) (v614 : FVec F S1024x512 .f32) (v617 : FVec F S1024x512 .f32) (v619 : FVec F S1024x128 .f32) : Safe defs₀ c R (k0_part111 i arg2 harg2 arg3 harg3 arg4 harg4 arg5 harg5 arg6 harg6 arg7 harg7 arg8 harg8 arg9 harg9 arg10 harg10 arg11 harg11 arg12 harg12 arg13 harg13 arg14 harg14 arg15 harg15 v583 v603 v607 v609 v611 v614 v617 v619) := by
  rw [k0_part111_eq_skeleton]; unfold k0_part111_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part112 (i : grid0.Coords) (k0_t20 : Fin (k0_t20_loop i).trips) (arg16 : BitVec 32) (v621 : FVec F S1024x128 .f32) (v653 : FVec F S1024x128 .f32) : Safe defs₀ c R (k0_part112 i arg2 harg2 arg3 harg3 arg4 harg4 arg5 harg5 arg6 harg6 arg7 harg7 arg8 harg8 arg9 harg9 arg10 harg10 arg11 harg11 arg12 harg12 arg13 harg13 arg14 harg14 arg15 harg15 k0_t20 arg16 v621 v653) := by
  rw [k0_part112_eq_skeleton]; unfold k0_part112_skel
  with_reducible_and_instances repeat' first | refine Safe.bind _ _ ?_ (fun _ => ?_) | exact Safe.pure _ _ _ | exact Safe.load _ _ H.r12 | exact Safe.load _ _ H.r15 | exact Safe.store _ _ H.w15

theorem safe_part113 (i : grid0.Coords) (k0_t20 : Fin (k0_t20_loop i).trips) (v661 : BitVec 32) (v681 : IVec S256x128 32) (v691 : BitVec 32) (c4_i32_347 : BitVec 32) : Safe defs₀ c R (k0_part113 i arg2 harg2 arg3 harg3 arg4 harg4 arg5 harg5 arg6 harg6 arg7 harg7 arg8 harg8 arg9 harg9 arg10 harg10 arg11 harg11 arg12 harg12 arg13 harg13 arg14 harg14 arg15 harg15 k0_t20 v661 v681 v691 c4_i32_347) := by
  rw [k0_part113_eq_skeleton]; unfold k0_part113_skel
  with_reducible_and_instances repeat' first | refine Safe.bind _ _ ?_ (fun _ => ?_) | exact Safe.pure _ _ _ | exact Safe.load _ _ H.r2 | exact Safe.load _ _ H.r6

theorem safe_part114 (i : grid0.Coords) (v725 : FVec F S256x512 .f32) (v727 : Vec F S512x128 .bf16) (v729 : FVec F S1024x512 .f32) : Safe defs₀ c R (k0_part114 i arg2 harg2 arg3 harg3 arg4 harg4 arg5 harg5 arg6 harg6 arg7 harg7 arg8 harg8 arg9 harg9 arg10 harg10 arg11 harg11 arg12 harg12 arg13 harg13 arg14 harg14 arg15 harg15 v725 v727 v729) := by
  rw [k0_part114_eq_skeleton]; unfold k0_part114_skel
  with_reducible_and_instances repeat' first | refine Safe.bind _ _ ?_ (fun _ => ?_) | exact Safe.pure _ _ _ | exact Safe.load _ _ H.r2 | exact Safe.load _ _ H.r13 | exact Safe.load _ _ H.r14 | exact Safe.store _ _ H.w14

theorem safe_part115 (i : grid0.Coords) (c0_i32_87 : BitVec 32) (c1_i32_89 : BitVec 32) (k0_t20 : Fin (k0_t20_loop i).trips) : Safe defs₀ c R (k0_part115 i arg2 harg2 arg3 harg3 arg4 harg4 arg5 harg5 arg6 harg6 arg7 harg7 arg8 harg8 arg9 harg9 arg10 harg10 arg11 harg11 arg12 harg12 arg13 harg13 arg14 harg14 arg15 harg15 c0_i32_87 c1_i32_89 k0_t20) := by
  rw [k0_part115_eq_skeleton]; unfold k0_part115_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15 | exact safe_part101 H _ _ _ _ | exact safe_part102 H _ _ _ _ _ _ _ | exact safe_part103 H _ _ _ _ _ _ | exact safe_part104 H _ _ _ _ _ _ _ _ | exact safe_part105 H _ _ _ _ _ _ _ | exact safe_part106 H _ _ _ _ _ _ _ _ _ | exact safe_part107 H _ _ _ _ _ _ _ | exact safe_part108 H _ _ _ _ _ _ _ _ | exact safe_part109 H _ _ _ | exact safe_part110 H _ _ _ _ _ _ _ _ | exact safe_part111 H _ _ _ _ _ _ _ _ _ | exact safe_part112 H _ _ _ _ _ | exact safe_part113 H _ _ _ _ _ _ | exact safe_part114 H _ _ _ _

theorem safe_t20_body (i : grid0.Coords) (v20 : BitVec 32) (v45 : IVec S256x128 32) (v128 : IVec S256x1 32) (v130 : IVec S256x1 1) (v142 : IVec S256x1 32) (v147 : BitVec 32) (k : Fin (k0_t20_loop i).trips) (a : Unit) : Safe defs₀ c R (k0_t20_body i arg2 harg2 arg3 harg3 arg4 harg4 arg5 harg5 arg6 harg6 arg7 harg7 arg8 harg8 arg9 harg9 arg10 harg10 arg11 harg11 arg12 harg12 arg13 harg13 arg14 harg14 arg15 harg15 v20 v45 v128 v130 v142 v147 k a) := by
  unfold k0_t20_body
  with_reducible_and_instances repeat' first | refine Safe.bind _ _ ?_ (fun _ => ?_) | exact Safe.pure _ _ _ | exact Safe.store _ _ H.w15 | exact safe_part115 H _ _ _ _

theorem safe_part145 (i : grid0.Coords) (v20 : BitVec 32) (v45 : IVec S256x128 32) (v128 : IVec S256x1 32) (v130 : IVec S256x1 1) (v142 : IVec S256x1 32) (v147 : BitVec 32) : Safe defs₀ c R (k0_part145 i arg2 harg2 arg3 harg3 arg4 harg4 arg5 harg5 arg6 harg6 arg7 harg7 arg8 harg8 arg9 harg9 arg10 harg10 arg11 harg11 arg12 harg12 arg13 harg13 arg14 harg14 arg15 harg15 v20 v45 v128 v130 v142 v147) := by
  rw [k0_part145_eq_skeleton]; unfold k0_part145_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15 | exact Safe.loop _ _ fun _ _ => safe_t19_body H _ _ _ _ _ _ _ _ _ | exact Safe.loop _ _ fun _ _ => safe_t20_body H _ _ _ _ _ _ _ _ _

theorem safe_part116 (i : grid0.Coords) (v181 : BitVec 32) (c1_i32_90 : BitVec 32) (k0_t21 : Fin (k0_t21_loop i).trips) : Safe defs₀ c R (k0_part116 i arg2 harg2 arg3 harg3 arg4 harg4 arg5 harg5 arg6 harg6 arg7 harg7 arg8 harg8 arg9 harg9 arg10 harg10 arg11 harg11 arg12 harg12 arg13 harg13 arg14 harg14 arg15 harg15 v181 c1_i32_90 k0_t21) := by
  rw [k0_part116_eq_skeleton]; unfold k0_part116_skel
  with_reducible_and_instances repeat' first | refine Safe.bind _ _ ?_ (fun _ => ?_) | exact Safe.pure _ _ _ | exact Safe.load _ _ H.r12

theorem safe_part117 (i : grid0.Coords) (k0_t21 : Fin (k0_t21_loop i).trips) (v229 : BitVec 32) (v249 : IVec S256x128 32) (v260 : BitVec 32) (v263 : IVec S256x128 32) (c0_i32_134 : BitVec 32) : Safe defs₀ c R (k0_part117 i arg2 harg2 arg3 harg3 arg4 harg4 arg5 harg5 arg6 harg6 arg7 harg7 arg8 harg8 arg9 harg9 arg10 harg10 arg11 harg11 arg12 harg12 arg13 harg13 arg14 harg14 arg15 harg15 k0_t21 v229 v249 v260 v263 c0_i32_134) := by
  rw [k0_part117_eq_skeleton]; unfold k0_part117_skel
  with_reducible_and_instances repeat' first | refine Safe.bind _ _ ?_ (fun _ => ?_) | exact Safe.pure _ _ _ | exact Safe.load _ _ H.r2 | exact Safe.load _ _ H.r6

theorem safe_part118 (i : grid0.Coords) (v293 : FVec F S256x512 .f32) (v295 : Vec F S512x128 .bf16) (v299 : FVec F S1024x512 .f32) (v300 : FVec F S4x256x512 .f32) (v302 : FVec F S4x256x512 .f32) : Safe defs₀ c R (k0_part118 i arg2 harg2 arg3 harg3 arg4 harg4 arg5 harg5 arg6 harg6 arg7 harg7 arg8 harg8 arg9 harg9 arg10 harg10 arg11 harg11 arg12 harg12 arg13 harg13 arg14 harg14 arg15 harg15 v293 v295 v299 v300 v302) := by
  rw [k0_part118_eq_skeleton]; unfold k0_part118_skel
  with_reducible_and_instances repeat' first | refine Safe.bind _ _ ?_ (fun _ => ?_) | exact Safe.pure _ _ _ | exact Safe.load _ _ H.r13 | exact Safe.load _ _ H.r14 | exact Safe.store _ _ H.w13 | exact Safe.store _ _ H.w14

theorem safe_part119 (i : grid0.Coords) (arg16 : BitVec 32) (v319 : FVec F S1024x128 .f32) (v321 : FVec F S1024x128 .f32) (v323 : FVec F S1024x128 .f32) (v329 : FVec F S1024x512 .f32) (v331 : FVec F S1024x128 .f32) (v333 : FVec F S1024x128 .f32) : Safe defs₀ c R (k0_part119 i arg2 harg2 arg3 harg3 arg4 harg4 arg5 harg5 arg6 harg6 arg7 harg7 arg8 harg8 arg9 harg9 arg10 harg10 arg11 harg11 arg12 harg12 arg13 harg13 arg14 harg14 arg15 harg15 arg16 v319 v321 v323 v329 v331 v333) := by
  rw [k0_part119_eq_skeleton]; unfold k0_part119_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part120 (i : grid0.Coords) (k0_t21 : Fin (k0_t21_loop i).trips) (v371 : BitVec 32) (c8_i32_188 : BitVec 32) (v374 : BitVec 32) (v379 : BitVec 32) (c0_i32_191 : BitVec 32) : Safe defs₀ c R (k0_part120 i arg2 harg2 arg3 harg3 arg4 harg4 arg5 harg5 arg6 harg6 arg7 harg7 arg8 harg8 arg9 harg9 arg10 harg10 arg11 harg11 arg12 harg12 arg13 harg13 arg14 harg14 arg15 harg15 k0_t21 v371 c8_i32_188 v374 v379 c0_i32_191) := by
  rw [k0_part120_eq_skeleton]; unfold k0_part120_skel
  with_reducible_and_instances repeat' first | refine Safe.bind _ _ ?_ (fun _ => ?_) | exact Safe.pure _ _ _ | exact Safe.load _ _ H.r12

theorem safe_part121 (i : grid0.Coords) (k0_t21 : Fin (k0_t21_loop i).trips) (v373 : BitVec 32) (v393 : IVec S256x128 32) (v404 : BitVec 32) (v412 : FVec F S256x128 .f32) (v417 : IVec S256x128 1) (v418 : FVec F S256x128 .f32) (v419 : FVec F S256x128 .f32) : Safe defs₀ c R (k0_part121 i arg2 harg2 arg3 harg3 arg4 harg4 arg5 harg5 arg6 harg6 arg7 harg7 arg8 harg8 arg9 harg9 arg10 harg10 arg11 harg11 arg12 harg12 arg13 harg13 arg14 harg14 arg15 harg15 k0_t21 v373 v393 v404 v412 v417 v418 v419) := by
  rw [k0_part121_eq_skeleton]; unfold k0_part121_skel
  with_reducible_and_instances repeat' first | refine Safe.bind _ _ ?_ (fun _ => ?_) | exact Safe.pure _ _ _ | exact Safe.load _ _ H.r2 | exact Safe.load _ _ H.r6 | exact Safe.load _ _ H.r13

theorem safe_part122 (i : grid0.Coords) (v439 : Vec F S512x128 .bf16) (v448 : FVec F S1024x512 .f32) (v453 : FVec F S1024x512 .f32) (v454 : Vec F S1024x128 .f32) (v455 : Vec F S1024x128 .f32) (v459 : FVec F S1024x128 .f32) : Safe defs₀ c R (k0_part122 i arg2 harg2 arg3 harg3 arg4 harg4 arg5 harg5 arg6 harg6 arg7 harg7 arg8 harg8 arg9 harg9 arg10 harg10 arg11 harg11 arg12 harg12 arg13 harg13 arg14 harg14 arg15 harg15 v439 v448 v453 v454 v455 v459) := by
  rw [k0_part122_eq_skeleton]; unfold k0_part122_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part123 (i : grid0.Coords) (k0_t21 : Fin (k0_t21_loop i).trips) (arg16 : BitVec 32) (v463 : FVec F S1024x128 .f32) (v467 : FVec F S1024x128 .f32) (v477 : FVec F S1024x128 .f32) (v497 : FVec F S1024x128 .f32) (v499 : FVec F S1024x1 .f32) : Safe defs₀ c R (k0_part123 i arg2 harg2 arg3 harg3 arg4 harg4 arg5 harg5 arg6 harg6 arg7 harg7 arg8 harg8 arg9 harg9 arg10 harg10 arg11 harg11 arg12 harg12 arg13 harg13 arg14 harg14 arg15 harg15 k0_t21 arg16 v463 v467 v477 v497 v499) := by
  rw [k0_part123_eq_skeleton]; unfold k0_part123_skel
  with_reducible_and_instances repeat' first | refine Safe.bind _ _ ?_ (fun _ => ?_) | exact Safe.pure _ _ _ | exact Safe.load _ _ H.r12 | exact Safe.load _ _ H.r13 | exact Safe.load _ _ H.r14 | exact Safe.load _ _ H.r15 | exact Safe.store _ _ H.w13 | exact Safe.store _ _ H.w14 | exact Safe.store _ _ H.w15

theorem safe_part124 (i : grid0.Coords) (v515 : BitVec 32) (v536 : Vec F S1x256x128 .i32) : Safe defs₀ c R (k0_part124 i arg2 harg2 arg3 harg3 arg4 harg4 arg5 harg5 arg6 harg6 arg7 harg7 arg8 harg8 arg9 harg9 arg10 harg10 arg11 harg11 arg12 harg12 arg13 harg13 arg14 harg14 arg15 harg15 v515 v536) := by
  rw [k0_part124_eq_skeleton]; unfold k0_part124_skel
  with_reducible_and_instances repeat' first | refine Safe.bind _ _ ?_ (fun _ => ?_) | exact Safe.pure _ _ _

theorem safe_part125 (i : grid0.Coords) (k0_t21 : Fin (k0_t21_loop i).trips) (v517 : BitVec 32) (v556 : FVec F S256x128 .f32) (v564 : FVec F S256x128 .f32) (v572 : FVec F S256x128 .f32) (v575 : IVec S256x128 32) (c0_i32_289 : BitVec 32) : Safe defs₀ c R (k0_part125 i arg2 harg2 arg3 harg3 arg4 harg4 arg5 harg5 arg6 harg6 arg7 harg7 arg8 harg8 arg9 harg9 arg10 harg10 arg11 harg11 arg12 harg12 arg13 harg13 arg14 harg14 arg15 harg15 k0_t21 v517 v556 v564 v572 v575 c0_i32_289) := by
  rw [k0_part125_eq_skeleton]; unfold k0_part125_skel
  with_reducible_and_instances repeat' first | refine Safe.bind _ _ ?_ (fun _ => ?_) | exact Safe.pure _ _ _ | exact Safe.load _ _ H.r2 | exact Safe.load _ _ H.r6 | exact Safe.load _ _ H.r13

theorem safe_part126 (i : grid0.Coords) (v583 : Vec F S512x128 .bf16) (v603 : FVec F S1024x128 .f32) (v607 : FVec F S1024x128 .f32) (v609 : FVec F S1024x128 .f32) (v611 : FVec F S1024x128 .f32) (v614 : FVec F S1024x512 .f32) (v617 : FVec F S1024x512 .f32) (v619 : FVec F S1024x128 .f32) : Safe defs₀ c R (k0_part126 i arg2 harg2 arg3 harg3 arg4 harg4 arg5 harg5 arg6 harg6 arg7 harg7 arg8 harg8 arg9 harg9 arg10 harg10 arg11 harg11 arg12 harg12 arg13 harg13 arg14 harg14 arg15 harg15 v583 v603 v607 v609 v611 v614 v617 v619) := by
  rw [k0_part126_eq_skeleton]; unfold k0_part126_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part127 (i : grid0.Coords) (k0_t21 : Fin (k0_t21_loop i).trips) (arg16 : BitVec 32) (v621 : FVec F S1024x128 .f32) (v653 : FVec F S1024x128 .f32) : Safe defs₀ c R (k0_part127 i arg2 harg2 arg3 harg3 arg4 harg4 arg5 harg5 arg6 harg6 arg7 harg7 arg8 harg8 arg9 harg9 arg10 harg10 arg11 harg11 arg12 harg12 arg13 harg13 arg14 harg14 arg15 harg15 k0_t21 arg16 v621 v653) := by
  rw [k0_part127_eq_skeleton]; unfold k0_part127_skel
  with_reducible_and_instances repeat' first | refine Safe.bind _ _ ?_ (fun _ => ?_) | exact Safe.pure _ _ _ | exact Safe.load _ _ H.r12 | exact Safe.load _ _ H.r15 | exact Safe.store _ _ H.w15

theorem safe_part128 (i : grid0.Coords) (k0_t21 : Fin (k0_t21_loop i).trips) (v661 : BitVec 32) (v681 : IVec S256x128 32) (v691 : BitVec 32) (c4_i32_347 : BitVec 32) : Safe defs₀ c R (k0_part128 i arg2 harg2 arg3 harg3 arg4 harg4 arg5 harg5 arg6 harg6 arg7 harg7 arg8 harg8 arg9 harg9 arg10 harg10 arg11 harg11 arg12 harg12 arg13 harg13 arg14 harg14 arg15 harg15 k0_t21 v661 v681 v691 c4_i32_347) := by
  rw [k0_part128_eq_skeleton]; unfold k0_part128_skel
  with_reducible_and_instances repeat' first | refine Safe.bind _ _ ?_ (fun _ => ?_) | exact Safe.pure _ _ _ | exact Safe.load _ _ H.r2 | exact Safe.load _ _ H.r6

theorem safe_part129 (i : grid0.Coords) (v725 : FVec F S256x512 .f32) (v727 : Vec F S512x128 .bf16) (v729 : FVec F S1024x512 .f32) : Safe defs₀ c R (k0_part129 i arg2 harg2 arg3 harg3 arg4 harg4 arg5 harg5 arg6 harg6 arg7 harg7 arg8 harg8 arg9 harg9 arg10 harg10 arg11 harg11 arg12 harg12 arg13 harg13 arg14 harg14 arg15 harg15 v725 v727 v729) := by
  rw [k0_part129_eq_skeleton]; unfold k0_part129_skel
  with_reducible_and_instances repeat' first | refine Safe.bind _ _ ?_ (fun _ => ?_) | exact Safe.pure _ _ _ | exact Safe.load _ _ H.r2 | exact Safe.load _ _ H.r13 | exact Safe.load _ _ H.r14 | exact Safe.store _ _ H.w14

theorem safe_part130 (i : grid0.Coords) (v181 : BitVec 32) (c1_i32_90 : BitVec 32) (k0_t21 : Fin (k0_t21_loop i).trips) : Safe defs₀ c R (k0_part130 i arg2 harg2 arg3 harg3 arg4 harg4 arg5 harg5 arg6 harg6 arg7 harg7 arg8 harg8 arg9 harg9 arg10 harg10 arg11 harg11 arg12 harg12 arg13 harg13 arg14 harg14 arg15 harg15 v181 c1_i32_90 k0_t21) := by
  rw [k0_part130_eq_skeleton]; unfold k0_part130_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15 | exact safe_part116 H _ _ _ _ | exact safe_part117 H _ _ _ _ _ _ _ | exact safe_part118 H _ _ _ _ _ _ | exact safe_part119 H _ _ _ _ _ _ _ _ | exact safe_part120 H _ _ _ _ _ _ _ | exact safe_part121 H _ _ _ _ _ _ _ _ _ | exact safe_part122 H _ _ _ _ _ _ _ | exact safe_part123 H _ _ _ _ _ _ _ _ | exact safe_part124 H _ _ _ | exact safe_part125 H _ _ _ _ _ _ _ _ | exact safe_part126 H _ _ _ _ _ _ _ _ _ | exact safe_part127 H _ _ _ _ _ | exact safe_part128 H _ _ _ _ _ _ | exact safe_part129 H _ _ _ _

theorem safe_t21_body (i : grid0.Coords) (v20 : BitVec 32) (v181 : BitVec 32) (k : Fin (k0_t21_loop i).trips) (a : Unit) : Safe defs₀ c R (k0_t21_body i arg2 harg2 arg3 harg3 arg4 harg4 arg5 harg5 arg6 harg6 arg7 harg7 arg8 harg8 arg9 harg9 arg10 harg10 arg11 harg11 arg12 harg12 arg13 harg13 arg14 harg14 arg15 harg15 v20 v181 k a) := by
  unfold k0_t21_body
  with_reducible_and_instances repeat' first | refine Safe.bind _ _ ?_ (fun _ => ?_) | exact Safe.pure _ _ _ | exact Safe.store _ _ H.w15 | exact safe_part130 H _ _ _ _

theorem safe_part131 (i : grid0.Coords) (v199 : BitVec 32) (k0_h7 : k0_cond7 i = 1#1) : Safe defs₀ c R (k0_part131 i arg2 harg2 arg3 harg3 arg4 harg4 arg5 harg5 arg6 harg6 arg7 harg7 arg8 harg8 arg9 harg9 arg10 harg10 arg11 harg11 arg12 harg12 arg13 harg13 arg14 harg14 arg15 harg15 v199 k0_h7) := by
  rw [k0_part131_eq_skeleton]; unfold k0_part131_skel
  with_reducible_and_instances repeat' first | refine Safe.bind _ _ ?_ (fun _ => ?_) | exact Safe.pure _ _ _ | exact Safe.load _ _ H.r12

theorem safe_part132 (i : grid0.Coords) (k0_h7 : k0_cond7 i = 1#1) (v228 : BitVec 32) (v248 : IVec S256x128 32) (v259 : BitVec 32) (v264 : IVec S256x128 1) (cst_134 : F .f32) : Safe defs₀ c R (k0_part132 i arg2 harg2 arg3 harg3 arg4 harg4 arg5 harg5 arg6 harg6 arg7 harg7 arg8 harg8 arg9 harg9 arg10 harg10 arg11 harg11 arg12 harg12 arg13 harg13 arg14 harg14 arg15 harg15 k0_h7 v228 v248 v259 v264 cst_134) := by
  rw [k0_part132_eq_skeleton]; unfold k0_part132_skel
  with_reducible_and_instances repeat' first | refine Safe.bind _ _ ?_ (fun _ => ?_) | exact Safe.pure _ _ _ | exact Safe.load _ _ H.r2 | exact Safe.load _ _ H.r6

theorem safe_part133 (i : grid0.Coords) (v292 : FVec F S256x512 .f32) (v294 : Vec F S512x128 .bf16) (v303 : FVec F S1024x512 .f32) (v304 : FVec F S4x256x512 .f32) : Safe defs₀ c R (k0_part133 i arg2 harg2 arg3 harg3 arg4 harg4 arg5 harg5 arg6 harg6 arg7 harg7 arg8 harg8 arg9 harg9 arg10 harg10 arg11 harg11 arg12 harg12 arg13 harg13 arg14 harg14 arg15 harg15 v292 v294 v303 v304) := by
  rw [k0_part133_eq_skeleton]; unfold k0_part133_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14

theorem safe_part134 (i : grid0.Coords) (v199 : BitVec 32) (v318 : FVec F S1024x128 .f32) (v320 : FVec F S1024x128 .f32) (v322 : FVec F S1024x128 .f32) (v328 : FVec F S1024x512 .f32) (v330 : FVec F S1024x128 .f32) (v332 : FVec F S1024x128 .f32) (v345 : Vec F S1024x128 .f32) : Safe defs₀ c R (k0_part134 i arg2 harg2 arg3 harg3 arg4 harg4 arg5 harg5 arg6 harg6 arg7 harg7 arg8 harg8 arg9 harg9 arg10 harg10 arg11 harg11 arg12 harg12 arg13 harg13 arg14 harg14 arg15 harg15 v199 v318 v320 v322 v328 v330 v332 v345) := by
  rw [k0_part134_eq_skeleton]; unfold k0_part134_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part135 (i : grid0.Coords) (k0_h7 : k0_cond7 i = 1#1) (v369 : BitVec 32) (c8_i32_186 : BitVec 32) (v372 : BitVec 32) (v377 : BitVec 32) (v379 : BitVec 32) (v381 : BitVec 32) : Safe defs₀ c R (k0_part135 i arg2 harg2 arg3 harg3 arg4 harg4 arg5 harg5 arg6 harg6 arg7 harg7 arg8 harg8 arg9 harg9 arg10 harg10 arg11 harg11 arg12 harg12 arg13 harg13 arg14 harg14 arg15 harg15 k0_h7 v369 c8_i32_186 v372 v377 v379 v381) := by
  rw [k0_part135_eq_skeleton]; unfold k0_part135_skel
  with_reducible_and_instances repeat' first | refine Safe.bind _ _ ?_ (fun _ => ?_) | exact Safe.pure _ _ _ | exact Safe.load _ _ H.r12

theorem safe_part136 (i : grid0.Coords) (k0_h7 : k0_cond7 i = 1#1) (v371 : BitVec 32) (v391 : IVec S256x128 32) (v402 : BitVec 32) (v410 : FVec F S256x128 .f32) (v418 : FVec F S256x128 .f32) (v421 : IVec S256x128 32) : Safe defs₀ c R (k0_part136 i arg2 harg2 arg3 harg3 arg4 harg4 arg5 harg5 arg6 harg6 arg7 harg7 arg8 harg8 arg9 harg9 arg10 harg10 arg11 harg11 arg12 harg12 arg13 harg13 arg14 harg14 arg15 harg15 k0_h7 v371 v391 v402 v410 v418 v421) := by
  rw [k0_part136_eq_skeleton]; unfold k0_part136_skel
  with_reducible_and_instances repeat' first | refine Safe.bind _ _ ?_ (fun _ => ?_) | exact Safe.pure _ _ _ | exact Safe.load _ _ H.r2 | exact Safe.load _ _ H.r6 | exact Safe.load _ _ H.r13

theorem safe_part137 (i : grid0.Coords) (v437 : Vec F S512x128 .bf16) (v446 : FVec F S1024x512 .f32) (v451 : FVec F S1024x512 .f32) (v452 : Vec F S1024x128 .f32) (v453 : Vec F S1024x128 .f32) (v457 : FVec F S1024x128 .f32) (v461 : FVec F S1024x128 .f32) : Safe defs₀ c R (k0_part137 i arg2 harg2 arg3 harg3 arg4 harg4 arg5 harg5 arg6 harg6 arg7 harg7 arg8 harg8 arg9 harg9 arg10 harg10 arg11 harg11 arg12 harg12 arg13 harg13 arg14 harg14 arg15 harg15 v437 v446 v451 v452 v453 v457 v461) := by
  rw [k0_part137_eq_skeleton]; unfold k0_part137_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15

theorem safe_part138 (i : grid0.Coords) (v205 : BitVec 32) (k0_h8 : k0_cond8 i = 1#1) : Safe defs₀ c R (k0_part138 i arg2 harg2 arg3 harg3 arg4 harg4 arg5 harg5 arg6 harg6 arg7 harg7 arg8 harg8 arg9 harg9 arg10 harg10 arg11 harg11 arg12 harg12 arg13 harg13 arg14 harg14 arg15 harg15 v205 k0_h8) := by
  rw [k0_part138_eq_skeleton]; unfold k0_part138_skel
  with_reducible_and_instances repeat' first | refine Safe.bind _ _ ?_ (fun _ => ?_) | exact Safe.pure _ _ _ | exact Safe.load _ _ H.r12

theorem safe_part139 (i : grid0.Coords) (k0_h8 : k0_cond8 i = 1#1) (v228 : BitVec 32) (v248 : IVec S256x128 32) (v259 : BitVec 32) (v264 : IVec S256x128 1) (cst_134 : F .f32) : Safe defs₀ c R (k0_part139 i arg2 harg2 arg3 harg3 arg4 harg4 arg5 harg5 arg6 harg6 arg7 harg7 arg8 harg8 arg9 harg9 arg10 harg10 arg11 harg11 arg12 harg12 arg13 harg13 arg14 harg14 arg15 harg15 k0_h8 v228 v248 v259 v264 cst_134) := by
  rw [k0_part139_eq_skeleton]; unfold k0_part139_skel
  with_reducible_and_instances repeat' first | refine Safe.bind _ _ ?_ (fun _ => ?_) | exact Safe.pure _ _ _ | exact Safe.load _ _ H.r2 | exact Safe.load _ _ H.r6

theorem safe_part140 (i : grid0.Coords) (v292 : FVec F S256x512 .f32) (v294 : Vec F S512x128 .bf16) (v303 : FVec F S1024x512 .f32) (v304 : FVec F S4x256x512 .f32) : Safe defs₀ c R (k0_part140 i arg2 harg2 arg3 harg3 arg4 harg4 arg5 harg5 arg6 harg6 arg7 harg7 arg8 harg8 arg9 harg9 arg10 harg10 arg11 harg11 arg12 harg12 arg13 harg13 arg14 harg14 arg15 harg15 v292 v294 v303 v304) := by
  rw [k0_part140_eq_skeleton]; unfold k0_part140_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14

theorem safe_part146 (i : grid0.Coords) (v20 : BitVec 32) (v181 : BitVec 32) : Safe defs₀ c R (k0_part146 i arg2 harg2 arg3 harg3 arg4 harg4 arg5 harg5 arg6 harg6 arg7 harg7 arg8 harg8 arg9 harg9 arg10 harg10 arg11 harg11 arg12 harg12 arg13 harg13 arg14 harg14 arg15 harg15 v20 v181) := by
  rw [k0_part146_eq_skeleton]; unfold k0_part146_skel
  with_reducible_and_instances repeat' first | refine Safe.bind _ _ ?_ (fun _ => ?_) | exact Safe.pure _ _ _ | exact Safe.load _ _ H.r13 | exact Safe.load _ _ H.r14 | exact Safe.load _ _ H.r15 | exact Safe.store _ _ H.w13 | exact Safe.store _ _ H.w14 | exact Safe.store _ _ H.w15 | exact Safe.loop _ _ fun _ _ => safe_t21_body H _ _ _ _ _ | exact safe_part131 H _ _ _ | exact safe_part132 H _ _ _ _ _ _ _ | exact safe_part133 H _ _ _ _ _ | exact safe_part134 H _ _ _ _ _ _ _ _ _ | exact safe_part135 H _ _ _ _ _ _ _ _ | exact safe_part136 H _ _ _ _ _ _ _ _ | exact safe_part137 H _ _ _ _ _ _ _ _ | exact safe_part138 H _ _ _ | exact safe_part139 H _ _ _ _ _ _ _ | exact safe_part140 H _ _ _ _ _ | refine Safe.dite _ _ (fun _ => ?_) (fun _ => ?_) | refine Safe.ite _ _ ?_ ?_

theorem safe_cc0_dsa_main (i : grid0.Coords)  : Safe defs₀ c R (cc0_dsa_main i arg2 harg2 arg3 harg3 arg4 harg4 arg5 harg5 arg6 harg6 arg7 harg7 arg8 harg8 arg9 harg9 arg10 harg10 arg11 harg11 arg12 harg12 arg13 harg13 arg14 harg14 arg15 harg15 ) := by
  rw [cc0_dsa_main_eq_skeleton]; unfold cc0_dsa_main_skel
  with_reducible_and_instances repeat' first | refine Safe.bind _ _ ?_ (fun _ => ?_) | exact Safe.pure _ _ _ | exact Safe.load _ _ H.r7 | exact Safe.load _ _ H.r8 | exact Safe.store _ _ H.w8 | exact safe_part141 H _ | exact safe_part142 H _ _ _ _ _ _ | exact safe_part143 H _ _ _ _ _ _ _ _ _ _ | exact safe_part144 H _ _ _ _ _ | exact safe_part145 H _ _ _ _ _ _ _ | exact safe_part146 H _ _ _

end Cert.Kernel.Main

end
-- ==== Proof.Run.lean ====
/-
  Hand-written. The run of the sparse-attention kernel: at every grid point the body runs to its end, leaving its inputs as they were
  and the output and the scratch at some contents, whence the frame.
-/
module

public import proofs.«01_k».proof.Proof.Walk
public import proofs.«01_k».proof.Proof.Gen.Kernel.Skeleton
public import proofs.«01_k».proof.Proof.Safe4
public import proofs.«01_k».proof.Proof.Gen.Kernel.Frame
public import Idealize.ShloMosaic.Lib.Pipeline.Frame
public import Idealize.ShloMosaic.Lib.Tactic

@[expose] public section

noncomputable section

namespace Cert.Kernel.Main

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligationLoose)

variable {F : FTy → Type} [BitOps F] [∀ e, Nonempty (Elt F e)]

variable (m : (ℓ : Loc nD τ sig) → Buf (Elt F) ℓ) (ρ : Dev nD → PrngReg)

/-- The scratch buffers at some contents and the generator register, conjunct by conjunct. -/
theorem inv_eq (c : Dev nD) :
    (Pipeline.ΦA (U := UR sig nD τ) (Val := Elt F) spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA; rw [scopedRest0_eq]; simp only [owns_whole]; try rfl

/-- The output window is the one whose contents the frame does not name. -/
def forgets : Fin 7 → Bool := fun w => w == 6

/-- The proof data: each input's array as launched and its block left in place; the output unnamed. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | ⟨6, h⟩, t => Dat.unnamed (cfg := cfg0) ⟨6, h⟩ t
    | ⟨_ + 7, h⟩, _ => absurd h (Nat.not_lt.2 (Nat.le_add_left _ _))
  Φ _ := Pipeline.ΦA (U := UR sig nD τ) spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- The body at a point, from its inputs' blocks and the rest at anything, to the same. -/
theorem body_safe (c : Dev nD) (t : Fin cfg0.N) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d))
      ⊢ wp frame (wpE (Ix := Unit) (Name := ℕ) (U := UR sig nD τ) (Lvl := ℕ) (defs₀ (F := F)) Variants.none (c : Thread nD τ) none) Set.univ (bodyAt0 t)
          (fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d))) := by
  iintro ⟨H2, H3, H4, H5, H6, H7, ⟨%d8, H8⟩, ⟨%d9, H9⟩, ⟨%d10, H10⟩, ⟨%d11, H11⟩, ⟨%d12, H12⟩, ⟨%d13, H13⟩, ⟨%d14, H14⟩, ⟨%d15, H15⟩⟩
  iapply (BIBase.Entails.trans (safe_cc0_dsa_main (res_cells c (st0_0 t) (st0_1 t) (st0_2 t) (st0_3 t) (st0_4 t) (st0_5 t) (st0_6 t) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t)) (grid0.coords t)
    ⟨d8, d9, d10, d11, d12, d13, d14, d15⟩ trivial) (wp_mono _ _ _ fun _ => ?_))
  · iintro ⟨%st, -, H⟩
    unfold res
    icases H with ⟨H2, H3, H4, H5, H6, H7, H8, H9, H10, H11, H12, H13, H14, H15⟩
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · unfold res
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) : defs₀ (F := F) .tc cfg0.body (cfg0.bodyArgs t (cfg0.slots t)) = bodyAt0 t := by
  unfold defs₀; rw [Defs.onTc_tc]

/-- What the body is called with at point `t`, and what it returns. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare d))
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ d, owns (c : Thread nD τ) (st0_6 t) fullShare d))

theorem sound_body (c : Dev nD) (t : Fin cfg0.N) :
    pre m c t ⊢ wp frame (wpE (defs₀ (F := F)) Variants.none (c : Thread nD τ) none) Set.univ (bodyAt0 t) (fun _ => post m c t) := by
  unfold pre post
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA (U := UR sig nD τ) spec0 c from rfl, inv_eq]
  iintro ⟨⟨HS, Hg⟩, HO, ⟨%d0, H0⟩, ⟨%d1, H1⟩, ⟨%d2, H2⟩, ⟨%d3, H3⟩, ⟨%d4, H4⟩, ⟨%d5, H5⟩, H6⟩
  iapply (BIBase.Entails.trans (wp_keep (B := iprop((∃ r, prngReg c r) ∗ (dats m 0 c).owesAt () t.castSucc)) _ c (body_safe m c t)) (wp_mono _ _ _ fun _ => ?_))
  · iintro ⟨⟨H0, H1, H2, H3, H4, H5, H6, HS⟩, Hg, HO⟩
    isplitl [HS Hg]
    · isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  · isplitl [Hg]; · iexact Hg
    iexact HO

/-- The pipeline's obligation on the body, the output window forgotten. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- From any memory every execution terminates with every input array as launched and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The frame: the arguments end as launched and every counter at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨h.1.arr_in c 0 rfl, h.1.arr_in c 1 rfl, h.1.arr_in c 2 rfl, h.1.arr_in c 3 rfl,
    h.1.arr_in c 4 rfl, h.1.arr_in c 5 rfl⟩, h.2⟩) (run_main m ρ)

end Cert.Kernel.Main

end
-- ==== Proof.V2.lean ====
/- What the feed-forward block computes, over exact arithmetic: along each row of tiles the scratch accumulates the second
   product one block of hidden units at a time, and the last tile of the row normalises the residual sum. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Kernel2Ideal.Main

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![0, t.val % 4] ∧ win0_2.index t = ![t.val % 4, 0]
    ∧ win0_3.index t = ![0, 0] ∧ win0_4.index t = ![0, 0] ∧ win0_5.index t = ![t.val / 4, 0] :=
  (by decide +kernel : ∀ t : Fin grid0.N, _)

/-- The scratch's starting value is zero. -/
theorem pay1 (y : S1024x1024.Idx) : (k0_pay1 (F := Ideal)) y = 0 := by
  pointwise [k0_pay1]

/-- One hidden unit's activation: the positive part of a product, squared. -/
abbrev act (s : EReal) : EReal := max s 0 * max s 0

/-- One point's contribution to the scratch. -/
abbrev part (x : Vec Ideal S1024x1024 .f32) (w1 w2 : Vec Ideal S1024x1024 .bf16) (y : S1024x1024.Idx) : EReal :=
  ∑ k : Fin 1024, act (∑ d : Fin 1024, x (ix2 (y 0) d) * w1 (ix2 d k)) * w2 (ix2 k (y 1))

theorem pay2 (x : Vec Ideal S1024x1024 .f32) (w1 : Vec Ideal S1024x1024 .bf16) (acc : Vec Ideal S1024x1024 .f32) (w2 : Vec Ideal S1024x1024 .bf16)
    (y : S1024x1024.Idx) : k0_pay2 x w1 acc w2 y = acc y + part x w1 w2 y := by
  pointwise [k0_pay2]

/-- The residual's factor, the row's length and the variance's offset, as the program writes them. -/
abbrev al : EReal := Ideal.ofBits FTy.f32 0x3FB504F3#32
abbrev len : EReal := Ideal.ofBits FTy.f32 0x44800000#32
abbrev eps : EReal := Ideal.ofBits FTy.f32 0x358637BD#32

/-- A row's mean. -/
abbrev mean (z : Fin 1024 → EReal) : EReal := Ideal.div (∑ k, z k) len

/-- A row normalised to mean zero and variance one, scaled and shifted. -/
abbrev norm (z : Fin 1024 → EReal) (g b : EReal) (j : Fin 1024) : EReal :=
  (z j - mean z) * Ideal.rsqrt (Ideal.div (∑ k, (z k - mean z) * (z k - mean z)) len + eps) * g + b

theorem pay3 (x acc : Vec Ideal S1024x1024 .f32) (g b : Vec Ideal S1x1024 .f32) (r j : Fin 1024) :
    k0_pay3 x acc g b (ix2 r j) = norm (fun j => al * x (ix2 r j) + acc (ix2 r j)) (g (ix2 0 j)) (b (ix2 0 j)) j := by
  pointwise [k0_pay3]

theorem scratchA (c : Dev nD) (t : Fin cfg0.N) (h0 : t.val % 4 = 0) (y : S1024x1024.Idx) :
    (outsAt0 m c t.val t.isLt).2 y = 0 + part (iblk m c 0 t) (iblk m c 1 t) (iblk m c 2 t) y := by
  rw [outsAt0_A m c t h0 (by omega)]
  frame_out
  rw [pay2, pay1]

theorem scratchB (c : Dev nD) (t : Fin cfg0.N) (h0 : ¬t.val % 4 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) (iblk m c 2 t) y := by
  by_cases h1 : t.val % 4 = 3
  · rw [outsAt0_C m c t h0 h1]
    frame_out
    rw [pay2]
    exact congrArg (· + _) (congrFun (Memref.IsWhole.read_unread _ _) y)
  · rw [outsAt0_B m c t h0 h1]
    frame_out
    rw [pay2]
    exact congrArg (· + _) (congrFun (Memref.IsWhole.read_unread _ _) y)

theorem outC (c : Dev nD) (t : Fin cfg0.N) (h1 : t.val % 4 = 3) :
    (outsAt0 m c t.val t.isLt).1 = k0_pay3 (iblk m c 0 t) (outsAt0 m c t.val t.isLt).2 (iblk m c 3 t) (iblk m c 4 t) := by
  rw [outsAt0_C m c t (by omega) h1]
  frame_out

theorem w1_apply (c : Dev nD) (t : Fin cfg0.N) (i : S1024x1024.Idx) (j : S1024x4096.Idx) (h0 : (j 0).val = (i 0).val) (h1 : (j 1).val = t.val % 4 * 1024 + (i 1).val) :
    iblk m c 1 t i = m ((c : Thread nD τ).loc main_arg1) j := by
  have e : V m c main_v0 = (truncf .bf16 (m ((c : Thread nD τ).loc main_arg1) : FVec Ideal S1024x4096 .f32) bitsLt_bf16_f32 : FVec Ideal S1024x4096 .bf16) := by
    show StableHlo.after hostOps0 (fun b => m (c, b)) main_v0 = _
    after_results
  show V m c main_v0 (((cfg0.win 1).blk t).view.emb i) = _
  rw [e]
  pointwise
  blk_ext [idx t]

theorem w2_apply (c : Dev nD) (t : Fin cfg0.N) (i : S1024x1024.Idx) (j : S4096x1024.Idx) (h0 : (j 0).val = t.val % 4 * 1024 + (i 0).val) (h1 : (j 1).val = (i 1).val) :
    iblk m c 2 t i = m ((c : Thread nD τ).loc main_arg2) j := by
  have e : V m c main_v1 = (truncf .bf16 (m ((c : Thread nD τ).loc main_arg2) : FVec Ideal S4096x1024 .f32) bitsLt_bf16_f32 : FVec Ideal S4096x1024 .bf16) := by
    show StableHlo.after hostOps0 (fun b => m (c, b)) main_v1 = _
    after_results
  show V m c main_v1 (((cfg0.win 2).blk t).view.emb i) = _
  rw [e]
  pointwise
  blk_ext [idx t]

theorem g_apply (c : Dev nD) (t : Fin cfg0.N) (j : Fin 1024) :
    iblk m c 3 t (ix2 0 j) = m ((c : Thread nD τ).loc main_arg3) (ix1 j) := by
  have e : V m c main_v2 = (shapeCast S1x1024 (m ((c : Thread nD τ).loc main_arg3) : FVec Ideal S1024 .f32) shapeCasts_S1024_S1x1024 : FVec Ideal S1x1024 .f32) := by
    show StableHlo.after hostOps0 (fun b => m (c, b)) main_v2 = _
    after_results
    rfl
  show V m c main_v2 (((cfg0.win 3).blk t).view.emb _) = _
  rw [e]
  pointwise
  blk_ext [idx t]

theorem b_apply (c : Dev nD) (t : Fin cfg0.N) (j : Fin 1024) :
    iblk m c 4 t (ix2 0 j) = m ((c : Thread nD τ).loc main_arg4) (ix1 j) := by
  have e : V m c main_v3 = (shapeCast S1x1024 (m ((c : Thread nD τ).loc main_arg4) : FVec Ideal S1024 .f32) shapeCasts_S1024_S1x1024 : FVec Ideal S1x1024 .f32) := by
    show StableHlo.after hostOps0 (fun b => m (c, b)) main_v3 = _
    after_results
    rfl
  show V m c main_v3 (((cfg0.win 4).blk t).view.emb _) = _
  rw [e]
  pointwise
  blk_ext [idx t]

/-- The reference's term over the kernel's arguments. -/
abbrev ref (x : FVec Ideal S32768x1024 .f32) (w1 : FVec Ideal S1024x4096 .f32) (w2 : FVec Ideal S4096x1024 .f32) (g b : FVec Ideal S1024 .f32) :
    FVec Ideal S32768x1024 .f32 :=
  Cert.Reference2Ideal.Read.val_main_v30 (F := Ideal) x w1 w2 g b

theorem ref_apply (x : FVec Ideal S32768x1024 .f32) (w1 : FVec Ideal S1024x4096 .f32) (w2 : FVec Ideal S4096x1024 .f32) (g b : FVec Ideal S1024 .f32)
    (r : Fin 32768) (j : Fin 1024) : ref x w1 w2 g b (ix2 r j) = norm (fun j => Cert.Reference2Ideal.Read.val_main_v6 (F := Ideal) x w1 w2 (ix2 r j)) (g (ix1 j)) (b (ix1 j)) j := by
  pointwise [ref, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_cst_0, Cert.Reference2Ideal.Read.val_main_cst_1, Cert.Reference2Ideal.Read.val_main_cst_2, Cert.Reference2Ideal.Read.val_main_cst_3, Cert.Reference2Ideal.Read.val_main_cst_4]

theorem ref6 (x : FVec Ideal S32768x1024 .f32) (w1 : FVec Ideal S1024x4096 .f32) (w2 : FVec Ideal S4096x1024 .f32)
    (i : S32768x1024.Idx) : Cert.Reference2Ideal.Read.val_main_v6 (F := Ideal) x w1 w2 i = al * x i + ∑ k : Fin 4096, act (∑ d : Fin 1024, x (ix2 (i 0) d) * w1 (ix2 d k)) * w2 (ix2 k (i 1)) := by
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_call0_v0, Cert.Reference2Ideal.Read.val_main_call0_cst, Cert.Reference2Ideal.Read.val_main_cst]

/-- The second product of a row's activations, all hidden units summed. -/
abbrev hidden (x : FVec Ideal S32768x1024 .f32) (w1 : FVec Ideal S1024x4096 .f32) (w2 : FVec Ideal S4096x1024 .f32) (r : Fin 32768) (j : Fin 1024) : EReal :=
  ∑ k : Fin 4096, act (∑ d : Fin 1024, x (ix2 r d) * w1 (ix2 d k)) * w2 (ix2 k j)

theorem scratch (c : Dev nD) (t : Fin cfg0.N) (h1 : t.val % 4 = 3) (r : Fin 32768) (y : S1024x1024.Idx) (hr : r.val = t.val / 4 * 1024 + (y 0).val) :
    (outsAt0 m c t.val t.isLt).2 y = hidden (m ((c : Thread nD τ).loc main_arg0)) (m ((c : Thread nD τ).loc main_arg1)) (m ((c : Thread nD τ).loc main_arg2)) r (y 1) := by
  rw [Pipeline.eq_sum_fin_of_reset_step_apply_of_flush (fun n h => (outsAt0 m c n h).2) 4 (fun _ => 0) _
    (fun t h j => scratchA m c t h j) (fun t h j => scratchB m c t h j) t h1 y, zero_add]
  refine Fin.sum_mul_add_congr fun s k hl => ?_
  have hs := s.isLt
  have e : (4 * (t.val / 4) + s.val) % 4 = s.val := by omega
  refine congrArg₂ (fun p q : EReal => act p * q) ?_ ?_
  · refine Finset.sum_congr rfl fun d _ => congrArg₂ (fun p q : EReal => p * q) ?_ ?_
    · blk_ext [iblk, V, idx]
    · refine w1_apply m c _ _ _ rfl ?_
      show s.val * 1024 + k.val = (4 * (t.val / 4) + s.val) % 4 * 1024 + k.val
      rw [e]
  · refine w2_apply m c _ _ _ ?_ rfl
    show s.val * 1024 + k.val = (4 * (t.val / 4) + s.val) % 4 * 1024 + k.val
    rw [e]

theorem point (c : Dev nD) (t : Fin cfg0.N) (h1 : t.val % 4 = 3) (r j : Fin 1024) (r' : Fin 32768) (hr : r'.val = t.val / 4 * 1024 + r.val) :
    (outsAt0 m c t.val t.isLt).1 (ix2 r j) = ref (m ((c : Thread nD τ).loc main_arg0)) (m ((c : Thread nD τ).loc main_arg1)) (m ((c : Thread nD τ).loc main_arg2))
      (m ((c : Thread nD τ).loc main_arg3)) (m ((c : Thread nD τ).loc main_arg4)) (ix2 r' j) := by
  rw [outC m c t h1, ref_apply, pay3, g_apply, b_apply]
  have hz : (fun j => al * (iblk m c 0 t : FVec Ideal S1024x1024 .f32) (ix2 r j) + (outsAt0 m c t.val t.isLt).2 (ix2 r j))
      = fun j => Cert.Reference2Ideal.Read.val_main_v6 (F := Ideal) (m ((c : Thread nD τ).loc main_arg0)) (m ((c : Thread nD τ).loc main_arg1)) (m ((c : Thread nD τ).loc main_arg2)) (ix2 r' j) := by
    funext j
    rw [ref6, scratch m c t h1 r' (ix2 r j) hr]
    refine congrArg (fun p : EReal => al * p + _) ?_
    blk_ext [iblk, V, idx t]
  exact congrArg (fun z => norm z _ _ j) hz

theorem final (c : Dev nD) : (dats m 0 c).arrAt 5 cfg0.N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  rw [after0_5]
  obtain ⟨r, j, rfl⟩ : ∃ r j, y = ix2 r j := ⟨y 0, y 1, by funext a; fin_cases a <;> rfl⟩
  have hr : t.val / 4 * 1024 + r.val < 32768 := by
    have h0 := t.isLt
    have h1 : cfg0.N = 128 := N_0
    have h2 := r.isLt
    omega
  refine (point m c t ht r j ⟨t.val / 4 * 1024 + r.val, hr⟩ rfl).trans (congrArg _ ?_)
  funext a
  refine Fin.ext ?_
  match a with
  | ⟨0, _⟩ => blk_simp [idx t]
  | ⟨1, _⟩ => blk_simp [idx t]

end Cert.Kernel2Ideal.Main

namespace Cert.Proof

open Idealize.ShloMosaic Idealize.SL.Sem

theorem algebraic2 : Cert.algebraic_Kernel2Ideal_Reference2Ideal (hKernel2Ideal := Cert.Kernel2Ideal.Gen.facts) (hReference2Ideal := Cert.Reference2Ideal.Gen.facts) :=
  fun m g m' g' _ hagree => ⟨fun c => Cert.Kernel2Ideal.Main.ref (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)),
    (θ_run _ _ _).mono (fun _ h c => ⟨(h c).1.trans (Cert.Kernel2Ideal.Main.final m c), (h c).2⟩) (Cert.Kernel2Ideal.Value.run_blocks m g),
    (θ_run _ _ _).mono (fun _ h c => ⟨(h c).1.trans (by
      obtain ⟨h0, h1, h2, h3, h4⟩ := hagree c
      refine (Cert.Reference2Ideal.Read.val_main_v30_eq m' c).trans ?_
      rw [h0, h1, h2, h3, h4]), (h c).2⟩) (Cert.Reference2Ideal.Value.run m' g')⟩

end Cert.Proof

end
-- ==== Proof.V3.lean ====
/- What the input projection computes, over exact arithmetic: each block the grid writes is the product of the token rows
   with the input weights, its columns in the packed order. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Kernel3Ideal.Main

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The packed weights as the region finds them, before their cast: columns of the input weights in the kernel's order. -/
def packed (W : FVec Ideal S1024x7120 .f32) : FVec Ideal S1024x6144 .f32 :=
  concatenate S1024x6144 1 [⟨S1024x1536, extractStridedSlice S1024x1536 ![0, 1536] W slices_S1024x7120_S1024x1536_0_1536⟩,
    ⟨S1024x512, extractStridedSlice S1024x512 ![0, 0] W slices_S1024x7120_S1024x512_0_0⟩,
    ⟨S1024x512, extractStridedSlice S1024x512 ![0, 3072] W slices_S1024x7120_S1024x512_0_3072⟩,
    ⟨S1024x256, extractStridedSlice S1024x256 ![0, 3592] W slices_S1024x7120_S1024x256_0_3592⟩,
    ⟨S1024x128, extractStridedSlice S1024x128 ![0, 3848] W slices_S1024x7120_S1024x128_0_3848⟩,
    ⟨S1024x128, concatenate S1024x128 1 [⟨S1024x64, extractStridedSlice S1024x64 ![0, 3976] W slices_S1024x7120_S1024x64_0_3976⟩,
      ⟨S1024x8, extractStridedSlice S1024x8 ![0, 4040] W slices_S1024x7120_S1024x8_0_4040⟩,
      ⟨S1024x4, extractStridedSlice S1024x4 ![0, 3584] W slices_S1024x7120_S1024x4_0_3584⟩,
      ⟨S1024x4, extractStridedSlice S1024x4 ![0, 3588] W slices_S1024x7120_S1024x4_0_3588⟩,
      ⟨S1024x48, broadcastInDim S1024x48 ![] bcast_S_S1024x48 (constant (F := Ideal) S_ .f32 0x00000000#32)⟩] concatenates_S1024x64_S1024x8_S1024x4_S1024x4_S1024x48_S1024x128_d1⟩,
    ⟨S1024x3072, extractStridedSlice S1024x3072 ![0, 4048] W slices_S1024x7120_S1024x3072_0_4048⟩]
    concatenates_S1024x1536_S1024x512_S1024x512_S1024x256_S1024x128_S1024x128_S1024x3072_S1024x6144_d1

theorem weights (c : Dev nD) : V m c main_v13
    = (truncf .bf16 (packed (m ((c : Thread nD τ).loc main_arg1))) bitsLt_bf16_f32 : FVec Ideal S1024x6144 .bf16) := by
  show StableHlo.after hostOps0 (fun b => m (c, b)) main_v13 = _
  after_results
  rfl

/-- The reference's term over the kernel's arguments. -/
abbrev ref (X : FVec Ideal S32768x1024 .f32) (W : FVec Ideal S1024x7120 .f32) : FVec Ideal S32768x6144 .f32 :=
  Cert.Reference3Ideal.Read.val_main_v12 (F := Ideal) X W

theorem prod (X : FVec Ideal S32768x1024 .f32) (W : FVec Ideal S1024x7120 .f32) (i : Cert.Reference3Ideal.S32768x7120.Idx) :
    Cert.Reference3Ideal.Read.val_main_v0 (F := Ideal) X W i = ∑ k : Fin 1024, X (ix2 (i 0) k) * W (ix2 k (i 1)) := by
  rw [Cert.Reference3Ideal.Read.val_main_v0_apply]
  refine Finset.sum_congr rfl fun k _ => congrArg₂ (· * ·) ?_ ?_
  · blk_ext
  · blk_ext

/-- A concatenation along the columns read in its piece `k`. -/
theorem cat2 {α : Type} {R C n : ℕ} (xs : List ((s : Shape) × (s.Idx → α))) (h : Shape.Concatenates (xs.map (·.1)) ⟨2, ![R, C]⟩ 1)
    (r : Fin R) (j : Fin C) (k : ℕ) (hk : k < xs.length) (x : (⟨2, ![R, n]⟩ : Shape).Idx → α) (hx : xs[k] = ⟨_, x⟩) (pre : ℕ)
    (hpre : (((xs.take k).map (·.1)).map fun s => if h : s.rank = 2 then s.size ((1 : Fin 2).cast h.symm) else 0).sum = pre)
    (l : Fin n) (hl : pre + l.val = j.val) : concatenate ⟨2, ![R, C]⟩ 1 xs h (ix2 r j) = x (ix2 r l) :=
  concatenate_apply_piece (1 : Fin 2) xs h (ix2 r j) k hk _ x hx rfl pre hpre (ix2 r l)
    (fun b hb => match b, hb with
      | ⟨0, _⟩, _ => rfl
      | ⟨1, _⟩, hb => absurd rfl hb) hl

/-- A slice of columns read at an index. -/
theorem slice2 {α : Type} {R C n o : ℕ} (x : (⟨2, ![R, C]⟩ : Shape).Idx → α) (h : (⟨2, ![R, C]⟩ : Shape).Slices ![0, o] ⟨2, ![R, n]⟩)
    (r : Fin R) (l : Fin n) (q : Fin C) (hq : o + l.val = q.val) :
    extractStridedSlice ⟨2, ![R, n]⟩ ![0, o] x h (ix2 r l) = x (ix2 r q) :=
  extractStridedSlice_apply ![0, o] x h (ix2 r l) (ix2 r q) (fun a => match a with
    | ⟨0, _⟩ => by show r.val = 0 + r.val; omega
    | ⟨1, _⟩ => by show q.val = o + l.val; omega)

/-- Columns first, product after. -/
theorem columns (X : FVec Ideal S32768x1024 .f32) (W : FVec Ideal S1024x7120 .f32) (a : Fin 32768) (b : Fin 6144) :
    ∑ k : Fin 1024, X (ix2 a k) * packed W (ix2 k b) = ref X W (ix2 a b) := by
  have hb := b.isLt
  rcases lt_or_ge b.val 1536 with h0 | h0
  · have e1 : ∀ k : Fin 1024, packed W (ix2 k b) = W (ix2 k ⟨1536 + (b.val - 0), by omega⟩) := fun k =>
      (cat2 _ _ k b 0 (by simp) _ rfl 0 rfl ⟨b.val - 0, by omega⟩ (by show 0 + (b.val - 0) = b.val; omega)).trans
      (slice2 W _ k ⟨b.val - 0, by omega⟩ _ rfl)
    have e2 : ref X W (ix2 a b) = Cert.Reference3Ideal.Read.val_main_v0 (F := Ideal) X W (ix2 a ⟨1536 + (b.val - 0), by omega⟩) :=
      (cat2 _ _ a b 0 (by simp) _ rfl 0 rfl ⟨b.val - 0, by omega⟩ (by show 0 + (b.val - 0) = b.val; omega)).trans
      (slice2 _ _ a ⟨b.val - 0, by omega⟩ _ rfl)
    rw [e2, prod]
    exact Finset.sum_congr rfl fun k _ => congrArg _ (e1 k)
  rcases lt_or_ge b.val 2048 with h1 | h1
  · have e1 : ∀ k : Fin 1024, packed W (ix2 k b) = W (ix2 k ⟨0 + (b.val - 1536), by omega⟩) := fun k =>
      (cat2 _ _ k b 1 (by simp) _ rfl 1536 rfl ⟨b.val - 1536, by omega⟩ (by show 1536 + (b.val - 1536) = b.val; omega)).trans
      (slice2 W _ k ⟨b.val - 1536, by omega⟩ _ rfl)
    have e2 : ref X W (ix2 a b) = Cert.Reference3Ideal.Read.val_main_v0 (F := Ideal) X W (ix2 a ⟨0 + (b.val - 1536), by omega⟩) :=
      (cat2 _ _ a b 1 (by simp) _ rfl 1536 rfl ⟨b.val - 1536, by omega⟩ (by show 1536 + (b.val - 1536) = b.val; omega)).trans
      (slice2 _ _ a ⟨b.val - 1536, by omega⟩ _ rfl)
    rw [e2, prod]
    exact Finset.sum_congr rfl fun k _ => congrArg _ (e1 k)
  rcases lt_or_ge b.val 2560 with h2 | h2
  · have e1 : ∀ k : Fin 1024, packed W (ix2 k b) = W (ix2 k ⟨3072 + (b.val - 2048), by omega⟩) := fun k =>
      (cat2 _ _ k b 2 (by simp) _ rfl 2048 rfl ⟨b.val - 2048, by omega⟩ (by show 2048 + (b.val - 2048) = b.val; omega)).trans
      (slice2 W _ k ⟨b.val - 2048, by omega⟩ _ rfl)
    have e2 : ref X W (ix2 a b) = Cert.Reference3Ideal.Read.val_main_v0 (F := Ideal) X W (ix2 a ⟨3072 + (b.val - 2048), by omega⟩) :=
      (cat2 _ _ a b 2 (by simp) _ rfl 2048 rfl ⟨b.val - 2048, by omega⟩ (by show 2048 + (b.val - 2048) = b.val; omega)).trans
      (slice2 _ _ a ⟨b.val - 2048, by omega⟩ _ rfl)
    rw [e2, prod]
    exact Finset.sum_congr rfl fun k _ => congrArg _ (e1 k)
  rcases lt_or_ge b.val 2816 with h3 | h3
  · have e1 : ∀ k : Fin 1024, packed W (ix2 k b) = W (ix2 k ⟨3592 + (b.val - 2560), by omega⟩) := fun k =>
      (cat2 _ _ k b 3 (by simp) _ rfl 2560 rfl ⟨b.val - 2560, by omega⟩ (by show 2560 + (b.val - 2560) = b.val; omega)).trans
      (slice2 W _ k ⟨b.val - 2560, by omega⟩ _ rfl)
    have e2 : ref X W (ix2 a b) = Cert.Reference3Ideal.Read.val_main_v0 (F := Ideal) X W (ix2 a ⟨3592 + (b.val - 2560), by omega⟩) :=
      (cat2 _ _ a b 3 (by simp) _ rfl 2560 rfl ⟨b.val - 2560, by omega⟩ (by show 2560 + (b.val - 2560) = b.val; omega)).trans
      (slice2 _ _ a ⟨b.val - 2560, by omega⟩ _ rfl)
    rw [e2, prod]
    exact Finset.sum_congr rfl fun k _ => congrArg _ (e1 k)
  rcases lt_or_ge b.val 2944 with h4 | h4
  · have e1 : ∀ k : Fin 1024, packed W (ix2 k b) = W (ix2 k ⟨3848 + (b.val - 2816), by omega⟩) := fun k =>
      (cat2 _ _ k b 4 (by simp) _ rfl 2816 rfl ⟨b.val - 2816, by omega⟩ (by show 2816 + (b.val - 2816) = b.val; omega)).trans
      (slice2 W _ k ⟨b.val - 2816, by omega⟩ _ rfl)
    have e2 : ref X W (ix2 a b) = Cert.Reference3Ideal.Read.val_main_v0 (F := Ideal) X W (ix2 a ⟨3848 + (b.val - 2816), by omega⟩) :=
      (cat2 _ _ a b 4 (by simp) _ rfl 2816 rfl ⟨b.val - 2816, by omega⟩ (by show 2816 + (b.val - 2816) = b.val; omega)).trans
      (slice2 _ _ a ⟨b.val - 2816, by omega⟩ _ rfl)
    rw [e2, prod]
    exact Finset.sum_congr rfl fun k _ => congrArg _ (e1 k)
  rcases lt_or_ge b.val 3008 with h5 | h5
  · have e1 : ∀ k : Fin 1024, packed W (ix2 k b) = W (ix2 k ⟨3976 + (b.val - 2944), by omega⟩) := fun k =>
      (cat2 _ _ k b 5 (by simp) _ rfl 2944 rfl ⟨b.val - 2944, by omega⟩ (by show 2944 + (b.val - 2944) = b.val; omega)).trans
      ((cat2 _ _ k ⟨b.val - 2944, by omega⟩ 0 (by simp) _ rfl 0 rfl ⟨b.val - 2944, by omega⟩ (by show 0 + (b.val - 2944) = b.val - 2944; omega)).trans
      (slice2 W _ k ⟨b.val - 2944, by omega⟩ _ rfl))
    have e2 : ref X W (ix2 a b) = Cert.Reference3Ideal.Read.val_main_v0 (F := Ideal) X W (ix2 a ⟨3976 + (b.val - 2944), by omega⟩) :=
      (cat2 _ _ a b 5 (by simp) _ rfl 2944 rfl ⟨b.val - 2944, by omega⟩ (by show 2944 + (b.val - 2944) = b.val; omega)).trans
      (slice2 _ _ a ⟨b.val - 2944, by omega⟩ _ rfl)
    rw [e2, prod]
    exact Finset.sum_congr rfl fun k _ => congrArg _ (e1 k)
  rcases lt_or_ge b.val 3016 with h6 | h6
  · have e1 : ∀ k : Fin 1024, packed W (ix2 k b) = W (ix2 k ⟨4040 + (b.val - 3008), by omega⟩) := fun k =>
      (cat2 _ _ k b 5 (by simp) _ rfl 2944 rfl ⟨b.val - 2944, by omega⟩ (by show 2944 + (b.val - 2944) = b.val; omega)).trans
      ((cat2 _ _ k ⟨b.val - 2944, by omega⟩ 1 (by simp) _ rfl 64 rfl ⟨b.val - 3008, by omega⟩ (by show 64 + (b.val - 3008) = b.val - 2944; omega)).trans
      (slice2 W _ k ⟨b.val - 3008, by omega⟩ _ rfl))
    have e2 : ref X W (ix2 a b) = Cert.Reference3Ideal.Read.val_main_v0 (F := Ideal) X W (ix2 a ⟨4040 + (b.val - 3008), by omega⟩) :=
      (cat2 _ _ a b 6 (by simp) _ rfl 3008 rfl ⟨b.val - 3008, by omega⟩ (by show 3008 + (b.val - 3008) = b.val; omega)).trans
      (slice2 _ _ a ⟨b.val - 3008, by omega⟩ _ rfl)
    rw [e2, prod]
    exact Finset.sum_congr rfl fun k _ => congrArg _ (e1 k)
  rcases lt_or_ge b.val 3020 with h7 | h7
  · have e1 : ∀ k : Fin 1024, packed W (ix2 k b) = W (ix2 k ⟨3584 + (b.val - 3016), by omega⟩) := fun k =>
      (cat2 _ _ k b 5 (by simp) _ rfl 2944 rfl ⟨b.val - 2944, by omega⟩ (by show 2944 + (b.val - 2944) = b.val; omega)).trans
      ((cat2 _ _ k ⟨b.val - 2944, by omega⟩ 2 (by simp) _ rfl 72 rfl ⟨b.val - 3016, by omega⟩ (by show 72 + (b.val - 3016) = b.val - 2944; omega)).trans
      (slice2 W _ k ⟨b.val - 3016, by omega⟩ _ rfl))
    have e2 : ref X W (ix2 a b) = Cert.Reference3Ideal.Read.val_main_v0 (F := Ideal) X W (ix2 a ⟨3584 + (b.val - 3016), by omega⟩) :=
      (cat2 _ _ a b 7 (by simp) _ rfl 3016 rfl ⟨b.val - 3016, by omega⟩ (by show 3016 + (b.val - 3016) = b.val; omega)).trans
      (slice2 _ _ a ⟨b.val - 3016, by omega⟩ _ rfl)
    rw [e2, prod]
    exact Finset.sum_congr rfl fun k _ => congrArg _ (e1 k)
  rcases lt_or_ge b.val 3024 with h8 | h8
  · have e1 : ∀ k : Fin 1024, packed W (ix2 k b) = W (ix2 k ⟨3588 + (b.val - 3020), by omega⟩) := fun k =>
      (cat2 _ _ k b 5 (by simp) _ rfl 2944 rfl ⟨b.val - 2944, by omega⟩ (by show 2944 + (b.val - 2944) = b.val; omega)).trans
      ((cat2 _ _ k ⟨b.val - 2944, by omega⟩ 3 (by simp) _ rfl 76 rfl ⟨b.val - 3020, by omega⟩ (by show 76 + (b.val - 3020) = b.val - 2944; omega)).trans
      (slice2 W _ k ⟨b.val - 3020, by omega⟩ _ rfl))
    have e2 : ref X W (ix2 a b) = Cert.Reference3Ideal.Read.val_main_v0 (F := Ideal) X W (ix2 a ⟨3588 + (b.val - 3020), by omega⟩) :=
      (cat2 _ _ a b 8 (by simp) _ rfl 3020 rfl ⟨b.val - 3020, by omega⟩ (by show 3020 + (b.val - 3020) = b.val; omega)).trans
      (slice2 _ _ a ⟨b.val - 3020, by omega⟩ _ rfl)
    rw [e2, prod]
    exact Finset.sum_congr rfl fun k _ => congrArg _ (e1 k)
  rcases lt_or_ge b.val 3072 with h9 | h9
  · have e1 : ∀ k : Fin 1024, packed W (ix2 k b) = 0 := fun k =>
      (cat2 _ _ k b 5 (by simp) _ rfl 2944 rfl ⟨b.val - 2944, by omega⟩ (by show 2944 + (b.val - 2944) = b.val; omega)).trans
      ((cat2 _ _ k ⟨b.val - 2944, by omega⟩ 4 (by simp) _ rfl 80 rfl ⟨b.val - 3024, by omega⟩ (by show 80 + (b.val - 3024) = b.val - 2944; omega)).trans (by pointwise))
    have e2 : ref X W (ix2 a b) = 0 :=
      (cat2 _ _ a b 9 (by simp) _ rfl 3024 rfl ⟨b.val - 3024, by omega⟩ (by show 3024 + (b.val - 3024) = b.val; omega)).trans (by pointwise [Cert.Reference3Ideal.Read.val_main_v10, Cert.Reference3Ideal.Read.val_main_cst])
    rw [e2]
    exact Finset.sum_eq_zero fun k _ => by rw [e1 k, mul_zero]
  · have e1 : ∀ k : Fin 1024, packed W (ix2 k b) = W (ix2 k ⟨4048 + (b.val - 3072), by omega⟩) := fun k =>
      (cat2 _ _ k b 6 (by simp) _ rfl 3072 rfl ⟨b.val - 3072, by omega⟩ (by show 3072 + (b.val - 3072) = b.val; omega)).trans
      (slice2 W _ k ⟨b.val - 3072, by omega⟩ _ rfl)
    have e2 : ref X W (ix2 a b) = Cert.Reference3Ideal.Read.val_main_v0 (F := Ideal) X W (ix2 a ⟨4048 + (b.val - 3072), by omega⟩) :=
      (cat2 _ _ a b 10 (by simp) _ rfl 3072 rfl ⟨b.val - 3072, by omega⟩ (by show 3072 + (b.val - 3072) = b.val; omega)).trans
      (slice2 _ _ a ⟨b.val - 3072, by omega⟩ _ rfl)
    rw [e2, prod]
    exact Finset.sum_congr rfl fun k _ => congrArg _ (e1 k)

theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1]
  refine Eq.trans (Finset.sum_congr (M := EReal) rfl fun k _ => congrArg₂ (fun p q : EReal => p * q) ?_ ?_)
    ((columns _ _ ((((cfg0.win 2).blk t).view.emb y) 0) ((((cfg0.win 2).blk t).view.emb y) 1)).trans (congrArg _ ?_))
  · blk_ext [iblk, V, idx t]
  · show V m c main_v13 (((cfg0.win 1).blk t).view.emb _) = _
    rw [weights]
    pointwise
    refine congrArg (packed _) ?_
    funext a
    refine Fin.ext ?_
    match a with
    | ⟨0, _⟩ => blk_simp [idx t]
    | ⟨1, _⟩ => blk_simp [idx t]
  · funext a
    fin_cases a <;> rfl

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Main

namespace Cert.Proof

open Idealize.ShloMosaic Idealize.SL.Sem

theorem algebraic3 : Cert.algebraic_Kernel3Ideal_Reference3Ideal (hKernel3Ideal := Cert.Kernel3Ideal.Gen.facts) (hReference3Ideal := Cert.Reference3Ideal.Gen.facts) :=
  fun m g m' g' _ hagree => ⟨fun c => Cert.Kernel3Ideal.Main.ref (m (c.tc.loc Cert.Kernel3Ideal.main_arg0)) (m (c.tc.loc Cert.Kernel3Ideal.main_arg1)),
    (θ_run _ _ _).mono (fun _ h c => ⟨(h c).1.trans (Cert.Kernel3Ideal.Main.final m c), (h c).2⟩) (Cert.Kernel3Ideal.Value.run_blocks m g),
    (θ_run _ _ _).mono (fun _ h c => ⟨(h c).1.trans (by
      rw [(hagree c).1, (hagree c).2]; exact Cert.Reference3Ideal.Read.val_main_v12_eq _ _), (h c).2⟩) (Cert.Reference3Ideal.Value.run m' g')⟩

end Cert.Proof

end
-- ==== Proof.V4.lean ====
/- What the projection to the attention's keys and values computes, over exact arithmetic: each block the grid writes is
   the product of the token rows with columns 512 to 1535 of the input weights. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Kernel4Ideal.Main

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The weights as the region finds them: the columns the keys and values are made of. -/
theorem weights (c : Dev nD) : V m c main_v15
    = (truncf .bf16 (extractStridedSlice S1024x1024 ![0, 512] (m ((c : Thread nD τ).loc main_arg1) : FVec Ideal S1024x7120 .f32) slices_S1024x7120_S1024x1024_0_512 : FVec Ideal S1024x1024 .f32) bitsLt_bf16_f32 : FVec Ideal S1024x1024 .bf16) := by
  show StableHlo.after hostOps0 (fun b => m (c, b)) main_v15 = _
  after_results

theorem weights_apply (c : Dev nD) (i : S1024x1024.Idx) (j : S1024x7120.Idx) (h0 : (j 0).val = (i 0).val) (h1 : (j 1).val = 512 + (i 1).val) :
    V m c main_v15 i = m ((c : Thread nD τ).loc main_arg1) j := by
  rw [weights m c]
  pointwise
  blk_ext

/-- The reference's term over the kernel's arguments. -/
abbrev ref (X : FVec Ideal S32768x1024 .f32) (W : FVec Ideal S1024x7120 .f32) : FVec Ideal S32768x1024 .bf16 :=
  Cert.Reference4Ideal.Read.val_main_v2 (F := Ideal) X W

theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  unfold ref
  rw [Cert.Reference4Ideal.Read.val_main_v2_apply, Cert.Reference4Ideal.Read.val_main_v1_apply, Cert.Reference4Ideal.Read.val_main_v0_apply]
  pointwise [k0_pay1]
  refine Finset.sum_congr rfl fun k _ => congrArg₂ (· * ·) ?_ ?_
  · blk_ext [iblk, V, idx t]
  · show V m c main_v15 (((cfg0.win 1).blk t).view.emb _) = _
    refine weights_apply m c _ _ ?_ ?_
    · blk_simp [idx t]
    · show 512 + ((((cfg0.win 2).blk t).view.emb y) 1).val = _
      blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Main

namespace Cert.Proof

open Idealize.ShloMosaic Idealize.SL.Sem

theorem algebraic4 : Cert.algebraic_Kernel4Ideal_Reference4Ideal (hKernel4Ideal := Cert.Kernel4Ideal.Gen.facts) (hReference4Ideal := Cert.Reference4Ideal.Gen.facts) :=
  fun m g m' g' _ hagree => ⟨fun c => Cert.Kernel4Ideal.Main.ref (m (c.tc.loc Cert.Kernel4Ideal.main_arg0)) (m (c.tc.loc Cert.Kernel4Ideal.main_arg1)),
    (θ_run _ _ _).mono (fun _ h c => ⟨(h c).1.trans (Cert.Kernel4Ideal.Main.final m c), (h c).2⟩) (Cert.Kernel4Ideal.Value.run_blocks m g),
    (θ_run _ _ _).mono (fun _ h c => ⟨(h c).1.trans (by
      rw [(hagree c).1, (hagree c).2]; exact Cert.Reference4Ideal.Read.val_main_v2_eq _ _), (h c).2⟩) (Cert.Reference4Ideal.Value.run m' g')⟩

end Cert.Proof

end
-- ==== Proof.D1.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

/-- One half's running state: the row maxima, the row sums, the weighted rows. -/
structure St (F : FTy → Type) where
  m : FVec F S512x128 .f32
  l : FVec F S512x128 .f32
  a : FVec F S512x128 .f32

/-- The scores of one half of the queries against one block of keys. -/
def scores (q : FVec F S512x128 .bf16) (kb : FVec F S512x128 .bf16) : FVec F S512x512 .f32 :=
  matmul dot_S512x128_S512x128_S512x512_1_1_0_0_n_n none q kb (constant S512x512 .f32 0x00000000#32)

/-- The row maxima after a block of scores. -/
def nextM (s : FVec F S512x512 .f32) (m : FVec F S512x128 .f32) : FVec F S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

/-- The block's weights against the new row maxima. -/
def weights (s : FVec F S512x512 .f32) (m' : FVec F S512x128 .f32) : FVec F S512x512 .f32 :=
  exp2 (subf s (concatenate S512x512 1 [⟨S512x128, m'⟩, ⟨S512x128, m'⟩, ⟨S512x128, m'⟩, ⟨S512x128, m'⟩] concatenates_S512x128_S512x128_S512x128_S512x128_S512x512_d1))

/-- The state after a block of scores and its values. -/
def stepS (s : FVec F S512x512 .f32) (vb : FVec F S512x128 .bf16) (x : St F) : St F where
  m := shapeCast S512x128 (nextM s x.m) shapeCasts_S512x128_S512x128
  l := shapeCast S512x128 (addf (mulf (exp2 (subf x.m (nextM s x.m))) x.l)
    (broadcastTo S512x128 (shapeCast S512x1 (multiReduction .add [1] S512 (weights s (nextM s x.m)) 0x00000000#32 reduces_S512x512_S512 (.inl rfl) rfl) shapeCasts_S512_S512x1) broadcasts_S512x1_S512x128)) shapeCasts_S512x128_S512x128
  a := shapeCast S512x128 (addf (mulf (exp2 (subf x.m (nextM s x.m))) x.a)
    (matmul dot_S512x512_S512x128_S512x128_1_0_0_1_n_n none (truncf .bf16 (weights s (nextM s x.m)) bitsLt_bf16_f32) vb (constant S512x128 .f32 0x00000000#32))) shapeCasts_S512x128_S512x128

/-- The upper half of a scratch buffer, and its lower half. -/
abbrev rT : Rect S1024x128 := Rect.unit ![0, 0] S512x128.size inb_S1024x128_S512x128_0_0
abbrev rB : Rect S1024x128 := Rect.unit ![512, 0] S512x128.size inb_S1024x128_S512x128_512_0

/-- The two halves of the scaled queries. -/
def qT (q : FVec F S1024x128 .bf16) : FVec F S512x128 .bf16 := extractStridedSlice S512x128 ![0, 0] q slices_S1024x128_o0_0_S512x128
def qB (q : FVec F S1024x128 .bf16) : FVec F S512x128 .bf16 := extractStridedSlice S512x128 ![512, 0] q slices_S1024x128_o512_0_S512x128

section Rules
variable (v : View sig .tc .vmem S1024x128 .f32) (f : BufTy.Contents (Elt F) v.ty) (w : FVec F S512x128 .f32) (L : List (View.Piece (Elt F) S1024x128 .f32))

theorem topSame : v.readAt (Elt F) rT.toLoadRect (v.writes (Elt F) f (⟨rT, w⟩ :: L)) = w :=
  funext fun j => View.read_writes_cons_emb v f rT w L j

theorem botSame : v.readAt (Elt F) rB.toLoadRect (v.writes (Elt F) f (⟨rB, w⟩ :: L)) = w :=
  funext fun j => View.read_writes_cons_emb v f rB w L j

theorem topSkip : v.readAt (Elt F) rT.toLoadRect (v.writes (Elt F) f (⟨rB, w⟩ :: L)) = v.readAt (Elt F) rT.toLoadRect (v.writes (Elt F) f L) :=
  funext fun j => View.read_writes_cons_unit_of_not_mem v f inb_S1024x128_S512x128_512_0 w L (rT.toLoadRect.idx j) rfl 0 (Or.inl (by
    have : (j 0).val < 512 := (j 0).isLt
    show 0 + 1 * (j 0).val < 512
    omega))

theorem botSkip : v.readAt (Elt F) rB.toLoadRect (v.writes (Elt F) f (⟨rT, w⟩ :: L)) = v.readAt (Elt F) rB.toLoadRect (v.writes (Elt F) f L) :=
  funext fun j => View.read_writes_cons_unit_of_not_mem v f inb_S1024x128_S512x128_0_0 w L (rB.toLoadRect.idx j) rfl 0 (Or.inr (by
    show 0 + 512 ≤ 512 + 1 * (j 0).val
    omega))

theorem covT : v.readCov (⟨rT, w⟩ :: L) rT.toLoadRect = w := topSame v _ w L
theorem covB : v.readCov (⟨rB, w⟩ :: L) rB.toLoadRect = w := botSame v _ w L
theorem covTskip : v.readCov (⟨rB, w⟩ :: L) rT.toLoadRect = v.readCov L rT.toLoadRect := topSkip v _ w L
theorem covBskip : v.readCov (⟨rT, w⟩ :: L) rB.toLoadRect = v.readCov L rB.toLoadRect := botSkip v _ w L
end Rules

/-- A half of three scratch buffers as a state. -/
def top (arg9 arg10 arg11 : Memref sig .tc .vmem S1024x128 .f32) (f9 : BufTy.Contents (Elt F) arg9.view.ty) (f10 : BufTy.Contents (Elt F) arg10.view.ty) (f11 : BufTy.Contents (Elt F) arg11.view.ty) : St F :=
  ⟨arg9.view.readAt (Elt F) rT.toLoadRect f9, arg10.view.readAt (Elt F) rT.toLoadRect f10, arg11.view.readAt (Elt F) rT.toLoadRect f11⟩
def bot (arg9 arg10 arg11 : Memref sig .tc .vmem S1024x128 .f32) (f9 : BufTy.Contents (Elt F) arg9.view.ty) (f10 : BufTy.Contents (Elt F) arg10.view.ty) (f11 : BufTy.Contents (Elt F) arg11.view.ty) : St F :=
  ⟨arg9.view.readAt (Elt F) rB.toLoadRect f9, arg10.view.readAt (Elt F) rB.toLoadRect f10, arg11.view.readAt (Elt F) rB.toLoadRect f11⟩

section Trip
variable (i : grid0.Coords) (arg6 : Memref sig .tc .vmem S16384x128 .bf16) (arg7 : Memref sig .tc .vmem S16384x128 .bf16) (arg9 : Memref sig .tc .vmem S1024x128 .f32) (arg10 : Memref sig .tc .vmem S1024x128 .f32) (arg11 : Memref sig .tc .vmem S1024x128 .f32) (v13 : FVec F S1024x128 .bf16) (X_arg6 : BufTy.Contents (Elt F) arg6.view.ty) (X_arg7 : BufTy.Contents (Elt F) arg7.view.ty) (k : Fin (k0_t1_loop i).trips) (f_arg9 : BufTy.Contents (Elt F) arg9.view.ty) (f_arg10 : BufTy.Contents (Elt F) arg10.view.ty) (f_arg11 : BufTy.Contents (Elt F) arg11.view.ty)

/-- The block of keys, and of values, that turn `r` of a trip reads. -/
def kB (r : Fin 4) : FVec F S512x128 .bf16 := arg6.view.readAt (Elt F) (Rect.unit (s := S16384x128) (k0_off1 i k (BitVec.ofNat 32 r.val)) S512x128.size (k0_off1_inb i k r)).toLoadRect X_arg6
def vB (r : Fin 4) : FVec F S512x128 .bf16 := arg7.view.readAt (Elt F) (Rect.unit (s := S16384x128) (k0_off1 i k (BitVec.ofNat 32 r.val)) S512x128.size (k0_off1_inb i k r)).toLoadRect X_arg7

theorem blkT0 : (⟨(trip_k0_t1.sl.v250 i arg6 arg9 v13 X_arg6 k f_arg9), (trip_k0_t1.sl.v247 i arg6 arg9 arg10 v13 X_arg6 k f_arg9 f_arg10), (trip_k0_t1.sl.v256 i arg6 arg7 arg9 arg11 v13 X_arg6 X_arg7 k f_arg9 f_arg11)⟩ : St F)
    = stepS (scores (qT v13) (kB i arg6 X_arg6 k 0)) (vB i arg7 X_arg7 k 0) (top arg9 arg10 arg11 f_arg9 f_arg10 f_arg11) := rfl
theorem blkB0 : (⟨(trip_k0_t1.sl.v268 i arg6 arg9 v13 X_arg6 k f_arg9), (trip_k0_t1.sl.v265 i arg6 arg9 arg10 v13 X_arg6 k f_arg9 f_arg10), (trip_k0_t1.sl.v274 i arg6 arg7 arg9 arg11 v13 X_arg6 X_arg7 k f_arg9 f_arg11)⟩ : St F)
    = stepS (scores (qB v13) (kB i arg6 X_arg6 k 0)) (vB i arg7 X_arg7 k 0) (bot arg9 arg10 arg11 f_arg9 f_arg10 f_arg11) := rfl
theorem blkT1 : (⟨(trip_k0_t1.sl.v322 i arg6 arg9 v13 X_arg6 k f_arg9), (trip_k0_t1.sl.v319 i arg6 arg9 arg10 v13 X_arg6 k f_arg9 f_arg10), (trip_k0_t1.sl.v328 i arg6 arg7 arg9 arg11 v13 X_arg6 X_arg7 k f_arg9 f_arg11)⟩ : St F)
    = stepS (scores (qT v13) (kB i arg6 X_arg6 k 1)) (vB i arg7 X_arg7 k 1) (⟨(trip_k0_t1.sl.v287 i arg6 arg9 v13 X_arg6 k f_arg9), (trip_k0_t1.sl.v311 i arg6 arg9 arg10 v13 X_arg6 k f_arg9 f_arg10), (trip_k0_t1.sl.v323 i arg6 arg7 arg9 arg11 v13 X_arg6 X_arg7 k f_arg9 f_arg11)⟩ : St F) := rfl
theorem blkB1 : (⟨(trip_k0_t1.sl.v340 i arg6 arg9 v13 X_arg6 k f_arg9), (trip_k0_t1.sl.v337 i arg6 arg9 arg10 v13 X_arg6 k f_arg9 f_arg10), (trip_k0_t1.sl.v346 i arg6 arg7 arg9 arg11 v13 X_arg6 X_arg7 k f_arg9 f_arg11)⟩ : St F)
    = stepS (scores (qB v13) (kB i arg6 X_arg6 k 1)) (vB i arg7 X_arg7 k 1) (⟨(trip_k0_t1.sl.v288 i arg6 arg9 v13 X_arg6 k f_arg9), (trip_k0_t1.sl.v329 i arg6 arg9 arg10 v13 X_arg6 k f_arg9 f_arg10), (trip_k0_t1.sl.v341 i arg6 arg7 arg9 arg11 v13 X_arg6 X_arg7 k f_arg9 f_arg11)⟩ : St F) := rfl
theorem blkT2 : (⟨(trip_k0_t1.sl.v394 i arg6 arg9 v13 X_arg6 k f_arg9), (trip_k0_t1.sl.v391 i arg6 arg9 arg10 v13 X_arg6 k f_arg9 f_arg10), (trip_k0_t1.sl.v400 i arg6 arg7 arg9 arg11 v13 X_arg6 X_arg7 k f_arg9 f_arg11)⟩ : St F)
    = stepS (scores (qT v13) (kB i arg6 X_arg6 k 2)) (vB i arg7 X_arg7 k 2) (⟨(trip_k0_t1.sl.v359 i arg6 arg9 v13 X_arg6 k f_arg9), (trip_k0_t1.sl.v383 i arg6 arg9 arg10 v13 X_arg6 k f_arg9 f_arg10), (trip_k0_t1.sl.v395 i arg6 arg7 arg9 arg11 v13 X_arg6 X_arg7 k f_arg9 f_arg11)⟩ : St F) := rfl
theorem blkB2 : (⟨(trip_k0_t1.sl.v412 i arg6 arg9 v13 X_arg6 k f_arg9), (trip_k0_t1.sl.v409 i arg6 arg9 arg10 v13 X_arg6 k f_arg9 f_arg10), (trip_k0_t1.sl.v418 i arg6 arg7 arg9 arg11 v13 X_arg6 X_arg7 k f_arg9 f_arg11)⟩ : St F)
    = stepS (scores (qB v13) (kB i arg6 X_arg6 k 2)) (vB i arg7 X_arg7 k 2) (⟨(trip_k0_t1.sl.v360 i arg6 arg9 v13 X_arg6 k f_arg9), (trip_k0_t1.sl.v401 i arg6 arg9 arg10 v13 X_arg6 k f_arg9 f_arg10), (trip_k0_t1.sl.v413 i arg6 arg7 arg9 arg11 v13 X_arg6 X_arg7 k f_arg9 f_arg11)⟩ : St F) := rfl
theorem ldT1 : (⟨(trip_k0_t1.sl.v287 i arg6 arg9 v13 X_arg6 k f_arg9), (trip_k0_t1.sl.v311 i arg6 arg9 arg10 v13 X_arg6 k f_arg9 f_arg10), (trip_k0_t1.sl.v323 i arg6 arg7 arg9 arg11 v13 X_arg6 X_arg7 k f_arg9 f_arg11)⟩ : St F) = (⟨(trip_k0_t1.sl.v250 i arg6 arg9 v13 X_arg6 k f_arg9), (trip_k0_t1.sl.v247 i arg6 arg9 arg10 v13 X_arg6 k f_arg9 f_arg10), (trip_k0_t1.sl.v256 i arg6 arg7 arg9 arg11 v13 X_arg6 X_arg7 k f_arg9 f_arg11)⟩ : St F) := by
  refine congr (congr (congrArg St.mk ?_) ?_) ?_
  · unfold trip_k0_t1.sl.v287 trip_k0_t1.sl.HW_arg9_2
    exact (covTskip _ _ _).trans (covT _ _ _)
  · unfold trip_k0_t1.sl.v311 trip_k0_t1.sl.HW_arg10_2
    exact (covTskip _ _ _).trans (covT _ _ _)
  · unfold trip_k0_t1.sl.v323 trip_k0_t1.sl.HW_arg11_2
    exact (covTskip _ _ _).trans (covT _ _ _)
theorem ldB1 : (⟨(trip_k0_t1.sl.v288 i arg6 arg9 v13 X_arg6 k f_arg9), (trip_k0_t1.sl.v329 i arg6 arg9 arg10 v13 X_arg6 k f_arg9 f_arg10), (trip_k0_t1.sl.v341 i arg6 arg7 arg9 arg11 v13 X_arg6 X_arg7 k f_arg9 f_arg11)⟩ : St F) = (⟨(trip_k0_t1.sl.v268 i arg6 arg9 v13 X_arg6 k f_arg9), (trip_k0_t1.sl.v265 i arg6 arg9 arg10 v13 X_arg6 k f_arg9 f_arg10), (trip_k0_t1.sl.v274 i arg6 arg7 arg9 arg11 v13 X_arg6 X_arg7 k f_arg9 f_arg11)⟩ : St F) := by
  refine congr (congr (congrArg St.mk ?_) ?_) ?_
  · unfold trip_k0_t1.sl.v288 trip_k0_t1.sl.HW_arg9_2
    exact covB _ _ _
  · unfold trip_k0_t1.sl.v329 trip_k0_t1.sl.HW_arg10_3 trip_k0_t1.sl.HW_arg10_2
    exact (covBskip _ _ _).trans (covB _ _ _)
  · unfold trip_k0_t1.sl.v341 trip_k0_t1.sl.HW_arg11_3 trip_k0_t1.sl.HW_arg11_2
    exact (covBskip _ _ _).trans (covB _ _ _)
theorem ldT2 : (⟨(trip_k0_t1.sl.v359 i arg6 arg9 v13 X_arg6 k f_arg9), (trip_k0_t1.sl.v383 i arg6 arg9 arg10 v13 X_arg6 k f_arg9 f_arg10), (trip_k0_t1.sl.v395 i arg6 arg7 arg9 arg11 v13 X_arg6 X_arg7 k f_arg9 f_arg11)⟩ : St F) = (⟨(trip_k0_t1.sl.v322 i arg6 arg9 v13 X_arg6 k f_arg9), (trip_k0_t1.sl.v319 i arg6 arg9 arg10 v13 X_arg6 k f_arg9 f_arg10), (trip_k0_t1.sl.v328 i arg6 arg7 arg9 arg11 v13 X_arg6 X_arg7 k f_arg9 f_arg11)⟩ : St F) := by
  refine congr (congr (congrArg St.mk ?_) ?_) ?_
  · unfold trip_k0_t1.sl.v359 trip_k0_t1.sl.HW_arg9_4 trip_k0_t1.sl.HW_arg9_3
    exact (covTskip _ _ _).trans (covT _ _ _)
  · unfold trip_k0_t1.sl.v383 trip_k0_t1.sl.HW_arg10_4 trip_k0_t1.sl.HW_arg10_3
    exact (covTskip _ _ _).trans (covT _ _ _)
  · unfold trip_k0_t1.sl.v395 trip_k0_t1.sl.HW_arg11_4 trip_k0_t1.sl.HW_arg11_3
    exact (covTskip _ _ _).trans (covT _ _ _)
theorem ldB2 : (⟨(trip_k0_t1.sl.v360 i arg6 arg9 v13 X_arg6 k f_arg9), (trip_k0_t1.sl.v401 i arg6 arg9 arg10 v13 X_arg6 k f_arg9 f_arg10), (trip_k0_t1.sl.v413 i arg6 arg7 arg9 arg11 v13 X_arg6 X_arg7 k f_arg9 f_arg11)⟩ : St F) = (⟨(trip_k0_t1.sl.v340 i arg6 arg9 v13 X_arg6 k f_arg9), (trip_k0_t1.sl.v337 i arg6 arg9 arg10 v13 X_arg6 k f_arg9 f_arg10), (trip_k0_t1.sl.v346 i arg6 arg7 arg9 arg11 v13 X_arg6 X_arg7 k f_arg9 f_arg11)⟩ : St F) := by
  refine congr (congr (congrArg St.mk ?_) ?_) ?_
  · unfold trip_k0_t1.sl.v360 trip_k0_t1.sl.HW_arg9_4
    exact covB _ _ _
  · unfold trip_k0_t1.sl.v401 trip_k0_t1.sl.HW_arg10_5 trip_k0_t1.sl.HW_arg10_4
    exact (covBskip _ _ _).trans (covB _ _ _)
  · unfold trip_k0_t1.sl.v413 trip_k0_t1.sl.HW_arg11_5 trip_k0_t1.sl.HW_arg11_4
    exact (covBskip _ _ _).trans (covB _ _ _)
theorem ldT3 : (⟨(trip_k0_t1.sl.v431 i arg6 arg9 v13 X_arg6 k f_arg9), (trip_k0_t1.sl.v455 i arg6 arg9 arg10 v13 X_arg6 k f_arg9 f_arg10), (trip_k0_t1.sl.v467 i arg6 arg7 arg9 arg11 v13 X_arg6 X_arg7 k f_arg9 f_arg11)⟩ : St F) = (⟨(trip_k0_t1.sl.v394 i arg6 arg9 v13 X_arg6 k f_arg9), (trip_k0_t1.sl.v391 i arg6 arg9 arg10 v13 X_arg6 k f_arg9 f_arg10), (trip_k0_t1.sl.v400 i arg6 arg7 arg9 arg11 v13 X_arg6 X_arg7 k f_arg9 f_arg11)⟩ : St F) := by
  refine congr (congr (congrArg St.mk ?_) ?_) ?_
  · unfold trip_k0_t1.sl.v431 trip_k0_t1.sl.HW_arg9_6 trip_k0_t1.sl.HW_arg9_5
    exact (covTskip _ _ _).trans (covT _ _ _)
  · unfold trip_k0_t1.sl.v455 trip_k0_t1.sl.HW_arg10_6 trip_k0_t1.sl.HW_arg10_5
    exact (covTskip _ _ _).trans (covT _ _ _)
  · unfold trip_k0_t1.sl.v467 trip_k0_t1.sl.HW_arg11_6 trip_k0_t1.sl.HW_arg11_5
    exact (covTskip _ _ _).trans (covT _ _ _)
theorem ldB3 : (⟨(trip_k0_t1.sl.v432 i arg6 arg9 v13 X_arg6 k f_arg9), (trip_k0_t1.sl.v473 i arg6 arg9 arg10 v13 X_arg6 k f_arg9 f_arg10), (trip_k0_t1.sl.v485 i arg6 arg7 arg9 arg11 v13 X_arg6 X_arg7 k f_arg9 f_arg11)⟩ : St F) = (⟨(trip_k0_t1.sl.v412 i arg6 arg9 v13 X_arg6 k f_arg9), (trip_k0_t1.sl.v409 i arg6 arg9 arg10 v13 X_arg6 k f_arg9 f_arg10), (trip_k0_t1.sl.v418 i arg6 arg7 arg9 arg11 v13 X_arg6 X_arg7 k f_arg9 f_arg11)⟩ : St F) := by
  refine congr (congr (congrArg St.mk ?_) ?_) ?_
  · unfold trip_k0_t1.sl.v432 trip_k0_t1.sl.HW_arg9_6
    exact covB _ _ _
  · unfold trip_k0_t1.sl.v473 trip_k0_t1.sl.HW_arg10_7 trip_k0_t1.sl.HW_arg10_6
    exact (covBskip _ _ _).trans (covB _ _ _)
  · unfold trip_k0_t1.sl.v485 trip_k0_t1.sl.HW_arg11_7 trip_k0_t1.sl.HW_arg11_6
    exact (covBskip _ _ _).trans (covB _ _ _)
end Trip

theorem tripT (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (v13 : FVec F S1024x128 .bf16) (v26 : BitVec 32) (c4_i32 : BitVec 32) (v27 : BitVec 32) (v32 : BitVec 32) (c0_i32_14 : BitVec 32) (X_arg6 : BufTy.Contents (Elt F) arg6.view.ty) (X_arg7 : BufTy.Contents (Elt F) arg7.view.ty) (k : Fin (k0_t1_loop i).trips) (f_arg9 : BufTy.Contents (Elt F) arg9.view.ty) (f_arg10 : BufTy.Contents (Elt F) arg10.view.ty) (f_arg11 : BufTy.Contents (Elt F) arg11.view.ty) :
    top arg9 arg10 arg11 (arg9.view.writes (Elt F) f_arg9 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).1) (arg10.view.writes (Elt F) f_arg10 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).2.1) (arg11.view.writes (Elt F) f_arg11 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).2.2)
      = (stepS (scores (qT v13) (kB i arg6 X_arg6 k 3)) (vB i arg7 X_arg7 k 3) (stepS (scores (qT v13) (kB i arg6 X_arg6 k 2)) (vB i arg7 X_arg7 k 2) (stepS (scores (qT v13) (kB i arg6 X_arg6 k 1)) (vB i arg7 X_arg7 k 1) (stepS (scores (qT v13) (kB i arg6 X_arg6 k 0)) (vB i arg7 X_arg7 k 0) (top arg9 arg10 arg11 f_arg9 f_arg10 f_arg11))))) := by
  rw [← blkT0 i arg6 arg7 arg9 arg10 arg11 v13 X_arg6 X_arg7 k f_arg9 f_arg10 f_arg11, ← ldT1 i arg6 arg7 arg9 arg10 arg11 v13 X_arg6 X_arg7 k f_arg9 f_arg10 f_arg11, ← blkT1 i arg6 arg7 arg9 arg10 arg11 v13 X_arg6 X_arg7 k f_arg9 f_arg10 f_arg11, ← ldT2 i arg6 arg7 arg9 arg10 arg11 v13 X_arg6 X_arg7 k f_arg9 f_arg10 f_arg11, ← blkT2 i arg6 arg7 arg9 arg10 arg11 v13 X_arg6 X_arg7 k f_arg9 f_arg10 f_arg11, ← ldT3 i arg6 arg7 arg9 arg10 arg11 v13 X_arg6 X_arg7 k f_arg9 f_arg10 f_arg11]
  unfold tripL_k0_t1 trip_k0_t1
  dsimp only
  refine congr (congr (congrArg St.mk ?_) ?_) ?_
  · exact (topSkip _ _ _ _).trans ((topSame _ _ _ _).trans rfl)
  · exact (topSkip _ _ _ _).trans ((topSame _ _ _ _).trans rfl)
  · exact (topSkip _ _ _ _).trans ((topSame _ _ _ _).trans rfl)

theorem tripB (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (v13 : FVec F S1024x128 .bf16) (v26 : BitVec 32) (c4_i32 : BitVec 32) (v27 : BitVec 32) (v32 : BitVec 32) (c0_i32_14 : BitVec 32) (X_arg6 : BufTy.Contents (Elt F) arg6.view.ty) (X_arg7 : BufTy.Contents (Elt F) arg7.view.ty) (k : Fin (k0_t1_loop i).trips) (f_arg9 : BufTy.Contents (Elt F) arg9.view.ty) (f_arg10 : BufTy.Contents (Elt F) arg10.view.ty) (f_arg11 : BufTy.Contents (Elt F) arg11.view.ty) :
    bot arg9 arg10 arg11 (arg9.view.writes (Elt F) f_arg9 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).1) (arg10.view.writes (Elt F) f_arg10 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).2.1) (arg11.view.writes (Elt F) f_arg11 (tripL_k0_t1 (F := F) 𝒱 c bd i arg3 harg3 arg4 harg4 arg5 harg5 arg6 harg6 arg7 harg7 arg8 harg8 arg9 harg9 arg10 harg10 arg11 harg11 v13 v26 c4_i32 v27 v32 c0_i32_14 X_arg6 X_arg7 k f_arg9 f_arg10 f_arg11).2.2)
      = (stepS (scores (qB v13) (kB i arg6 X_arg6 k 3)) (vB i arg7 X_arg7 k 3) (stepS (scores (qB v13) (kB i arg6 X_arg6 k 2)) (vB i arg7 X_arg7 k 2) (stepS (scores (qB v13) (kB i arg6 X_arg6 k 1)) (vB i arg7 X_arg7 k 1) (stepS (scores (qB v13) (kB i arg6 X_arg6 k 0)) (vB i arg7 X_arg7 k 0) (bot arg9 arg10 arg11 f_arg9 f_arg10 f_arg11))))) := by
  rw [← blkB0 i arg6 arg7 arg9 arg10 arg11 v13 X_arg6 X_arg7 k f_arg9 f_arg10 f_arg11, ← ldB1 i arg6 arg7 arg9 arg10 arg11 v13 X_arg6 X_arg7 k f_arg9 f_arg10 f_arg11, ← blkB1 i arg6 arg7 arg9 arg10 arg11 v13 X_arg6 X_arg7 k f_arg9 f_arg10 f_arg11, ← ldB2 i arg6 arg7 arg9 arg10 arg11 v13 X_arg6 X_arg7 k f_arg9 f_arg10 f_arg11, ← blkB2 i arg6 arg7 arg9 arg10 arg11 v13 X_arg6 X_arg7 k f_arg9 f_arg10 f_arg11, ← ldB3 i arg6 arg7 arg9 arg10 arg11 v13 X_arg6 X_arg7 k f_arg9 f_arg10 f_arg11]
  unfold tripL_k0_t1 trip_k0_t1
  dsimp only
  refine congr (congr (congrArg St.mk ?_) ?_) ?_
  · exact (botSame _ _ _ _).trans rfl
  · refine (botSame _ _ _ _).trans ?_
    have e : trip_k0_t1.sl.v473 i arg6 arg9 arg10 v13 X_arg6 k f_arg9 f_arg10 = trip_k0_t1.sl.v409 i arg6 arg9 arg10 v13 X_arg6 k f_arg9 f_arg10 := by
      unfold trip_k0_t1.sl.v473 trip_k0_t1.sl.HW_arg10_7 trip_k0_t1.sl.HW_arg10_6
      exact (covBskip _ _ _).trans (covB _ _ _)
    rfl
  · refine (botSame _ _ _ _).trans ?_
    rfl

end Cert.Kernel5Ideal.Main

end
-- ==== Proof.D2.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D1

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

/-- A block of 512 rows of an array of 16384. -/
def blk (X : FVec F S16384x128 .bf16) (n : ℕ) : FVec F S512x128 .bf16 :=
  fun j => X (ix2 ⟨(512 * n + (j 0).val) % 16384, Nat.mod_lt _ (by norm_num)⟩ (j 1))

theorem blk_read (a : Memref sig .tc .vmem S16384x128 .bf16) (ha : a.IsWhole) (X : FVec F S16384x128 .bf16)
    (off : Fin 2 → ℕ) (inb : ∀ x, off x + S512x128.size x ≤ S16384x128.size x) (n : ℕ) (h : off = ![512 * n, 0]) :
    a.view.readAt (Elt F) (Rect.unit (s := S16384x128) off S512x128.size inb).toLoadRect (ha.unread X) = blk X n := by
  subst h
  funext j
  have h0 : 512 * n + 512 ≤ 16384 := inb 0
  have h1 : (j 0).val < 512 := (j 0).isLt
  show a.view.read (Elt F) (ha.unread X) _ = _
  rw [ha.read_unread]
  refine congrArg X (funext fun x => Fin.ext ?_)
  fin_cases x
  · show 512 * n + 1 * (j 0).val = (512 * n + (j 0).val) % 16384
    omega
  · show 0 + 1 * (j 1).val = (j 1).val
    omega

theorem off1_num : ∀ (k : Fin 8) (r : Fin 4), (Scalar.indexCast (Scalar.muli (Scalar.addi (Scalar.muli 4#32 (Scf.iv 0#32 1#32 k.val)) (BitVec.ofNat 32 r.val)) 512#32) : Index).toNat = 512 * (4 * k.val + r.val) := by
  decide +kernel

theorem off1_eq (i : grid0.Coords) (k : Fin (k0_t1_loop i).trips) (r : Fin 4) :
    k0_off1 i k (BitVec.ofNat 32 r.val) = ![512 * (4 * k.val + r.val), 0] := by
  have hk : k.val < 7 := Nat.lt_of_lt_of_le k.isLt (k0_t1_abs i).2.1
  have h := off1_num ⟨k.val, by omega⟩ r
  funext x
  fin_cases x
  · exact h
  · rfl

theorem off3_eq0 : ∀ i : grid0.Coords, k0_off3 i 0#32 = ![512 * (4 * ((i 2).val / 4)), 0] := by decide +kernel
theorem off3_eq1 : ∀ i : grid0.Coords, k0_off3 i 1#32 = ![512 * (4 * ((i 2).val / 4) + 1), 0] := by decide +kernel
theorem off4_eq : ∀ i : grid0.Coords, (i 2).val % 2 = 1 → k0_off4 i = ![512 * ((i 2).val - 1), 0] := by decide +kernel
theorem off5_eq : ∀ i : grid0.Coords, k0_off5 i = ![512 * (i 2).val, 0] := by decide +kernel
theorem trips1_eq : ∀ i : grid0.Coords, Scf.trips (k0_t1_loop i).lb (k0_t1_loop i).ub (k0_t1_loop i).st = (i 2).val / 4 := by decide +kernel
theorem trips2_eq : ∀ i : grid0.Coords, Scf.trips (k0_t2_loop i).lb (k0_t2_loop i).ub (k0_t2_loop i).st = 0 := by decide +kernel

/-- The state after the first blocks of keys. -/
def run (q : FVec F S512x128 .bf16) (K V : FVec F S16384x128 .bf16) (s : St F) : ℕ → St F
  | 0 => s
  | n + 1 => stepS (scores q (blk K n)) (blk V n) (run q K V s n)

theorem kB_eq (i : grid0.Coords) (arg6 : Memref sig .tc .vmem S16384x128 .bf16) (harg6 : arg6.IsWhole) (K : FVec F S16384x128 .bf16) (k : Fin (k0_t1_loop i).trips) (r : Fin 4) :
    kB i arg6 (harg6.unread K) k r = blk K (4 * k.val + r.val) := blk_read arg6 harg6 K _ _ _ (off1_eq i k r)
theorem vB_eq (i : grid0.Coords) (arg7 : Memref sig .tc .vmem S16384x128 .bf16) (harg7 : arg7.IsWhole) (V : FVec F S16384x128 .bf16) (k : Fin (k0_t1_loop i).trips) (r : Fin 4) :
    vB i arg7 (harg7.unread V) k r = blk V (4 * k.val + r.val) := blk_read arg7 harg7 V _ _ _ (off1_eq i k r)

theorem loopT (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (v13 : FVec F S1024x128 .bf16) (v26 : BitVec 32) (c4_i32 : BitVec 32) (v27 : BitVec 32) (v32 : BitVec 32) (c0_i32_14 : BitVec 32) (K V : FVec F S16384x128 .bf16) (G9 : BufTy.Contents (Elt F) arg9.view.ty) (G10 : BufTy.Contents (Elt F) arg10.view.ty) (G11 : BufTy.Contents (Elt F) arg11.view.ty) :
    ∀ n : ℕ, n ≤ (k0_t1_loop i).trips → top arg9 arg10 arg11 (arg9.view.writes (Elt F) G9 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).1) (arg10.view.writes (Elt F) G10 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).2.1) (arg11.view.writes (Elt F) G11 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).2.2)
      = run (qT v13) K V (top arg9 arg10 arg11 G9 G10 G11) (4 * n)
  | 0, _ => rfl
  | n + 1, h => by
    have e := pb_k0_t1_succ (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 ⟨n, h⟩
    have ih := loopT 𝒱 c bd i arg3 harg3 arg4 harg4 arg5 harg5 arg6 harg6 arg7 harg7 arg8 harg8 arg9 harg9 arg10 harg10 arg11 harg11 v13 v26 c4_i32 v27 v32 c0_i32_14 K V G9 G10 G11 n (by omega)
    have e' : (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 (n + 1)) = _ := e
    rw [e']
    dsimp only
    rw [View.writes_append, View.writes_append, View.writes_append, tripT, ih,
      kB_eq, kB_eq, kB_eq, kB_eq, vB_eq, vB_eq, vB_eq, vB_eq]
    rfl

theorem loopB (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (v13 : FVec F S1024x128 .bf16) (v26 : BitVec 32) (c4_i32 : BitVec 32) (v27 : BitVec 32) (v32 : BitVec 32) (c0_i32_14 : BitVec 32) (K V : FVec F S16384x128 .bf16) (G9 : BufTy.Contents (Elt F) arg9.view.ty) (G10 : BufTy.Contents (Elt F) arg10.view.ty) (G11 : BufTy.Contents (Elt F) arg11.view.ty) :
    ∀ n : ℕ, n ≤ (k0_t1_loop i).trips → bot arg9 arg10 arg11 (arg9.view.writes (Elt F) G9 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).1) (arg10.view.writes (Elt F) G10 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).2.1) (arg11.view.writes (Elt F) G11 (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 n).2.2)
      = run (qB v13) K V (bot arg9 arg10 arg11 G9 G10 G11) (4 * n)
  | 0, _ => rfl
  | n + 1, h => by
    have e := pb_k0_t1_succ (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 ⟨n, h⟩
    have ih := loopB 𝒱 c bd i arg3 harg3 arg4 harg4 arg5 harg5 arg6 harg6 arg7 harg7 arg8 harg8 arg9 harg9 arg10 harg10 arg11 harg11 v13 v26 c4_i32 v27 v32 c0_i32_14 K V G9 G10 G11 n (by omega)
    have e' : (pb_k0_t1 (F := F) 𝒱 c bd i arg3 harg3 arg4 harg4 arg5 harg5 arg6 harg6 arg7 harg7 arg8 harg8 arg9 harg9 arg10 harg10 arg11 harg11 v13 v26 c4_i32 v27 v32 c0_i32_14 (harg6.unread K) (harg7.unread V) G9 G10 G11 (n + 1)) = _ := e
    rw [e']
    dsimp only
    rw [View.writes_append, View.writes_append, View.writes_append, tripB, ih,
      kB_eq, kB_eq, kB_eq, kB_eq, vB_eq, vB_eq, vB_eq, vB_eq]
    rfl

end Cert.Kernel5Ideal.Main

end
-- ==== Proof.D3.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D2

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

/-- A whole scratch buffer. -/
abbrev rW : Rect S1024x128 := Rect.unit ![0, 0] S1024x128.size inb_S1024x128_S1024x128_0_0

/-- An upper half over a lower half. -/
def glue (t b : FVec F S512x128 .f32) : FVec F S1024x128 .f32 := fun j =>
  if h : (j 0).val < 512 then t (ix2 ⟨(j 0).val, h⟩ (j 1)) else b (ix2 ⟨(j 0).val - 512, by have : (j 0).val < 1024 := (j 0).isLt; omega⟩ (j 1))

theorem covGlue (v : View sig .tc .vmem S1024x128 .f32) (t b : FVec F S512x128 .f32) (L : List (View.Piece (Elt F) S1024x128 .f32)) :
    v.readCov (⟨rB, b⟩ :: ⟨rT, t⟩ :: L) rW.toLoadRect = glue t b := by
  funext j
  have hj : (j 0).val < 1024 := (j 0).isLt
  unfold glue
  split
  · rename_i h
    have e := congrFun (covTskip v b (⟨rT, t⟩ :: L)) (ix2 ⟨(j 0).val, h⟩ (j 1))
    rw [covT] at e
    refine Eq.trans ?_ e
    show v.read (Elt F) _ _ = v.read (Elt F) _ _
    refine congrArg _ (funext fun x => Fin.ext ?_)
    fin_cases x <;> rfl
  · rename_i h
    have e := congrFun (covB v b (⟨rT, t⟩ :: L)) (ix2 ⟨(j 0).val - 512, by omega⟩ (j 1))
    refine Eq.trans ?_ e
    show v.read (Elt F) _ _ = v.read (Elt F) _ _
    refine congrArg _ (funext fun x => Fin.ext ?_)
    fin_cases x
    · show 0 + 1 * (j 0).val = 512 + 1 * ((j 0).val - 512)
      omega
    · rfl

theorem readW (v : View sig .tc .vmem S1024x128 .f32) (f : BufTy.Contents (Elt F) v.ty) (w : FVec F S1024x128 .f32) (r : LoadRect S1024x128) :
    v.readAt (Elt F) r (v.writes (Elt F) f [⟨rW, w⟩]) = fun j => w (r.idx j) := by
  funext j
  have e := View.read_writes_cons_emb v f rW w [] (r.idx j)
  refine Eq.trans ?_ e
  show v.read (Elt F) _ _ = v.read (Elt F) _ _
  refine congrArg _ (funext fun x => Fin.ext ?_)
  fin_cases x
  · show _ = 0 + 1 * (r.idx j 0).val
    rw [Nat.zero_add, Nat.one_mul]; rfl
  · show _ = 0 + 1 * (r.idx j 1).val
    rw [Nat.zero_add, Nat.one_mul]; rfl

theorem fullQ (a : Memref sig .tc .vmem S512x128 .f32) (ha : a.IsWhole) (X : Vec F S512x128 .f32) (inb : ∀ x, (![0, 0] : Fin 2 → ℕ) x + S512x128.size x ≤ S512x128.size x) :
    a.view.readAt (Elt F) (Rect.unit (s := S512x128) ![0, 0] S512x128.size inb).toLoadRect (ha.unread X) = X := by
  funext j
  show a.view.read (Elt F) (ha.unread X) _ = _
  rw [ha.read_unread]
  refine congrArg X (funext fun x => Fin.ext ?_)
  fin_cases x
  · exact (Nat.zero_add _).trans (Nat.one_mul _)
  · exact (Nat.zero_add _).trans (Nat.one_mul _)

theorem fullL (a : Memref sig .tc .vmem S4x64 .f32) (ha : a.IsWhole) (X : Vec F S4x64 .f32) (inb : ∀ x, (![0, 0] : Fin 2 → ℕ) x + S4x64.size x ≤ S4x64.size x) :
    a.view.readAt (Elt F) (Rect.unit (s := S4x64) ![0, 0] S4x64.size inb).toLoadRect (ha.unread X) = X := by
  funext j
  show a.view.read (Elt F) (ha.unread X) _ = _
  rw [ha.read_unread]
  refine congrArg X (funext fun x => Fin.ext ?_)
  fin_cases x
  · exact (Nat.zero_add _).trans (Nat.one_mul _)
  · exact (Nat.zero_add _).trans (Nat.one_mul _)

theorem fullG (a : Memref sig .tc .vmem S1x128 .f32) (ha : a.IsWhole) (X : Vec F S1x128 .f32) (inb : ∀ x, (![0, 0] : Fin 2 → ℕ) x + S1x128.size x ≤ S1x128.size x) :
    a.view.readAt (Elt F) (Rect.unit (s := S1x128) ![0, 0] S1x128.size inb).toLoadRect (ha.unread X) = X := by
  funext j
  show a.view.read (Elt F) (ha.unread X) _ = _
  rw [ha.read_unread]
  refine congrArg X (funext fun x => Fin.ext ?_)
  fin_cases x
  · exact (Nat.zero_add _).trans (Nat.one_mul _)
  · exact (Nat.zero_add _).trans (Nat.one_mul _)

/-- The block written is the block found. -/
theorem outRead (w : FVec F S512x128 .f32) (inb : ∀ x, (![0, 0] : Fin 2 → ℕ) x + S512x128.size x ≤ S512x128.size x) :
    VO0_5.read (Elt F) (VO0_5.writes (Elt F) VO0_5.junk [⟨Rect.unit (s := S512x128) ![0, 0] S512x128.size inb, w⟩]) = w := by
  funext j
  have e : VO0_5.read (Elt F) (VO0_5.writes (Elt F) VO0_5.junk [⟨Rect.unit (s := S512x128) ![0, 0] S512x128.size inb, w⟩]) ((Rect.unit (s := S512x128) ![0, 0] S512x128.size inb).emb j) = w j :=
    View.read_writes_cons_emb VO0_5 (VO0_5.junk (Val := Elt F)) (Rect.unit (s := S512x128) ![0, 0] S512x128.size inb) w [] j
  refine Eq.trans ?_ e
  refine congrArg _ (funext fun x => Fin.ext ?_)
  fin_cases x
  · exact ((Nat.zero_add _).trans (Nat.one_mul _)).symm
  · exact ((Nat.zero_add _).trans (Nat.one_mul _)).symm

/-- The state before any block. -/
def init : St F := ⟨fun _ => k0_pay170 (ix2 0 0), fun _ => k0_pay171 (ix2 0 0), fun _ => k0_pay172 (ix2 0 0)⟩

/-- What follows the last block: the two halves' means, their difference, its scaling. -/
def fin (x0 : Vec F S4x64 .f32) (x1 : Vec F S1x128 .f32) (A L : FVec F S1024x128 .f32) : FVec F S512x128 .f32 :=
  k0_pay1 (k0_pay210 x0 A L) (k0_pay211 x0 A L) (FloatOps.ofBits FTy.f32 1124073472#32) x1

/-- The state after the block on the diagonal. -/
def last (i : ℕ) (q : FVec F S512x128 .bf16) (K V : FVec F S16384x128 .bf16) : St F :=
  stepS (addf (scores q (blk K i)) (k0_pay192 (BitVec.ofNat 32 i))) (blk V i) (run q K V init i)

theorem startT (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (q : FVec F S1024x128 .bf16) (v26 c4 v27 v32 c0 v48 : BitVec 32) (K V : FVec F S16384x128 .bf16) :
    (⟨arg9.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).1 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) rT.toLoadRect,
      arg10.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).2.1 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) rT.toLoadRect,
      arg11.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).2.2 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) rT.toLoadRect⟩ : St F)
      = run (qT q) K V init (4 * ((i 2).val / 4)) := by
  rw [trips2_eq, pb_k0_t2.eq_1]
  generalize hP : (pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)) = P
  show top arg9 arg10 arg11 (arg9.view.writes (Elt F) _ (P.1 ++ [⟨rW, k0_pay170⟩])) (arg10.view.writes (Elt F) _ (P.2.1 ++ [⟨rW, k0_pay171⟩])) (arg11.view.writes (Elt F) _ (P.2.2 ++ [⟨rW, k0_pay172⟩])) = _
  rw [View.writes_append, View.writes_append, View.writes_append, ← hP]
  refine (loopT 𝒱 c bd i arg3 harg3 arg4 harg4 arg5 harg5 arg6 harg6 arg7 harg7 arg8 harg8 arg9 harg9 arg10 harg10 arg11 harg11 q v26 c4 v27 v32 c0 K V _ _ _ _ le_rfl).trans ?_
  have e0 : top arg9 arg10 arg11 (arg9.view.writes (Elt F) arg9.view.junk [⟨rW, k0_pay170⟩]) (arg10.view.writes (Elt F) arg10.view.junk [⟨rW, k0_pay171⟩]) (arg11.view.writes (Elt F) arg11.view.junk [⟨rW, k0_pay172⟩]) = (init : St F) := by
    unfold top
    rw [readW, readW, readW]
    rfl
  rw [e0]
  exact congrArg (fun n => run (qT q) K V init (4 * n)) (trips1_eq i)

theorem startB (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (q : FVec F S1024x128 .bf16) (v26 c4 v27 v32 c0 v48 : BitVec 32) (K V : FVec F S16384x128 .bf16) :
    (⟨arg9.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).1 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) rB.toLoadRect,
      arg10.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).2.1 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) rB.toLoadRect,
      arg11.view.readCov ((pb_k0_t2 (F := F) 𝒱 c bd i arg3 harg3 arg4 harg4 arg5 harg5 arg6 harg6 arg7 harg7 arg8 harg8 arg9 harg9 arg10 harg10 arg11 harg11 q v26 c4 v27 v32 c0 v48 (harg6.unread K) (harg7.unread V) (arg9.view.writes (Elt F) arg9.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).1 ++ [⟨rW, k0_pay170⟩])) (arg10.view.writes (Elt F) arg10.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.1 ++ [⟨rW, k0_pay171⟩])) (arg11.view.writes (Elt F) arg11.view.junk ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) (Scf.trips (k0_t2_loop i).lb (k0_t2_loop i).ub (k0_t2_loop i).st)).2.2 ++ ((pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)).2.2 ++ [⟨rW, k0_pay172⟩])) rB.toLoadRect⟩ : St F)
      = run (qB q) K V init (4 * ((i 2).val / 4)) := by
  rw [trips2_eq, pb_k0_t2.eq_1]
  generalize hP : (pb_k0_t1 (F := F) 𝒱 c bd i arg3 harg3 arg4 harg4 arg5 harg5 arg6 harg6 arg7 harg7 arg8 harg8 arg9 harg9 arg10 harg10 arg11 harg11 q v26 c4 v27 v32 c0 (harg6.unread K) (harg7.unread V) (arg9.view.writes (Elt F) arg9.view.junk [⟨rW, k0_pay170⟩]) (arg10.view.writes (Elt F) arg10.view.junk [⟨rW, k0_pay171⟩]) (arg11.view.writes (Elt F) arg11.view.junk [⟨rW, k0_pay172⟩]) (Scf.trips (k0_t1_loop i).lb (k0_t1_loop i).ub (k0_t1_loop i).st)) = P
  show bot arg9 arg10 arg11 (arg9.view.writes (Elt F) _ (P.1 ++ [⟨rW, k0_pay170⟩])) (arg10.view.writes (Elt F) _ (P.2.1 ++ [⟨rW, k0_pay171⟩])) (arg11.view.writes (Elt F) _ (P.2.2 ++ [⟨rW, k0_pay172⟩])) = _
  rw [View.writes_append, View.writes_append, View.writes_append, ← hP]
  refine (loopB 𝒱 c bd i arg3 harg3 arg4 harg4 arg5 harg5 arg6 harg6 arg7 harg7 arg8 harg8 arg9 harg9 arg10 harg10 arg11 harg11 q v26 c4 v27 v32 c0 K V _ _ _ _ le_rfl).trans ?_
  have e0 : bot arg9 arg10 arg11 (arg9.view.writes (Elt F) arg9.view.junk [⟨rW, k0_pay170⟩]) (arg10.view.writes (Elt F) arg10.view.junk [⟨rW, k0_pay171⟩]) (arg11.view.writes (Elt F) arg11.view.junk [⟨rW, k0_pay172⟩]) = (init : St F) := by
    unfold bot
    rw [readW, readW, readW]
    rfl
  rw [e0]
  exact congrArg (fun n => run (qB q) K V init (4 * n)) (trips1_eq i)

end Cert.Kernel5Ideal.Main

end
-- ==== Proof.EA.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D3

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

namespace CaseA

theorem ldT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_A.sl.v102 c i arg3 harg3 arg4 harg4 arg5 harg5 arg6 harg6 arg7 harg7 arg8 harg8 arg9 harg9 arg10 harg10 arg11 harg11 x2 x3 x4), (kernelRun0_A.sl.v126 c i arg3 harg3 arg4 harg4 arg5 harg5 arg6 harg6 arg7 harg7 arg8 harg8 arg9 harg9 arg10 harg10 arg11 harg11 x2 x3 x4), (kernelRun0_A.sl.v138 c i arg3 harg3 arg4 harg4 arg5 harg5 arg6 harg6 arg7 harg7 arg8 harg8 arg9 harg9 arg10 harg10 arg11 harg11 x2 x3 x4)⟩ : St F) = run (qT (kernelRun0_A.sl.r c arg5 harg5 x2)) x3 x4 init (4 * ((i 2).val / 4)) := by
  refine Eq.trans ?_ (startT Variants.none c none i arg3 harg3 arg4 harg4 arg5 harg5 arg6 harg6 arg7 harg7 arg8 harg8 arg9 harg9 arg10 harg10 arg11 harg11 (kernelRun0_A.sl.r c arg5 harg5 x2) (kernelRun0_A.sl.v26 i) 4#32 (kernelRun0_A.sl.v27 i) (kernelRun0_A.sl.v32 i) 0#32 (kernelRun0_A.sl.v48 i) x3 x4)
  rfl

theorem beforeT (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : (⟨(kernelRun0_A.sl.v102 c i arg3 harg3 arg4 harg4 arg5 harg5 arg6 harg6 arg7 harg7 arg8 harg8 arg9 harg9 arg10 harg10 arg11 harg11 x2 x3 x4), (kernelRun0_A.sl.v126 c i arg3 harg3 arg4 harg4 arg5 harg5 arg6 harg6 arg7 harg7 arg8 harg8 arg9 harg9 arg10 harg10 arg11 harg11 x2 x3 x4), (kernelRun0_A.sl.v138 c i arg3 harg3 arg4 harg4 arg5 harg5 arg6 harg6 arg7 harg7 arg8 harg8 arg9 harg9 arg10 harg10 arg11 harg11 x2 x3 x4)⟩ : St F) = run (qT (kernelRun0_A.sl.r c arg5 harg5 x2)) x3 x4 init (i 2).val := by
  rw [ldT0 c i arg3 harg3 arg4 harg4 arg5 harg5 arg6 harg6 arg7 harg7 arg8 harg8 arg9 harg9 arg10 harg10 arg11 harg11 hc0 hc1 x0 x1 x2 x3 x4]
  have e : 4 * ((i 2).val / 4) + 0 = (i 2).val := by omega
  exact congrArg (run (qT (kernelRun0_A.sl.r c arg5 harg5 x2)) x3 x4 init) e

theorem diagT_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : k0_pay203 (kernelRun0_A.sl.r_2 c i arg5 harg5 arg6 harg6 x2 x3) (kernelRun0_A.sl.v102 c i arg3 harg3 arg4 harg4 arg5 harg5 arg6 harg6 arg7 harg7 arg8 harg8 arg9 harg9 arg10 harg10 arg11 harg11 x2 x3 x4) (kernelRun0_A.sl.r_4 c i arg3 harg3 arg4 harg4 arg5 harg5 arg6 harg6 arg7 harg7 arg8 harg8 arg9 harg9 arg10 harg10 arg11 harg11 x2 x3 x4) (kernelRun0_A.sl.v126 c i arg3 harg3 arg4 harg4 arg5 harg5 arg6 harg6 arg7 harg7 arg8 harg8 arg9 harg9 arg10 harg10 arg11 harg11 x2 x3 x4) = (last (i 2).val (qT (k0_pay169 x2)) x3 x4).l := by
  have e2 : (kernelRun0_A.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagT_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : k0_pay205 (kernelRun0_A.sl.r_1 i arg7 harg7 x4) (kernelRun0_A.sl.r_2 c i arg5 harg5 arg6 harg6 x2 x3) (kernelRun0_A.sl.v102 c i arg3 harg3 arg4 harg4 arg5 harg5 arg6 harg6 arg7 harg7 arg8 harg8 arg9 harg9 arg10 harg10 arg11 harg11 x2 x3 x4) (kernelRun0_A.sl.r_4 c i arg3 harg3 arg4 harg4 arg5 harg5 arg6 harg6 arg7 harg7 arg8 harg8 arg9 harg9 arg10 harg10 arg11 harg11 x2 x3 x4) (kernelRun0_A.sl.v138 c i arg3 harg3 arg4 harg4 arg5 harg5 arg6 harg6 arg7 harg7 arg8 harg8 arg9 harg9 arg10 harg10 arg11 harg11 x2 x3 x4) = (last (i 2).val (qT (k0_pay169 x2)) x3 x4).a := by
  have e2 : (kernelRun0_A.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem ldB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_A.sl.v103 c i arg3 harg3 arg4 harg4 arg5 harg5 arg6 harg6 arg7 harg7 arg8 harg8 arg9 harg9 arg10 harg10 arg11 harg11 x2 x3 x4), (kernelRun0_A.sl.v144 c i arg3 harg3 arg4 harg4 arg5 harg5 arg6 harg6 arg7 harg7 arg8 harg8 arg9 harg9 arg10 harg10 arg11 harg11 x2 x3 x4), (kernelRun0_A.sl.v156 c i arg3 harg3 arg4 harg4 arg5 harg5 arg6 harg6 arg7 harg7 arg8 harg8 arg9 harg9 arg10 harg10 arg11 harg11 x2 x3 x4)⟩ : St F) = run (qB (kernelRun0_A.sl.r c arg5 harg5 x2)) x3 x4 init (4 * ((i 2).val / 4)) := by
  refine Eq.trans ?_ (startB Variants.none c none i arg3 harg3 arg4 harg4 arg5 harg5 arg6 harg6 arg7 harg7 arg8 harg8 arg9 harg9 arg10 harg10 arg11 harg11 (kernelRun0_A.sl.r c arg5 harg5 x2) (kernelRun0_A.sl.v26 i) 4#32 (kernelRun0_A.sl.v27 i) (kernelRun0_A.sl.v32 i) 0#32 (kernelRun0_A.sl.v48 i) x3 x4)
  refine congr (congr (congrArg St.mk ?_) ?_) ?_
  · rfl
  · exact covBskip _ _ _
  · exact covBskip _ _ _

theorem beforeB (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : (⟨(kernelRun0_A.sl.v103 c i arg3 harg3 arg4 harg4 arg5 harg5 arg6 harg6 arg7 harg7 arg8 harg8 arg9 harg9 arg10 harg10 arg11 harg11 x2 x3 x4), (kernelRun0_A.sl.v144 c i arg3 harg3 arg4 harg4 arg5 harg5 arg6 harg6 arg7 harg7 arg8 harg8 arg9 harg9 arg10 harg10 arg11 harg11 x2 x3 x4), (kernelRun0_A.sl.v156 c i arg3 harg3 arg4 harg4 arg5 harg5 arg6 harg6 arg7 harg7 arg8 harg8 arg9 harg9 arg10 harg10 arg11 harg11 x2 x3 x4)⟩ : St F) = run (qB (kernelRun0_A.sl.r c arg5 harg5 x2)) x3 x4 init (i 2).val := by
  rw [ldB0 c i arg3 harg3 arg4 harg4 arg5 harg5 arg6 harg6 arg7 harg7 arg8 harg8 arg9 harg9 arg10 harg10 arg11 harg11 hc0 hc1 x0 x1 x2 x3 x4]
  have e : 4 * ((i 2).val / 4) + 0 = (i 2).val := by omega
  exact congrArg (run (qB (kernelRun0_A.sl.r c arg5 harg5 x2)) x3 x4 init) e

theorem diagB_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : k0_pay207 (kernelRun0_A.sl.r_9 c i arg3 harg3 arg4 harg4 arg5 harg5 arg6 harg6 arg7 harg7 arg8 harg8 arg9 harg9 arg10 harg10 arg11 harg11 x2 x3 x4) = (last (i 2).val (qB (k0_pay169 x2)) x3 x4).l := by
  have e2 : (kernelRun0_A.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagB_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) : k0_pay209 (kernelRun0_A.sl.r_7 c i arg3 harg3 arg4 harg4 arg5 harg5 arg6 harg6 arg7 harg7 arg8 harg8 arg9 harg9 arg10 harg10 arg11 harg11 x2 x3 x4) (kernelRun0_A.sl.r_8 c i arg3 harg3 arg4 harg4 arg5 harg5 arg6 harg6 arg7 harg7 arg8 harg8 arg9 harg9 arg10 harg10 arg11 harg11 x2 x3 x4) (kernelRun0_A.sl.v156 c i arg3 harg3 arg4 harg4 arg5 harg5 arg6 harg6 arg7 harg7 arg8 harg8 arg9 harg9 arg10 harg10 arg11 harg11 x2 x3 x4) = (last (i 2).val (qB (k0_pay169 x2)) x3 x4).a := by
  have e2 : (kernelRun0_A.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 0) :
    out0_A_5 c i arg3 harg3 arg4 harg4 arg5 harg5 arg6 harg6 arg7 harg7 arg8 harg8 arg9 harg9 arg10 harg10 arg11 harg11 hc0 hc1 x0 x1 x2 x3 x4 = fin x0 x1
      (glue (last (i 2).val (qT (k0_pay169 x2)) x3 x4).a (last (i 2).val (qB (k0_pay169 x2)) x3 x4).a)
      (glue (last (i 2).val (qT (k0_pay169 x2)) x3 x4).l (last (i 2).val (qB (k0_pay169 x2)) x3 x4).l) := by
  have eA : (kernelRun0_A.sl.v178 c i arg3 harg3 arg4 harg4 arg5 harg5 arg6 harg6 arg7 harg7 arg8 harg8 arg9 harg9 arg10 harg10 arg11 harg11 x2 x3 x4) = glue (last (i 2).val (qT (k0_pay169 x2)) x3 x4).a (last (i 2).val (qB (k0_pay169 x2)) x3 x4).a := by
    rw [← diagT_a c i arg3 harg3 arg4 harg4 arg5 harg5 arg6 harg6 arg7 harg7 arg8 harg8 arg9 harg9 arg10 harg10 arg11 harg11 hc0 hc1 x0 x1 x2 x3 x4 h, ← diagB_a c i arg3 harg3 arg4 harg4 arg5 harg5 arg6 harg6 arg7 harg7 arg8 harg8 arg9 harg9 arg10 harg10 arg11 harg11 hc0 hc1 x0 x1 x2 x3 x4 h]
    exact covGlue _ _ _ _
  have eL : (kernelRun0_A.sl.v179 c i arg3 harg3 arg4 harg4 arg5 harg5 arg6 harg6 arg7 harg7 arg8 harg8 arg9 harg9 arg10 harg10 arg11 harg11 x2 x3 x4) = glue (last (i 2).val (qT (k0_pay169 x2)) x3 x4).l (last (i 2).val (qB (k0_pay169 x2)) x3 x4).l := by
    rw [← diagT_l c i arg3 harg3 arg4 harg4 arg5 harg5 arg6 harg6 arg7 harg7 arg8 harg8 arg9 harg9 arg10 harg10 arg11 harg11 hc0 hc1 x0 x1 x2 x3 x4 h, ← diagB_l c i arg3 harg3 arg4 harg4 arg5 harg5 arg6 harg6 arg7 harg7 arg8 harg8 arg9 harg9 arg10 harg10 arg11 harg11 hc0 hc1 x0 x1 x2 x3 x4 h]
    exact covGlue _ _ _ _
  unfold out0_A_5 kernelRun0_A
  dsimp only
  refine (outRead _ _).trans ?_
  unfold kernelRun0_A.sl.r_10 kernelRun0_A.sl.r_11
  rw [eA, eL, fullL, fullG]
  rfl

end CaseA

end Cert.Kernel5Ideal.Main

end
-- ==== Proof.EB.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D3

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

namespace CaseB

theorem ldT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_B.sl.v214 c i arg3 harg3 arg4 harg4 arg5 harg5 arg6 harg6 arg7 harg7 arg8 harg8 arg9 harg9 arg10 harg10 arg11 harg11 x2 x3 x4), (kernelRun0_B.sl.v238 c i arg3 harg3 arg4 harg4 arg5 harg5 arg6 harg6 arg7 harg7 arg8 harg8 arg9 harg9 arg10 harg10 arg11 harg11 x2 x3 x4), (kernelRun0_B.sl.v250 c i arg3 harg3 arg4 harg4 arg5 harg5 arg6 harg6 arg7 harg7 arg8 harg8 arg9 harg9 arg10 harg10 arg11 harg11 x2 x3 x4)⟩ : St F) = run (qT (kernelRun0_B.sl.r c arg5 harg5 x2)) x3 x4 init (4 * ((i 2).val / 4)) := by
  refine Eq.trans ?_ (startT Variants.none c none i arg3 harg3 arg4 harg4 arg5 harg5 arg6 harg6 arg7 harg7 arg8 harg8 arg9 harg9 arg10 harg10 arg11 harg11 (kernelRun0_B.sl.r c arg5 harg5 x2) (kernelRun0_B.sl.v26 i) 4#32 (kernelRun0_B.sl.v27 i) (kernelRun0_B.sl.v32 i) 0#32 (kernelRun0_B.sl.v48 i) x3 x4)
  rfl

theorem blkT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off4 i) x + S512x128.size x ≤ S16384x128.size x) :
    (⟨k0_pay187 (kernelRun0_B.sl.v219 c i arg3 harg3 arg4 harg4 arg5 harg5 arg6 harg6 arg7 harg7 arg8 harg8 arg9 harg9 arg10 harg10 arg11 harg11 hc1 x2 x3 x4), k0_pay186 (kernelRun0_B.sl.v243 c i arg3 harg3 arg4 harg4 arg5 harg5 arg6 harg6 arg7 harg7 arg8 harg8 arg9 harg9 arg10 harg10 arg11 harg11 hc1 x2 x3 x4), k0_pay188 (kernelRun0_B.sl.v225 c i arg3 harg3 arg4 harg4 arg5 harg5 arg6 harg6 arg7 harg7 arg8 harg8 arg9 harg9 arg10 harg10 arg11 harg11 hc1 x2 x3 x4) (kernelRun0_B.sl.v235 c i arg3 harg3 arg4 harg4 arg5 harg5 arg6 harg6 arg7 harg7 arg8 harg8 arg9 harg9 arg10 harg10 arg11 harg11 hc1 x2 x3 x4) (kernelRun0_B.sl.v250 c i arg3 harg3 arg4 harg4 arg5 harg5 arg6 harg6 arg7 harg7 arg8 harg8 arg9 harg9 arg10 harg10 arg11 harg11 x2 x3 x4)⟩ : St F) = stepS (scores (qT (kernelRun0_B.sl.r c arg5 harg5 x2)) (arg6.view.readAt (Elt F) (Rect.unit (s := S16384x128) (k0_off4 i) S512x128.size inb).toLoadRect (harg6.unread x3))) (arg7.view.readAt (Elt F) (Rect.unit (s := S16384x128) (k0_off4 i) S512x128.size inb).toLoadRect (harg7.unread x4)) (⟨(kernelRun0_B.sl.v214 c i arg3 harg3 arg4 harg4 arg5 harg5 arg6 harg6 arg7 harg7 arg8 harg8 arg9 harg9 arg10 harg10 arg11 harg11 x2 x3 x4), (kernelRun0_B.sl.v238 c i arg3 harg3 arg4 harg4 arg5 harg5 arg6 harg6 arg7 harg7 arg8 harg8 arg9 harg9 arg10 harg10 arg11 harg11 x2 x3 x4), (kernelRun0_B.sl.v250 c i arg3 harg3 arg4 harg4 arg5 harg5 arg6 harg6 arg7 harg7 arg8 harg8 arg9 harg9 arg10 harg10 arg11 harg11 x2 x3 x4)⟩ : St F) := rfl

theorem ldT1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_B.sl.v102 c i arg3 harg3 arg4 harg4 arg5 harg5 arg6 harg6 arg7 harg7 arg8 harg8 arg9 harg9 arg10 harg10 arg11 harg11 hc1 x2 x3 x4), (kernelRun0_B.sl.v126 c i arg3 harg3 arg4 harg4 arg5 harg5 arg6 harg6 arg7 harg7 arg8 harg8 arg9 harg9 arg10 harg10 arg11 harg11 hc1 x2 x3 x4), (kernelRun0_B.sl.v138 c i arg3 harg3 arg4 harg4 arg5 harg5 arg6 harg6 arg7 harg7 arg8 harg8 arg9 harg9 arg10 harg10 arg11 harg11 hc1 x2 x3 x4)⟩ : St F) = (⟨k0_pay187 (kernelRun0_B.sl.v219 c i arg3 harg3 arg4 harg4 arg5 harg5 arg6 harg6 arg7 harg7 arg8 harg8 arg9 harg9 arg10 harg10 arg11 harg11 hc1 x2 x3 x4), k0_pay186 (kernelRun0_B.sl.v243 c i arg3 harg3 arg4 harg4 arg5 harg5 arg6 harg6 arg7 harg7 arg8 harg8 arg9 harg9 arg10 harg10 arg11 harg11 hc1 x2 x3 x4), k0_pay188 (kernelRun0_B.sl.v225 c i arg3 harg3 arg4 harg4 arg5 harg5 arg6 harg6 arg7 harg7 arg8 harg8 arg9 harg9 arg10 harg10 arg11 harg11 hc1 x2 x3 x4) (kernelRun0_B.sl.v235 c i arg3 harg3 arg4 harg4 arg5 harg5 arg6 harg6 arg7 harg7 arg8 harg8 arg9 harg9 arg10 harg10 arg11 harg11 hc1 x2 x3 x4) (kernelRun0_B.sl.v250 c i arg3 harg3 arg4 harg4 arg5 harg5 arg6 harg6 arg7 harg7 arg8 harg8 arg9 harg9 arg10 harg10 arg11 harg11 x2 x3 x4)⟩ : St F) := by
  refine congr (congr (congrArg St.mk ?_) ?_) ?_
  · exact (covTskip _ _ _).trans (covT _ _ _)
  · exact (covTskip _ _ _).trans (covT _ _ _)
  · exact (covTskip _ _ _).trans (covT _ _ _)

theorem beforeT (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : (⟨(kernelRun0_B.sl.v102 c i arg3 harg3 arg4 harg4 arg5 harg5 arg6 harg6 arg7 harg7 arg8 harg8 arg9 harg9 arg10 harg10 arg11 harg11 hc1 x2 x3 x4), (kernelRun0_B.sl.v126 c i arg3 harg3 arg4 harg4 arg5 harg5 arg6 harg6 arg7 harg7 arg8 harg8 arg9 harg9 arg10 harg10 arg11 harg11 hc1 x2 x3 x4), (kernelRun0_B.sl.v138 c i arg3 harg3 arg4 harg4 arg5 harg5 arg6 harg6 arg7 harg7 arg8 harg8 arg9 harg9 arg10 harg10 arg11 harg11 hc1 x2 x3 x4)⟩ : St F) = run (qT (kernelRun0_B.sl.r c arg5 harg5 x2)) x3 x4 init (i 2).val := by
  rw [ldT1 c i arg3 harg3 arg4 harg4 arg5 harg5 arg6 harg6 arg7 harg7 arg8 harg8 arg9 harg9 arg10 harg10 arg11 harg11 hc0 hc1 x0 x1 x2 x3 x4, blkT0 c i arg3 harg3 arg4 harg4 arg5 harg5 arg6 harg6 arg7 harg7 arg8 harg8 arg9 harg9 arg10 harg10 arg11 harg11 hc0 hc1 x0 x1 x2 x3 x4 (k0_off4_inb i hc1), blk_read arg6 harg6 x3 _ _ ((4 * ((i 2).val / 4)) + 0) ((off4_eq i (by omega)).trans (by rw [show (i 2).val - 1 = ((4 * ((i 2).val / 4)) + 0) by omega])), blk_read arg7 harg7 x4 _ _ ((4 * ((i 2).val / 4)) + 0) ((off4_eq i (by omega)).trans (by rw [show (i 2).val - 1 = ((4 * ((i 2).val / 4)) + 0) by omega]))]
  rw [ldT0 c i arg3 harg3 arg4 harg4 arg5 harg5 arg6 harg6 arg7 harg7 arg8 harg8 arg9 harg9 arg10 harg10 arg11 harg11 hc0 hc1 x0 x1 x2 x3 x4]
  have e : 4 * ((i 2).val / 4) + 1 = (i 2).val := by omega
  exact congrArg (run (qT (kernelRun0_B.sl.r c arg5 harg5 x2)) x3 x4 init) e

theorem diagT_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : k0_pay203 (kernelRun0_B.sl.r_2 c i arg5 harg5 arg6 harg6 x2 x3) (kernelRun0_B.sl.v102 c i arg3 harg3 arg4 harg4 arg5 harg5 arg6 harg6 arg7 harg7 arg8 harg8 arg9 harg9 arg10 harg10 arg11 harg11 hc1 x2 x3 x4) (kernelRun0_B.sl.r_4 c i arg3 harg3 arg4 harg4 arg5 harg5 arg6 harg6 arg7 harg7 arg8 harg8 arg9 harg9 arg10 harg10 arg11 harg11 hc1 x2 x3 x4) (kernelRun0_B.sl.v126 c i arg3 harg3 arg4 harg4 arg5 harg5 arg6 harg6 arg7 harg7 arg8 harg8 arg9 harg9 arg10 harg10 arg11 harg11 hc1 x2 x3 x4) = (last (i 2).val (qT (k0_pay169 x2)) x3 x4).l := by
  have e2 : (kernelRun0_B.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagT_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : k0_pay205 (kernelRun0_B.sl.r_1 i arg7 harg7 x4) (kernelRun0_B.sl.r_2 c i arg5 harg5 arg6 harg6 x2 x3) (kernelRun0_B.sl.v102 c i arg3 harg3 arg4 harg4 arg5 harg5 arg6 harg6 arg7 harg7 arg8 harg8 arg9 harg9 arg10 harg10 arg11 harg11 hc1 x2 x3 x4) (kernelRun0_B.sl.r_4 c i arg3 harg3 arg4 harg4 arg5 harg5 arg6 harg6 arg7 harg7 arg8 harg8 arg9 harg9 arg10 harg10 arg11 harg11 hc1 x2 x3 x4) (kernelRun0_B.sl.v138 c i arg3 harg3 arg4 harg4 arg5 harg5 arg6 harg6 arg7 harg7 arg8 harg8 arg9 harg9 arg10 harg10 arg11 harg11 hc1 x2 x3 x4) = (last (i 2).val (qT (k0_pay169 x2)) x3 x4).a := by
  have e2 : (kernelRun0_B.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem ldB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_B.sl.v215 c i arg3 harg3 arg4 harg4 arg5 harg5 arg6 harg6 arg7 harg7 arg8 harg8 arg9 harg9 arg10 harg10 arg11 harg11 x2 x3 x4), (kernelRun0_B.sl.v256 c i arg3 harg3 arg4 harg4 arg5 harg5 arg6 harg6 arg7 harg7 arg8 harg8 arg9 harg9 arg10 harg10 arg11 harg11 hc1 x2 x3 x4), (kernelRun0_B.sl.v268 c i arg3 harg3 arg4 harg4 arg5 harg5 arg6 harg6 arg7 harg7 arg8 harg8 arg9 harg9 arg10 harg10 arg11 harg11 hc1 x2 x3 x4)⟩ : St F) = run (qB (kernelRun0_B.sl.r c arg5 harg5 x2)) x3 x4 init (4 * ((i 2).val / 4)) := by
  refine Eq.trans ?_ (startB Variants.none c none i arg3 harg3 arg4 harg4 arg5 harg5 arg6 harg6 arg7 harg7 arg8 harg8 arg9 harg9 arg10 harg10 arg11 harg11 (kernelRun0_B.sl.r c arg5 harg5 x2) (kernelRun0_B.sl.v26 i) 4#32 (kernelRun0_B.sl.v27 i) (kernelRun0_B.sl.v32 i) 0#32 (kernelRun0_B.sl.v48 i) x3 x4)
  refine congr (congr (congrArg St.mk ?_) ?_) ?_
  · rfl
  · exact covBskip _ _ _
  · exact covBskip _ _ _

theorem blkB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off4 i) x + S512x128.size x ≤ S16384x128.size x) :
    (⟨k0_pay190 (kernelRun0_B.sl.v223 c i arg3 harg3 arg4 harg4 arg5 harg5 arg6 harg6 arg7 harg7 arg8 harg8 arg9 harg9 arg10 harg10 arg11 harg11 hc1 x2 x3 x4), k0_pay189 (kernelRun0_B.sl.v227 c i arg3 harg3 arg4 harg4 arg5 harg5 arg6 harg6 arg7 harg7 arg8 harg8 arg9 harg9 arg10 harg10 arg11 harg11 hc1 x2 x3 x4) (kernelRun0_B.sl.v233 c i arg3 harg3 arg4 harg4 arg5 harg5 arg6 harg6 arg7 harg7 arg8 harg8 arg9 harg9 arg10 harg10 arg11 harg11 hc1 x2 x3 x4) (kernelRun0_B.sl.v256 c i arg3 harg3 arg4 harg4 arg5 harg5 arg6 harg6 arg7 harg7 arg8 harg8 arg9 harg9 arg10 harg10 arg11 harg11 hc1 x2 x3 x4), k0_pay191 (kernelRun0_B.sl.v227 c i arg3 harg3 arg4 harg4 arg5 harg5 arg6 harg6 arg7 harg7 arg8 harg8 arg9 harg9 arg10 harg10 arg11 harg11 hc1 x2 x3 x4) (kernelRun0_B.sl.v237 c i arg3 harg3 arg4 harg4 arg5 harg5 arg6 harg6 arg7 harg7 arg8 harg8 arg9 harg9 arg10 harg10 arg11 harg11 hc1 x2 x3 x4) (kernelRun0_B.sl.v268 c i arg3 harg3 arg4 harg4 arg5 harg5 arg6 harg6 arg7 harg7 arg8 harg8 arg9 harg9 arg10 harg10 arg11 harg11 hc1 x2 x3 x4)⟩ : St F) = stepS (scores (qB (kernelRun0_B.sl.r c arg5 harg5 x2)) (arg6.view.readAt (Elt F) (Rect.unit (s := S16384x128) (k0_off4 i) S512x128.size inb).toLoadRect (harg6.unread x3))) (arg7.view.readAt (Elt F) (Rect.unit (s := S16384x128) (k0_off4 i) S512x128.size inb).toLoadRect (harg7.unread x4)) (⟨(kernelRun0_B.sl.v215 c i arg3 harg3 arg4 harg4 arg5 harg5 arg6 harg6 arg7 harg7 arg8 harg8 arg9 harg9 arg10 harg10 arg11 harg11 x2 x3 x4), (kernelRun0_B.sl.v256 c i arg3 harg3 arg4 harg4 arg5 harg5 arg6 harg6 arg7 harg7 arg8 harg8 arg9 harg9 arg10 harg10 arg11 harg11 hc1 x2 x3 x4), (kernelRun0_B.sl.v268 c i arg3 harg3 arg4 harg4 arg5 harg5 arg6 harg6 arg7 harg7 arg8 harg8 arg9 harg9 arg10 harg10 arg11 harg11 hc1 x2 x3 x4)⟩ : St F) := rfl

theorem ldB1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_B.sl.v103 c i arg3 harg3 arg4 harg4 arg5 harg5 arg6 harg6 arg7 harg7 arg8 harg8 arg9 harg9 arg10 harg10 arg11 harg11 hc1 x2 x3 x4), (kernelRun0_B.sl.v144 c i arg3 harg3 arg4 harg4 arg5 harg5 arg6 harg6 arg7 harg7 arg8 harg8 arg9 harg9 arg10 harg10 arg11 harg11 hc1 x2 x3 x4), (kernelRun0_B.sl.v156 c i arg3 harg3 arg4 harg4 arg5 harg5 arg6 harg6 arg7 harg7 arg8 harg8 arg9 harg9 arg10 harg10 arg11 harg11 hc1 x2 x3 x4)⟩ : St F) = (⟨k0_pay190 (kernelRun0_B.sl.v223 c i arg3 harg3 arg4 harg4 arg5 harg5 arg6 harg6 arg7 harg7 arg8 harg8 arg9 harg9 arg10 harg10 arg11 harg11 hc1 x2 x3 x4), k0_pay189 (kernelRun0_B.sl.v227 c i arg3 harg3 arg4 harg4 arg5 harg5 arg6 harg6 arg7 harg7 arg8 harg8 arg9 harg9 arg10 harg10 arg11 harg11 hc1 x2 x3 x4) (kernelRun0_B.sl.v233 c i arg3 harg3 arg4 harg4 arg5 harg5 arg6 harg6 arg7 harg7 arg8 harg8 arg9 harg9 arg10 harg10 arg11 harg11 hc1 x2 x3 x4) (kernelRun0_B.sl.v256 c i arg3 harg3 arg4 harg4 arg5 harg5 arg6 harg6 arg7 harg7 arg8 harg8 arg9 harg9 arg10 harg10 arg11 harg11 hc1 x2 x3 x4), k0_pay191 (kernelRun0_B.sl.v227 c i arg3 harg3 arg4 harg4 arg5 harg5 arg6 harg6 arg7 harg7 arg8 harg8 arg9 harg9 arg10 harg10 arg11 harg11 hc1 x2 x3 x4) (kernelRun0_B.sl.v237 c i arg3 harg3 arg4 harg4 arg5 harg5 arg6 harg6 arg7 harg7 arg8 harg8 arg9 harg9 arg10 harg10 arg11 harg11 hc1 x2 x3 x4) (kernelRun0_B.sl.v268 c i arg3 harg3 arg4 harg4 arg5 harg5 arg6 harg6 arg7 harg7 arg8 harg8 arg9 harg9 arg10 harg10 arg11 harg11 hc1 x2 x3 x4)⟩ : St F) := by
  refine congr (congr (congrArg St.mk ?_) ?_) ?_
  · exact covB _ _ _
  · exact (covBskip _ _ _).trans (covB _ _ _)
  · exact (covBskip _ _ _).trans (covB _ _ _)

theorem beforeB (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : (⟨(kernelRun0_B.sl.v103 c i arg3 harg3 arg4 harg4 arg5 harg5 arg6 harg6 arg7 harg7 arg8 harg8 arg9 harg9 arg10 harg10 arg11 harg11 hc1 x2 x3 x4), (kernelRun0_B.sl.v144 c i arg3 harg3 arg4 harg4 arg5 harg5 arg6 harg6 arg7 harg7 arg8 harg8 arg9 harg9 arg10 harg10 arg11 harg11 hc1 x2 x3 x4), (kernelRun0_B.sl.v156 c i arg3 harg3 arg4 harg4 arg5 harg5 arg6 harg6 arg7 harg7 arg8 harg8 arg9 harg9 arg10 harg10 arg11 harg11 hc1 x2 x3 x4)⟩ : St F) = run (qB (kernelRun0_B.sl.r c arg5 harg5 x2)) x3 x4 init (i 2).val := by
  rw [ldB1 c i arg3 harg3 arg4 harg4 arg5 harg5 arg6 harg6 arg7 harg7 arg8 harg8 arg9 harg9 arg10 harg10 arg11 harg11 hc0 hc1 x0 x1 x2 x3 x4, blkB0 c i arg3 harg3 arg4 harg4 arg5 harg5 arg6 harg6 arg7 harg7 arg8 harg8 arg9 harg9 arg10 harg10 arg11 harg11 hc0 hc1 x0 x1 x2 x3 x4 (k0_off4_inb i hc1), blk_read arg6 harg6 x3 _ _ ((4 * ((i 2).val / 4)) + 0) ((off4_eq i (by omega)).trans (by rw [show (i 2).val - 1 = ((4 * ((i 2).val / 4)) + 0) by omega])), blk_read arg7 harg7 x4 _ _ ((4 * ((i 2).val / 4)) + 0) ((off4_eq i (by omega)).trans (by rw [show (i 2).val - 1 = ((4 * ((i 2).val / 4)) + 0) by omega]))]
  rw [ldB0 c i arg3 harg3 arg4 harg4 arg5 harg5 arg6 harg6 arg7 harg7 arg8 harg8 arg9 harg9 arg10 harg10 arg11 harg11 hc0 hc1 x0 x1 x2 x3 x4]
  have e : 4 * ((i 2).val / 4) + 1 = (i 2).val := by omega
  exact congrArg (run (qB (kernelRun0_B.sl.r c arg5 harg5 x2)) x3 x4 init) e

theorem diagB_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : k0_pay207 (kernelRun0_B.sl.r_9 c i arg3 harg3 arg4 harg4 arg5 harg5 arg6 harg6 arg7 harg7 arg8 harg8 arg9 harg9 arg10 harg10 arg11 harg11 hc1 x2 x3 x4) = (last (i 2).val (qB (k0_pay169 x2)) x3 x4).l := by
  have e2 : (kernelRun0_B.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagB_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) : k0_pay209 (kernelRun0_B.sl.r_7 c i arg3 harg3 arg4 harg4 arg5 harg5 arg6 harg6 arg7 harg7 arg8 harg8 arg9 harg9 arg10 harg10 arg11 harg11 hc1 x2 x3 x4) (kernelRun0_B.sl.r_8 c i arg3 harg3 arg4 harg4 arg5 harg5 arg6 harg6 arg7 harg7 arg8 harg8 arg9 harg9 arg10 harg10 arg11 harg11 hc1 x2 x3 x4) (kernelRun0_B.sl.v156 c i arg3 harg3 arg4 harg4 arg5 harg5 arg6 harg6 arg7 harg7 arg8 harg8 arg9 harg9 arg10 harg10 arg11 harg11 hc1 x2 x3 x4) = (last (i 2).val (qB (k0_pay169 x2)) x3 x4).a := by
  have e2 : (kernelRun0_B.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 1) :
    out0_B_5 c i arg3 harg3 arg4 harg4 arg5 harg5 arg6 harg6 arg7 harg7 arg8 harg8 arg9 harg9 arg10 harg10 arg11 harg11 hc0 hc1 x0 x1 x2 x3 x4 = fin x0 x1
      (glue (last (i 2).val (qT (k0_pay169 x2)) x3 x4).a (last (i 2).val (qB (k0_pay169 x2)) x3 x4).a)
      (glue (last (i 2).val (qT (k0_pay169 x2)) x3 x4).l (last (i 2).val (qB (k0_pay169 x2)) x3 x4).l) := by
  have eA : (kernelRun0_B.sl.v178 c i arg3 harg3 arg4 harg4 arg5 harg5 arg6 harg6 arg7 harg7 arg8 harg8 arg9 harg9 arg10 harg10 arg11 harg11 hc1 x2 x3 x4) = glue (last (i 2).val (qT (k0_pay169 x2)) x3 x4).a (last (i 2).val (qB (k0_pay169 x2)) x3 x4).a := by
    rw [← diagT_a c i arg3 harg3 arg4 harg4 arg5 harg5 arg6 harg6 arg7 harg7 arg8 harg8 arg9 harg9 arg10 harg10 arg11 harg11 hc0 hc1 x0 x1 x2 x3 x4 h, ← diagB_a c i arg3 harg3 arg4 harg4 arg5 harg5 arg6 harg6 arg7 harg7 arg8 harg8 arg9 harg9 arg10 harg10 arg11 harg11 hc0 hc1 x0 x1 x2 x3 x4 h]
    exact covGlue _ _ _ _
  have eL : (kernelRun0_B.sl.v179 c i arg3 harg3 arg4 harg4 arg5 harg5 arg6 harg6 arg7 harg7 arg8 harg8 arg9 harg9 arg10 harg10 arg11 harg11 hc1 x2 x3 x4) = glue (last (i 2).val (qT (k0_pay169 x2)) x3 x4).l (last (i 2).val (qB (k0_pay169 x2)) x3 x4).l := by
    rw [← diagT_l c i arg3 harg3 arg4 harg4 arg5 harg5 arg6 harg6 arg7 harg7 arg8 harg8 arg9 harg9 arg10 harg10 arg11 harg11 hc0 hc1 x0 x1 x2 x3 x4 h, ← diagB_l c i arg3 harg3 arg4 harg4 arg5 harg5 arg6 harg6 arg7 harg7 arg8 harg8 arg9 harg9 arg10 harg10 arg11 harg11 hc0 hc1 x0 x1 x2 x3 x4 h]
    exact covGlue _ _ _ _
  unfold out0_B_5 kernelRun0_B
  dsimp only
  refine (outRead _ _).trans ?_
  unfold kernelRun0_B.sl.r_10 kernelRun0_B.sl.r_11
  rw [eA, eL, fullL, fullG]
  rfl

end CaseB

end Cert.Kernel5Ideal.Main

end
-- ==== Proof.EC.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D3

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

namespace CaseC

theorem ldT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v214 c i arg3 harg3 arg4 harg4 arg5 harg5 arg6 harg6 arg7 harg7 arg8 harg8 arg9 harg9 arg10 harg10 arg11 harg11 x2 x3 x4), (kernelRun0_C.sl.v238 c i arg3 harg3 arg4 harg4 arg5 harg5 arg6 harg6 arg7 harg7 arg8 harg8 arg9 harg9 arg10 harg10 arg11 harg11 x2 x3 x4), (kernelRun0_C.sl.v250 c i arg3 harg3 arg4 harg4 arg5 harg5 arg6 harg6 arg7 harg7 arg8 harg8 arg9 harg9 arg10 harg10 arg11 harg11 x2 x3 x4)⟩ : St F) = run (qT (kernelRun0_C.sl.r c arg5 harg5 x2)) x3 x4 init (4 * ((i 2).val / 4)) := by
  refine Eq.trans ?_ (startT Variants.none c none i arg3 harg3 arg4 harg4 arg5 harg5 arg6 harg6 arg7 harg7 arg8 harg8 arg9 harg9 arg10 harg10 arg11 harg11 (kernelRun0_C.sl.r c arg5 harg5 x2) (kernelRun0_C.sl.v26 i) 4#32 (kernelRun0_C.sl.v27 i) (kernelRun0_C.sl.v32 i) 0#32 (kernelRun0_C.sl.v48 i) x3 x4)
  rfl

theorem blkT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (inb : ∀ x, (k0_off3 i 0#32) x + S512x128.size x ≤ S16384x128.size x) :
    (⟨kernelRun0_C.sl.v249 c i arg3 harg3 arg4 harg4 arg5 harg5 arg6 harg6 arg7 harg7 arg8 harg8 arg9 harg9 arg10 harg10 arg11 harg11 hc0 x2 x3 x4, kernelRun0_C.sl.v246 c i arg3 harg3 arg4 harg4 arg5 harg5 arg6 harg6 arg7 harg7 arg8 harg8 arg9 harg9 arg10 harg10 arg11 harg11 hc0 x2 x3 x4, kernelRun0_C.sl.v255 c i arg3 harg3 arg4 harg4 arg5 harg5 arg6 harg6 arg7 harg7 arg8 harg8 arg9 harg9 arg10 harg10 arg11 harg11 hc0 x2 x3 x4⟩ : St F) = stepS (scores (qT (kernelRun0_C.sl.r c arg5 harg5 x2)) (arg6.view.readAt (Elt F) (Rect.unit (s := S16384x128) (k0_off3 i 0#32) S512x128.size inb).toLoadRect (harg6.unread x3))) (arg7.view.readAt (Elt F) (Rect.unit (s := S16384x128) (k0_off3 i 0#32) S512x128.size inb).toLoadRect (harg7.unread x4)) (⟨(kernelRun0_C.sl.v214 c i arg3 harg3 arg4 harg4 arg5 harg5 arg6 harg6 arg7 harg7 arg8 harg8 arg9 harg9 arg10 harg10 arg11 harg11 x2 x3 x4), (kernelRun0_C.sl.v238 c i arg3 harg3 arg4 harg4 arg5 harg5 arg6 harg6 arg7 harg7 arg8 harg8 arg9 harg9 arg10 harg10 arg11 harg11 x2 x3 x4), (kernelRun0_C.sl.v250 c i arg3 harg3 arg4 harg4 arg5 harg5 arg6 harg6 arg7 harg7 arg8 harg8 arg9 harg9 arg10 harg10 arg11 harg11 x2 x3 x4)⟩ : St F) := rfl

theorem ldT1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v285 c i arg3 harg3 arg4 harg4 arg5 harg5 arg6 harg6 arg7 harg7 arg8 harg8 arg9 harg9 arg10 harg10 arg11 harg11 hc0 x2 x3 x4), (kernelRun0_C.sl.v309 c i arg3 harg3 arg4 harg4 arg5 harg5 arg6 harg6 arg7 harg7 arg8 harg8 arg9 harg9 arg10 harg10 arg11 harg11 hc0 x2 x3 x4), (kernelRun0_C.sl.v321 c i arg3 harg3 arg4 harg4 arg5 harg5 arg6 harg6 arg7 harg7 arg8 harg8 arg9 harg9 arg10 harg10 arg11 harg11 hc0 x2 x3 x4)⟩ : St F) = (⟨kernelRun0_C.sl.v249 c i arg3 harg3 arg4 harg4 arg5 harg5 arg6 harg6 arg7 harg7 arg8 harg8 arg9 harg9 arg10 harg10 arg11 harg11 hc0 x2 x3 x4, kernelRun0_C.sl.v246 c i arg3 harg3 arg4 harg4 arg5 harg5 arg6 harg6 arg7 harg7 arg8 harg8 arg9 harg9 arg10 harg10 arg11 harg11 hc0 x2 x3 x4, kernelRun0_C.sl.v255 c i arg3 harg3 arg4 harg4 arg5 harg5 arg6 harg6 arg7 harg7 arg8 harg8 arg9 harg9 arg10 harg10 arg11 harg11 hc0 x2 x3 x4⟩ : St F) := by
  refine congr (congr (congrArg St.mk ?_) ?_) ?_
  · exact (covTskip _ _ _).trans (covT _ _ _)
  · exact (covTskip _ _ _).trans (covT _ _ _)
  · exact (covTskip _ _ _).trans (covT _ _ _)

theorem blkT1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (inb : ∀ x, (k0_off3 i 1#32) x + S512x128.size x ≤ S16384x128.size x) :
    (⟨k0_pay181 (kernelRun0_C.sl.v290 c i arg3 harg3 arg4 harg4 arg5 harg5 arg6 harg6 arg7 harg7 arg8 harg8 arg9 harg9 arg10 harg10 arg11 harg11 hc0 x2 x3 x4), kernelRun0_C.sl.v317 c i arg3 harg3 arg4 harg4 arg5 harg5 arg6 harg6 arg7 harg7 arg8 harg8 arg9 harg9 arg10 harg10 arg11 harg11 hc0 x2 x3 x4, k0_pay182 (kernelRun0_C.sl.v296 c i arg3 harg3 arg4 harg4 arg5 harg5 arg6 harg6 arg7 harg7 arg8 harg8 arg9 harg9 arg10 harg10 arg11 harg11 hc0 x2 x3 x4) (kernelRun0_C.sl.v306 c i arg3 harg3 arg4 harg4 arg5 harg5 arg6 harg6 arg7 harg7 arg8 harg8 arg9 harg9 arg10 harg10 arg11 harg11 hc0 x2 x3 x4) (kernelRun0_C.sl.v321 c i arg3 harg3 arg4 harg4 arg5 harg5 arg6 harg6 arg7 harg7 arg8 harg8 arg9 harg9 arg10 harg10 arg11 harg11 hc0 x2 x3 x4)⟩ : St F) = stepS (scores (qT (kernelRun0_C.sl.r c arg5 harg5 x2)) (arg6.view.readAt (Elt F) (Rect.unit (s := S16384x128) (k0_off3 i 1#32) S512x128.size inb).toLoadRect (harg6.unread x3))) (arg7.view.readAt (Elt F) (Rect.unit (s := S16384x128) (k0_off3 i 1#32) S512x128.size inb).toLoadRect (harg7.unread x4)) (⟨(kernelRun0_C.sl.v285 c i arg3 harg3 arg4 harg4 arg5 harg5 arg6 harg6 arg7 harg7 arg8 harg8 arg9 harg9 arg10 harg10 arg11 harg11 hc0 x2 x3 x4), (kernelRun0_C.sl.v309 c i arg3 harg3 arg4 harg4 arg5 harg5 arg6 harg6 arg7 harg7 arg8 harg8 arg9 harg9 arg10 harg10 arg11 harg11 hc0 x2 x3 x4), (kernelRun0_C.sl.v321 c i arg3 harg3 arg4 harg4 arg5 harg5 arg6 harg6 arg7 harg7 arg8 harg8 arg9 harg9 arg10 harg10 arg11 harg11 hc0 x2 x3 x4)⟩ : St F) := rfl

theorem ldT2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v102 c i arg3 harg3 arg4 harg4 arg5 harg5 arg6 harg6 arg7 harg7 arg8 harg8 arg9 harg9 arg10 harg10 arg11 harg11 hc0 x2 x3 x4), (kernelRun0_C.sl.v126 c i arg3 harg3 arg4 harg4 arg5 harg5 arg6 harg6 arg7 harg7 arg8 harg8 arg9 harg9 arg10 harg10 arg11 harg11 hc0 x2 x3 x4), (kernelRun0_C.sl.v138 c i arg3 harg3 arg4 harg4 arg5 harg5 arg6 harg6 arg7 harg7 arg8 harg8 arg9 harg9 arg10 harg10 arg11 harg11 hc0 x2 x3 x4)⟩ : St F) = (⟨k0_pay181 (kernelRun0_C.sl.v290 c i arg3 harg3 arg4 harg4 arg5 harg5 arg6 harg6 arg7 harg7 arg8 harg8 arg9 harg9 arg10 harg10 arg11 harg11 hc0 x2 x3 x4), kernelRun0_C.sl.v317 c i arg3 harg3 arg4 harg4 arg5 harg5 arg6 harg6 arg7 harg7 arg8 harg8 arg9 harg9 arg10 harg10 arg11 harg11 hc0 x2 x3 x4, k0_pay182 (kernelRun0_C.sl.v296 c i arg3 harg3 arg4 harg4 arg5 harg5 arg6 harg6 arg7 harg7 arg8 harg8 arg9 harg9 arg10 harg10 arg11 harg11 hc0 x2 x3 x4) (kernelRun0_C.sl.v306 c i arg3 harg3 arg4 harg4 arg5 harg5 arg6 harg6 arg7 harg7 arg8 harg8 arg9 harg9 arg10 harg10 arg11 harg11 hc0 x2 x3 x4) (kernelRun0_C.sl.v321 c i arg3 harg3 arg4 harg4 arg5 harg5 arg6 harg6 arg7 harg7 arg8 harg8 arg9 harg9 arg10 harg10 arg11 harg11 hc0 x2 x3 x4)⟩ : St F) := by
  refine congr (congr (congrArg St.mk ?_) ?_) ?_
  · exact (covTskip _ _ _).trans (covT _ _ _)
  · exact (covTskip _ _ _).trans (covT _ _ _)
  · exact (covTskip _ _ _).trans (covT _ _ _)

theorem beforeT (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : (⟨(kernelRun0_C.sl.v102 c i arg3 harg3 arg4 harg4 arg5 harg5 arg6 harg6 arg7 harg7 arg8 harg8 arg9 harg9 arg10 harg10 arg11 harg11 hc0 x2 x3 x4), (kernelRun0_C.sl.v126 c i arg3 harg3 arg4 harg4 arg5 harg5 arg6 harg6 arg7 harg7 arg8 harg8 arg9 harg9 arg10 harg10 arg11 harg11 hc0 x2 x3 x4), (kernelRun0_C.sl.v138 c i arg3 harg3 arg4 harg4 arg5 harg5 arg6 harg6 arg7 harg7 arg8 harg8 arg9 harg9 arg10 harg10 arg11 harg11 hc0 x2 x3 x4)⟩ : St F) = run (qT (kernelRun0_C.sl.r c arg5 harg5 x2)) x3 x4 init (i 2).val := by
  rw [ldT2 c i arg3 harg3 arg4 harg4 arg5 harg5 arg6 harg6 arg7 harg7 arg8 harg8 arg9 harg9 arg10 harg10 arg11 harg11 hc0 hc1 x0 x1 x2 x3 x4, blkT1 c i arg3 harg3 arg4 harg4 arg5 harg5 arg6 harg6 arg7 harg7 arg8 harg8 arg9 harg9 arg10 harg10 arg11 harg11 hc0 hc1 x0 x1 x2 x3 x4 (k0_off3_inb i hc0 1), blk_read arg6 harg6 x3 _ _ ((4 * ((i 2).val / 4)) + 1) (off3_eq1 i), blk_read arg7 harg7 x4 _ _ ((4 * ((i 2).val / 4)) + 1) (off3_eq1 i)]
  rw [ldT1 c i arg3 harg3 arg4 harg4 arg5 harg5 arg6 harg6 arg7 harg7 arg8 harg8 arg9 harg9 arg10 harg10 arg11 harg11 hc0 hc1 x0 x1 x2 x3 x4, blkT0 c i arg3 harg3 arg4 harg4 arg5 harg5 arg6 harg6 arg7 harg7 arg8 harg8 arg9 harg9 arg10 harg10 arg11 harg11 hc0 hc1 x0 x1 x2 x3 x4 (k0_off3_inb i hc0 0), blk_read arg6 harg6 x3 _ _ (4 * ((i 2).val / 4)) (off3_eq0 i), blk_read arg7 harg7 x4 _ _ (4 * ((i 2).val / 4)) (off3_eq0 i)]
  rw [ldT0 c i arg3 harg3 arg4 harg4 arg5 harg5 arg6 harg6 arg7 harg7 arg8 harg8 arg9 harg9 arg10 harg10 arg11 harg11 hc0 hc1 x0 x1 x2 x3 x4]
  have e : 4 * ((i 2).val / 4) + 2 = (i 2).val := by omega
  exact congrArg (run (qT (kernelRun0_C.sl.r c arg5 harg5 x2)) x3 x4 init) e

theorem diagT_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : k0_pay203 (kernelRun0_C.sl.r_2 c i arg5 harg5 arg6 harg6 x2 x3) (kernelRun0_C.sl.v102 c i arg3 harg3 arg4 harg4 arg5 harg5 arg6 harg6 arg7 harg7 arg8 harg8 arg9 harg9 arg10 harg10 arg11 harg11 hc0 x2 x3 x4) (kernelRun0_C.sl.r_4 c i arg3 harg3 arg4 harg4 arg5 harg5 arg6 harg6 arg7 harg7 arg8 harg8 arg9 harg9 arg10 harg10 arg11 harg11 hc0 x2 x3 x4) (kernelRun0_C.sl.v126 c i arg3 harg3 arg4 harg4 arg5 harg5 arg6 harg6 arg7 harg7 arg8 harg8 arg9 harg9 arg10 harg10 arg11 harg11 hc0 x2 x3 x4) = (last (i 2).val (qT (k0_pay169 x2)) x3 x4).l := by
  have e2 : (kernelRun0_C.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagT_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : k0_pay205 (kernelRun0_C.sl.r_1 i arg7 harg7 x4) (kernelRun0_C.sl.r_2 c i arg5 harg5 arg6 harg6 x2 x3) (kernelRun0_C.sl.v102 c i arg3 harg3 arg4 harg4 arg5 harg5 arg6 harg6 arg7 harg7 arg8 harg8 arg9 harg9 arg10 harg10 arg11 harg11 hc0 x2 x3 x4) (kernelRun0_C.sl.r_4 c i arg3 harg3 arg4 harg4 arg5 harg5 arg6 harg6 arg7 harg7 arg8 harg8 arg9 harg9 arg10 harg10 arg11 harg11 hc0 x2 x3 x4) (kernelRun0_C.sl.v138 c i arg3 harg3 arg4 harg4 arg5 harg5 arg6 harg6 arg7 harg7 arg8 harg8 arg9 harg9 arg10 harg10 arg11 harg11 hc0 x2 x3 x4) = (last (i 2).val (qT (k0_pay169 x2)) x3 x4).a := by
  have e2 : (kernelRun0_C.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem ldB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v215 c i arg3 harg3 arg4 harg4 arg5 harg5 arg6 harg6 arg7 harg7 arg8 harg8 arg9 harg9 arg10 harg10 arg11 harg11 x2 x3 x4), (kernelRun0_C.sl.v256 c i arg3 harg3 arg4 harg4 arg5 harg5 arg6 harg6 arg7 harg7 arg8 harg8 arg9 harg9 arg10 harg10 arg11 harg11 hc0 x2 x3 x4), (kernelRun0_C.sl.v268 c i arg3 harg3 arg4 harg4 arg5 harg5 arg6 harg6 arg7 harg7 arg8 harg8 arg9 harg9 arg10 harg10 arg11 harg11 hc0 x2 x3 x4)⟩ : St F) = run (qB (kernelRun0_C.sl.r c arg5 harg5 x2)) x3 x4 init (4 * ((i 2).val / 4)) := by
  refine Eq.trans ?_ (startB Variants.none c none i arg3 harg3 arg4 harg4 arg5 harg5 arg6 harg6 arg7 harg7 arg8 harg8 arg9 harg9 arg10 harg10 arg11 harg11 (kernelRun0_C.sl.r c arg5 harg5 x2) (kernelRun0_C.sl.v26 i) 4#32 (kernelRun0_C.sl.v27 i) (kernelRun0_C.sl.v32 i) 0#32 (kernelRun0_C.sl.v48 i) x3 x4)
  refine congr (congr (congrArg St.mk ?_) ?_) ?_
  · rfl
  · exact covBskip _ _ _
  · exact covBskip _ _ _

theorem blkB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (inb : ∀ x, (k0_off3 i 0#32) x + S512x128.size x ≤ S16384x128.size x) :
    (⟨kernelRun0_C.sl.v267 c i arg3 harg3 arg4 harg4 arg5 harg5 arg6 harg6 arg7 harg7 arg8 harg8 arg9 harg9 arg10 harg10 arg11 harg11 hc0 x2 x3 x4, kernelRun0_C.sl.v264 c i arg3 harg3 arg4 harg4 arg5 harg5 arg6 harg6 arg7 harg7 arg8 harg8 arg9 harg9 arg10 harg10 arg11 harg11 hc0 x2 x3 x4, kernelRun0_C.sl.v273 c i arg3 harg3 arg4 harg4 arg5 harg5 arg6 harg6 arg7 harg7 arg8 harg8 arg9 harg9 arg10 harg10 arg11 harg11 hc0 x2 x3 x4⟩ : St F) = stepS (scores (qB (kernelRun0_C.sl.r c arg5 harg5 x2)) (arg6.view.readAt (Elt F) (Rect.unit (s := S16384x128) (k0_off3 i 0#32) S512x128.size inb).toLoadRect (harg6.unread x3))) (arg7.view.readAt (Elt F) (Rect.unit (s := S16384x128) (k0_off3 i 0#32) S512x128.size inb).toLoadRect (harg7.unread x4)) (⟨(kernelRun0_C.sl.v215 c i arg3 harg3 arg4 harg4 arg5 harg5 arg6 harg6 arg7 harg7 arg8 harg8 arg9 harg9 arg10 harg10 arg11 harg11 x2 x3 x4), (kernelRun0_C.sl.v256 c i arg3 harg3 arg4 harg4 arg5 harg5 arg6 harg6 arg7 harg7 arg8 harg8 arg9 harg9 arg10 harg10 arg11 harg11 hc0 x2 x3 x4), (kernelRun0_C.sl.v268 c i arg3 harg3 arg4 harg4 arg5 harg5 arg6 harg6 arg7 harg7 arg8 harg8 arg9 harg9 arg10 harg10 arg11 harg11 hc0 x2 x3 x4)⟩ : St F) := rfl

theorem ldB1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v286 c i arg3 harg3 arg4 harg4 arg5 harg5 arg6 harg6 arg7 harg7 arg8 harg8 arg9 harg9 arg10 harg10 arg11 harg11 hc0 x2 x3 x4), (kernelRun0_C.sl.v327 c i arg3 harg3 arg4 harg4 arg5 harg5 arg6 harg6 arg7 harg7 arg8 harg8 arg9 harg9 arg10 harg10 arg11 harg11 hc0 x2 x3 x4), (kernelRun0_C.sl.v339 c i arg3 harg3 arg4 harg4 arg5 harg5 arg6 harg6 arg7 harg7 arg8 harg8 arg9 harg9 arg10 harg10 arg11 harg11 hc0 x2 x3 x4)⟩ : St F) = (⟨kernelRun0_C.sl.v267 c i arg3 harg3 arg4 harg4 arg5 harg5 arg6 harg6 arg7 harg7 arg8 harg8 arg9 harg9 arg10 harg10 arg11 harg11 hc0 x2 x3 x4, kernelRun0_C.sl.v264 c i arg3 harg3 arg4 harg4 arg5 harg5 arg6 harg6 arg7 harg7 arg8 harg8 arg9 harg9 arg10 harg10 arg11 harg11 hc0 x2 x3 x4, kernelRun0_C.sl.v273 c i arg3 harg3 arg4 harg4 arg5 harg5 arg6 harg6 arg7 harg7 arg8 harg8 arg9 harg9 arg10 harg10 arg11 harg11 hc0 x2 x3 x4⟩ : St F) := by
  refine congr (congr (congrArg St.mk ?_) ?_) ?_
  · exact covB _ _ _
  · exact (covBskip _ _ _).trans (covB _ _ _)
  · exact (covBskip _ _ _).trans (covB _ _ _)

theorem blkB1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (inb : ∀ x, (k0_off3 i 1#32) x + S512x128.size x ≤ S16384x128.size x) :
    (⟨k0_pay184 (kernelRun0_C.sl.v294 c i arg3 harg3 arg4 harg4 arg5 harg5 arg6 harg6 arg7 harg7 arg8 harg8 arg9 harg9 arg10 harg10 arg11 harg11 hc0 x2 x3 x4), k0_pay183 (kernelRun0_C.sl.v298 c i arg3 harg3 arg4 harg4 arg5 harg5 arg6 harg6 arg7 harg7 arg8 harg8 arg9 harg9 arg10 harg10 arg11 harg11 hc0 x2 x3 x4) (kernelRun0_C.sl.v304 c i arg3 harg3 arg4 harg4 arg5 harg5 arg6 harg6 arg7 harg7 arg8 harg8 arg9 harg9 arg10 harg10 arg11 harg11 hc0 x2 x3 x4) (kernelRun0_C.sl.v327 c i arg3 harg3 arg4 harg4 arg5 harg5 arg6 harg6 arg7 harg7 arg8 harg8 arg9 harg9 arg10 harg10 arg11 harg11 hc0 x2 x3 x4), k0_pay185 (kernelRun0_C.sl.v298 c i arg3 harg3 arg4 harg4 arg5 harg5 arg6 harg6 arg7 harg7 arg8 harg8 arg9 harg9 arg10 harg10 arg11 harg11 hc0 x2 x3 x4) (kernelRun0_C.sl.v308 c i arg3 harg3 arg4 harg4 arg5 harg5 arg6 harg6 arg7 harg7 arg8 harg8 arg9 harg9 arg10 harg10 arg11 harg11 hc0 x2 x3 x4) (kernelRun0_C.sl.v339 c i arg3 harg3 arg4 harg4 arg5 harg5 arg6 harg6 arg7 harg7 arg8 harg8 arg9 harg9 arg10 harg10 arg11 harg11 hc0 x2 x3 x4)⟩ : St F) = stepS (scores (qB (kernelRun0_C.sl.r c arg5 harg5 x2)) (arg6.view.readAt (Elt F) (Rect.unit (s := S16384x128) (k0_off3 i 1#32) S512x128.size inb).toLoadRect (harg6.unread x3))) (arg7.view.readAt (Elt F) (Rect.unit (s := S16384x128) (k0_off3 i 1#32) S512x128.size inb).toLoadRect (harg7.unread x4)) (⟨(kernelRun0_C.sl.v286 c i arg3 harg3 arg4 harg4 arg5 harg5 arg6 harg6 arg7 harg7 arg8 harg8 arg9 harg9 arg10 harg10 arg11 harg11 hc0 x2 x3 x4), (kernelRun0_C.sl.v327 c i arg3 harg3 arg4 harg4 arg5 harg5 arg6 harg6 arg7 harg7 arg8 harg8 arg9 harg9 arg10 harg10 arg11 harg11 hc0 x2 x3 x4), (kernelRun0_C.sl.v339 c i arg3 harg3 arg4 harg4 arg5 harg5 arg6 harg6 arg7 harg7 arg8 harg8 arg9 harg9 arg10 harg10 arg11 harg11 hc0 x2 x3 x4)⟩ : St F) := rfl

theorem ldB2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) : (⟨(kernelRun0_C.sl.v103 c i arg3 harg3 arg4 harg4 arg5 harg5 arg6 harg6 arg7 harg7 arg8 harg8 arg9 harg9 arg10 harg10 arg11 harg11 hc0 x2 x3 x4), (kernelRun0_C.sl.v144 c i arg3 harg3 arg4 harg4 arg5 harg5 arg6 harg6 arg7 harg7 arg8 harg8 arg9 harg9 arg10 harg10 arg11 harg11 hc0 x2 x3 x4), (kernelRun0_C.sl.v156 c i arg3 harg3 arg4 harg4 arg5 harg5 arg6 harg6 arg7 harg7 arg8 harg8 arg9 harg9 arg10 harg10 arg11 harg11 hc0 x2 x3 x4)⟩ : St F) = (⟨k0_pay184 (kernelRun0_C.sl.v294 c i arg3 harg3 arg4 harg4 arg5 harg5 arg6 harg6 arg7 harg7 arg8 harg8 arg9 harg9 arg10 harg10 arg11 harg11 hc0 x2 x3 x4), k0_pay183 (kernelRun0_C.sl.v298 c i arg3 harg3 arg4 harg4 arg5 harg5 arg6 harg6 arg7 harg7 arg8 harg8 arg9 harg9 arg10 harg10 arg11 harg11 hc0 x2 x3 x4) (kernelRun0_C.sl.v304 c i arg3 harg3 arg4 harg4 arg5 harg5 arg6 harg6 arg7 harg7 arg8 harg8 arg9 harg9 arg10 harg10 arg11 harg11 hc0 x2 x3 x4) (kernelRun0_C.sl.v327 c i arg3 harg3 arg4 harg4 arg5 harg5 arg6 harg6 arg7 harg7 arg8 harg8 arg9 harg9 arg10 harg10 arg11 harg11 hc0 x2 x3 x4), k0_pay185 (kernelRun0_C.sl.v298 c i arg3 harg3 arg4 harg4 arg5 harg5 arg6 harg6 arg7 harg7 arg8 harg8 arg9 harg9 arg10 harg10 arg11 harg11 hc0 x2 x3 x4) (kernelRun0_C.sl.v308 c i arg3 harg3 arg4 harg4 arg5 harg5 arg6 harg6 arg7 harg7 arg8 harg8 arg9 harg9 arg10 harg10 arg11 harg11 hc0 x2 x3 x4) (kernelRun0_C.sl.v339 c i arg3 harg3 arg4 harg4 arg5 harg5 arg6 harg6 arg7 harg7 arg8 harg8 arg9 harg9 arg10 harg10 arg11 harg11 hc0 x2 x3 x4)⟩ : St F) := by
  refine congr (congr (congrArg St.mk ?_) ?_) ?_
  · exact covB _ _ _
  · exact (covBskip _ _ _).trans (covB _ _ _)
  · exact (covBskip _ _ _).trans (covB _ _ _)

theorem beforeB (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : (⟨(kernelRun0_C.sl.v103 c i arg3 harg3 arg4 harg4 arg5 harg5 arg6 harg6 arg7 harg7 arg8 harg8 arg9 harg9 arg10 harg10 arg11 harg11 hc0 x2 x3 x4), (kernelRun0_C.sl.v144 c i arg3 harg3 arg4 harg4 arg5 harg5 arg6 harg6 arg7 harg7 arg8 harg8 arg9 harg9 arg10 harg10 arg11 harg11 hc0 x2 x3 x4), (kernelRun0_C.sl.v156 c i arg3 harg3 arg4 harg4 arg5 harg5 arg6 harg6 arg7 harg7 arg8 harg8 arg9 harg9 arg10 harg10 arg11 harg11 hc0 x2 x3 x4)⟩ : St F) = run (qB (kernelRun0_C.sl.r c arg5 harg5 x2)) x3 x4 init (i 2).val := by
  rw [ldB2 c i arg3 harg3 arg4 harg4 arg5 harg5 arg6 harg6 arg7 harg7 arg8 harg8 arg9 harg9 arg10 harg10 arg11 harg11 hc0 hc1 x0 x1 x2 x3 x4, blkB1 c i arg3 harg3 arg4 harg4 arg5 harg5 arg6 harg6 arg7 harg7 arg8 harg8 arg9 harg9 arg10 harg10 arg11 harg11 hc0 hc1 x0 x1 x2 x3 x4 (k0_off3_inb i hc0 1), blk_read arg6 harg6 x3 _ _ ((4 * ((i 2).val / 4)) + 1) (off3_eq1 i), blk_read arg7 harg7 x4 _ _ ((4 * ((i 2).val / 4)) + 1) (off3_eq1 i)]
  rw [ldB1 c i arg3 harg3 arg4 harg4 arg5 harg5 arg6 harg6 arg7 harg7 arg8 harg8 arg9 harg9 arg10 harg10 arg11 harg11 hc0 hc1 x0 x1 x2 x3 x4, blkB0 c i arg3 harg3 arg4 harg4 arg5 harg5 arg6 harg6 arg7 harg7 arg8 harg8 arg9 harg9 arg10 harg10 arg11 harg11 hc0 hc1 x0 x1 x2 x3 x4 (k0_off3_inb i hc0 0), blk_read arg6 harg6 x3 _ _ (4 * ((i 2).val / 4)) (off3_eq0 i), blk_read arg7 harg7 x4 _ _ (4 * ((i 2).val / 4)) (off3_eq0 i)]
  rw [ldB0 c i arg3 harg3 arg4 harg4 arg5 harg5 arg6 harg6 arg7 harg7 arg8 harg8 arg9 harg9 arg10 harg10 arg11 harg11 hc0 hc1 x0 x1 x2 x3 x4]
  have e : 4 * ((i 2).val / 4) + 2 = (i 2).val := by omega
  exact congrArg (run (qB (kernelRun0_C.sl.r c arg5 harg5 x2)) x3 x4 init) e

theorem diagB_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : k0_pay207 (kernelRun0_C.sl.r_9 c i arg3 harg3 arg4 harg4 arg5 harg5 arg6 harg6 arg7 harg7 arg8 harg8 arg9 harg9 arg10 harg10 arg11 harg11 hc0 x2 x3 x4) = (last (i 2).val (qB (k0_pay169 x2)) x3 x4).l := by
  have e2 : (kernelRun0_C.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagB_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) : k0_pay209 (kernelRun0_C.sl.r_7 c i arg3 harg3 arg4 harg4 arg5 harg5 arg6 harg6 arg7 harg7 arg8 harg8 arg9 harg9 arg10 harg10 arg11 harg11 hc0 x2 x3 x4) (kernelRun0_C.sl.r_8 c i arg3 harg3 arg4 harg4 arg5 harg5 arg6 harg6 arg7 harg7 arg8 harg8 arg9 harg9 arg10 harg10 arg11 harg11 hc0 x2 x3 x4) (kernelRun0_C.sl.v156 c i arg3 harg3 arg4 harg4 arg5 harg5 arg6 harg6 arg7 harg7 arg8 harg8 arg9 harg9 arg10 harg10 arg11 harg11 hc0 x2 x3 x4) = (last (i 2).val (qB (k0_pay169 x2)) x3 x4).a := by
  have e2 : (kernelRun0_C.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (x0 : Vec F S4x64 .f32) (x1 : Vec F S1x128 .f32) (x2 : Vec F S512x128 .f32) (x3 : Vec F S16384x128 .bf16) (x4 : Vec F S16384x128 .bf16) (h : (i 2).val % 4 = 2) :
    out0_C_5 c i arg3 harg3 arg4 harg4 arg5 harg5 arg6 harg6 arg7 harg7 arg8 harg8 arg9 harg9 arg10 harg10 arg11 harg11 hc0 hc1 x0 x1 x2 x3 x4 = fin x0 x1
      (glue (last (i 2).val (qT (k0_pay169 x2)) x3 x4).a (last (i 2).val (qB (k0_pay169 x2)) x3 x4).a)
      (glue (last (i 2).val (qT (k0_pay169 x2)) x3 x4).l (last (i 2).val (qB (k0_pay169 x2)) x3 x4).l) := by
  have eA : (kernelRun0_C.sl.v178 c i arg3 harg3 arg4 harg4 arg5 harg5 arg6 harg6 arg7 harg7 arg8 harg8 arg9 harg9 arg10 harg10 arg11 harg11 hc0 x2 x3 x4) = glue (last (i 2).val (qT (k0_pay169 x2)) x3 x4).a (last (i 2).val (qB (k0_pay169 x2)) x3 x4).a := by
    rw [← diagT_a c i arg3 harg3 arg4 harg4 arg5 harg5 arg6 harg6 arg7 harg7 arg8 harg8 arg9 harg9 arg10 harg10 arg11 harg11 hc0 hc1 x0 x1 x2 x3 x4 h, ← diagB_a c i arg3 harg3 arg4 harg4 arg5 harg5 arg6 harg6 arg7 harg7 arg8 harg8 arg9 harg9 arg10 harg10 arg11 harg11 hc0 hc1 x0 x1 x2 x3 x4 h]
    exact covGlue _ _ _ _
  have eL : (kernelRun0_C.sl.v179 c i arg3 harg3 arg4 harg4 arg5 harg5 arg6 harg6 arg7 harg7 arg8 harg8 arg9 harg9 arg10 harg10 arg11 harg11 hc0 x2 x3 x4) = glue (last (i 2).val (qT (k0_pay169 x2)) x3 x4).l (last (i 2).val (qB (k0_pay169 x2)) x3 x4).l := by
    rw [← diagT_l c i arg3 harg3 arg4 harg4 arg5 harg5 arg6 harg6 arg7 harg7 arg8 harg8 arg9 harg9 arg10 harg10 arg11 harg11 hc0 hc1 x0 x1 x2 x3 x4 h, ← diagB_l c i arg3 harg3 arg4 harg4 arg5 harg5 arg6 harg6 arg7 harg7 arg8 harg8 arg9 harg9 arg10 harg10 arg11 harg11 hc0 hc1 x0 x1 x2 x3 x4 h]
    exact covGlue _ _ _ _
  unfold out0_C_5 kernelRun0_C
  dsimp only
  refine (outRead _ _).trans ?_
  unfold kernelRun0_C.sl.r_10 kernelRun0_C.sl.r_11
  rw [eA, eL, fullL, fullG]
  rfl

end CaseC

end Cert.Kernel5Ideal.Main

end
-- ==== Proof.ED.lean ====
module

public import proofs.«01_k».proof.Proof.Gen.Kernel5Ideal.Value
public import proofs.«01_k».proof.Proof.Gen.Kernel5Ideal
public import Idealize.ShloMosaic.Lib.Pipeline.ValueKit
public import Idealize.ShloMosaic.PureOps.Ideal.Laws
public import Idealize.ShloMosaic.Lib.KernelVsHost
public import Idealize.ShloMosaic.Lib.WritesUnit
public import proofs.«01_k».proof.Proof.D3

@[expose] public section

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable {F : FTy → Type} [FloatOps F] [Named F]

namespace CaseD

theorem ldT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v214 c i arg3 harg3 arg4 harg4 arg5 harg5 arg6 harg6 arg7 harg7 arg8 harg8 arg9 harg9 arg10 harg10 arg11 harg11 x2 x3 x4), (kernelRun0_D.sl.v238 c i arg3 harg3 arg4 harg4 arg5 harg5 arg6 harg6 arg7 harg7 arg8 harg8 arg9 harg9 arg10 harg10 arg11 harg11 x2 x3 x4), (kernelRun0_D.sl.v250 c i arg3 harg3 arg4 harg4 arg5 harg5 arg6 harg6 arg7 harg7 arg8 harg8 arg9 harg9 arg10 harg10 arg11 harg11 x2 x3 x4)⟩ : St F) = run (qT (kernelRun0_D.sl.r c arg5 harg5 x2)) x3 x4 init (4 * ((i 2).val / 4)) := by
  refine Eq.trans ?_ (startT Variants.none c none i arg3 harg3 arg4 harg4 arg5 harg5 arg6 harg6 arg7 harg7 arg8 harg8 arg9 harg9 arg10 harg10 arg11 harg11 (kernelRun0_D.sl.r c arg5 harg5 x2) (kernelRun0_D.sl.v26 i) 4#32 (kernelRun0_D.sl.v27 i) (kernelRun0_D.sl.v32 i) 0#32 (kernelRun0_D.sl.v48 i) x3 x4)
  rfl

theorem blkT0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off3 i 0#32) x + S512x128.size x ≤ S16384x128.size x) :
    (⟨kernelRun0_D.sl.v249 c i arg3 harg3 arg4 harg4 arg5 harg5 arg6 harg6 arg7 harg7 arg8 harg8 arg9 harg9 arg10 harg10 arg11 harg11 hc0 x2 x3 x4, kernelRun0_D.sl.v246 c i arg3 harg3 arg4 harg4 arg5 harg5 arg6 harg6 arg7 harg7 arg8 harg8 arg9 harg9 arg10 harg10 arg11 harg11 hc0 x2 x3 x4, kernelRun0_D.sl.v255 c i arg3 harg3 arg4 harg4 arg5 harg5 arg6 harg6 arg7 harg7 arg8 harg8 arg9 harg9 arg10 harg10 arg11 harg11 hc0 x2 x3 x4⟩ : St F) = stepS (scores (qT (kernelRun0_D.sl.r c arg5 harg5 x2)) (arg6.view.readAt (Elt F) (Rect.unit (s := S16384x128) (k0_off3 i 0#32) S512x128.size inb).toLoadRect (harg6.unread x3))) (arg7.view.readAt (Elt F) (Rect.unit (s := S16384x128) (k0_off3 i 0#32) S512x128.size inb).toLoadRect (harg7.unread x4)) (⟨(kernelRun0_D.sl.v214 c i arg3 harg3 arg4 harg4 arg5 harg5 arg6 harg6 arg7 harg7 arg8 harg8 arg9 harg9 arg10 harg10 arg11 harg11 x2 x3 x4), (kernelRun0_D.sl.v238 c i arg3 harg3 arg4 harg4 arg5 harg5 arg6 harg6 arg7 harg7 arg8 harg8 arg9 harg9 arg10 harg10 arg11 harg11 x2 x3 x4), (kernelRun0_D.sl.v250 c i arg3 harg3 arg4 harg4 arg5 harg5 arg6 harg6 arg7 harg7 arg8 harg8 arg9 harg9 arg10 harg10 arg11 harg11 x2 x3 x4)⟩ : St F) := rfl

theorem ldT1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v285 c i arg3 harg3 arg4 harg4 arg5 harg5 arg6 harg6 arg7 harg7 arg8 harg8 arg9 harg9 arg10 harg10 arg11 harg11 hc0 x2 x3 x4), (kernelRun0_D.sl.v309 c i arg3 harg3 arg4 harg4 arg5 harg5 arg6 harg6 arg7 harg7 arg8 harg8 arg9 harg9 arg10 harg10 arg11 harg11 hc0 x2 x3 x4), (kernelRun0_D.sl.v321 c i arg3 harg3 arg4 harg4 arg5 harg5 arg6 harg6 arg7 harg7 arg8 harg8 arg9 harg9 arg10 harg10 arg11 harg11 hc0 x2 x3 x4)⟩ : St F) = (⟨kernelRun0_D.sl.v249 c i arg3 harg3 arg4 harg4 arg5 harg5 arg6 harg6 arg7 harg7 arg8 harg8 arg9 harg9 arg10 harg10 arg11 harg11 hc0 x2 x3 x4, kernelRun0_D.sl.v246 c i arg3 harg3 arg4 harg4 arg5 harg5 arg6 harg6 arg7 harg7 arg8 harg8 arg9 harg9 arg10 harg10 arg11 harg11 hc0 x2 x3 x4, kernelRun0_D.sl.v255 c i arg3 harg3 arg4 harg4 arg5 harg5 arg6 harg6 arg7 harg7 arg8 harg8 arg9 harg9 arg10 harg10 arg11 harg11 hc0 x2 x3 x4⟩ : St F) := by
  refine congr (congr (congrArg St.mk ?_) ?_) ?_
  · exact (covTskip _ _ _).trans (covT _ _ _)
  · exact (covTskip _ _ _).trans (covT _ _ _)
  · exact (covTskip _ _ _).trans (covT _ _ _)

theorem blkT1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off3 i 1#32) x + S512x128.size x ≤ S16384x128.size x) :
    (⟨k0_pay181 (kernelRun0_D.sl.v290 c i arg3 harg3 arg4 harg4 arg5 harg5 arg6 harg6 arg7 harg7 arg8 harg8 arg9 harg9 arg10 harg10 arg11 harg11 hc0 x2 x3 x4), kernelRun0_D.sl.v317 c i arg3 harg3 arg4 harg4 arg5 harg5 arg6 harg6 arg7 harg7 arg8 harg8 arg9 harg9 arg10 harg10 arg11 harg11 hc0 x2 x3 x4, k0_pay182 (kernelRun0_D.sl.v296 c i arg3 harg3 arg4 harg4 arg5 harg5 arg6 harg6 arg7 harg7 arg8 harg8 arg9 harg9 arg10 harg10 arg11 harg11 hc0 x2 x3 x4) (kernelRun0_D.sl.v306 c i arg3 harg3 arg4 harg4 arg5 harg5 arg6 harg6 arg7 harg7 arg8 harg8 arg9 harg9 arg10 harg10 arg11 harg11 hc0 x2 x3 x4) (kernelRun0_D.sl.v321 c i arg3 harg3 arg4 harg4 arg5 harg5 arg6 harg6 arg7 harg7 arg8 harg8 arg9 harg9 arg10 harg10 arg11 harg11 hc0 x2 x3 x4)⟩ : St F) = stepS (scores (qT (kernelRun0_D.sl.r c arg5 harg5 x2)) (arg6.view.readAt (Elt F) (Rect.unit (s := S16384x128) (k0_off3 i 1#32) S512x128.size inb).toLoadRect (harg6.unread x3))) (arg7.view.readAt (Elt F) (Rect.unit (s := S16384x128) (k0_off3 i 1#32) S512x128.size inb).toLoadRect (harg7.unread x4)) (⟨(kernelRun0_D.sl.v285 c i arg3 harg3 arg4 harg4 arg5 harg5 arg6 harg6 arg7 harg7 arg8 harg8 arg9 harg9 arg10 harg10 arg11 harg11 hc0 x2 x3 x4), (kernelRun0_D.sl.v309 c i arg3 harg3 arg4 harg4 arg5 harg5 arg6 harg6 arg7 harg7 arg8 harg8 arg9 harg9 arg10 harg10 arg11 harg11 hc0 x2 x3 x4), (kernelRun0_D.sl.v321 c i arg3 harg3 arg4 harg4 arg5 harg5 arg6 harg6 arg7 harg7 arg8 harg8 arg9 harg9 arg10 harg10 arg11 harg11 hc0 x2 x3 x4)⟩ : St F) := rfl

theorem ldT2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v214_1 c i arg3 harg3 arg4 harg4 arg5 harg5 arg6 harg6 arg7 harg7 arg8 harg8 arg9 harg9 arg10 harg10 arg11 harg11 hc0 x2 x3 x4), (kernelRun0_D.sl.v238_1 c i arg3 harg3 arg4 harg4 arg5 harg5 arg6 harg6 arg7 harg7 arg8 harg8 arg9 harg9 arg10 harg10 arg11 harg11 hc0 x2 x3 x4), (kernelRun0_D.sl.v250_1 c i arg3 harg3 arg4 harg4 arg5 harg5 arg6 harg6 arg7 harg7 arg8 harg8 arg9 harg9 arg10 harg10 arg11 harg11 hc0 x2 x3 x4)⟩ : St F) = (⟨k0_pay181 (kernelRun0_D.sl.v290 c i arg3 harg3 arg4 harg4 arg5 harg5 arg6 harg6 arg7 harg7 arg8 harg8 arg9 harg9 arg10 harg10 arg11 harg11 hc0 x2 x3 x4), kernelRun0_D.sl.v317 c i arg3 harg3 arg4 harg4 arg5 harg5 arg6 harg6 arg7 harg7 arg8 harg8 arg9 harg9 arg10 harg10 arg11 harg11 hc0 x2 x3 x4, k0_pay182 (kernelRun0_D.sl.v296 c i arg3 harg3 arg4 harg4 arg5 harg5 arg6 harg6 arg7 harg7 arg8 harg8 arg9 harg9 arg10 harg10 arg11 harg11 hc0 x2 x3 x4) (kernelRun0_D.sl.v306 c i arg3 harg3 arg4 harg4 arg5 harg5 arg6 harg6 arg7 harg7 arg8 harg8 arg9 harg9 arg10 harg10 arg11 harg11 hc0 x2 x3 x4) (kernelRun0_D.sl.v321 c i arg3 harg3 arg4 harg4 arg5 harg5 arg6 harg6 arg7 harg7 arg8 harg8 arg9 harg9 arg10 harg10 arg11 harg11 hc0 x2 x3 x4)⟩ : St F) := by
  refine congr (congr (congrArg St.mk ?_) ?_) ?_
  · exact (covTskip _ _ _).trans (covT _ _ _)
  · exact (covTskip _ _ _).trans (covT _ _ _)
  · exact (covTskip _ _ _).trans (covT _ _ _)

theorem blkT2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off4 i) x + S512x128.size x ≤ S16384x128.size x) :
    (⟨k0_pay187 (kernelRun0_D.sl.v219_1 c i arg3 harg3 arg4 harg4 arg5 harg5 arg6 harg6 arg7 harg7 arg8 harg8 arg9 harg9 arg10 harg10 arg11 harg11 hc0 hc1 x2 x3 x4), k0_pay186 (kernelRun0_D.sl.v243_1 c i arg3 harg3 arg4 harg4 arg5 harg5 arg6 harg6 arg7 harg7 arg8 harg8 arg9 harg9 arg10 harg10 arg11 harg11 hc0 hc1 x2 x3 x4), k0_pay188 (kernelRun0_D.sl.v225_1 c i arg3 harg3 arg4 harg4 arg5 harg5 arg6 harg6 arg7 harg7 arg8 harg8 arg9 harg9 arg10 harg10 arg11 harg11 hc0 hc1 x2 x3 x4) (kernelRun0_D.sl.v235_1 c i arg3 harg3 arg4 harg4 arg5 harg5 arg6 harg6 arg7 harg7 arg8 harg8 arg9 harg9 arg10 harg10 arg11 harg11 hc0 hc1 x2 x3 x4) (kernelRun0_D.sl.v250_1 c i arg3 harg3 arg4 harg4 arg5 harg5 arg6 harg6 arg7 harg7 arg8 harg8 arg9 harg9 arg10 harg10 arg11 harg11 hc0 x2 x3 x4)⟩ : St F) = stepS (scores (qT (kernelRun0_D.sl.r c arg5 harg5 x2)) (arg6.view.readAt (Elt F) (Rect.unit (s := S16384x128) (k0_off4 i) S512x128.size inb).toLoadRect (harg6.unread x3))) (arg7.view.readAt (Elt F) (Rect.unit (s := S16384x128) (k0_off4 i) S512x128.size inb).toLoadRect (harg7.unread x4)) (⟨(kernelRun0_D.sl.v214_1 c i arg3 harg3 arg4 harg4 arg5 harg5 arg6 harg6 arg7 harg7 arg8 harg8 arg9 harg9 arg10 harg10 arg11 harg11 hc0 x2 x3 x4), (kernelRun0_D.sl.v238_1 c i arg3 harg3 arg4 harg4 arg5 harg5 arg6 harg6 arg7 harg7 arg8 harg8 arg9 harg9 arg10 harg10 arg11 harg11 hc0 x2 x3 x4), (kernelRun0_D.sl.v250_1 c i arg3 harg3 arg4 harg4 arg5 harg5 arg6 harg6 arg7 harg7 arg8 harg8 arg9 harg9 arg10 harg10 arg11 harg11 hc0 x2 x3 x4)⟩ : St F) := rfl

theorem ldT3 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v102 c i arg3 harg3 arg4 harg4 arg5 harg5 arg6 harg6 arg7 harg7 arg8 harg8 arg9 harg9 arg10 harg10 arg11 harg11 hc0 hc1 x2 x3 x4), (kernelRun0_D.sl.v126 c i arg3 harg3 arg4 harg4 arg5 harg5 arg6 harg6 arg7 harg7 arg8 harg8 arg9 harg9 arg10 harg10 arg11 harg11 hc0 hc1 x2 x3 x4), (kernelRun0_D.sl.v138 c i arg3 harg3 arg4 harg4 arg5 harg5 arg6 harg6 arg7 harg7 arg8 harg8 arg9 harg9 arg10 harg10 arg11 harg11 hc0 hc1 x2 x3 x4)⟩ : St F) = (⟨k0_pay187 (kernelRun0_D.sl.v219_1 c i arg3 harg3 arg4 harg4 arg5 harg5 arg6 harg6 arg7 harg7 arg8 harg8 arg9 harg9 arg10 harg10 arg11 harg11 hc0 hc1 x2 x3 x4), k0_pay186 (kernelRun0_D.sl.v243_1 c i arg3 harg3 arg4 harg4 arg5 harg5 arg6 harg6 arg7 harg7 arg8 harg8 arg9 harg9 arg10 harg10 arg11 harg11 hc0 hc1 x2 x3 x4), k0_pay188 (kernelRun0_D.sl.v225_1 c i arg3 harg3 arg4 harg4 arg5 harg5 arg6 harg6 arg7 harg7 arg8 harg8 arg9 harg9 arg10 harg10 arg11 harg11 hc0 hc1 x2 x3 x4) (kernelRun0_D.sl.v235_1 c i arg3 harg3 arg4 harg4 arg5 harg5 arg6 harg6 arg7 harg7 arg8 harg8 arg9 harg9 arg10 harg10 arg11 harg11 hc0 hc1 x2 x3 x4) (kernelRun0_D.sl.v250_1 c i arg3 harg3 arg4 harg4 arg5 harg5 arg6 harg6 arg7 harg7 arg8 harg8 arg9 harg9 arg10 harg10 arg11 harg11 hc0 x2 x3 x4)⟩ : St F) := by
  refine congr (congr (congrArg St.mk ?_) ?_) ?_
  · exact (covTskip _ _ _).trans (covT _ _ _)
  · exact (covTskip _ _ _).trans (covT _ _ _)
  · exact (covTskip _ _ _).trans (covT _ _ _)

theorem beforeT (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : (⟨(kernelRun0_D.sl.v102 c i arg3 harg3 arg4 harg4 arg5 harg5 arg6 harg6 arg7 harg7 arg8 harg8 arg9 harg9 arg10 harg10 arg11 harg11 hc0 hc1 x2 x3 x4), (kernelRun0_D.sl.v126 c i arg3 harg3 arg4 harg4 arg5 harg5 arg6 harg6 arg7 harg7 arg8 harg8 arg9 harg9 arg10 harg10 arg11 harg11 hc0 hc1 x2 x3 x4), (kernelRun0_D.sl.v138 c i arg3 harg3 arg4 harg4 arg5 harg5 arg6 harg6 arg7 harg7 arg8 harg8 arg9 harg9 arg10 harg10 arg11 harg11 hc0 hc1 x2 x3 x4)⟩ : St F) = run (qT (kernelRun0_D.sl.r c arg5 harg5 x2)) x3 x4 init (i 2).val := by
  rw [ldT3 c i arg3 harg3 arg4 harg4 arg5 harg5 arg6 harg6 arg7 harg7 arg8 harg8 arg9 harg9 arg10 harg10 arg11 harg11 hc0 hc1 x0 x1 x2 x3 x4, blkT2 c i arg3 harg3 arg4 harg4 arg5 harg5 arg6 harg6 arg7 harg7 arg8 harg8 arg9 harg9 arg10 harg10 arg11 harg11 hc0 hc1 x0 x1 x2 x3 x4 (k0_off4_inb i hc1), blk_read arg6 harg6 x3 _ _ ((4 * ((i 2).val / 4)) + 2) ((off4_eq i (by omega)).trans (by rw [show (i 2).val - 1 = ((4 * ((i 2).val / 4)) + 2) by omega])), blk_read arg7 harg7 x4 _ _ ((4 * ((i 2).val / 4)) + 2) ((off4_eq i (by omega)).trans (by rw [show (i 2).val - 1 = ((4 * ((i 2).val / 4)) + 2) by omega]))]
  rw [ldT2 c i arg3 harg3 arg4 harg4 arg5 harg5 arg6 harg6 arg7 harg7 arg8 harg8 arg9 harg9 arg10 harg10 arg11 harg11 hc0 hc1 x0 x1 x2 x3 x4, blkT1 c i arg3 harg3 arg4 harg4 arg5 harg5 arg6 harg6 arg7 harg7 arg8 harg8 arg9 harg9 arg10 harg10 arg11 harg11 hc0 hc1 x0 x1 x2 x3 x4 (k0_off3_inb i hc0 1), blk_read arg6 harg6 x3 _ _ ((4 * ((i 2).val / 4)) + 1) (off3_eq1 i), blk_read arg7 harg7 x4 _ _ ((4 * ((i 2).val / 4)) + 1) (off3_eq1 i)]
  rw [ldT1 c i arg3 harg3 arg4 harg4 arg5 harg5 arg6 harg6 arg7 harg7 arg8 harg8 arg9 harg9 arg10 harg10 arg11 harg11 hc0 hc1 x0 x1 x2 x3 x4, blkT0 c i arg3 harg3 arg4 harg4 arg5 harg5 arg6 harg6 arg7 harg7 arg8 harg8 arg9 harg9 arg10 harg10 arg11 harg11 hc0 hc1 x0 x1 x2 x3 x4 (k0_off3_inb i hc0 0), blk_read arg6 harg6 x3 _ _ (4 * ((i 2).val / 4)) (off3_eq0 i), blk_read arg7 harg7 x4 _ _ (4 * ((i 2).val / 4)) (off3_eq0 i)]
  rw [ldT0 c i arg3 harg3 arg4 harg4 arg5 harg5 arg6 harg6 arg7 harg7 arg8 harg8 arg9 harg9 arg10 harg10 arg11 harg11 hc0 hc1 x0 x1 x2 x3 x4]
  have e : 4 * ((i 2).val / 4) + 3 = (i 2).val := by omega
  exact congrArg (run (qT (kernelRun0_D.sl.r c arg5 harg5 x2)) x3 x4 init) e

theorem diagT_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : k0_pay203 (kernelRun0_D.sl.r_2 c i arg5 harg5 arg6 harg6 x2 x3) (kernelRun0_D.sl.v102 c i arg3 harg3 arg4 harg4 arg5 harg5 arg6 harg6 arg7 harg7 arg8 harg8 arg9 harg9 arg10 harg10 arg11 harg11 hc0 hc1 x2 x3 x4) (kernelRun0_D.sl.r_4 c i arg3 harg3 arg4 harg4 arg5 harg5 arg6 harg6 arg7 harg7 arg8 harg8 arg9 harg9 arg10 harg10 arg11 harg11 hc0 hc1 x2 x3 x4) (kernelRun0_D.sl.v126 c i arg3 harg3 arg4 harg4 arg5 harg5 arg6 harg6 arg7 harg7 arg8 harg8 arg9 harg9 arg10 harg10 arg11 harg11 hc0 hc1 x2 x3 x4) = (last (i 2).val (qT (k0_pay169 x2)) x3 x4).l := by
  have e2 : (kernelRun0_D.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagT_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : k0_pay205 (kernelRun0_D.sl.r_1 i arg7 harg7 x4) (kernelRun0_D.sl.r_2 c i arg5 harg5 arg6 harg6 x2 x3) (kernelRun0_D.sl.v102 c i arg3 harg3 arg4 harg4 arg5 harg5 arg6 harg6 arg7 harg7 arg8 harg8 arg9 harg9 arg10 harg10 arg11 harg11 hc0 hc1 x2 x3 x4) (kernelRun0_D.sl.r_4 c i arg3 harg3 arg4 harg4 arg5 harg5 arg6 harg6 arg7 harg7 arg8 harg8 arg9 harg9 arg10 harg10 arg11 harg11 hc0 hc1 x2 x3 x4) (kernelRun0_D.sl.v138 c i arg3 harg3 arg4 harg4 arg5 harg5 arg6 harg6 arg7 harg7 arg8 harg8 arg9 harg9 arg10 harg10 arg11 harg11 hc0 hc1 x2 x3 x4) = (last (i 2).val (qT (k0_pay169 x2)) x3 x4).a := by
  have e2 : (kernelRun0_D.sl.r c arg5 harg5 x2) = k0_pay169 x2 := congrArg k0_pay169 (fullQ arg5 harg5 x2 _)
  unfold last
  rw [← e2, ← beforeT c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem ldB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v215 c i arg3 harg3 arg4 harg4 arg5 harg5 arg6 harg6 arg7 harg7 arg8 harg8 arg9 harg9 arg10 harg10 arg11 harg11 x2 x3 x4), (kernelRun0_D.sl.v256 c i arg3 harg3 arg4 harg4 arg5 harg5 arg6 harg6 arg7 harg7 arg8 harg8 arg9 harg9 arg10 harg10 arg11 harg11 hc0 x2 x3 x4), (kernelRun0_D.sl.v268 c i arg3 harg3 arg4 harg4 arg5 harg5 arg6 harg6 arg7 harg7 arg8 harg8 arg9 harg9 arg10 harg10 arg11 harg11 hc0 x2 x3 x4)⟩ : St F) = run (qB (kernelRun0_D.sl.r c arg5 harg5 x2)) x3 x4 init (4 * ((i 2).val / 4)) := by
  refine Eq.trans ?_ (startB Variants.none c none i arg3 harg3 arg4 harg4 arg5 harg5 arg6 harg6 arg7 harg7 arg8 harg8 arg9 harg9 arg10 harg10 arg11 harg11 (kernelRun0_D.sl.r c arg5 harg5 x2) (kernelRun0_D.sl.v26 i) 4#32 (kernelRun0_D.sl.v27 i) (kernelRun0_D.sl.v32 i) 0#32 (kernelRun0_D.sl.v48 i) x3 x4)
  refine congr (congr (congrArg St.mk ?_) ?_) ?_
  · rfl
  · exact covBskip _ _ _
  · exact covBskip _ _ _

theorem blkB0 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off3 i 0#32) x + S512x128.size x ≤ S16384x128.size x) :
    (⟨kernelRun0_D.sl.v267 c i arg3 harg3 arg4 harg4 arg5 harg5 arg6 harg6 arg7 harg7 arg8 harg8 arg9 harg9 arg10 harg10 arg11 harg11 hc0 x2 x3 x4, kernelRun0_D.sl.v264 c i arg3 harg3 arg4 harg4 arg5 harg5 arg6 harg6 arg7 harg7 arg8 harg8 arg9 harg9 arg10 harg10 arg11 harg11 hc0 x2 x3 x4, kernelRun0_D.sl.v273 c i arg3 harg3 arg4 harg4 arg5 harg5 arg6 harg6 arg7 harg7 arg8 harg8 arg9 harg9 arg10 harg10 arg11 harg11 hc0 x2 x3 x4⟩ : St F) = stepS (scores (qB (kernelRun0_D.sl.r c arg5 harg5 x2)) (arg6.view.readAt (Elt F) (Rect.unit (s := S16384x128) (k0_off3 i 0#32) S512x128.size inb).toLoadRect (harg6.unread x3))) (arg7.view.readAt (Elt F) (Rect.unit (s := S16384x128) (k0_off3 i 0#32) S512x128.size inb).toLoadRect (harg7.unread x4)) (⟨(kernelRun0_D.sl.v215 c i arg3 harg3 arg4 harg4 arg5 harg5 arg6 harg6 arg7 harg7 arg8 harg8 arg9 harg9 arg10 harg10 arg11 harg11 x2 x3 x4), (kernelRun0_D.sl.v256 c i arg3 harg3 arg4 harg4 arg5 harg5 arg6 harg6 arg7 harg7 arg8 harg8 arg9 harg9 arg10 harg10 arg11 harg11 hc0 x2 x3 x4), (kernelRun0_D.sl.v268 c i arg3 harg3 arg4 harg4 arg5 harg5 arg6 harg6 arg7 harg7 arg8 harg8 arg9 harg9 arg10 harg10 arg11 harg11 hc0 x2 x3 x4)⟩ : St F) := rfl

theorem ldB1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v286 c i arg3 harg3 arg4 harg4 arg5 harg5 arg6 harg6 arg7 harg7 arg8 harg8 arg9 harg9 arg10 harg10 arg11 harg11 hc0 x2 x3 x4), (kernelRun0_D.sl.v327 c i arg3 harg3 arg4 harg4 arg5 harg5 arg6 harg6 arg7 harg7 arg8 harg8 arg9 harg9 arg10 harg10 arg11 harg11 hc0 x2 x3 x4), (kernelRun0_D.sl.v339 c i arg3 harg3 arg4 harg4 arg5 harg5 arg6 harg6 arg7 harg7 arg8 harg8 arg9 harg9 arg10 harg10 arg11 harg11 hc0 x2 x3 x4)⟩ : St F) = (⟨kernelRun0_D.sl.v267 c i arg3 harg3 arg4 harg4 arg5 harg5 arg6 harg6 arg7 harg7 arg8 harg8 arg9 harg9 arg10 harg10 arg11 harg11 hc0 x2 x3 x4, kernelRun0_D.sl.v264 c i arg3 harg3 arg4 harg4 arg5 harg5 arg6 harg6 arg7 harg7 arg8 harg8 arg9 harg9 arg10 harg10 arg11 harg11 hc0 x2 x3 x4, kernelRun0_D.sl.v273 c i arg3 harg3 arg4 harg4 arg5 harg5 arg6 harg6 arg7 harg7 arg8 harg8 arg9 harg9 arg10 harg10 arg11 harg11 hc0 x2 x3 x4⟩ : St F) := by
  refine congr (congr (congrArg St.mk ?_) ?_) ?_
  · exact covB _ _ _
  · exact (covBskip _ _ _).trans (covB _ _ _)
  · exact (covBskip _ _ _).trans (covB _ _ _)

theorem blkB1 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off3 i 1#32) x + S512x128.size x ≤ S16384x128.size x) :
    (⟨k0_pay184 (kernelRun0_D.sl.v294 c i arg3 harg3 arg4 harg4 arg5 harg5 arg6 harg6 arg7 harg7 arg8 harg8 arg9 harg9 arg10 harg10 arg11 harg11 hc0 x2 x3 x4), k0_pay183 (kernelRun0_D.sl.v298 c i arg3 harg3 arg4 harg4 arg5 harg5 arg6 harg6 arg7 harg7 arg8 harg8 arg9 harg9 arg10 harg10 arg11 harg11 hc0 x2 x3 x4) (kernelRun0_D.sl.v304 c i arg3 harg3 arg4 harg4 arg5 harg5 arg6 harg6 arg7 harg7 arg8 harg8 arg9 harg9 arg10 harg10 arg11 harg11 hc0 x2 x3 x4) (kernelRun0_D.sl.v327 c i arg3 harg3 arg4 harg4 arg5 harg5 arg6 harg6 arg7 harg7 arg8 harg8 arg9 harg9 arg10 harg10 arg11 harg11 hc0 x2 x3 x4), k0_pay185 (kernelRun0_D.sl.v298 c i arg3 harg3 arg4 harg4 arg5 harg5 arg6 harg6 arg7 harg7 arg8 harg8 arg9 harg9 arg10 harg10 arg11 harg11 hc0 x2 x3 x4) (kernelRun0_D.sl.v308 c i arg3 harg3 arg4 harg4 arg5 harg5 arg6 harg6 arg7 harg7 arg8 harg8 arg9 harg9 arg10 harg10 arg11 harg11 hc0 x2 x3 x4) (kernelRun0_D.sl.v339 c i arg3 harg3 arg4 harg4 arg5 harg5 arg6 harg6 arg7 harg7 arg8 harg8 arg9 harg9 arg10 harg10 arg11 harg11 hc0 x2 x3 x4)⟩ : St F) = stepS (scores (qB (kernelRun0_D.sl.r c arg5 harg5 x2)) (arg6.view.readAt (Elt F) (Rect.unit (s := S16384x128) (k0_off3 i 1#32) S512x128.size inb).toLoadRect (harg6.unread x3))) (arg7.view.readAt (Elt F) (Rect.unit (s := S16384x128) (k0_off3 i 1#32) S512x128.size inb).toLoadRect (harg7.unread x4)) (⟨(kernelRun0_D.sl.v286 c i arg3 harg3 arg4 harg4 arg5 harg5 arg6 harg6 arg7 harg7 arg8 harg8 arg9 harg9 arg10 harg10 arg11 harg11 hc0 x2 x3 x4), (kernelRun0_D.sl.v327 c i arg3 harg3 arg4 harg4 arg5 harg5 arg6 harg6 arg7 harg7 arg8 harg8 arg9 harg9 arg10 harg10 arg11 harg11 hc0 x2 x3 x4), (kernelRun0_D.sl.v339 c i arg3 harg3 arg4 harg4 arg5 harg5 arg6 harg6 arg7 harg7 arg8 harg8 arg9 harg9 arg10 harg10 arg11 harg11 hc0 x2 x3 x4)⟩ : St F) := rfl

theorem ldB2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v215_1 c i arg3 harg3 arg4 harg4 arg5 harg5 arg6 harg6 arg7 harg7 arg8 harg8 arg9 harg9 arg10 harg10 arg11 harg11 hc0 x2 x3 x4), (kernelRun0_D.sl.v256_1 c i arg3 harg3 arg4 harg4 arg5 harg5 arg6 harg6 arg7 harg7 arg8 harg8 arg9 harg9 arg10 harg10 arg11 harg11 hc0 hc1 x2 x3 x4), (kernelRun0_D.sl.v268_1 c i arg3 harg3 arg4 harg4 arg5 harg5 arg6 harg6 arg7 harg7 arg8 harg8 arg9 harg9 arg10 harg10 arg11 harg11 hc0 hc1 x2 x3 x4)⟩ : St F) = (⟨k0_pay184 (kernelRun0_D.sl.v294 c i arg3 harg3 arg4 harg4 arg5 harg5 arg6 harg6 arg7 harg7 arg8 harg8 arg9 harg9 arg10 harg10 arg11 harg11 hc0 x2 x3 x4), k0_pay183 (kernelRun0_D.sl.v298 c i arg3 harg3 arg4 harg4 arg5 harg5 arg6 harg6 arg7 harg7 arg8 harg8 arg9 harg9 arg10 harg10 arg11 harg11 hc0 x2 x3 x4) (kernelRun0_D.sl.v304 c i arg3 harg3 arg4 harg4 arg5 harg5 arg6 harg6 arg7 harg7 arg8 harg8 arg9 harg9 arg10 harg10 arg11 harg11 hc0 x2 x3 x4) (kernelRun0_D.sl.v327 c i arg3 harg3 arg4 harg4 arg5 harg5 arg6 harg6 arg7 harg7 arg8 harg8 arg9 harg9 arg10 harg10 arg11 harg11 hc0 x2 x3 x4), k0_pay185 (kernelRun0_D.sl.v298 c i arg3 harg3 arg4 harg4 arg5 harg5 arg6 harg6 arg7 harg7 arg8 harg8 arg9 harg9 arg10 harg10 arg11 harg11 hc0 x2 x3 x4) (kernelRun0_D.sl.v308 c i arg3 harg3 arg4 harg4 arg5 harg5 arg6 harg6 arg7 harg7 arg8 harg8 arg9 harg9 arg10 harg10 arg11 harg11 hc0 x2 x3 x4) (kernelRun0_D.sl.v339 c i arg3 harg3 arg4 harg4 arg5 harg5 arg6 harg6 arg7 harg7 arg8 harg8 arg9 harg9 arg10 harg10 arg11 harg11 hc0 x2 x3 x4)⟩ : St F) := by
  refine congr (congr (congrArg St.mk ?_) ?_) ?_
  · exact covB _ _ _
  · exact (covBskip _ _ _).trans (covB _ _ _)
  · exact (covBskip _ _ _).trans (covB _ _ _)

theorem blkB2 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (inb : ∀ x, (k0_off4 i) x + S512x128.size x ≤ S16384x128.size x) :
    (⟨k0_pay190 (kernelRun0_D.sl.v223_1 c i arg3 harg3 arg4 harg4 arg5 harg5 arg6 harg6 arg7 harg7 arg8 harg8 arg9 harg9 arg10 harg10 arg11 harg11 hc0 hc1 x2 x3 x4), k0_pay189 (kernelRun0_D.sl.v227_1 c i arg3 harg3 arg4 harg4 arg5 harg5 arg6 harg6 arg7 harg7 arg8 harg8 arg9 harg9 arg10 harg10 arg11 harg11 hc0 hc1 x2 x3 x4) (kernelRun0_D.sl.v233_1 c i arg3 harg3 arg4 harg4 arg5 harg5 arg6 harg6 arg7 harg7 arg8 harg8 arg9 harg9 arg10 harg10 arg11 harg11 hc0 hc1 x2 x3 x4) (kernelRun0_D.sl.v256_1 c i arg3 harg3 arg4 harg4 arg5 harg5 arg6 harg6 arg7 harg7 arg8 harg8 arg9 harg9 arg10 harg10 arg11 harg11 hc0 hc1 x2 x3 x4), k0_pay191 (kernelRun0_D.sl.v227_1 c i arg3 harg3 arg4 harg4 arg5 harg5 arg6 harg6 arg7 harg7 arg8 harg8 arg9 harg9 arg10 harg10 arg11 harg11 hc0 hc1 x2 x3 x4) (kernelRun0_D.sl.v237_1 c i arg3 harg3 arg4 harg4 arg5 harg5 arg6 harg6 arg7 harg7 arg8 harg8 arg9 harg9 arg10 harg10 arg11 harg11 hc0 hc1 x2 x3 x4) (kernelRun0_D.sl.v268_1 c i arg3 harg3 arg4 harg4 arg5 harg5 arg6 harg6 arg7 harg7 arg8 harg8 arg9 harg9 arg10 harg10 arg11 harg11 hc0 hc1 x2 x3 x4)⟩ : St F) = stepS (scores (qB (kernelRun0_D.sl.r c arg5 harg5 x2)) (arg6.view.readAt (Elt F) (Rect.unit (s := S16384x128) (k0_off4 i) S512x128.size inb).toLoadRect (harg6.unread x3))) (arg7.view.readAt (Elt F) (Rect.unit (s := S16384x128) (k0_off4 i) S512x128.size inb).toLoadRect (harg7.unread x4)) (⟨(kernelRun0_D.sl.v215_1 c i arg3 harg3 arg4 harg4 arg5 harg5 arg6 harg6 arg7 harg7 arg8 harg8 arg9 harg9 arg10 harg10 arg11 harg11 hc0 x2 x3 x4), (kernelRun0_D.sl.v256_1 c i arg3 harg3 arg4 harg4 arg5 harg5 arg6 harg6 arg7 harg7 arg8 harg8 arg9 harg9 arg10 harg10 arg11 harg11 hc0 hc1 x2 x3 x4), (kernelRun0_D.sl.v268_1 c i arg3 harg3 arg4 harg4 arg5 harg5 arg6 harg6 arg7 harg7 arg8 harg8 arg9 harg9 arg10 harg10 arg11 harg11 hc0 hc1 x2 x3 x4)⟩ : St F) := rfl

theorem ldB3 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) : (⟨(kernelRun0_D.sl.v103 c i arg3 harg3 arg4 harg4 arg5 harg5 arg6 harg6 arg7 harg7 arg8 harg8 arg9 harg9 arg10 harg10 arg11 harg11 hc0 hc1 x2 x3 x4), (kernelRun0_D.sl.v144 c i arg3 harg3 arg4 harg4 arg5 harg5 arg6 harg6 arg7 harg7 arg8 harg8 arg9 harg9 arg10 harg10 arg11 harg11 hc0 hc1 x2 x3 x4), (kernelRun0_D.sl.v156 c i arg3 harg3 arg4 harg4 arg5 harg5 arg6 harg6 arg7 harg7 arg8 harg8 arg9 harg9 arg10 harg10 arg11 harg11 hc0 hc1 x2 x3 x4)⟩ : St F) = (⟨k0_pay190 (kernelRun0_D.sl.v223_1 c i arg3 harg3 arg4 harg4 arg5 harg5 arg6 harg6 arg7 harg7 arg8 harg8 arg9 harg9 arg10 harg10 arg11 harg11 hc0 hc1 x2 x3 x4), k0_pay189 (kernelRun0_D.sl.v227_1 c i arg3 harg3 arg4 harg4 arg5 harg5 arg6 harg6 arg7 harg7 arg8 harg8 arg9 harg9 arg10 harg10 arg11 harg11 hc0 hc1 x2 x3 x4) (kernelRun0_D.sl.v233_1 c i arg3 harg3 arg4 harg4 arg5 harg5 arg6 harg6 arg7 harg7 arg8 harg8 arg9 harg9 arg10 harg10 arg11 harg11 hc0 hc1 x2 x3 x4) (kernelRun0_D.sl.v256_1 c i arg3 harg3 arg4 harg4 arg5 harg5 arg6 harg6 arg7 harg7 arg8 harg8 arg9 harg9 arg10 harg10 arg11 harg11 hc0 hc1 x2 x3 x4), k0_pay191 (kernelRun0_D.sl.v227_1 c i arg3 harg3 arg4 harg4 arg5 harg5 arg6 harg6 arg7 harg7 arg8 harg8 arg9 harg9 arg10 harg10 arg11 harg11 hc0 hc1 x2 x3 x4) (kernelRun0_D.sl.v237_1 c i arg3 harg3 arg4 harg4 arg5 harg5 arg6 harg6 arg7 harg7 arg8 harg8 arg9 harg9 arg10 harg10 arg11 harg11 hc0 hc1 x2 x3 x4) (kernelRun0_D.sl.v268_1 c i arg3 harg3 arg4 harg4 arg5 harg5 arg6 harg6 arg7 harg7 arg8 harg8 arg9 harg9 arg10 harg10 arg11 harg11 hc0 hc1 x2 x3 x4)⟩ : St F) := by
  refine congr (congr (congrArg St.mk ?_) ?_) ?_
  · exact covB _ _ _
  · exact (covBskip _ _ _).trans (covB _ _ _)
  · exact (covBskip _ _ _).trans (covB _ _ _)

theorem beforeB (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : (⟨(kernelRun0_D.sl.v103 c i arg3 harg3 arg4 harg4 arg5 harg5 arg6 harg6 arg7 harg7 arg8 harg8 arg9 harg9 arg10 harg10 arg11 harg11 hc0 hc1 x2 x3 x4), (kernelRun0_D.sl.v144 c i arg3 harg3 arg4 harg4 arg5 harg5 arg6 harg6 arg7 harg7 arg8 harg8 arg9 harg9 arg10 harg10 arg11 harg11 hc0 hc1 x2 x3 x4), (kernelRun0_D.sl.v156 c i arg3 harg3 arg4 harg4 arg5 harg5 arg6 harg6 arg7 harg7 arg8 harg8 arg9 harg9 arg10 harg10 arg11 harg11 hc0 hc1 x2 x3 x4)⟩ : St F) = run (qB (kernelRun0_D.sl.r c arg5 harg5 x2)) x3 x4 init (i 2).val := by
  rw [ldB3 c i arg3 harg3 arg4 harg4 arg5 harg5 arg6 harg6 arg7 harg7 arg8 harg8 arg9 harg9 arg10 harg10 arg11 harg11 hc0 hc1 x0 x1 x2 x3 x4, blkB2 c i arg3 harg3 arg4 harg4 arg5 harg5 arg6 harg6 arg7 harg7 arg8 harg8 arg9 harg9 arg10 harg10 arg11 harg11 hc0 hc1 x0 x1 x2 x3 x4 (k0_off4_inb i hc1), blk_read arg6 harg6 x3 _ _ ((4 * ((i 2).val / 4)) + 2) ((off4_eq i (by omega)).trans (by rw [show (i 2).val - 1 = ((4 * ((i 2).val / 4)) + 2) by omega])), blk_read arg7 harg7 x4 _ _ ((4 * ((i 2).val / 4)) + 2) ((off4_eq i (by omega)).trans (by rw [show (i 2).val - 1 = ((4 * ((i 2).val / 4)) + 2) by omega]))]
  rw [ldB2 c i arg3 harg3 arg4 harg4 arg5 harg5 arg6 harg6 arg7 harg7 arg8 harg8 arg9 harg9 arg10 harg10 arg11 harg11 hc0 hc1 x0 x1 x2 x3 x4, blkB1 c i arg3 harg3 arg4 harg4 arg5 harg5 arg6 harg6 arg7 harg7 arg8 harg8 arg9 harg9 arg10 harg10 arg11 harg11 hc0 hc1 x0 x1 x2 x3 x4 (k0_off3_inb i hc0 1), blk_read arg6 harg6 x3 _ _ ((4 * ((i 2).val / 4)) + 1) (off3_eq1 i), blk_read arg7 harg7 x4 _ _ ((4 * ((i 2).val / 4)) + 1) (off3_eq1 i)]
  rw [ldB1 c i arg3 harg3 arg4 harg4 arg5 harg5 arg6 harg6 arg7 harg7 arg8 harg8 arg9 harg9 arg10 harg10 arg11 harg11 hc0 hc1 x0 x1 x2 x3 x4, blkB0 c i arg3 harg3 arg4 harg4 arg5 harg5 arg6 harg6 arg7 harg7 arg8 harg8 arg9 harg9 arg10 harg10 arg11 harg11 hc0 hc1 x0 x1 x2 x3 x4 (k0_off3_inb i hc0 0), blk_read arg6 harg6 x3 _ _ (4 * ((i 2).val / 4)) (off3_eq0 i), blk_read arg7 harg7 x4 _ _ (4 * ((i 2).val / 4)) (off3_eq0 i)]
  rw [ldB0 c i arg3 harg3 arg4 harg4 arg5 harg5 arg6 harg6 arg7 harg7 arg8 harg8 arg9 harg9 arg10 harg10 arg11 harg11 hc0 hc1 x0 x1 x2 x3 x4]
  have e : 4 * ((i 2).val / 4) + 3 = (i 2).val := by omega
  exact congrArg (run (qB (kernelRun0_D.sl.r c arg5 harg5 x2)) x3 x4 init) e

theorem diagB_l (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : k0_pay207 (kernelRun0_D.sl.r_9 c i arg3 harg3 arg4 harg4 arg5 harg5 arg6 harg6 arg7 harg7 arg8 harg8 arg9 harg9 arg10 harg10 arg11 harg11 hc0 hc1 x2 x3 x4) = (last (i 2).val (qB (k0_pay169 x2)) x3 x4).l := by
  have e2 : (kernelRun0_D.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem diagB_a (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) : k0_pay209 (kernelRun0_D.sl.r_7 c i arg3 harg3 arg4 harg4 arg5 harg5 arg6 harg6 arg7 harg7 arg8 harg8 arg9 harg9 arg10 harg10 arg11 harg11 hc0 hc1 x2 x3 x4) (kernelRun0_D.sl.r_8 c i arg3 harg3 arg4 harg4 arg5 harg5 arg6 harg6 arg7 harg7 arg8 harg8 arg9 harg9 arg10 harg10 arg11 harg11 hc0 hc1 x2 x3 x4) (kernelRun0_D.sl.v156 c i arg3 harg3 arg4 harg4 arg5 harg5 arg6 harg6 arg7 harg7 arg8 harg8 arg9 harg9 arg10 harg10 arg11 harg11 hc0 hc1 x2 x3 x4) = (last (i 2).val (qB (k0_pay169 x2)) x3 x4).a := by
  have e2 : (kernelRun0_D.sl.r c arg5 harg5 x2) = k0_pay169 x2 := congrArg k0_pay169 (fullQ arg5 harg5 x2 _)
  unfold last
  rw [← e2, ← beforeB c i arg3 harg3 arg4 harg4 arg5 harg5 arg6 harg6 arg7 harg7 arg8 harg8 arg9 harg9 arg10 harg10 arg11 harg11 hc0 hc1 x0 x1 x2 x3 x4 h, ← blk_read arg6 harg6 x3 _ (k0_off5_inb i) _ (off5_eq i), ← blk_read arg7 harg7 x4 _ (k0_off5_inb i) _ (off5_eq i)]
  rfl

theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S512x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i) (x0 : Vec F S4x64 .f32) (x1 : Vec F S1x128 .f32) (x2 : Vec F S512x128 .f32) (x3 : Vec F S16384x128 .bf16) (x4 : Vec F S16384x128 .bf16) (h : (i 2).val % 4 = 3) :
    out0_D_5 c i arg3 harg3 arg4 harg4 arg5 harg5 arg6 harg6 arg7 harg7 arg8 harg8 arg9 harg9 arg10 harg10 arg11 harg11 hc0 hc1 x0 x1 x2 x3 x4 = fin x0 x1
      (glue (last (i 2).val (qT (k0_pay169 x2)) x3 x4).a (last (i 2).val (qB (k0_pay169 x2)) x3 x4).a)
      (glue (last (i 2).val (qT (k0_pay169 x2)) x3 x4).l (last (i 2).val (qB (k0_pay169 x2)) x3 x4).l) := by
  have eA : (kernelRun0_D.sl.v178 c i arg3 harg3 arg4 harg4 arg5 harg5 arg6 harg6 arg7 harg7 arg8 harg8 arg9 harg9 arg10 harg10 arg11 harg11 hc0 hc1 x2 x3 x4) = glue (last (i 2).val (qT (k0_pay169 x2)) x3 x4).a (last (i 2).val (qB (k0_pay169 x2)) x3 x4).a := by
    rw [← diagT_a c i arg3 harg3 arg4 harg4 arg5 harg5 arg6 harg6 arg7 harg7 arg8 harg8 arg9 harg9 arg10 harg10 arg11 harg11 hc0 hc1 x0 x1 x2 x3 x4 h, ← diagB_a c i arg3 harg3 arg4 harg4 arg5 harg5 arg6 harg6 arg7 harg7 arg8 harg8 arg9 harg9 arg10 harg10 arg11 harg11 hc0 hc1 x0 x1 x2 x3 x4 h]
    exact covGlue _ _ _ _
  have eL : (kernelRun0_D.sl.v179 c i arg3 harg3 arg4 harg4 arg5 harg5 arg6 harg6 arg7 harg7 arg8 harg8 arg9 harg9 arg10 harg10 arg11 harg11 hc0 hc1 x2 x3 x4) = glue (last (i 2).val (qT (k0_pay169 x2)) x3 x4).l (last (i 2).val (qB (k0_pay169 x2)) x3 x4).l := by
    rw [← diagT_l c i arg3 harg3 arg4 harg4 arg5 harg5 arg6 harg6 arg7 harg7 arg8 harg8 arg9 harg9 arg10 harg10 arg11 harg11 hc0 hc1 x0 x1 x2 x3 x4 h, ← diagB_l c i arg3 harg3 arg4 harg4 arg5 harg5 arg6 harg6 arg7 harg7 arg8 harg8 arg9 harg9 arg10 harg10 arg11 harg11 hc0 hc1 x0 x1 x2 x3 x4 h]
    exact covGlue _ _ _ _
  unfold out0_D_5 kernelRun0_D
  dsimp only
  refine (outRead _ _).trans ?_
  unfold kernelRun0_D.sl.r_10 kernelRun0_D.sl.r_11
  rw [eA, eL, fullL, fullG]
  rfl

end CaseD

end Cert.Kernel5Ideal.Main

end
-- ==== Proof.D4.lean ====
/- The running softmax over exact arithmetic: what a state holds of the keys already seen, and that a further block of scores
   keeps it so. -/
module

public import proofs.«01_k».proof.Proof.D3

@[expose] public section

noncomputable section

namespace Cert.Kernel5Ideal.Main

open Cert.Kernel5Ideal Cert.Kernel5Ideal.Gen Idealize.ShloMosaic Idealize.ShloMosaic.TcCoe Idealize.SL.Sem

theorem coe_sum {n : ℕ} (f : Fin n → ℝ) : (∑ c, ((f c : ℝ) : EReal)) = ((∑ c, f c : ℝ) : EReal) := by
  classical
  refine Finset.induction_on (Finset.univ : Finset (Fin n)) ?_ ?_
  · simp
  · intro a s ha ih
    rw [Finset.sum_insert ha, Finset.sum_insert ha, ih, EReal.coe_add]

/-- A row of a state: nothing seen, or the sums of the weights and of the weighted values, both relative to the row's maximum. -/
def Row (x : St Ideal) (r : Fin 512) (E : ℝ) (W : Fin 128 → ℝ) : Prop :=
  ((∀ j, x.m (ix2 r j) = ⊥ ∧ x.l (ix2 r j) = 0 ∧ x.a (ix2 r j) = 0) ∧ E = 0 ∧ ∀ j, W j = 0)
  ∨ ∃ μ : ℝ, ∀ j, x.m (ix2 r j) = (μ : EReal) ∧ x.l (ix2 r j) = (((2 : ℝ) ^ (-μ) * E : ℝ) : EReal) ∧ x.a (ix2 r j) = (((2 : ℝ) ^ (-μ) * W j : ℝ) : EReal)

theorem nextM_apply (s : FVec Ideal S512x512 .f32) (m : FVec Ideal S512x128 .f32) (r : Fin 512) (j : Fin 128) :
    nextM s m (ix2 r j) = max (m (ix2 r j)) (Finset.fold max (Ideal.ofBits FTy.f32 4286578688#32) (fun c => s (ix2 r c)) Finset.univ) := by
  unfold nextM
  pointwise []

theorem step_m (s : FVec Ideal S512x512 .f32) (v : FVec Ideal S512x128 .bf16) (x : St Ideal) (r : Fin 512) (j : Fin 128) :
    (stepS s v x).m (ix2 r j) = nextM s x.m (ix2 r j) := by
  unfold stepS
  pointwise []

theorem step_l (s : FVec Ideal S512x512 .f32) (v : FVec Ideal S512x128 .bf16) (x : St Ideal) (r : Fin 512) (j : Fin 128) (M : EReal)
    (hM : ∀ j, nextM s x.m (ix2 r j) = M) :
    (stepS s v x).l (ix2 r j) = Ideal.exp2 (x.m (ix2 r j) - M) * x.l (ix2 r j) + ∑ c : Fin 512, Ideal.exp2 (s (ix2 r c) - M) := by
  unfold stepS weights
  pointwise []
  simp only [hM, dite_eq_ite, ite_self]
  rfl

theorem step_a (s : FVec Ideal S512x512 .f32) (v : FVec Ideal S512x128 .bf16) (x : St Ideal) (r : Fin 512) (j : Fin 128) (M : EReal)
    (hM : ∀ j, nextM s x.m (ix2 r j) = M) :
    (stepS s v x).a (ix2 r j) = Ideal.exp2 (x.m (ix2 r j) - M) * x.a (ix2 r j) + ∑ c : Fin 512, Ideal.exp2 (s (ix2 r c) - M) * v (ix2 c j) := by
  unfold stepS weights
  pointwise []
  simp only [hM, dite_eq_ite, ite_self]
  rfl

theorem exp2_real (y μ : ℝ) : Ideal.exp2 ((y : EReal) - (μ : EReal)) = (((2 : ℝ) ^ (-μ) * (2 : ℝ) ^ y : ℝ) : EReal) := by
  rw [← EReal.coe_sub, Ideal.exp2_coe]
  congr 1
  show (2 : ℝ) ^ (y - μ) = _
  rw [← Real.rpow_add (by norm_num)]
  congr 1
  ring

theorem exp2_bot (μ : ℝ) : Ideal.exp2 ((⊥ : EReal) - (μ : EReal)) = 0 := by
  rw [EReal.bot_sub]
  rfl

theorem bot_bits : Ideal.ofBits FTy.f32 4286578688#32 = ⊥ := by
  simp [Ideal.ofBits, Ideal.ieee]

/-- The largest of a row of scores, one at least a number, none infinite upwards. -/
theorem rowMax {n : ℕ} (s : Fin n → EReal) (h : ∀ c, s c ≠ ⊤) (h' : ∃ c, s c ≠ ⊥) :
    ∃ ν : ℝ, Finset.fold max (⊥ : EReal) s Finset.univ = (ν : EReal) := by
  have h1 : Finset.fold max (⊥ : EReal) s Finset.univ < ⊤ :=
    (Finset.fold_max_lt _).mpr ⟨bot_lt_top, fun c _ => lt_top_iff_ne_top.mpr (h c)⟩
  obtain ⟨c, hc⟩ := h'
  have h2 : ⊥ < Finset.fold max (⊥ : EReal) s Finset.univ :=
    (Finset.lt_fold_max _).mpr (Or.inr ⟨c, Finset.mem_univ c, bot_lt_iff_ne_bot.mpr hc⟩)
  exact ⟨_, (EReal.coe_toReal h1.ne h2.ne').symm⟩

/-- A block of scores more. -/
theorem Row.step {x : St Ideal} {r : Fin 512} {E : ℝ} {W : Fin 128 → ℝ} (hx : Row x r E W)
    (s : FVec Ideal S512x512 .f32) (v : FVec Ideal S512x128 .bf16) (w : Fin 512 → ℝ) (u : Fin 512 → Fin 128 → ℝ)
    (hs : ∀ c, (s (ix2 r c) = ⊥ ∧ w c = 0) ∨ ∃ y : ℝ, s (ix2 r c) = (y : EReal) ∧ w c = (2 : ℝ) ^ y)
    (hs' : ∃ c, s (ix2 r c) ≠ ⊥) (hv : ∀ c j, v (ix2 c j) = (u c j : EReal)) :
    Row (stepS s v x) r (E + ∑ c, w c) (fun j => W j + ∑ c, w c * u c j) := by
  obtain ⟨ν, hν⟩ := rowMax (fun c => s (ix2 r c)) (fun c => by
    rcases hs c with h | ⟨y, h, -⟩
    · rw [h.1]; exact bot_ne_top
    · rw [h]; exact EReal.coe_ne_top y) hs'
  have hw : ∀ μ : ℝ, ∀ c, Ideal.exp2 (s (ix2 r c) - (μ : EReal)) = (((2 : ℝ) ^ (-μ) * w c : ℝ) : EReal) := by
    intro μ c
    rcases hs c with ⟨h, h0⟩ | ⟨y, h, h0⟩
    · rw [h, h0, exp2_bot, mul_zero, EReal.coe_zero]
    · rw [h, h0, exp2_real]
  have hsumw : ∀ μ : ℝ, (∑ c : Fin 512, Ideal.exp2 (s (ix2 r c) - (μ : EReal))) = (((2 : ℝ) ^ (-μ) * ∑ c, w c : ℝ) : EReal) := by
    intro μ
    rw [Finset.mul_sum, ← coe_sum]
    exact Finset.sum_congr rfl fun c _ => hw μ c
  have hsumv : ∀ (μ : ℝ) (j : Fin 128), (∑ c : Fin 512, Ideal.exp2 (s (ix2 r c) - (μ : EReal)) * v (ix2 c j)) = (((2 : ℝ) ^ (-μ) * ∑ c, w c * u c j : ℝ) : EReal) := by
    intro μ j
    rw [Finset.mul_sum, ← coe_sum]
    refine Finset.sum_congr rfl fun c _ => ?_
    rw [hw μ c, hv c j, ← EReal.coe_mul, mul_assoc]
  rcases hx with ⟨hx, hE, hW⟩ | ⟨μ, hx⟩
  · have hM : ∀ j, nextM s x.m (ix2 r j) = (ν : EReal) := fun j => by
      rw [nextM_apply, bot_bits, hν, (hx j).1]
      exact max_eq_right bot_le
    refine Or.inr ⟨ν, fun j => ⟨?_, ?_, ?_⟩⟩
    · rw [step_m, hM]
    · rw [step_l s v x r j _ hM, (hx j).1, (hx j).2.1, exp2_bot, hsumw, hE, mul_zero, zero_add, zero_add]
    · rw [step_a s v x r j _ hM, (hx j).1, (hx j).2.2, exp2_bot, hsumv, mul_zero, zero_add]
      show _ = (((2 : ℝ) ^ (-ν) * (W j + ∑ c, w c * u c j) : ℝ) : EReal)
      rw [hW, zero_add]
  · have hM : ∀ j, nextM s x.m (ix2 r j) = ((max μ ν : ℝ) : EReal) := fun j => by
      rw [nextM_apply, bot_bits, hν, (hx j).1]
      exact (EReal.coe_strictMono.monotone.map_max).symm
    generalize max μ ν = κ at hM
    have e : ∀ y : ℝ, (2 : ℝ) ^ (-κ) * (2 : ℝ) ^ μ * ((2 : ℝ) ^ (-μ) * y) = (2 : ℝ) ^ (-κ) * y := fun y => by
      have : (2 : ℝ) ^ μ * (2 : ℝ) ^ (-μ) = 1 := by
        rw [← Real.rpow_add (by norm_num), add_neg_cancel, Real.rpow_zero]
      linear_combination ((2 : ℝ) ^ (-κ) * y) * this
    refine Or.inr ⟨κ, fun j => ⟨?_, ?_, ?_⟩⟩
    · rw [step_m, hM]
    · rw [step_l s v x r j _ hM, (hx j).1, (hx j).2.1, exp2_real, hsumw, ← EReal.coe_mul, e, ← EReal.coe_add, mul_add]
    · rw [step_a s v x r j _ hM, (hx j).1, (hx j).2.2, exp2_real, hsumv, ← EReal.coe_mul, e, ← EReal.coe_add, mul_add]

theorem scores_apply (q k : FVec Ideal S512x128 .bf16) (r c : Fin 512) :
    scores q k (ix2 r c) = ∑ d : Fin 128, q (ix2 r d) * k (ix2 c d) := by
  unfold scores
  pointwise []

theorem mask_bot : (Named.named (F := Ideal) κ "mask" 0xF149F2CA#32 : Ideal .f32) = (⊥ : EReal) := rfl

theorem sle_select {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : (IntOp.cmpi .sle (BitVec.ofNat 32 a) (BitVec.ofNat 32 b) = 1#1) ↔ a ≤ b := by
    rw [WordCmp.cmpi_sle_ofNat (by omega) (by omega)]
    by_cases h : a ≤ b <;> simp [h]
  unfold Scalar.select
  exact if_congr e rfl rfl

theorem bias_num : ∀ (i : Fin 32), (Scalar.muli (Scalar.subi (Scalar.addi (Scalar.muli (BitVec.ofNat 32 i.val) 1#32) 0#32) (Scalar.muli (BitVec.ofNat 32 i.val) 1#32)) 512#32) = 0#32 := by
  decide +kernel

theorem bias_apply (i : Fin 32) (r c : Fin 512) :
    (k0_pay192 (F := Ideal) (BitVec.ofNat 32 i.val)) (ix2 r c) = if c.val ≤ r.val then (0 : EReal) else ⊥ := by
  pointwise [k0_pay192]
  rw [bias_num]
  have hb : IntOp.addi (BitVec.ofNat 32 c.val) 0#32 = BitVec.ofNat 32 c.val := by
    show BitVec.ofNat 32 c.val + 0#32 = _
    simp
  have hc : c.val < 512 := c.isLt
  have hr : r.val < 512 := r.isLt
  rw [hb, mask_bot]
  exact sle_select _ _ (by omega) (by omega) _ _

theorem init_row (r : Fin 512) : Row init r 0 (fun _ => 0) := by
  refine Or.inl ⟨fun j => ⟨?_, ?_, ?_⟩, rfl, fun j => rfl⟩
  · show k0_pay170 (F := Ideal) (ix2 0 0) = _
    pointwise [k0_pay170]
    exact mask_bot
  · show k0_pay171 (F := Ideal) (ix2 0 0) = _
    pointwise [k0_pay171]
  · show k0_pay172 (F := Ideal) (ix2 0 0) = _
    pointwise [k0_pay172]

end Cert.Kernel5Ideal.Main

end
-- ==== Proof.D5.lean ====
/- The kernel's rows over exact arithmetic: each half's mean of the values seen is a quotient of two sums of
   exponentials, or minus infinity where a score is infinite or every one is minus infinity. -/
module

public import proofs.«01_k».proof.Proof.D4

@[expose] public section

noncomputable section

namespace Cert.Kernel5Ideal.Main

open Cert.Kernel5Ideal Cert.Kernel5Ideal.Gen Idealize.ShloMosaic Idealize.ShloMosaic.TcCoe Idealize.SL.Sem

theorem sum_cut {M : Type} [AddCommMonoid M] (f : ℕ → M) (a N : ℕ) (h : a ≤ N) : (∑ k ∈ Finset.range N, if k < a then f k else 0) = ∑ k ∈ Finset.range a, f k := by
  rw [← Finset.sum_filter]
  refine Finset.sum_congr ?_ fun _ _ => rfl
  ext k
  simp only [Finset.mem_filter, Finset.mem_range]
  omega

/-- The sum over the keys of a block up to one, after the sum of those before the block. -/
theorem sum_more (f : ℕ → ℝ) (N M : ℕ) (hM : M ≤ 512) :
    (∑ k ∈ Finset.range N, f k) + ∑ c : Fin 512, (if c.val < M then f (N + c.val) else 0) = ∑ k ∈ Finset.range (N + M), f k := by
  rw [← Finset.sum_range (fun c => if c < M then f (N + c) else 0), sum_cut (fun c => f (N + c)) _ _ hM, ← Finset.sum_range_add]

/-- A row of a state that has seen a score infinite upwards. -/
def Dead (x : St Ideal) (r : Fin 512) : Prop := ∀ j, x.m (ix2 r j) = ⊤ ∧ x.l (ix2 r j) = 0 ∧ x.a (ix2 r j) = 0

theorem exp2_sub_top (y : EReal) : Ideal.exp2 (y - ⊤) = 0 := by
  rw [sub_eq_add_neg, EReal.neg_top, EReal.add_bot]
  rfl

theorem Dead.of {x : St Ideal} {r : Fin 512} (s : FVec Ideal S512x512 .f32) (v : FVec Ideal S512x128 .bf16) (hM : ∀ j, nextM s x.m (ix2 r j) = ⊤) :
    Dead (stepS s v x) r := by
  refine fun j => ⟨?_, ?_, ?_⟩
  · rw [step_m, hM]
  · rw [step_l s v x r j _ hM]
    simp only [exp2_sub_top, zero_mul, Finset.sum_const_zero, add_zero]
  · rw [step_a s v x r j _ hM]
    simp only [exp2_sub_top, zero_mul, Finset.sum_const_zero, add_zero]

/-- A block of scores that are all minus infinity changes nothing. -/
theorem Row.skip {x : St Ideal} {r : Fin 512} {E : ℝ} {W : Fin 128 → ℝ} (hx : Row x r E W)
    (s : FVec Ideal S512x512 .f32) (v : FVec Ideal S512x128 .bf16) (hs : ∀ c, s (ix2 r c) = ⊥) : Row (stepS s v x) r E W := by
  have hf : Finset.fold max (⊥ : EReal) (fun c => s (ix2 r c)) Finset.univ = ⊥ :=
    le_bot_iff.mp ((Finset.fold_max_le _).mpr ⟨le_rfl, fun c _ => (hs c).le⟩)
  have hM : ∀ j, nextM s x.m (ix2 r j) = x.m (ix2 r j) := fun j => by
    rw [nextM_apply, bot_bits, hf]
    exact max_eq_left bot_le
  rcases hx with ⟨hx, hE, hW⟩ | ⟨μ, hx⟩
  · have hM' : ∀ j, nextM s x.m (ix2 r j) = ⊥ := fun j => (hM j).trans (hx j).1
    have e : Ideal.exp2 ((⊥ : EReal) - ⊥) = 0 := by
      rw [sub_eq_add_neg, EReal.bot_add]
      rfl
    refine Or.inl ⟨fun j => ⟨?_, ?_, ?_⟩, hE, hW⟩
    · rw [step_m, hM']
    · rw [step_l s v x r j _ hM', (hx j).1, (hx j).2.1]
      simp only [hs, e, zero_mul, Finset.sum_const_zero, add_zero]
    · rw [step_a s v x r j _ hM', (hx j).1, (hx j).2.2]
      simp only [hs, e, zero_mul, Finset.sum_const_zero, add_zero]
  · have hM' : ∀ j, nextM s x.m (ix2 r j) = (μ : EReal) := fun j => (hM j).trans (hx j).1
    have e1 : Ideal.exp2 ((μ : EReal) - (μ : EReal)) = 1 := by
      rw [exp2_real, ← Real.rpow_add (by norm_num), neg_add_cancel, Real.rpow_zero, EReal.coe_one]
    refine Or.inr ⟨μ, fun j => ⟨?_, ?_, ?_⟩⟩
    · rw [step_m, hM']
    · rw [step_l s v x r j _ hM', (hx j).1, (hx j).2.1]
      simp only [hs, e1, exp2_bot, one_mul, Finset.sum_const_zero, add_zero]
    · rw [step_a s v x r j _ hM', (hx j).1, (hx j).2.2]
      simp only [hs, e1, exp2_bot, zero_mul, one_mul, Finset.sum_const_zero, add_zero]

/-- The weight of a score in base two, none where it is infinite. -/
def wtwo (y : EReal) : ℝ := (Ideal.exp2 y).toReal

theorem wtwo_bot : wtwo ⊥ = 0 := rfl
theorem wtwo_coe (y : ℝ) : wtwo (y : EReal) = (2 : ℝ) ^ y := rfl

/-- What a row of a state holds of the first keys, whatever their scores. -/
def Holds (x : St Ideal) (r : Fin 512) (X : ℕ → EReal) (u : ℕ → Fin 128 → ℝ) (N : ℕ) : Prop :=
  (Dead x r ∧ ∃ k, k < N ∧ X k = ⊤)
  ∨ (∀ k, k < N → X k ≠ ⊤) ∧ Row x r (∑ k ∈ Finset.range N, wtwo (X k)) (fun j => ∑ k ∈ Finset.range N, wtwo (X k) * u k j)

theorem Holds.step {x : St Ideal} {r : Fin 512} {X : ℕ → EReal} {u : ℕ → Fin 128 → ℝ} {N : ℕ} (hx : Holds x r X u N)
    (s : FVec Ideal S512x512 .f32) (v : FVec Ideal S512x128 .bf16) (M : ℕ) (hM : M ≤ 512)
    (hs : ∀ c : Fin 512, s (ix2 r c) = if c.val < M then X (N + c.val) else ⊥) (hv : ∀ c j, v (ix2 c j) = (u (N + c.val) j : EReal)) :
    Holds (stepS s v x) r X u (N + M) := by
  by_cases ht : ∃ c : Fin 512, c.val < M ∧ X (N + c.val) = ⊤
  · obtain ⟨c, hc, h⟩ := ht
    refine Or.inl ⟨Dead.of s v fun j => ?_, N + c.val, by omega, h⟩
    rw [nextM_apply, ← top_le_iff]
    refine le_trans ?_ (le_max_right _ _)
    exact (Finset.le_fold_max _).mpr (Or.inr ⟨c, Finset.mem_univ c, by rw [hs c, if_pos hc, h]⟩)
  · rcases hx with ⟨hx, k, hk, h⟩ | ⟨hX, hx⟩
    · refine Or.inl ⟨Dead.of s v fun j => ?_, k, by omega, h⟩
      rw [nextM_apply, (hx j).1]
      exact max_eq_left le_top
    · refine Or.inr ⟨fun k hk h => ?_, ?_⟩
      · by_cases hN : k < N
        · exact hX k hN h
        · exact ht ⟨⟨k - N, by omega⟩, by show k - N < M; omega, by rw [← h]; show X (N + (k - N)) = X k; congr 1; omega⟩
      · have e1 := sum_more (fun k => wtwo (X k)) N M hM
        have e2 : (fun j : Fin 128 => (∑ k ∈ Finset.range N, wtwo (X k) * u k j) + ∑ c : Fin 512, (if c.val < M then wtwo (X (N + c.val)) else 0) * u (N + c.val) j)
            = fun j => ∑ k ∈ Finset.range (N + M), wtwo (X k) * u k j := funext fun j => by
          rw [← sum_more (fun k => wtwo (X k) * u k j) N M hM]
          simp only [ite_mul, zero_mul]
        rw [← e1, ← e2]
        by_cases hb : ∃ c, s (ix2 r c) ≠ ⊥
        · refine hx.step s v (fun c => if c.val < M then wtwo (X (N + c.val)) else 0) (fun c j => u (N + c.val) j) (fun c => ?_) hb hv
          rw [hs c]
          by_cases hc : c.val < M
          · simp only [hc, if_true]
            have hn : X (N + c.val) ≠ ⊤ := fun h => ht ⟨c, hc, h⟩
            generalize X (N + c.val) = y at hn
            induction y with
            | bot => exact Or.inl ⟨rfl, wtwo_bot⟩
            | top => exact absurd rfl hn
            | coe y => exact Or.inr ⟨y, rfl, wtwo_coe y⟩
          · simp only [hc, if_false]
            exact Or.inl ⟨trivial, trivial⟩
        · have hb' : ∀ c, s (ix2 r c) = ⊥ := fun c => by_contra fun h => hb ⟨c, h⟩
          have hw : ∀ c : Fin 512, (if c.val < M then wtwo (X (N + c.val)) else 0) = 0 := fun c => by
            have := hb' c
            rw [hs c] at this
            split_ifs with hc
            · rw [if_pos hc] at this
              rw [this, wtwo_bot]
            · rfl
          simp only [hw, zero_mul, Finset.sum_const_zero, add_zero]
          exact hx.skip s v hb'

theorem run_holds (q : FVec Ideal S512x128 .bf16) (K V : FVec Ideal S16384x128 .bf16) (r : Fin 512) (X : ℕ → EReal) (u : ℕ → Fin 128 → ℝ) (i : ℕ)
    (hs : ∀ n, n ≤ i → ∀ c, scores q (blk K n) (ix2 r c) = X (512 * n + c.val))
    (hv : ∀ n, n ≤ i → ∀ c j, blk V n (ix2 c j) = (u (512 * n + c.val) j : EReal)) :
    ∀ n, n ≤ i → Holds (run q K V init n) r X u (512 * n)
  | 0, _ => Or.inr ⟨fun k hk => absurd hk (Nat.not_lt_zero k), init_row r⟩
  | n + 1, h => (run_holds q K V r X u i hs hv n (by omega)).step (scores q (blk K n)) (blk V n) 512 le_rfl
      (fun c => (hs n (by omega) c).trans (if_pos c.isLt).symm) (hv n (by omega))

theorem last_holds (q : FVec Ideal S512x128 .bf16) (K V : FVec Ideal S16384x128 .bf16) (r : Fin 512) (X : ℕ → EReal) (u : ℕ → Fin 128 → ℝ) (i : ℕ) (hi : i < 32)
    (hs : ∀ n, n ≤ i → ∀ c, scores q (blk K n) (ix2 r c) = X (512 * n + c.val))
    (hv : ∀ n, n ≤ i → ∀ c j, blk V n (ix2 c j) = (u (512 * n + c.val) j : EReal)) :
    Holds (last i q K V) r X u (512 * i + r.val + 1) := by
  have hr : r.val < 512 := r.isLt
  refine (run_holds q K V r X u i hs hv i le_rfl).step (addf (scores q (blk K i)) (k0_pay192 (BitVec.ofNat 32 i))) (blk V i) (r.val + 1) (by omega) (fun c => ?_) (hv i le_rfl)
  show scores q (blk K i) (ix2 r c) + (k0_pay192 (F := Ideal) (BitVec.ofNat 32 i)) (ix2 r c) = _
  rw [bias_apply ⟨i, hi⟩, hs i le_rfl c]
  by_cases h : c.val ≤ r.val
  · rw [if_pos h, if_pos (by omega), add_zero]
  · rw [if_neg h, if_neg (by omega), EReal.add_bot]

theorem Row.quot {x : St Ideal} {r : Fin 512} {E : ℝ} {W : Fin 128 → ℝ} (hx : Row x r E W) (hE : 0 < E) (j : Fin 128) :
    Ideal.div (x.a (ix2 r j)) (x.l (ix2 r j)) = ((W j / E : ℝ) : EReal) := by
  rcases hx with ⟨-, h, -⟩ | ⟨μ, h⟩
  · exact absurd h hE.ne'
  · have hp : (0 : ℝ) < (2 : ℝ) ^ (-μ) := Real.rpow_pos_of_pos (by norm_num) _
    rw [(h j).2.1, (h j).2.2, Ideal.div_coe (mul_pos hp hE).ne', ← EReal.coe_mul]
    congr 1
    field_simp

theorem scale_real : (Named.named (F := Ideal) κ "scale" 0x3E38AA3B#32 : Ideal .f32) = ((((1 / 8) * (Real.log 2)⁻¹ : ℝ)) : EReal) := rfl

theorem div_zero : Ideal.div (0 : EReal) 0 = ⊥ := by
  simp [Ideal.div]

theorem Row.quot_zero {x : St Ideal} {r : Fin 512} {E : ℝ} {W : Fin 128 → ℝ} (hx : Row x r E W) (hE : E = 0) (hW : ∀ j, W j = 0) (j : Fin 128) :
    Ideal.div (x.a (ix2 r j)) (x.l (ix2 r j)) = ⊥ := by
  rcases hx with ⟨h, -, -⟩ | ⟨μ, h⟩
  · rw [(h j).2.1, (h j).2.2, div_zero]
  · rw [(h j).2.1, (h j).2.2, hE, hW, mul_zero, EReal.coe_zero, div_zero]

theorem add_mul_pos (a b : EReal) (z : ℝ) (hz : 0 < z) : (a + b) * (z : EReal) = a * z + b * z :=
  EReal.right_distrib_of_nonneg_of_ne_top (EReal.coe_nonneg.mpr hz.le) (EReal.coe_ne_top z) a b

theorem sum_mul_pos (s : Finset ℕ) (f : ℕ → EReal) (z : ℝ) (hz : 0 < z) : (∑ d ∈ s, f d) * (z : EReal) = ∑ d ∈ s, f d * z := by
  classical
  refine Finset.induction_on s ?_ ?_
  · simp
  · intro a s ha ih
    rw [Finset.sum_insert ha, Finset.sum_insert ha, add_mul_pos _ _ _ hz, ih]

/-- The factor of a query: an eighth, and the change of the base to two. -/
def unit : ℝ := (1 / 8) * (Real.log 2)⁻¹

theorem unit_pos : 0 < unit := mul_pos (by norm_num) (inv_pos.mpr (Real.log_pos (by norm_num)))

theorem qT_apply (x : Vec Ideal S512x128 .f32) (r : Fin 512) (d : Fin 128) :
    qT (k0_pay169 x) (ix2 r d) = if d.val < 64 then x (ix2 r d) * (unit : EReal) else 0 := by
  have hd : d.val < 128 := d.isLt
  unfold qT
  pointwise [k0_pay169]
  rw [scale_real, show (64#32 : BitVec 32) = BitVec.ofNat 32 64 from rfl, WordCmp.cmpi_slt_ofNat (by omega) (by omega)]
  by_cases h : d.val < 64
  · simp only [h, decide_true, if_true]
    rfl
  · simp only [h, decide_false, if_false]
    rfl

theorem qB_apply (x : Vec Ideal S512x128 .f32) (r : Fin 512) (d : Fin 128) :
    qB (k0_pay169 x) (ix2 r d) = if d.val < 64 then 0 else x (ix2 r d) * (unit : EReal) := by
  have hd : d.val < 128 := d.isLt
  unfold qB
  pointwise [k0_pay169]
  rw [scale_real, show (64#32 : BitVec 32) = BitVec.ofNat 32 64 from rfl, WordCmp.cmpi_sge_ofNat (by omega) (by omega)]
  by_cases h : d.val < 64
  · simp only [h, show ¬ 64 ≤ d.val by omega, decide_false, if_true]
    rfl
  · simp only [h, show 64 ≤ d.val by omega, decide_true, if_false]
    rfl

theorem sum_head (Q k : ℕ → EReal) : (∑ d : Fin 128, (if d.val < 64 then Q d.val * (unit : EReal) else 0) * k d.val) = (∑ d : Fin 64, Q d.val * k d.val) * (unit : EReal) := by
  rw [← Finset.sum_range (fun d => (if d < 64 then Q d * (unit : EReal) else 0) * k d), ← Finset.sum_range (fun d => Q d * k d), sum_mul_pos _ _ _ unit_pos]
  have e : ∀ d : ℕ, (if d < 64 then Q d * (unit : EReal) else 0) * k d = if d < 64 then Q d * k d * (unit : EReal) else 0 := fun d => by
    split_ifs
    · exact mul_right_comm _ _ _
    · exact zero_mul _
  simp only [e]
  exact sum_cut _ 64 128 (by norm_num)

theorem sum_tail (Q k : ℕ → EReal) : (∑ d : Fin 128, (if d.val < 64 then 0 else Q d.val * (unit : EReal)) * k d.val) = (∑ d : Fin 64, Q (64 + d.val) * k (64 + d.val)) * (unit : EReal) := by
  rw [← Finset.sum_range (fun d => (if d < 64 then 0 else Q d * (unit : EReal)) * k d), ← Finset.sum_range (fun d => Q (64 + d) * k (64 + d)), sum_mul_pos _ _ _ unit_pos,
    show (128 : ℕ) = 64 + 64 from rfl, Finset.sum_range_add]
  have e1 : (∑ d ∈ Finset.range 64, (if d < 64 then 0 else Q d * (unit : EReal)) * k d) = 0 := Finset.sum_eq_zero fun d hd => by
    rw [if_pos (Finset.mem_range.mp hd), zero_mul]
  rw [e1, zero_add]
  refine Finset.sum_congr rfl fun d _ => ?_
  rw [if_neg (by omega)]
  exact mul_right_comm _ _ _

theorem scoreT (x : Vec Ideal S512x128 .f32) (k : FVec Ideal S512x128 .bf16) (r c : Fin 512) (Q Kr : ℕ → EReal)
    (hq : ∀ d : Fin 128, x (ix2 r d) = Q d.val) (hk : ∀ d : Fin 128, k (ix2 c d) = Kr d.val) :
    scores (qT (k0_pay169 x)) k (ix2 r c) = (∑ d : Fin 64, Q d.val * Kr d.val) * (unit : EReal) := by
  rw [scores_apply, ← sum_head]
  refine Finset.sum_congr rfl fun d _ => ?_
  rw [qT_apply x r d, hq d, hk d]

theorem scoreB (x : Vec Ideal S512x128 .f32) (k : FVec Ideal S512x128 .bf16) (r c : Fin 512) (Q Kr : ℕ → EReal)
    (hq : ∀ d : Fin 128, x (ix2 r d) = Q d.val) (hk : ∀ d : Fin 128, k (ix2 c d) = Kr d.val) :
    scores (qB (k0_pay169 x)) k (ix2 r c) = (∑ d : Fin 64, Q (64 + d.val) * Kr (64 + d.val)) * (unit : EReal) := by
  rw [scores_apply, ← sum_tail]
  refine Finset.sum_congr rfl fun d _ => ?_
  rw [qB_apply x r d, hq d, hk d]

/-- The weight of a product of a query and a key, none where it is infinite. -/
def wt (y : EReal) : ℝ := (Ideal.exp (y * ((1 / 8 : ℝ) : EReal))).toReal

theorem eighth_pos : (0 : ℝ) < 1 / 8 := by norm_num

theorem wt_coe (y : ℝ) : wt (y : EReal) = Real.exp (y * (1 / 8)) := by
  rw [wt, ← EReal.coe_mul]
  rfl

theorem wt_bot : wt ⊥ = 0 := by
  rw [wt, EReal.bot_mul_coe_of_pos eighth_pos]
  rfl

theorem wt_nonneg (y : EReal) : 0 ≤ wt y := by
  induction y with
  | bot => rw [wt_bot]
  | top =>
    rw [wt, EReal.top_mul_coe_of_pos eighth_pos]
    exact le_of_eq rfl
  | coe y => rw [wt_coe]; exact (Real.exp_pos _).le

theorem wtwo_unit (y : EReal) : wtwo (y * (unit : EReal)) = wt y := by
  induction y with
  | bot =>
    rw [EReal.bot_mul_coe_of_pos unit_pos, wtwo_bot, wt_bot]
  | top =>
    rw [wt, EReal.top_mul_coe_of_pos unit_pos, EReal.top_mul_coe_of_pos eighth_pos]
    rfl
  | coe y =>
    rw [← EReal.coe_mul, wtwo_coe, wt_coe, unit, Real.rpow_def_of_pos (by norm_num)]
    congr 1
    have : Real.log 2 ≠ 0 := (Real.log_pos (by norm_num)).ne'
    field_simp

theorem mul_top_iff (y : EReal) (z : ℝ) (hz : 0 < z) : y * (z : EReal) = ⊤ ↔ y = ⊤ := by
  induction y with
  | bot => rw [EReal.bot_mul_coe_of_pos hz]
  | top => rw [EReal.top_mul_coe_of_pos hz]
  | coe y =>
    rw [← EReal.coe_mul]
    exact iff_of_false (EReal.coe_ne_top _) (EReal.coe_ne_top _)

/-- Up to a row, no product is infinite upwards and one is a number. -/
def Alive (y : ℕ → EReal) (R : ℕ) : Prop := (∀ k, k < R + 1 → y k ≠ ⊤) ∧ ∃ k, k < R + 1 ∧ y k ≠ ⊥

/-- The sum of the weights over the keys up to a row. -/
def mass (y : ℕ → EReal) (R : ℕ) : ℝ := ∑ k ∈ Finset.range (R + 1), wt (y k)

theorem mass_pos {y : ℕ → EReal} {R : ℕ} (h : Alive y R) : 0 < mass y R := by
  obtain ⟨ht, k, hk, hb⟩ := h
  refine Finset.sum_pos' (fun k _ => wt_nonneg _) ⟨k, Finset.mem_range.mpr hk, ?_⟩
  have hn := ht k hk
  generalize y k = z at hn hb
  induction z with
  | bot => exact absurd rfl hb
  | top => exact absurd rfl hn
  | coe z => rw [wt_coe]; exact Real.exp_pos _

/-- One half's mean of the values at a row: the quotient of the weighted sum and the sum of the weights, over the keys up to the row. -/
def mean (y : ℕ → EReal) (u : ℕ → ℝ) (R : ℕ) : ℝ := (∑ k ∈ Finset.range (R + 1), wt (y k) * u k) / mass y R

open Classical in
/-- The mean, or minus infinity where there is none. -/
def avg (y : ℕ → EReal) (u : ℕ → ℝ) (R : ℕ) : EReal := if Alive y R then (mean y u R : EReal) else ⊥

theorem quot (q : FVec Ideal S512x128 .bf16) (K V : FVec Ideal S16384x128 .bf16) (r : Fin 512) (y : ℕ → EReal) (u : ℕ → Fin 128 → ℝ) (i : ℕ) (hi : i < 32)
    (hs : ∀ n, n ≤ i → ∀ c, scores q (blk K n) (ix2 r c) = y (512 * n + c.val) * (unit : EReal))
    (hv : ∀ n, n ≤ i → ∀ c j, blk V n (ix2 c j) = (u (512 * n + c.val) j : EReal)) (j : Fin 128) :
    Ideal.div ((last i q K V).a (ix2 r j)) ((last i q K V).l (ix2 r j)) = avg y (fun k => u k j) (512 * i + r.val) := by
  rcases last_holds q K V r (fun k => y k * (unit : EReal)) u i hi hs hv with ⟨hd, k, hk, ht⟩ | ⟨hn, hr⟩
  · rw [(hd j).2.1, (hd j).2.2, div_zero, avg, if_neg]
    exact fun h => h.1 k hk ((mul_top_iff _ _ unit_pos).mp ht)
  · simp only [wtwo_unit] at hr
    by_cases ha : Alive y (512 * i + r.val)
    · rw [hr.quot (mass_pos ha) j, avg, if_pos ha]
      rfl
    · have hb : ∀ k, k < 512 * i + r.val + 1 → y k = ⊥ := fun k hk => by_contra fun h =>
        ha ⟨fun k hk ht => hn k hk ((mul_top_iff _ _ unit_pos).mpr ht), k, hk, h⟩
      have hw : ∀ k ∈ Finset.range (512 * i + r.val + 1), wt (y k) = 0 := fun k hk => by rw [hb k (Finset.mem_range.mp hk), wt_bot]
      rw [hr.quot_zero (Finset.sum_eq_zero hw) (fun j => Finset.sum_eq_zero fun k hk => by rw [hw k hk, zero_mul]) j, avg, if_neg ha]

end Cert.Kernel5Ideal.Main

end
-- ==== Proof.D6.lean ====
/- The reference's attention over exact arithmetic, for finite values: its masked softmax is the plain quotient of exponentials over the
   keys up to the query, or minus infinity throughout, and its result a sum over two of them. -/
module

public import proofs.«01_k».proof.Proof.D5
public import proofs.«01_k».proof.Proof.Gen.Reference5Ideal.Read

@[expose] public section

noncomputable section

namespace Cert.Reference5Ideal.Main

open Cert.Reference5Ideal Cert.Reference5Ideal.Gen Cert.Reference5Ideal.Read Idealize.ShloMosaic Idealize.ShloMosaic.TcCoe Idealize.SL.Sem Idealize.ShloMosaic.StableHlo
open Cert.Kernel5Ideal.Main (coe_sum sum_cut mean mass mass_pos wt wt_coe wt_bot eighth_pos Alive div_zero rowMax sle_select bot_bits)

/-- The product of a query's half and a key's half. -/
def prod (Q : ℕ → EReal) (K : ℕ → ℕ → EReal) (c k : ℕ) : EReal := ∑ d : Fin 64, Q (64 * c + d.val) * K k (64 * c + d.val)

variable (x0 : FVec Ideal S32768x6144 .f32) (x1 : FVec Ideal S32768x1024 .bf16) (x2 : FVec Ideal S4x64 .f32) (x3 : FVec Ideal S128 .f32)
  (b : Fin 2) (h : Fin 4) (q : Fin 16384) (Q : ℕ → EReal) (K : ℕ → ℕ → EReal) (U : ℕ → ℕ → ℝ) (lam : ℝ)

/-- The entries a query position of a head reads are the given ones, the values real. -/
structure Reals : Prop where
  hq : ∀ (i : S32768x6144.Idx) (d : ℕ), d < 128 → (i 0).val = b.val * 16384 + q.val → (i 1).val = 1536 + h.val * 128 + d → x0 i = Q d
  hk : ∀ (i : S32768x1024.Idx) (k d : ℕ), k < 16384 → d < 128 → (i 0).val = b.val * 16384 + k → (i 1).val = h.val * 128 + d → x1 i = K k d
  hv : ∀ (i : S32768x1024.Idx) (k d : ℕ), k < 16384 → d < 128 → (i 0).val = b.val * 16384 + k → (i 1).val = 512 + h.val * 128 + d → x1 i = (U k d : EReal)

variable {x0 x1 x2 x3 b h q Q K U lam}

theorem score (H : Reals x0 x1 b h q Q K U) (c : Fin 2) (k : Fin 16384) :
    val_main_v26 (F := Ideal) x0 x1 (ix5 b h c q k) = prod Q K c.val k.val * ((1 / 8 : ℝ) : EReal) := by
  have e8 : Ideal.ofBits FTy.f32 0x3E000000#32 = ((1 / 8 : ℝ) : EReal) := by simp [Ideal.ofBits, Ideal.ieee, -EReal.coe_mul]; norm_num
  have hs : val_main_v24 (F := Ideal) x0 x1 (ix5 b h c q k) = prod Q K c.val k.val := by
    rw [val_main_v24_apply, prod]
    refine Finset.sum_congr rfl fun d _ => ?_
    have hb : b.val < 2 := b.isLt
    have hh : h.val < 4 := h.isLt
    have hq : q.val < 16384 := q.isLt
    have hc : c.val < 2 := c.isLt
    have hk : k.val < 16384 := k.isLt
    have hd : d.val < 64 := d.isLt
    rw [val_main_v1_apply, val_main_v0_apply, val_main_v4_apply, val_main_v3_apply, val_main_v2_apply]
    refine congrArg₂ (fun a b : EReal => a * b) (H.hq _ _ (by omega) ?_ ?_) (H.hk _ _ _ hk (by omega) ?_ ?_)
    · show ((((b.val * 16384 + q.val) * 4 + h.val) * 2 + c.val) * 64 + d.val) / 512 = _
      omega
    · show 1536 + ((((b.val * 16384 + q.val) * 4 + h.val) * 2 + c.val) * 64 + d.val) % 512 = _
      omega
    · show ((((b.val * 16384 + k.val) * 4 + h.val) * 2 + c.val) * 64 + d.val) / 512 = _
      omega
    · show ((((b.val * 16384 + k.val) * 4 + h.val) * 2 + c.val) * 64 + d.val) % 512 = _
      omega
  rw [val_main_v26_apply, val_main_v25_apply, val_main_cst_2_apply, hs, ← e8]
  rfl

theorem masked (H : Reals x0 x1 b h q Q K U) (c : Fin 2) (k : Fin 16384) :
    val_main_v30 (F := Ideal) x0 x1 (ix5 b h c q k) = if k.val ≤ q.val then prod Q K c.val k.val * ((1 / 8 : ℝ) : EReal) else ⊥ := by
  have hq : q.val < 16384 := q.isLt
  have hk : k.val < 16384 := k.isLt
  rw [val_main_v30_apply, score H, val_main_v29_apply, val_main_v28_apply, val_main_v27_apply, val_main_call0_v1_apply, val_main_call0_v0_apply, val_main_cst_3_apply]
  show Scalar.select (IntOp.cmpi .sle (BitVec.ofNat 32 k.val) (BitVec.ofNat 32 q.val)) _ _ = _
  rw [sle_select _ _ (by omega) (by omega)]
  refine if_congr Iff.rfl rfl ?_
  exact bot_bits

theorem top (c : Fin 2) : val_main_v31 (F := Ideal) x0 x1 (ix4 b h c q) = Finset.fold max (⊥ : EReal) (fun k => val_main_v30 (F := Ideal) x0 x1 (ix5 b h c q k)) Finset.univ := by
  unfold val_main_v31
  generalize val_main_v30 (F := Ideal) x0 x1 = y
  rw [← bot_bits]
  pointwise [val_main_cst_4]

theorem head (M : EReal) (c : Fin 2) (k : Fin 16384) (hM : Finset.fold max (⊥ : EReal) (fun k => val_main_v30 (F := Ideal) x0 x1 (ix5 b h c q k)) Finset.univ = M) :
    val_main_v37 (F := Ideal) x0 x1 (ix5 b h c q k) = Ideal.exp (val_main_v30 (F := Ideal) x0 x1 (ix5 b h c q k) - M) := by
  have e : val_main_v35 (F := Ideal) x0 x1 (ix5 b h c q k) = M := by
    have ei : idx_main_v34 (idx_main_v35 (ix5 b h c q k)) = ix4 b h c q := funext fun a => by fin_cases a <;> rfl
    rw [val_main_v35_apply, val_main_v34_apply, ei, val_main_v33_apply, val_main_v32_apply, val_main_cst_5_apply, top, hM]
    show max (Ideal.ofBits FTy.f32 4286578688#32) M = M
    rw [bot_bits, max_eq_right bot_le]
  rw [val_main_v37_apply, val_main_v36_apply, e]
  rfl

theorem mul_eighth {y : EReal} (h : y ≠ ⊤) : (y * ((1 / 8 : ℝ) : EReal) = ⊥ ∧ wt y = 0) ∨ ∃ z : ℝ, y * ((1 / 8 : ℝ) : EReal) = (z : EReal) ∧ wt y = Real.exp z := by
  induction y with
  | bot => exact Or.inl ⟨EReal.bot_mul_coe_of_pos eighth_pos, wt_bot⟩
  | top => exact absurd rfl h
  | coe y => exact Or.inr ⟨y * (1 / 8), (EReal.coe_mul _ _).symm, wt_coe y⟩

theorem weight (H : Reals x0 x1 b h q Q K U) (c : Fin 2) (ha : Alive (prod Q K c.val) q.val) : ∃ μ : ℝ, ∀ k : Fin 16384,
    val_main_v37 (F := Ideal) x0 x1 (ix5 b h c q k) = ((if k.val ≤ q.val then wt (prod Q K c.val k.val) * Real.exp (-μ) else 0 : ℝ) : EReal) := by
  have hq : q.val < 16384 := q.isLt
  obtain ⟨ht, k', hk', hb⟩ := ha
  obtain ⟨μ, hμ⟩ := rowMax (fun k => val_main_v30 (F := Ideal) x0 x1 (ix5 b h c q k))
    (fun k => by
      rw [masked H]
      split_ifs with hk
      · rcases mul_eighth (ht k.val (by omega)) with ⟨h, -⟩ | ⟨z, h, -⟩
        · rw [h]; exact bot_ne_top
        · rw [h]; exact EReal.coe_ne_top _
      · exact bot_ne_top)
    ⟨⟨k', by omega⟩, by
      rw [masked H, if_pos (by show k' ≤ q.val; omega)]
      have hn := ht k' hk'
      show prod Q K c.val k' * _ ≠ ⊥
      generalize prod Q K c.val k' = y at hb hn
      induction y with
      | bot => exact absurd rfl hb
      | top => exact absurd rfl hn
      | coe y =>
        rw [← EReal.coe_mul]
        exact EReal.coe_ne_bot _⟩
  refine ⟨μ, fun k => ?_⟩
  rw [head _ c k hμ, masked H]
  split_ifs with hk
  · rcases mul_eighth (ht k.val (by omega)) with ⟨h, e⟩ | ⟨z, h, e⟩
    · rw [h, e, zero_mul, EReal.bot_sub]
      rfl
    · rw [h, e, ← EReal.coe_sub, Ideal.exp_coe, ← Real.exp_add, sub_eq_add_neg]
  · rw [EReal.bot_sub]
    rfl

theorem weight_dead (H : Reals x0 x1 b h q Q K U) (c : Fin 2) (ha : ¬ Alive (prod Q K c.val) q.val) (k : Fin 16384) :
    val_main_v37 (F := Ideal) x0 x1 (ix5 b h c q k) = 0 := by
  have hq : q.val < 16384 := q.isLt
  by_cases ht : ∃ k, k < q.val + 1 ∧ prod Q K c.val k = ⊤
  · obtain ⟨k', hk', ht⟩ := ht
    have hM : Finset.fold max (⊥ : EReal) (fun k => val_main_v30 (F := Ideal) x0 x1 (ix5 b h c q k)) Finset.univ = ⊤ := by
      refine top_le_iff.mp ((Finset.le_fold_max _).mpr (Or.inr ⟨⟨k', by omega⟩, Finset.mem_univ _, ?_⟩))
      rw [masked H, if_pos (by show k' ≤ q.val; omega)]
      show ⊤ ≤ prod Q K c.val k' * _
      rw [ht, EReal.top_mul_coe_of_pos eighth_pos]
    rw [head _ c k hM, sub_eq_add_neg, EReal.neg_top, EReal.add_bot]
    rfl
  · have hb : ∀ k, k < q.val + 1 → prod Q K c.val k = ⊥ := fun k hk => by_contra fun h =>
      ha ⟨fun k hk h => ht ⟨k, hk, h⟩, k, hk, h⟩
    have hm : ∀ k : Fin 16384, val_main_v30 (F := Ideal) x0 x1 (ix5 b h c q k) = ⊥ := fun k => by
      rw [masked H]
      split_ifs with hk
      · rw [hb k.val (by omega), EReal.bot_mul_coe_of_pos eighth_pos]
      · rfl
    have hM : Finset.fold max (⊥ : EReal) (fun k => val_main_v30 (F := Ideal) x0 x1 (ix5 b h c q k)) Finset.univ = ⊥ :=
      le_bot_iff.mp ((Finset.fold_max_le _).mpr ⟨le_rfl, fun k _ => (hm k).le⟩)
    rw [head _ c k hM, hm, sub_eq_add_neg, EReal.bot_add]
    rfl

theorem cut (f : ℕ → ℝ) (q : Fin 16384) : (∑ k : Fin 16384, if k.val ≤ q.val then f k.val else 0) = ∑ k ∈ Finset.range (q.val + 1), f k := by
  have hq : q.val < 16384 := q.isLt
  rw [← Finset.sum_range (fun k => if k ≤ q.val then f k else 0), ← sum_cut f (q.val + 1) 16384 (by omega)]
  exact Finset.sum_congr rfl fun k _ => if_congr (by omega) rfl rfl

theorem total (c : Fin 2) : val_main_v38 (F := Ideal) x0 x1 (ix4 b h c q) = ∑ k : Fin 16384, val_main_v37 (F := Ideal) x0 x1 (ix5 b h c q k) := by
  rw [val_main_v38_apply, val_main_cst_6_apply]
  show Ideal.ofBits FTy.f32 0#32 + _ = _
  have e0 : Ideal.ofBits FTy.f32 0#32 = 0 := by simp [Ideal.ofBits, Ideal.ieee]
  rw [e0, zero_add]
  refine Finset.sum_congr rfl fun k _ => ?_
  have ei : idx_main_v38 (ix4 b h c q) k = ix5 b h c q k := funext fun a => by fin_cases a <;> rfl
  rw [ei]

theorem share (c : Fin 2) (k : Fin 16384) : val_main_v41 (F := Ideal) x0 x1 (ix5 b h c q k)
    = Ideal.div (val_main_v37 (F := Ideal) x0 x1 (ix5 b h c q k)) (∑ k : Fin 16384, val_main_v37 (F := Ideal) x0 x1 (ix5 b h c q k)) := by
  have ei : idx_main_v39 (idx_main_v40 (ix5 b h c q k)) = ix4 b h c q := funext fun a => by fin_cases a <;> rfl
  rw [val_main_v41_apply, val_main_v40_apply, val_main_v39_apply, ei, total]
  rfl

/-- A key's share of a half's weights. -/
def part (y : ℕ → EReal) (R k : ℕ) : ℝ := if k ≤ R then wt (y k) / mass y R else 0

theorem softmax (H : Reals x0 x1 b h q Q K U) (c : Fin 2) (ha : Alive (prod Q K c.val) q.val) (k : Fin 16384) :
    val_main_v41 (F := Ideal) x0 x1 (ix5 b h c q k) = (part (prod Q K c.val) q.val k.val : EReal) := by
  obtain ⟨μ, hμ⟩ := weight H c ha
  have e : (∑ k : Fin 16384, val_main_v37 (F := Ideal) x0 x1 (ix5 b h c q k)) = ((mass (prod Q K c.val) q.val * Real.exp (-μ) : ℝ) : EReal) := by
    rw [mass, ← cut, Finset.sum_mul, ← coe_sum]
    refine Finset.sum_congr rfl fun k _ => ?_
    rw [hμ, ite_mul, zero_mul]
  have hm := mass_pos ha
  have he := Real.exp_pos (-μ)
  rw [share, e, hμ, Ideal.div_coe (mul_pos hm he).ne', ← EReal.coe_mul, part]
  refine congrArg (fun z : ℝ => (z : EReal)) ?_
  split_ifs
  · field_simp
  · exact zero_mul _

theorem softmax_dead (H : Reals x0 x1 b h q Q K U) (c : Fin 2) (ha : ¬ Alive (prod Q K c.val) q.val) (k : Fin 16384) :
    val_main_v41 (F := Ideal) x0 x1 (ix5 b h c q k) = ⊥ := by
  rw [share]
  simp only [weight_dead H c ha, Finset.sum_const_zero]
  exact div_zero

/-- A sum of values, each times a half's share: that half's mean. -/
theorem sum_parts (y z : ℕ → EReal) (u : ℕ → ℝ) (lam : ℝ) (q : Fin 16384) :
    (∑ k : Fin 16384, u k.val * (part y q.val k.val - lam * part z q.val k.val)) = mean y u q.val - lam * mean z u q.val := by
  have e : ∀ k : Fin 16384, u k.val * (part y q.val k.val - lam * part z q.val k.val)
      = if k.val ≤ q.val then wt (y k.val) * u k.val / mass y q.val - lam * (wt (z k.val) * u k.val / mass z q.val) else 0 := fun k => by
    unfold part
    split_ifs <;> ring
  simp only [e]
  rw [cut (fun k => wt (y k) * u k / mass y q.val - lam * (wt (z k) * u k / mass z q.val)),
    Finset.sum_sub_distrib, ← Finset.mul_sum, ← Finset.sum_div, ← Finset.sum_div]
  rfl

theorem attend (H : Reals x0 x1 b h q Q K U) (hl : val_main_v23 (F := Ideal) x2 (fun a => a.elim0) = (lam : EReal)) (j : Fin 128) :
    val_main_v49 (F := Ideal) x0 x1 x2 (ix4 b h j q)
      = ∑ k : Fin 16384, (U k.val j.val : EReal) * (val_main_v41 (F := Ideal) x0 x1 (ix5 b h 0 q k) - (lam : EReal) * val_main_v41 (F := Ideal) x0 x1 (ix5 b h 1 q k)) := by
  have hb : b.val < 2 := b.isLt
  have hh : h.val < 4 := h.isLt
  have hq : q.val < 16384 := q.isLt
  have hj : j.val < 128 := j.isLt
  rw [val_main_v49_apply]
  refine Finset.sum_congr rfl fun k _ => ?_
  have hk : k.val < 16384 := k.isLt
  have e3 : val_main_v7 (F := Ideal) x1 (lidx_main_v49 (ix4 b h j q) k) = (U k.val j.val : EReal) := by
    rw [val_main_v7_apply, val_main_v6_apply, val_main_v5_apply]
    refine H.hv _ _ _ hk hj ?_ ?_
    · show (((b.val * 16384 + k.val) * 4 + h.val) * 128 + j.val) / 512 = _
      omega
    · show 512 + (((b.val * 16384 + k.val) * 4 + h.val) * 128 + j.val) % 512 = _
      omega
  have er : ridx_main_v49 (ix4 b h j q) k = ix4 b h q k := funext fun a => by fin_cases a <;> rfl
  have e0 : idx_main_v42 (idx_main_v43 (ix4 b h q k)) = ix5 b h 0 q k := funext fun a => Fin.ext (by
    match a with
    | ⟨0, _⟩ => show (((b.val * 4 + h.val) * 16384 + q.val) * 16384 + k.val) / 1073741824 = b.val; omega
    | ⟨1, _⟩ => show (((b.val * 4 + h.val) * 16384 + q.val) * 16384 + k.val) / 268435456 % 4 = h.val; omega
    | ⟨2, _⟩ => rfl
    | ⟨3, _⟩ => show (((b.val * 4 + h.val) * 16384 + q.val) * 16384 + k.val) / 16384 % 16384 = q.val; omega
    | ⟨4, _⟩ => show (((b.val * 4 + h.val) * 16384 + q.val) * 16384 + k.val) % 16384 = k.val; omega)
  have e1 : idx_main_v44 (idx_main_v45 (ix4 b h q k)) = ix5 b h 1 q k := funext fun a => Fin.ext (by
    match a with
    | ⟨0, _⟩ => show (((b.val * 4 + h.val) * 16384 + q.val) * 16384 + k.val) / 1073741824 = b.val; omega
    | ⟨1, _⟩ => show (((b.val * 4 + h.val) * 16384 + q.val) * 16384 + k.val) / 268435456 % 4 = h.val; omega
    | ⟨2, _⟩ => rfl
    | ⟨3, _⟩ => show (((b.val * 4 + h.val) * 16384 + q.val) * 16384 + k.val) / 16384 % 16384 = q.val; omega
    | ⟨4, _⟩ => show (((b.val * 4 + h.val) * 16384 + q.val) * 16384 + k.val) % 16384 = k.val; omega)
  rw [e3, er, val_main_v48_apply, val_main_v43_apply, val_main_v42_apply, e0, val_main_v47_apply, val_main_v45_apply, val_main_v44_apply, e1,
    val_main_v46_apply, show idx_main_v46 (ix4 b h q k) = (fun a => a.elim0) from funext fun a => a.elim0, hl]
  rfl

end Cert.Reference5Ideal.Main

end
-- ==== Proof.D7.lean ====
/- The rest of the reference's result: the scalar that weighs the second softmax, and the normalisation of a head's row. -/
module

public import proofs.«01_k».proof.Proof.D6

@[expose] public section

noncomputable section

namespace Cert.Reference5Ideal.Main

open Cert.Reference5Ideal Cert.Reference5Ideal.Gen Cert.Reference5Ideal.Read Idealize.ShloMosaic Idealize.ShloMosaic.TcCoe Idealize.SL.Sem Idealize.ShloMosaic.StableHlo
open Cert.Kernel5Ideal.Main (coe_sum sum_cut mean avg Alive rowMax sle_select bot_bits)

/-- The scalar that weighs the second softmax. -/
def lamOf (a : FVec Ideal S4x64 .f32) : EReal :=
  Ideal.exp (∑ k : Fin 64, a (ix2 0 k) * a (ix2 1 k)) - Ideal.exp (∑ k : Fin 64, a (ix2 2 k) * a (ix2 3 k)) + Ideal.ofBits FTy.f32 1045220557#32

/-- A head's row, divided by the root of its mean square, times the gain and a constant. -/
def outRow (o : Fin 128 → EReal) (g : EReal) (j : Fin 128) : EReal :=
  o j * Ideal.rsqrt (Ideal.div (∑ x : Fin 128, o x * o x) (Ideal.ofBits FTy.f32 1124073472#32) + Ideal.ofBits FTy.f32 897988541#32) * g * Ideal.ofBits FTy.f32 1061997773#32

theorem lam_eq (a : FVec Ideal S4x64 .f32) : val_main_v23 (F := Ideal) a (fun i => i.elim0) = lamOf a := by
  have e0 : Ideal.ofBits FTy.f32 0#32 = 0 := by simp [Ideal.ofBits, Ideal.ieee]
  unfold lamOf
  pointwise [val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1]

theorem lam_real (a : FVec Ideal S4x64 .f32) (h : ∀ i, ∃ r : ℝ, a i = (r : EReal)) : ∃ l : ℝ, lamOf a = (l : EReal) := by
  choose f hf using h
  have ec : Ideal.ofBits FTy.f32 1045220557#32 = ((13421773 / 67108864 : ℝ) : EReal) := by
    simp [Ideal.ofBits, Ideal.ieee, -EReal.coe_mul]; norm_num
  unfold lamOf
  simp only [hf, ← EReal.coe_mul, coe_sum, Ideal.exp_coe, ec, ← EReal.coe_sub, ← EReal.coe_add]
  exact ⟨_, rfl⟩

theorem result (x0 : FVec Ideal S32768x6144 .f32) (x1 : FVec Ideal S32768x1024 .bf16) (x2 : FVec Ideal S4x64 .f32) (x3 : FVec Ideal S128 .f32)
    (b : Fin 2) (h : Fin 4) (q : Fin 16384) (j : Fin 128) (i : S32768x512.Idx) (h0 : (i 0).val = b.val * 16384 + q.val) (h1 : (i 1).val = h.val * 128 + j.val) :
    val_main_v66 (F := Ideal) x0 x1 x2 x3 i = outRow (fun x => val_main_v49 (F := Ideal) x0 x1 x2 (ix4 b h x q)) (x3 (ix1 j)) j := by
  have hb : b.val < 2 := b.isLt
  have hh : h.val < 4 := h.isLt
  have hq : q.val < 16384 := q.isLt
  have hj : j.val < 128 := j.isLt
  have ei : idx_main_v66 i = ix4 b q h j := funext fun a => Fin.ext (by
    match a with
    | ⟨0, _⟩ => show ((i 0).val * 512 + (i 1).val) / 8388608 = b.val; omega
    | ⟨1, _⟩ => show ((i 0).val * 512 + (i 1).val) / 512 % 16384 = q.val; omega
    | ⟨2, _⟩ => show ((i 0).val * 512 + (i 1).val) / 128 % 4 = h.val; omega
    | ⟨3, _⟩ => show ((i 0).val * 512 + (i 1).val) % 128 = j.val; omega)
  rw [val_main_v66_apply, ei]
  unfold outRow
  pointwise [val_main_v65, val_main_v64, val_main_v63, val_main_v62, val_main_v61, val_main_v60, val_main_v59, val_main_v58, val_main_v57, val_main_v56, val_main_v55, val_main_v54, val_main_v53, val_main_v52, val_main_v51, val_main_v50, val_main_cst_7, val_main_cst_8, val_main_cst_9, val_main_cst_10]

/-- Infinite one way or the other. -/
def Inf (x : EReal) : Prop := x = ⊤ ∨ x = ⊥

theorem Inf.mul_self {x : EReal} (h : Inf x) : x * x = ⊤ := by
  rcases h with rfl | rfl
  · exact EReal.top_mul_top
  · exact EReal.bot_mul_bot

theorem square_nonneg (x : EReal) : 0 ≤ x * x := by
  induction x with
  | bot => rw [EReal.bot_mul_bot]; exact le_top
  | top => rw [EReal.top_mul_top]; exact le_top
  | coe x =>
    rw [← EReal.coe_mul]
    exact EReal.coe_nonneg.mpr (mul_self_nonneg x)

/-- A row with an infinite entry is normalised to zeros: its mean square is infinite. -/
theorem outRow_inf (o : Fin 128 → EReal) (g : EReal) (j : Fin 128) (h : ∃ x, Inf (o x)) : outRow o g j = 0 := by
  obtain ⟨x, hx⟩ := h
  have e1 : (∑ x : Fin 128, o x * o x) = ⊤ := by
    refine top_le_iff.mp ?_
    rw [← hx.mul_self]
    exact Finset.single_le_sum (f := fun x => o x * o x) (fun x _ => square_nonneg (o x)) (Finset.mem_univ x)
  have e2 : Ideal.ofBits FTy.f32 1124073472#32 = ((128 : ℝ) : EReal) := by
    simp [Ideal.ofBits, Ideal.ieee, -EReal.coe_mul]; norm_num
  have e3 : ∃ z : ℝ, Ideal.ofBits FTy.f32 897988541#32 = (z : EReal) := by
    simp only [Ideal.ofBits, Ideal.ieee]
    exact ⟨_, rfl⟩
  obtain ⟨z, e3⟩ := e3
  have e4 : Ideal.rsqrt ⊤ = 0 := rfl
  unfold outRow
  rw [e1, e2, Ideal.div_coe (by norm_num), EReal.top_mul_coe_of_pos (by norm_num), e3, EReal.top_add_coe, e4, mul_zero, zero_mul, zero_mul]

theorem outRow_zero (o : Fin 128 → EReal) (g : EReal) (j : Fin 128) (h : o j = 0) : outRow o g j = 0 := by
  unfold outRow
  rw [h, zero_mul, zero_mul, zero_mul]

theorem Inf.add {x y : EReal} (hx : Inf x) (hy : y = 0 ∨ Inf y) : Inf (x + y) := by
  rcases hy with rfl | hy
  · rw [add_zero]; exact hx
  · rcases hx with rfl | rfl <;> rcases hy with rfl | rfl
    · exact Or.inl rfl
    · exact Or.inr rfl
    · exact Or.inr rfl
    · exact Or.inr rfl

/-- A sum of terms that are zero or infinite: all zero, or the sum infinite. -/
theorem sum_inf {n : ℕ} (f : Fin n → EReal) (h : ∀ k, f k = 0 ∨ Inf (f k)) : (∀ k, f k = 0) ∨ Inf (∑ k, f k) := by
  classical
  have : (∀ k ∈ (Finset.univ : Finset (Fin n)), f k = 0) ∨ Inf (∑ k, f k) := by
    refine Finset.induction_on (Finset.univ : Finset (Fin n)) (Or.inl (fun k hk => absurd hk (Finset.notMem_empty k))) ?_
    intro a s ha ih
    rw [Finset.sum_insert ha]
    rcases h a with e | e
    · rw [e, zero_add]
      rcases ih with ih | ih
      · refine Or.inl fun k hk => ?_
        rcases Finset.mem_insert.mp hk with rfl | hk
        · exact e
        · exact ih k hk
      · exact Or.inr ih
    · rcases ih with ih | ih
      · exact Or.inr (e.add (Or.inl (Finset.sum_eq_zero ih)))
      · exact Or.inr (e.add (Or.inr ih))
  rcases this with e | e
  · exact Or.inl fun k => e k (Finset.mem_univ k)
  · exact Or.inr e

theorem mul_inf (u : ℝ) {z : EReal} (hz : Inf z) : (u : EReal) * z = 0 ∨ Inf ((u : EReal) * z) := by
  rcases lt_trichotomy u 0 with h | h | h
  · rcases hz with rfl | rfl
    · exact Or.inr (Or.inr (EReal.coe_mul_top_of_neg h))
    · exact Or.inr (Or.inl (EReal.coe_mul_bot_of_neg h))
  · rw [h]
    exact Or.inl (by rw [EReal.coe_zero, zero_mul])
  · rcases hz with rfl | rfl
    · exact Or.inr (Or.inl (EReal.coe_mul_top_of_pos h))
    · exact Or.inr (Or.inr (EReal.coe_mul_bot_of_pos h))

/-- A row of sums of values, each times one infinity, is normalised to zeros. -/
theorem outRow_sums (u : Fin 128 → Fin 16384 → ℝ) (z : EReal) (hz : Inf z) (g : EReal) (j : Fin 128) :
    outRow (fun x => ∑ k : Fin 16384, (u x k : EReal) * z) g j = 0 := by
  rcases sum_inf (fun k => (u j k : EReal) * z) (fun k => mul_inf _ hz) with h | h
  · exact outRow_zero _ g j (Finset.sum_eq_zero fun k _ => h k)
  · exact outRow_inf _ g j ⟨j, h⟩

variable {x0 : FVec Ideal S32768x6144 .f32} {x1 : FVec Ideal S32768x1024 .bf16} {x2 : FVec Ideal S4x64 .f32}
  {b : Fin 2} {h : Fin 4} {q : Fin 16384} {Q : ℕ → EReal} {K : ℕ → ℕ → EReal} {U : ℕ → ℕ → ℝ} {lam : ℝ}

/-- A head's row from the two means, normalised, is the one from the two softmaxes, whatever the scores. -/
theorem row (H : Reals x0 x1 b h q Q K U) (hl : val_main_v23 (F := Ideal) x2 (fun a => a.elim0) = (lam : EReal)) (g : EReal) (j : Fin 128) :
    outRow (fun x => avg (prod Q K 0) (fun k => U k x.val) q.val - (lam : EReal) * avg (prod Q K 1) (fun k => U k x.val) q.val) g j
      = outRow (fun x => val_main_v49 (F := Ideal) x0 x1 x2 (ix4 b h x q)) g j := by
  rw [show (fun x => val_main_v49 (F := Ideal) x0 x1 x2 (ix4 b h x q)) = _ from funext fun x => attend H hl x]
  by_cases a0 : Alive (prod Q K 0) q.val
  · by_cases a1 : Alive (prod Q K 1) q.val
    · refine congrArg (fun o => outRow o g j) (funext fun x => ?_)
      rw [avg, avg, if_pos a0, if_pos a1, ← EReal.coe_mul, ← EReal.coe_sub, ← sum_parts, ← coe_sum]
      refine Finset.sum_congr rfl fun k _ => ?_
      rw [softmax H 0 a0, softmax H 1 a1, EReal.coe_mul, EReal.coe_sub, EReal.coe_mul]
      rfl
    · by_cases h0 : lam = 0
      · refine congrArg (fun o => outRow o g j) (funext fun x => ?_)
        have e := sum_parts (prod Q K 0) (prod Q K 1) (fun k => U k x.val) 0 q
        rw [zero_mul, sub_zero] at e
        rw [avg, if_pos a0, h0, EReal.coe_zero, zero_mul, sub_zero, ← e, ← coe_sum]
        refine Finset.sum_congr rfl fun k _ => ?_
        rw [softmax H 0 a0, zero_mul, sub_zero, zero_mul, sub_zero, EReal.coe_mul]
        rfl
      · have hz : Inf ((lam : EReal) * ⊥) := by
          rcases lt_or_gt_of_ne h0 with h0 | h0
          · exact Or.inl (EReal.coe_mul_bot_of_neg h0)
          · exact Or.inr (EReal.coe_mul_bot_of_pos h0)
        have hs : ∃ w, Inf w ∧ ∀ y : ℝ, (y : EReal) - (lam : EReal) * ⊥ = w := by
          rcases hz with e | e
          · exact ⟨⊥, Or.inr rfl, fun y => by rw [e, sub_eq_add_neg, EReal.neg_top, EReal.add_bot]⟩
          · exact ⟨⊤, Or.inl rfl, fun y => by rw [e, sub_eq_add_neg, EReal.neg_bot, EReal.coe_add_top]⟩
        obtain ⟨w, hw, hs⟩ := hs
        rw [outRow_inf _ g j ⟨j, by
          show Inf (avg _ _ _ - _ * avg _ _ _)
          rw [avg, avg, if_pos a0, if_neg a1, hs]
          exact hw⟩, show (fun x : Fin 128 => ∑ k : Fin 16384, (U k.val x.val : EReal) * (val_main_v41 (F := Ideal) x0 x1 (ix5 b h 0 q k) - (lam : EReal) * val_main_v41 (F := Ideal) x0 x1 (ix5 b h 1 q k)))
            = fun x => ∑ k : Fin 16384, (U k.val x.val : EReal) * w from funext fun x => Finset.sum_congr rfl fun k _ => by
              rw [softmax H 0 a0, softmax_dead H 1 a1, hs], outRow_sums (fun x k => U k.val x.val) w hw g j]
  · rw [outRow_inf _ g j ⟨j, by
        show Inf (avg _ _ _ - _ * avg _ _ _)
        rw [avg, if_neg a0, sub_eq_add_neg, EReal.bot_add]
        exact Or.inr rfl⟩, show (fun x : Fin 128 => ∑ k : Fin 16384, (U k.val x.val : EReal) * (val_main_v41 (F := Ideal) x0 x1 (ix5 b h 0 q k) - (lam : EReal) * val_main_v41 (F := Ideal) x0 x1 (ix5 b h 1 q k)))
          = fun x => ∑ k : Fin 16384, (U k.val x.val : EReal) * ⊥ from funext fun x => Finset.sum_congr rfl fun k _ => by
            rw [softmax_dead H 0 a0, sub_eq_add_neg, EReal.bot_add], outRow_sums (fun x k => U k.val x.val) ⊥ (Or.inr rfl) g j]

end Cert.Reference5Ideal.Main

end
-- ==== Proof.D8.lean ====
/- A tile of the kernel over exact arithmetic, for finite values: the row normalised from the two means at each of the tile's rows. -/
module

public import proofs.«01_k».proof.Proof.D7

@[expose] public section

noncomputable section

namespace Cert.Kernel5Ideal.Main

open Cert.Kernel5Ideal Cert.Kernel5Ideal.Gen Idealize.ShloMosaic Idealize.ShloMosaic.TcCoe Idealize.SL.Sem
open Cert.Reference5Ideal.Main (prod lamOf outRow)

theorem glue_top (t b : FVec Ideal S512x128 .f32) (r : Fin 512) (h : r.val < 1024) (x : Fin 128) : glue t b (ix2 ⟨r.val, h⟩ x) = t (ix2 r x) :=
  dif_pos r.isLt

theorem glue_bot (t b : FVec Ideal S512x128 .f32) (r : Fin 512) (h : 512 + r.val < 1024) (x : Fin 128) : glue t b (ix2 ⟨512 + r.val, h⟩ x) = b (ix2 r x) :=
  (dif_neg (by show ¬ 512 + r.val < 512; omega)).trans (congrArg (fun k : Fin 512 => b (ix2 k x)) (Fin.ext (Nat.add_sub_cancel_left ..)))

theorem fin_apply (x0 : Vec Ideal S4x64 .f32) (x1 : Vec Ideal S1x128 .f32) (A L : FVec Ideal S1024x128 .f32) (r : Fin 512) (j : Fin 128) :
    fin x0 x1 A L (ix2 r j) = outRow (fun x => Ideal.div (A (ix2 ⟨r.val, by omega⟩ x)) (L (ix2 ⟨r.val, by omega⟩ x))
      - lamOf x0 * Ideal.div (A (ix2 ⟨512 + r.val, by omega⟩ x)) (L (ix2 ⟨512 + r.val, by omega⟩ x))) (x1 (ix2 0 j)) j := by
  unfold fin outRow lamOf
  pointwise [k0_pay1, k0_pay210, k0_pay211]

theorem blk_at (X : FVec Ideal S16384x128 .bf16) (n : ℕ) (hn : n < 32) (f : ℕ → ℕ → EReal) (h : ∀ (k : Fin 16384) (d : Fin 128), X (ix2 k d) = f k.val d.val)
    (c : Fin 512) (d : Fin 128) : blk X n (ix2 c d) = f (512 * n + c.val) d.val := by
  have hc : c.val < 512 := c.isLt
  refine (h ⟨(512 * n + c.val) % 16384, Nat.mod_lt _ (by norm_num)⟩ d).trans ?_
  exact congrArg (fun k : ℕ => f k d.val) (Nat.mod_eq_of_lt (by omega))

theorem tile (x0 : Vec Ideal S4x64 .f32) (x1 : Vec Ideal S1x128 .f32) (x2 : Vec Ideal S512x128 .f32) (x3 x4 : FVec Ideal S16384x128 .bf16) (i : ℕ) (hi : i < 32)
    (r : Fin 512) (j : Fin 128) (Q : ℕ → EReal) (K : ℕ → ℕ → EReal) (U : ℕ → ℕ → ℝ) (lam : ℝ) (hq : ∀ d : Fin 128, x2 (ix2 r d) = Q d.val)
    (hk : ∀ (k : Fin 16384) (d : Fin 128), x3 (ix2 k d) = K k.val d.val) (hv : ∀ (k : Fin 16384) (d : Fin 128), x4 (ix2 k d) = (U k.val d.val : EReal))
    (hl : lamOf x0 = (lam : EReal)) :
    fin x0 x1 (glue (last i (qT (k0_pay169 x2)) x3 x4).a (last i (qB (k0_pay169 x2)) x3 x4).a)
      (glue (last i (qT (k0_pay169 x2)) x3 x4).l (last i (qB (k0_pay169 x2)) x3 x4).l) (ix2 r j)
    = outRow (fun x => avg (prod Q K 0) (fun k => U k x.val) (512 * i + r.val) - (lam : EReal) * avg (prod Q K 1) (fun k => U k x.val) (512 * i + r.val)) (x1 (ix2 0 j)) j := by
  rw [fin_apply]
  refine congrArg (fun o => outRow o (x1 (ix2 0 j)) j) (funext fun x => ?_)
  rw [glue_top, glue_top, glue_bot, glue_bot, hl,
    quot (qT (k0_pay169 x2)) x3 x4 r (prod Q K 0) (fun k d => U k d.val) i hi
      (fun n hn c => (scoreT x2 _ r c Q (K (512 * n + c.val)) hq (fun d => blk_at x3 n (by omega) K hk c d)).trans (by simp only [prod, Nat.mul_zero, Nat.zero_add]))
      (fun n hn c d => blk_at x4 n (by omega) (fun k d => (U k d : EReal)) hv c d) x,
    quot (qB (k0_pay169 x2)) x3 x4 r (prod Q K 1) (fun k d => U k d.val) i hi
      (fun n hn c => (scoreB x2 _ r c Q (K (512 * n + c.val)) hq (fun d => blk_at x3 n (by omega) K hk c d)).trans (by simp only [prod, Nat.mul_one]))
      (fun n hn c d => blk_at x4 n (by omega) (fun k d => (U k d : EReal)) hv c d) x]

end Cert.Kernel5Ideal.Main

end
-- ==== Proof.D9.lean ====
/- What the precondition says over exact arithmetic: the entries it names are real numbers. -/
module

public import proofs.«01_k».proof.Proof.D8
public import proofs.«01_k».proof.Pre_finite5
public import Idealize.ShloMosaic.Lib.Affine
public import Idealize.ShloMosaic.Lib.ReduceAll

@[expose] public section

noncomputable section

namespace Cert.Pre_finite5

open Idealize.ShloMosaic Idealize.ShloMosaic.TcCoe

instance holds : Facts where
  slices_S32768x1024_S32768x512_0_512 := by decide
  bitsLt_bf16_f32 := by decide
  bcast_S_S32768x512 := by decide
  reducesTo_S32768x512_S_d0_1 := by decide
  h_S_ := by decide
  bcast_S_S4x64 := by decide
  reducesTo_S4x64_S_d0_1 := by decide

instance one : Subsingleton S_.Idx := ⟨fun a b => funext fun i => i.elim0⟩

theorem real_of_lt (x : EReal) (h : Ideal.cmp .olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  rw [ht] at h
  have hlt : max x (-x) < ⊤ := by
    by_contra hn
    have : Ideal.cmp .olt (max x (-x)) ⊤ = 0#1 := by simp only [Ideal.cmp, hn, decide_false]; rfl
    rw [this] at h
    exact absurd h (by decide)
  induction x with
  | bot => exact absurd hlt (by simp)
  | top => exact absurd hlt (by simp)
  | coe r => exact ⟨r, rfl⟩

theorem reals (x0 : FVec Ideal S32768x6144 .f32) (x1 : FVec Ideal S32768x1024 .bf16) (x2 : FVec Ideal S4x64 .f32) (x3 : FVec Ideal S128 .f32)
    (h : fn (F := Ideal) x0 x1 x2 x3 = fun _ => 1#1) :
    (∀ i : S32768x1024.Idx, 512 ≤ (i 1).val → ∃ r : ℝ, x1 i = (r : EReal)) ∧ ∀ i, ∃ r : ℝ, x2 i = (r : EReal) := by
  have h := congrFun h (fun a => a.elim0)
  obtain ⟨h1, h2⟩ := IntOp.andi_eq_one.mp h
  refine ⟨fun i ha => ?_, fun i => ?_⟩
  · have hi : (i 1).val < 1024 := (i 1).isLt
    have := Host.reduce_andi_all _ _ _ _ _ h1 (ix2 (i 0) ⟨(i 1).val - 512, by omega⟩)
    have e : (extractStridedSlice S32768x512 ![0, 512] x1 holds.slices_S32768x1024_S32768x512_0_512 : FVec Ideal S32768x512 .bf16) (ix2 (i 0) ⟨(i 1).val - 512, by omega⟩) = x1 i := by
      refine extractStridedSlice_apply ![0, 512] x1 holds.slices_S32768x1024_S32768x512_0_512 _ i fun a => ?_
      match a with
      | ⟨0, _⟩ => exact (Nat.zero_add _).symm
      | ⟨1, _⟩ => show (i 1).val = 512 + ((i 1).val - 512); omega
    rw [← e]
    exact real_of_lt _ this
  · exact real_of_lt _ (Host.reduce_andi_all _ _ _ _ _ h2 i)

end Cert.Pre_finite5

namespace Cert.Reference5Ideal.Main

open Cert.Reference5Ideal Idealize.ShloMosaic Idealize.ShloMosaic.TcCoe

theorem exists_reals (x0 : FVec Ideal S32768x6144 .f32) (x1 : FVec Ideal S32768x1024 .bf16) (h1 : ∀ i : S32768x1024.Idx, 512 ≤ (i 1).val → ∃ r : ℝ, x1 i = (r : EReal))
    (b : Fin 2) (h : Fin 4) (q : Fin 16384) : ∃ (Q : ℕ → EReal) (K : ℕ → ℕ → EReal) (U : ℕ → ℕ → ℝ), Reals x0 x1 b h q Q K U := by
  have hb : b.val < 2 := b.isLt
  have hh : h.val < 4 := h.isLt
  have hq : q.val < 16384 := q.isLt
  refine ⟨fun d => x0 (ix2 ⟨b.val * 16384 + q.val, by omega⟩ ⟨(1536 + h.val * 128 + d) % 6144, Nat.mod_lt _ (by norm_num)⟩),
    fun k d => x1 (ix2 ⟨(b.val * 16384 + k) % 32768, Nat.mod_lt _ (by norm_num)⟩ ⟨(h.val * 128 + d) % 1024, Nat.mod_lt _ (by norm_num)⟩),
    fun k d => (x1 (ix2 ⟨(b.val * 16384 + k) % 32768, Nat.mod_lt _ (by norm_num)⟩ ⟨(512 + h.val * 128 + d) % 1024, Nat.mod_lt _ (by norm_num)⟩)).toReal, ?_, ?_, ?_⟩
  · intro i d hd e0 e1
    refine congrArg x0 (funext fun a => Fin.ext ?_)
    match a with
    | ⟨0, _⟩ => exact e0
    | ⟨1, _⟩ => show (i 1).val = (1536 + h.val * 128 + d) % 6144; omega
  · intro i k d hk hd e0 e1
    refine congrArg x1 (funext fun a => Fin.ext ?_)
    match a with
    | ⟨0, _⟩ => show (i 0).val = (b.val * 16384 + k) % 32768; omega
    | ⟨1, _⟩ => show (i 1).val = (h.val * 128 + d) % 1024; omega
  · intro i k d hk hd e0 e1
    have ei : (ix2 ⟨(b.val * 16384 + k) % 32768, Nat.mod_lt _ (by norm_num)⟩ ⟨(512 + h.val * 128 + d) % 1024, Nat.mod_lt _ (by norm_num)⟩ : S32768x1024.Idx) = i := funext fun a => Fin.ext (by
      match a with
      | ⟨0, _⟩ => show (b.val * 16384 + k) % 32768 = (i 0).val; omega
      | ⟨1, _⟩ => show (512 + h.val * 128 + d) % 1024 = (i 1).val; omega)
    obtain ⟨r, hr⟩ := h1 i (by omega)
    rw [ei, hr, EReal.toReal_coe]

end Cert.Reference5Ideal.Main

end
-- ==== Proof.V5.lean ====
/- What the differential attention computes, over exact arithmetic and for finite entries: at every query position the difference of two
   causal softmax averages of the values, normalised head by head. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.EA
public import proofs.«01_k».proof.Proof.EB
public import proofs.«01_k».proof.Proof.EC
public import proofs.«01_k».proof.Proof.ED
public import proofs.«01_k».proof.Proof.D9
public import Idealize.ShloMosaic.Lib.Pipeline.ValueKit

@[expose] public section

set_option maxRecDepth 16384

noncomputable section

namespace Cert.Kernel5Ideal.Main

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![t.val / 128 * 32 + t.val % 32, 12 + t.val / 32 % 4]
    ∧ win0_3.index t = ![t.val / 128, t.val / 32 % 4] ∧ win0_4.index t = ![t.val / 128, 4 + t.val / 32 % 4]
    ∧ win0_5.index t = ![t.val / 128 * 32 + t.val % 32, t.val / 32 % 4] :=
  (by decide +kernel : ∀ t : Fin grid0.N, _)

theorem step_val : ∀ t : Fin cfg0.N, (grid0.coords t 2).val = t.val % 32 :=
  (by decide +kernel : ∀ t : Fin grid0.N, _)

theorem w0_eq (c : Dev nD) (t : Fin cfg0.N) : iblk m c 0 t = m ((c : Thread nD τ).loc main_arg2) := by
  funext i
  blk_ext [iblk, V, idx t]

theorem w1_apply (c : Dev nD) (t : Fin cfg0.N) (j : Fin 128) : iblk m c 1 t (ix2 0 j) = m ((c : Thread nD τ).loc main_arg3) (ix1 j) := by
  have e : V m c main_v0 = (shapeCast S1x128 (m ((c : Thread nD τ).loc main_arg3) : FVec Ideal S128 .f32) shapeCasts_S128_S1x128 : FVec Ideal S1x128 .f32) := by
    show StableHlo.after hostOps0 (fun b => m (c, b)) main_v0 = _
    after_results
    rfl
  show V m c main_v0 (((cfg0.win 1).blk t).view.emb _) = _
  rw [e]
  pointwise
  blk_ext [idx t]

theorem w2_apply (c : Dev nD) (t : Fin cfg0.N) (i : S512x128.Idx) (j : S32768x6144.Idx) (h0 : (j 0).val = (t.val / 128 * 32 + t.val % 32) * 512 + (i 0).val)
    (h1 : (j 1).val = (12 + t.val / 32 % 4) * 128 + (i 1).val) : iblk m c 2 t i = m ((c : Thread nD τ).loc main_arg0) j := by
  blk_ext [iblk, V, idx t]

theorem w3_apply (c : Dev nD) (t : Fin cfg0.N) (i : S16384x128.Idx) (j : S32768x1024.Idx) (h0 : (j 0).val = t.val / 128 * 16384 + (i 0).val)
    (h1 : (j 1).val = t.val / 32 % 4 * 128 + (i 1).val) : iblk m c 3 t i = m ((c : Thread nD τ).loc main_arg1) j := by
  blk_ext [iblk, V, idx t]

theorem w4_apply (c : Dev nD) (t : Fin cfg0.N) (i : S16384x128.Idx) (j : S32768x1024.Idx) (h0 : (j 0).val = t.val / 128 * 16384 + (i 0).val)
    (h1 : (j 1).val = (4 + t.val / 32 % 4) * 128 + (i 1).val) : iblk m c 4 t i = m ((c : Thread nD τ).loc main_arg1) j := by
  blk_ext [iblk, V, idx t]

/-- The reference's term over the kernel's arguments. -/
abbrev ref (p : FVec Ideal S32768x6144 .f32) (kv : FVec Ideal S32768x1024 .bf16) (a : FVec Ideal S4x64 .f32) (g : FVec Ideal S128 .f32) : FVec Ideal S32768x512 .f32 :=
  Cert.Reference5Ideal.Read.val_main_v66 (F := Ideal) p kv a g

/-- What a point writes, whichever of the four cases it runs. -/
abbrev block (c : Dev nD) (t : Fin cfg0.N) : FVec Ideal S512x128 .f32 :=
  fin (iblk m c 0 t) (iblk m c 1 t)
    (glue (last (t.val % 32) (qT (k0_pay169 (iblk m c 2 t))) (iblk m c 3 t) (iblk m c 4 t)).a (last (t.val % 32) (qB (k0_pay169 (iblk m c 2 t))) (iblk m c 3 t) (iblk m c 4 t)).a)
    (glue (last (t.val % 32) (qT (k0_pay169 (iblk m c 2 t))) (iblk m c 3 t) (iblk m c 4 t)).l (last (t.val % 32) (qB (k0_pay169 (iblk m c 2 t))) (iblk m c 3 t) (iblk m c 4 t)).l)

theorem outs (c : Dev nD) (t : Fin cfg0.N) : outsAt0 m c t.val t.isLt = block m c t := by
  have hs := step_val t
  have h4 : (grid0.coords t 2).val % 4 = t.val % 4 := by rw [hs]; omega
  rw [show block m c t = fin (iblk m c 0 t) (iblk m c 1 t)
    (glue (last (grid0.coords t 2).val (qT (k0_pay169 (iblk m c 2 t))) (iblk m c 3 t) (iblk m c 4 t)).a (last (grid0.coords t 2).val (qB (k0_pay169 (iblk m c 2 t))) (iblk m c 3 t) (iblk m c 4 t)).a)
    (glue (last (grid0.coords t 2).val (qT (k0_pay169 (iblk m c 2 t))) (iblk m c 3 t) (iblk m c 4 t)).l (last (grid0.coords t 2).val (qB (k0_pay169 (iblk m c 2 t))) (iblk m c 3 t) (iblk m c 4 t)).l) by rw [hs]]
  by_cases h0 : t.val % 4 = 2 ∨ t.val % 4 = 3
  · by_cases h1 : t.val % 2 = 1
    · rw [outsAt0_D m c t h0 h1]
      exact CaseD.out_eq _ _ _ _ _ _ _ _ _ _ _ _ _ _ _ _ _ _ _ _ _ _ _ _ _ _ _ (by omega)
    · rw [outsAt0_C m c t h0 h1]
      exact CaseC.out_eq _ _ _ _ _ _ _ _ _ _ _ _ _ _ _ _ _ _ _ _ _ _ _ _ _ _ _ (by omega)
  · by_cases h1 : t.val % 2 = 1
    · rw [outsAt0_B m c t h0 h1]
      exact CaseB.out_eq _ _ _ _ _ _ _ _ _ _ _ _ _ _ _ _ _ _ _ _ _ _ _ _ _ _ _ (by omega)
    · rw [outsAt0_A m c t h0 h1]
      exact CaseA.out_eq _ _ _ _ _ _ _ _ _ _ _ _ _ _ _ _ _ _ _ _ _ _ _ _ _ _ _ (by omega)

theorem point (hp : Cert.Pre_Kernel5Ideal_finite5 (hPre_finite5 := Cert.Pre_finite5.holds) m) (c : Dev nD) (t : Fin cfg0.N) (r : Fin 512) (j : Fin 128) (i : S32768x512.Idx)
    (h0 : (i 0).val = (t.val / 128 * 32 + t.val % 32) * 512 + r.val) (h1 : (i 1).val = t.val / 32 % 4 * 128 + j.val) :
    block m c t (ix2 r j) = ref (m ((c : Thread nD τ).loc main_arg0)) (m ((c : Thread nD τ).loc main_arg1)) (m ((c : Thread nD τ).loc main_arg2)) (m ((c : Thread nD τ).loc main_arg3)) i := by
  have ht : t.val < 256 := lt_of_lt_of_eq t.isLt N_0
  have hr : r.val < 512 := r.isLt
  obtain ⟨p1, p2⟩ := Cert.Pre_finite5.reals _ _ _ _ (hp c)
  obtain ⟨Q, K, U, H⟩ := Cert.Reference5Ideal.Main.exists_reals _ _ p1 ⟨t.val / 128, by omega⟩ ⟨t.val / 32 % 4, by omega⟩ ⟨512 * (t.val % 32) + r.val, by omega⟩
  obtain ⟨lam, hl⟩ := Cert.Reference5Ideal.Main.lam_real _ p2
  refine Eq.trans ?_ (Cert.Reference5Ideal.Main.result _ _ _ _ ⟨t.val / 128, by omega⟩ ⟨t.val / 32 % 4, by omega⟩ ⟨512 * (t.val % 32) + r.val, by omega⟩ j i (by show _ = t.val / 128 * 16384 + (512 * (t.val % 32) + r.val); omega) h1).symm
  refine (tile _ _ _ _ _ (t.val % 32) (by omega) r j Q K U lam ?_ ?_ ?_ ?_).trans ?_
  · intro d
    exact (w2_apply m c t (ix2 r d) (ix2 ⟨(t.val / 128 * 32 + t.val % 32) * 512 + r.val, by omega⟩ ⟨(12 + t.val / 32 % 4) * 128 + d.val, by omega⟩) rfl rfl).trans
      (H.hq _ d.val d.isLt (by show _ = t.val / 128 * 16384 + (512 * (t.val % 32) + r.val); show (t.val / 128 * 32 + t.val % 32) * 512 + r.val = _; omega) (by show (12 + t.val / 32 % 4) * 128 + d.val = 1536 + t.val / 32 % 4 * 128 + d.val; omega))
  · intro k d
    exact (w3_apply m c t (ix2 k d) (ix2 ⟨t.val / 128 * 16384 + k.val, by omega⟩ ⟨t.val / 32 % 4 * 128 + d.val, by omega⟩) rfl rfl).trans (H.hk _ k.val d.val k.isLt d.isLt rfl rfl)
  · intro k d
    exact (w4_apply m c t (ix2 k d) (ix2 ⟨t.val / 128 * 16384 + k.val, by omega⟩ ⟨(4 + t.val / 32 % 4) * 128 + d.val, by omega⟩) rfl rfl).trans
      (H.hv _ k.val d.val k.isLt d.isLt rfl (by show (4 + t.val / 32 % 4) * 128 + d.val = 512 + t.val / 32 % 4 * 128 + d.val; omega))
  · rw [w0_eq]
    exact hl
  · rw [w1_apply]
    exact Cert.Reference5Ideal.Main.row H ((Cert.Reference5Ideal.Main.lam_eq _).trans hl) _ j

theorem final (hp : Cert.Pre_Kernel5Ideal_finite5 (hPre_finite5 := Cert.Pre_finite5.holds) m) (c : Dev nD) : (dats m 0 c).arrAt 5 cfg0.N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hpt := point m hp c t
  generalize (ref (m ((c : Thread nD τ).loc main_arg0)) (m ((c : Thread nD τ).loc main_arg1)) (m ((c : Thread nD τ).loc main_arg2)) (m ((c : Thread nD τ).loc main_arg3))) = R at hpt ⊢
  blk_simp
  rw [after0_5, outs]
  obtain ⟨r, j, rfl⟩ : ∃ r j, y = ix2 r j := ⟨y 0, y 1, by funext a; fin_cases a <;> rfl⟩
  have ht : t.val < 256 := lt_of_lt_of_eq t.isLt N_0
  have hr : r.val < 512 := r.isLt
  have hj : j.val < 128 := j.isLt
  refine Eq.trans ?_ ((hpt r j (ix2 ⟨(t.val / 128 * 32 + t.val % 32) * 512 + r.val, by omega⟩ ⟨t.val / 32 % 4 * 128 + j.val, by omega⟩) rfl rfl).trans (congrArg R ?_))
  · rfl
  funext a
  refine Fin.ext ?_
  match a with
  | ⟨0, _⟩ => blk_simp [idx t]
  | ⟨1, _⟩ => blk_simp [idx t]

end Cert.Kernel5Ideal.Main

namespace Cert.Proof

open Idealize.ShloMosaic Idealize.SL.Sem

theorem algebraic5 : Cert.algebraic_Kernel5Ideal_Reference5Ideal_pre_finite5 (hKernel5Ideal := Cert.Kernel5Ideal.Gen.facts) (hReference5Ideal := Cert.Reference5Ideal.Gen.facts) (hPre_finite5 := Cert.Pre_finite5.holds) :=
  fun m g m' g' hp hagree => ⟨fun c => Cert.Kernel5Ideal.Main.ref (m (c.tc.loc Cert.Kernel5Ideal.main_arg0)) (m (c.tc.loc Cert.Kernel5Ideal.main_arg1)) (m (c.tc.loc Cert.Kernel5Ideal.main_arg2)) (m (c.tc.loc Cert.Kernel5Ideal.main_arg3)),
    (θ_run _ _ _).mono (fun _ h c => ⟨(h c).1.trans (Cert.Kernel5Ideal.Main.final m hp c), (h c).2⟩) (Cert.Kernel5Ideal.Value.run_blocks m g),
    (θ_run _ _ _).mono (fun _ h c => ⟨(h c).1.trans (by
      obtain ⟨h0, h1, h2, h3⟩ := hagree c
      refine (Cert.Reference5Ideal.Read.val_main_v66_eq m' c).trans ?_
      rw [h0, h1, h2, h3]), (h c).2⟩) (Cert.Reference5Ideal.Value.run m' g')⟩

end Cert.Proof

end
-- ==== Proof.V6.lean ====
/- What the merge computes, over exact arithmetic: three gated products of the branches' outputs, summed, projected, added to
   the scaled residual and normalised row by row. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Kernel6Ideal.Main

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 3] ∧ win0_2.index t = ![t.val, 4] ∧ win0_3.index t = ![t.val, 5]
    ∧ win0_4.index t = ![t.val, 0] ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![t.val, 0] :=
  (by decide +kernel : ∀ t : Fin grid0.N, _)

/-- The residual's factor, the row's length and the variance's offset, as the program writes them. -/
abbrev al : EReal := Ideal.ofBits FTy.f32 0x3FB504F3#32
abbrev len : EReal := Ideal.ofBits FTy.f32 0x44800000#32
abbrev eps : EReal := Ideal.ofBits FTy.f32 0x358637BD#32

/-- A row's mean. -/
abbrev mean (z : Fin 1024 → EReal) : EReal := Ideal.div (∑ k, z k) len

/-- A row normalised to mean zero and variance one, scaled and shifted. -/
abbrev norm (z : Fin 1024 → EReal) (g b : EReal) (j : Fin 1024) : EReal :=
  (z j - mean z) * Ideal.rsqrt (Ideal.div (∑ k, (z k - mean z) * (z k - mean z)) len + eps) * g + b

/-- A gate: the logistic function of a projection and its bias. -/
abbrev gate (p b : EReal) : EReal := Ideal.div 1 (1 + Ideal.exp (-(p + b)))

theorem pay3 (bg : Vec Ideal S3x1024 .f32) (pa pb : Vec Ideal S512x1024 .f32) (ya yb : Vec Ideal S512x512 .f32) (wa wb : Vec Ideal S512x1024 .bf16)
    (r : Fin 512) (q : Fin 1024) : k0_pay3 bg pa ya wa pb yb wb (ix2 r q)
      = gate (pa (ix2 r q)) (bg (ix2 0 q)) * (∑ k : Fin 512, ya (ix2 r k) * wa (ix2 k q))
        + gate (pb (ix2 r q)) (bg (ix2 1 q)) * (∑ k : Fin 512, yb (ix2 r k) * wb (ix2 k q)) := by
  pointwise [k0_pay3, k0_pay2]
  simp only [zero_sub]

/-- A row before it is normalised: the scaled residual and the projected sum. -/
theorem pay6 (bg : Vec Ideal S3x1024 .f32) (s pc : Vec Ideal S512x1024 .f32) (yc : Vec Ideal S512x512 .f32) (wc : Vec Ideal S512x1024 .bf16)
    (x : Vec Ideal S512x1024 .f32) (wo : Vec Ideal S1024x1024 .bf16) (g b : Vec Ideal S1x1024 .f32)
    (r : Fin 512) (j : Fin 1024) :
    k0_pay1 (k0_pay4 g) (k0_pay5 b) (k0_pay6 (k0_pay2 bg) s pc yc wc x wo) (k0_pay7 (k0_pay2 bg) s pc yc wc x wo) (ix2 r j)
      = norm (fun j => al * x (ix2 r j) + ∑ q : Fin 1024, (s (ix2 r q) + gate (pc (ix2 r q)) (bg (ix2 2 q)) * ∑ k : Fin 512, yc (ix2 r k) * wc (ix2 k q)) * wo (ix2 q j))
        (g (ix2 0 j)) (b (ix2 0 j)) j := by
  pointwise [k0_pay1, k0_pay2, k0_pay4, k0_pay5, k0_pay6, k0_pay7]
  simp only [zero_sub]

theorem ref_apply (x : FVec Ideal S32768x1024 .f32) (p : FVec Ideal S32768x6144 .f32) (ya yb yc : FVec Ideal S32768x512 .f32) (bg : FVec Ideal S3072 .f32)
    (wa wb wc : FVec Ideal S512x1024 .f32) (wo : FVec Ideal S1024x1024 .f32) (g b : FVec Ideal S1024 .f32) (r : Fin 32768) (j : Fin 1024) :
    Cert.Reference6Ideal.Read.val_main_v48 (F := Ideal) x p ya yb yc bg wa wb wc wo g b (ix2 r j)
      = norm (fun j => Cert.Reference6Ideal.Read.val_main_v24 (F := Ideal) x p ya yb yc bg wa wb wc wo (ix2 r j)) (g (ix1 j)) (b (ix1 j)) j := by
  pointwise [Cert.Reference6Ideal.Read.val_main_v25, Cert.Reference6Ideal.Read.val_main_v26, Cert.Reference6Ideal.Read.val_main_v27, Cert.Reference6Ideal.Read.val_main_v28, Cert.Reference6Ideal.Read.val_main_v29, Cert.Reference6Ideal.Read.val_main_v30, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v38, Cert.Reference6Ideal.Read.val_main_v39, Cert.Reference6Ideal.Read.val_main_v40, Cert.Reference6Ideal.Read.val_main_v41, Cert.Reference6Ideal.Read.val_main_v42, Cert.Reference6Ideal.Read.val_main_v43, Cert.Reference6Ideal.Read.val_main_v44, Cert.Reference6Ideal.Read.val_main_v45, Cert.Reference6Ideal.Read.val_main_v46, Cert.Reference6Ideal.Read.val_main_v47, Cert.Reference6Ideal.Read.val_main_v48, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6]

theorem ref24 (x : FVec Ideal S32768x1024 .f32) (p : FVec Ideal S32768x6144 .f32) (ya yb yc : FVec Ideal S32768x512 .f32) (bg : FVec Ideal S3072 .f32)
    (wa wb wc : FVec Ideal S512x1024 .f32) (wo : FVec Ideal S1024x1024 .f32) (r : Fin 32768) (j : Fin 1024) :
    Cert.Reference6Ideal.Read.val_main_v24 (F := Ideal) x p ya yb yc bg wa wb wc wo (ix2 r j)
      = al * x (ix2 r j) + ∑ q : Fin 1024, Cert.Reference6Ideal.Read.val_main_v20 (F := Ideal) p ya yb yc bg wa wb wc (ix2 r q) * wo (ix2 q j) := by
  pointwise [Cert.Reference6Ideal.Read.val_main_v21, Cert.Reference6Ideal.Read.val_main_v22, Cert.Reference6Ideal.Read.val_main_v23, Cert.Reference6Ideal.Read.val_main_v24, Cert.Reference6Ideal.Read.val_main_cst_1]

theorem ref20 (p : FVec Ideal S32768x6144 .f32) (ya yb yc : FVec Ideal S32768x512 .f32) (bg : FVec Ideal S3072 .f32)
    (wa wb wc : FVec Ideal S512x1024 .f32) (r : Fin 32768) (q : Fin 1024) :
    Cert.Reference6Ideal.Read.val_main_v20 (F := Ideal) p ya yb yc bg wa wb wc (ix2 r q)
      = gate (p (ix2 r ⟨3072 + q.val, by omega⟩)) (bg (ix1 ⟨q.val, by omega⟩)) * (∑ k : Fin 512, ya (ix2 r k) * wa (ix2 k q))
        + gate (p (ix2 r ⟨3072 + (1024 + q.val), by omega⟩)) (bg (ix1 ⟨1024 + q.val, by omega⟩)) * (∑ k : Fin 512, yb (ix2 r k) * wb (ix2 k q))
        + gate (p (ix2 r ⟨3072 + (2048 + q.val), by omega⟩)) (bg (ix1 ⟨2048 + q.val, by omega⟩)) * (∑ k : Fin 512, yc (ix2 r k) * wc (ix2 k q)) := by
  pointwise [Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v19, Cert.Reference6Ideal.Read.val_main_v20, Cert.Reference6Ideal.Read.val_main_cst, Cert.Reference6Ideal.Read.val_main_cst_0]

theorem w8_apply (c : Dev nD) (t : Fin cfg0.N) (i : S512x1024.Idx) : iblk m c 8 t i = m ((c : Thread nD τ).loc main_arg6) i := by
  have e : V m c main_v1 = (truncf .bf16 (m ((c : Thread nD τ).loc main_arg6) : FVec Ideal S512x1024 .f32) bitsLt_bf16_f32 : FVec Ideal S512x1024 .bf16) := by
    show StableHlo.after hostOps0 (fun b => m (c, b)) main_v1 = _
    after_results
  show V m c main_v1 (((cfg0.win 8).blk t).view.emb i) = _
  rw [e]
  pointwise
  blk_ext [idx t]

theorem w9_apply (c : Dev nD) (t : Fin cfg0.N) (i : S512x1024.Idx) : iblk m c 9 t i = m ((c : Thread nD τ).loc main_arg7) i := by
  have e : V m c main_v2 = (truncf .bf16 (m ((c : Thread nD τ).loc main_arg7) : FVec Ideal S512x1024 .f32) bitsLt_bf16_f32 : FVec Ideal S512x1024 .bf16) := by
    show StableHlo.after hostOps0 (fun b => m (c, b)) main_v2 = _
    after_results
  show V m c main_v2 (((cfg0.win 9).blk t).view.emb i) = _
  rw [e]
  pointwise
  blk_ext [idx t]

theorem w10_apply (c : Dev nD) (t : Fin cfg0.N) (i : S512x1024.Idx) : iblk m c 10 t i = m ((c : Thread nD τ).loc main_arg8) i := by
  have e : V m c main_v3 = (truncf .bf16 (m ((c : Thread nD τ).loc main_arg8) : FVec Ideal S512x1024 .f32) bitsLt_bf16_f32 : FVec Ideal S512x1024 .bf16) := by
    show StableHlo.after hostOps0 (fun b => m (c, b)) main_v3 = _
    after_results
  show V m c main_v3 (((cfg0.win 10).blk t).view.emb i) = _
  rw [e]
  pointwise
  blk_ext [idx t]

theorem w11_apply (c : Dev nD) (t : Fin cfg0.N) (i : S1024x1024.Idx) : iblk m c 11 t i = m ((c : Thread nD τ).loc main_arg9) i := by
  have e : V m c main_v4 = (truncf .bf16 (m ((c : Thread nD τ).loc main_arg9) : FVec Ideal S1024x1024 .f32) bitsLt_bf16_f32 : FVec Ideal S1024x1024 .bf16) := by
    show StableHlo.after hostOps0 (fun b => m (c, b)) main_v4 = _
    after_results
  show V m c main_v4 (((cfg0.win 11).blk t).view.emb i) = _
  rw [e]
  pointwise
  blk_ext [idx t]

theorem w12_apply (c : Dev nD) (t : Fin cfg0.N) (j : Fin 1024) : iblk m c 12 t (ix2 0 j) = m ((c : Thread nD τ).loc main_arg10) (ix1 j) := by
  have e : V m c main_v5 = (shapeCast S1x1024 (m ((c : Thread nD τ).loc main_arg10) : FVec Ideal S1024 .f32) shapeCasts_S1024_S1x1024 : FVec Ideal S1x1024 .f32) := by
    show StableHlo.after hostOps0 (fun b => m (c, b)) main_v5 = _
    after_results
    rfl
  show V m c main_v5 (((cfg0.win 12).blk t).view.emb _) = _
  rw [e]
  pointwise
  blk_ext [idx t]

theorem w13_apply (c : Dev nD) (t : Fin cfg0.N) (j : Fin 1024) : iblk m c 13 t (ix2 0 j) = m ((c : Thread nD τ).loc main_arg11) (ix1 j) := by
  have e : V m c main_v6 = (shapeCast S1x1024 (m ((c : Thread nD τ).loc main_arg11) : FVec Ideal S1024 .f32) shapeCasts_S1024_S1x1024 : FVec Ideal S1x1024 .f32) := by
    show StableHlo.after hostOps0 (fun b => m (c, b)) main_v6 = _
    after_results
    rfl
  show V m c main_v6 (((cfg0.win 13).blk t).view.emb _) = _
  rw [e]
  pointwise
  blk_ext [idx t]

theorem w7_apply (c : Dev nD) (t : Fin cfg0.N) (a : Fin 3) (j : Fin 1024) (k : Fin 3072) (hk : k.val = a.val * 1024 + j.val) :
    iblk m c 7 t (ix2 a j) = m ((c : Thread nD τ).loc main_arg5) (ix1 k) := by
  have e : V m c main_v0 = (shapeCast S3x1024 (m ((c : Thread nD τ).loc main_arg5) : FVec Ideal S3072 .f32) shapeCasts_S3072_S3x1024 : FVec Ideal S3x1024 .f32) := by
    show StableHlo.after hostOps0 (fun b => m (c, b)) main_v0 = _
    after_results
    rfl
  show V m c main_v0 (((cfg0.win 7).blk t).view.emb _) = _
  rw [e]
  pointwise
  blk_ext [idx t]

theorem w0_apply (c : Dev nD) (t : Fin cfg0.N) (i : S512x1024.Idx) (j : S32768x1024.Idx) (h0 : (j 0).val = t.val * 512 + (i 0).val) (h1 : (j 1).val = 0 + (i 1).val) :
    iblk m c 0 t i = m ((c : Thread nD τ).loc main_arg0) j := by
  blk_ext [iblk, V, idx t]

theorem w1_apply (c : Dev nD) (t : Fin cfg0.N) (i : S512x1024.Idx) (j : S32768x6144.Idx) (h0 : (j 0).val = t.val * 512 + (i 0).val) (h1 : (j 1).val = 3072 + (i 1).val) :
    iblk m c 1 t i = m ((c : Thread nD τ).loc main_arg1) j := by
  blk_ext [iblk, V, idx t]

theorem w2_apply (c : Dev nD) (t : Fin cfg0.N) (i : S512x1024.Idx) (j : S32768x6144.Idx) (h0 : (j 0).val = t.val * 512 + (i 0).val) (h1 : (j 1).val = 4096 + (i 1).val) :
    iblk m c 2 t i = m ((c : Thread nD τ).loc main_arg1) j := by
  blk_ext [iblk, V, idx t]

theorem w3_apply (c : Dev nD) (t : Fin cfg0.N) (i : S512x1024.Idx) (j : S32768x6144.Idx) (h0 : (j 0).val = t.val * 512 + (i 0).val) (h1 : (j 1).val = 5120 + (i 1).val) :
    iblk m c 3 t i = m ((c : Thread nD τ).loc main_arg1) j := by
  blk_ext [iblk, V, idx t]

theorem w4_apply (c : Dev nD) (t : Fin cfg0.N) (i : S512x512.Idx) (j : S32768x512.Idx) (h0 : (j 0).val = t.val * 512 + (i 0).val) (h1 : (j 1).val = 0 + (i 1).val) :
    iblk m c 4 t i = m ((c : Thread nD τ).loc main_arg2) j := by
  blk_ext [iblk, V, idx t]

theorem w5_apply (c : Dev nD) (t : Fin cfg0.N) (i : S512x512.Idx) (j : S32768x512.Idx) (h0 : (j 0).val = t.val * 512 + (i 0).val) (h1 : (j 1).val = 0 + (i 1).val) :
    iblk m c 5 t i = m ((c : Thread nD τ).loc main_arg3) j := by
  blk_ext [iblk, V, idx t]

theorem w6_apply (c : Dev nD) (t : Fin cfg0.N) (i : S512x512.Idx) (j : S32768x512.Idx) (h0 : (j 0).val = t.val * 512 + (i 0).val) (h1 : (j 1).val = 0 + (i 1).val) :
    iblk m c 6 t i = m ((c : Thread nD τ).loc main_arg4) j := by
  blk_ext [iblk, V, idx t]

/-- The reference's term over the kernel's arguments. -/
abbrev ref (x : FVec Ideal S32768x1024 .f32) (p : FVec Ideal S32768x6144 .f32) (ya yb yc : FVec Ideal S32768x512 .f32) (bg : FVec Ideal S3072 .f32)
    (wa wb wc : FVec Ideal S512x1024 .f32) (wo : FVec Ideal S1024x1024 .f32) (g b : FVec Ideal S1024 .f32) : FVec Ideal S32768x1024 .f32 :=
  Cert.Reference6Ideal.Read.val_main_v48 (F := Ideal) x p ya yb yc bg wa wb wc wo g b

theorem point (c : Dev nD) (t : Fin cfg0.N) (r : Fin 512) (j : Fin 1024) (r' : Fin 32768) (hr : r'.val = t.val * 512 + r.val) :
    k0_pay1 (k0_pay4 (iblk m c 12 t)) (k0_pay5 (iblk m c 13 t))
      (k0_pay6 (k0_pay2 (iblk m c 7 t)) (k0_pay3 (iblk m c 7 t) (iblk m c 1 t) (iblk m c 4 t) (iblk m c 8 t) (iblk m c 2 t) (iblk m c 5 t) (iblk m c 9 t))
        (iblk m c 3 t) (iblk m c 6 t) (iblk m c 10 t) (iblk m c 0 t) (iblk m c 11 t))
      (k0_pay7 (k0_pay2 (iblk m c 7 t)) (k0_pay3 (iblk m c 7 t) (iblk m c 1 t) (iblk m c 4 t) (iblk m c 8 t) (iblk m c 2 t) (iblk m c 5 t) (iblk m c 9 t))
        (iblk m c 3 t) (iblk m c 6 t) (iblk m c 10 t) (iblk m c 0 t) (iblk m c 11 t)) (ix2 r j)
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r' j) := by
  refine (pay6 ..).trans (.trans ?_ (ref_apply ..).symm)
  rw [w12_apply, w13_apply]
  refine congrArg (fun z => norm z _ _ j) (funext fun j => ?_)
  rw [ref24, w0_apply m c t (ix2 r j) (ix2 r' j) hr (Nat.zero_add _).symm]
  refine congrArg (fun p : EReal => _ + p) (Finset.sum_congr (M := EReal) rfl fun q _ => ?_)
  rw [ref20, pay3, w11_apply, w1_apply m c t (ix2 r q) (ix2 r' ⟨3072 + q.val, by omega⟩) hr rfl, w2_apply m c t (ix2 r q) (ix2 r' ⟨3072 + (1024 + q.val), by omega⟩) hr (by show 3072 + (1024 + q.val) = 4096 + q.val; omega),
    w3_apply m c t (ix2 r q) (ix2 r' ⟨3072 + (2048 + q.val), by omega⟩) hr (by show 3072 + (2048 + q.val) = 5120 + q.val; omega), w7_apply m c t 0 q ⟨q.val, by omega⟩ (by show q.val = 0 * 1024 + q.val; omega),
    w7_apply m c t 1 q ⟨1024 + q.val, by omega⟩ (by show 1024 + q.val = 1 * 1024 + q.val; omega),
    w7_apply m c t 2 q ⟨2048 + q.val, by omega⟩ (by show 2048 + q.val = 2 * 1024 + q.val; omega)]
  refine congrArg (fun p : EReal => p * _) (congrArg₂ (fun a b : EReal => a + b) (congrArg₂ (fun a b : EReal => a + b) ?_ ?_) ?_)
  · refine congrArg (fun p : EReal => _ * p) (Finset.sum_congr (M := EReal) rfl fun k _ => ?_)
    rw [w4_apply m c t (ix2 r k) (ix2 r' k) hr (Nat.zero_add _).symm, w8_apply]
  · refine congrArg (fun p : EReal => _ * p) (Finset.sum_congr (M := EReal) rfl fun k _ => ?_)
    rw [w5_apply m c t (ix2 r k) (ix2 r' k) hr (Nat.zero_add _).symm, w9_apply]
  · refine congrArg (fun p : EReal => _ * p) (Finset.sum_congr (M := EReal) rfl fun k _ => ?_)
    rw [w6_apply m c t (ix2 r k) (ix2 r' k) hr (Nat.zero_add _).symm, w10_apply]

theorem final (c : Dev nD) : (dats m 0 c).arrAt 14 cfg0.N = (ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (dats m 0 c).arrAt_eq_of_covers 14 _ (by decide +kernel) fun t hf y => ?_
  generalize hR : (ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) = R
  blk_simp
  rw [after0_14]; frame_out [k0_pay8, k0_pay9]
  obtain ⟨r, j, rfl⟩ : ∃ r j, y = ix2 r j := ⟨y 0, y 1, by funext a; fin_cases a <;> rfl⟩
  have hr : t.val * 512 + r.val < 32768 := by
    have h0 := t.isLt
    have h1 : cfg0.grid.N = 64 := N_0
    have h2 := r.isLt
    omega
  have hp := point m c t r j ⟨t.val * 512 + r.val, hr⟩ rfl
  rw [hR] at hp
  refine Eq.trans ?_ (hp.trans (congrArg R ?_))
  · rfl
  funext a
  refine Fin.ext ?_
  match a with
  | ⟨0, _⟩ => blk_simp [idx t]
  | ⟨1, _⟩ => blk_simp [idx t]

end Cert.Kernel6Ideal.Main

namespace Cert.Proof

open Idealize.ShloMosaic Idealize.SL.Sem

theorem algebraic6 : Cert.algebraic_Kernel6Ideal_Reference6Ideal (hKernel6Ideal := Cert.Kernel6Ideal.Gen.facts) (hReference6Ideal := Cert.Reference6Ideal.Gen.facts) :=
  fun m g m' g' _ hagree => ⟨fun c => Cert.Kernel6Ideal.Main.ref (m (c.tc.loc Cert.Kernel6Ideal.main_arg0)) (m (c.tc.loc Cert.Kernel6Ideal.main_arg1)) (m (c.tc.loc Cert.Kernel6Ideal.main_arg2)) (m (c.tc.loc Cert.Kernel6Ideal.main_arg3)) (m (c.tc.loc Cert.Kernel6Ideal.main_arg4)) (m (c.tc.loc Cert.Kernel6Ideal.main_arg5)) (m (c.tc.loc Cert.Kernel6Ideal.main_arg6)) (m (c.tc.loc Cert.Kernel6Ideal.main_arg7)) (m (c.tc.loc Cert.Kernel6Ideal.main_arg8)) (m (c.tc.loc Cert.Kernel6Ideal.main_arg9)) (m (c.tc.loc Cert.Kernel6Ideal.main_arg10)) (m (c.tc.loc Cert.Kernel6Ideal.main_arg11)),
    (θ_run _ _ _).mono (fun _ h c => ⟨(h c).1.trans (Cert.Kernel6Ideal.Main.final m c), (h c).2⟩) (Cert.Kernel6Ideal.Value.run_blocks m g),
    (θ_run _ _ _).mono (fun _ h c => ⟨(h c).1.trans (by
      obtain ⟨h0, h1, h2, h3, h4, h5, h6, h7, h8, h9, h10, h11⟩ := hagree c
      refine (Cert.Reference6Ideal.Read.val_main_v48_eq m' c).trans ?_
      rw [h0, h1, h2, h3, h4, h5, h6, h7, h8, h9, h10, h11]), (h c).2⟩) (Cert.Reference6Ideal.Value.run m' g')⟩

end Cert.Proof

end
-- ==== Proof.V7.lean ====
/- What the sparse attention's preparation computes, over exact arithmetic: the queries absorbed into the latent space and
   the index queries, laid out by tile and head, the normalised latent, the normalised index keys and the index weights. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Main

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 10] ∧ win0_1.index t = ![t.val, 22] ∧ win0_2.index t = ![t.val, 23] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0] ∧ win0_13.index t = ![t.val, 0]
    ∧ win0_14.index t = ![t.val, 0] :=
  (by decide +kernel : ∀ t : Fin grid0.N, _)

theorem v1 (c : Dev nD) : V m c main_v1 = (truncf .bf16 (shapeCast S256x512 (m ((c : Thread nD τ).loc main_arg5) : FVec Ideal S256x8x64 .f32) shapeCasts_S256x8x64_S256x512 : FVec Ideal S256x512 .f32) bitsLt_bf16_f32 : FVec Ideal S256x512 .bf16) := by
  show StableHlo.after (List.flatten [hostOps0, hostOps0_1, hostOps0_2, hostOps0_3, hostOps0_4, hostOps0_5, hostOps0_6]) (fun b => m (c, b)) main_v1 = _
  simp only [hostOps0, hostOps0_1, hostOps0_2, hostOps0_3, hostOps0_4, hostOps0_5, hostOps0_6, List.flatten_cons, List.flatten_nil, List.append_nil, List.cons_append, List.nil_append]
  after_results
  rfl

theorem v22 (c : Dev nD) : V m c main_v22 = (shapeCast S1x128 (pad S128 ![0] ![64] ![0] (m ((c : Thread nD τ).loc main_arg3) : FVec Ideal S64 .f32) (sitofp (F := Ideal) .f32 (constantI S_ 32 0#32)) pads_S64_S128_0640 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6]) (fun b => m (c, b)) main_v22 = _
  simp only [hostOps0, hostOps0_1, hostOps0_2, hostOps0_3, hostOps0_4, hostOps0_5, hostOps0_6, List.flatten_cons, List.flatten_nil, List.append_nil, List.cons_append, List.nil_append]
  after_results
  rfl

theorem v24 (c : Dev nD) : V m c main_v24 = (shapeCast S1x128 (pad S128 ![0] ![64] ![0] (m ((c : Thread nD τ).loc main_arg4) : FVec Ideal S64 .f32) (sitofp (F := Ideal) .f32 (constantI S_ 32 0#32)) pads_S64_S128_0640 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6]) (fun b => m (c, b)) main_v24 = _
  simp only [hostOps0, hostOps0_1, hostOps0_2, hostOps0_3, hostOps0_4, hostOps0_5, hostOps0_6, List.flatten_cons, List.flatten_nil, List.append_nil, List.cons_append, List.nil_append]
  after_results
  rfl

theorem v19 (c : Dev nD) : V m c main_v19 = (shapeCast S1x256 (m ((c : Thread nD τ).loc main_arg1) : FVec Ideal S256 .f32) shapeCasts_S256_S1x256 : FVec Ideal S1x256 .f32) := by
  show StableHlo.after (List.flatten [hostOps0, hostOps0_1, hostOps0_2, hostOps0_3, hostOps0_4, hostOps0_5, hostOps0_6]) (fun b => m (c, b)) main_v19 = _
  simp only [hostOps0, hostOps0_1, hostOps0_2, hostOps0_3, hostOps0_4, hostOps0_5, hostOps0_6, List.flatten_cons, List.flatten_nil, List.append_nil, List.cons_append, List.nil_append]
  after_results
  rfl

theorem v20 (c : Dev nD) : V m c main_v20 = (shapeCast S1x128 (m ((c : Thread nD τ).loc main_arg2) : FVec Ideal S128 .f32) shapeCasts_S128_S1x128 : FVec Ideal S1x128 .f32) := by
  show StableHlo.after (List.flatten [hostOps0, hostOps0_1, hostOps0_2, hostOps0_3, hostOps0_4, hostOps0_5, hostOps0_6]) (fun b => m (c, b)) main_v20 = _
  simp only [hostOps0, hostOps0_1, hostOps0_2, hostOps0_3, hostOps0_4, hostOps0_5, hostOps0_6, List.flatten_cons, List.flatten_nil, List.append_nil, List.cons_append, List.nil_append]
  after_results
  rfl

theorem v18 (c : Dev nD) : V m c main_v18 = (truncf .bf16 (shapeCast S256x1024 (pad S256x8x128 ![0, 0, 0] ![0, 0, 64] ![0, 0, 0] (m ((c : Thread nD τ).loc main_arg6) : FVec Ideal S256x8x64 .f32) (sitofp (F := Ideal) .f32 (constantI S_ 32 0#32)) pads_S256x8x64_S256x8x128_000_000_0640 h_S_ : FVec Ideal S256x8x128 .f32) shapeCasts_S256x8x128_S256x1024 : FVec Ideal S256x1024 .f32) bitsLt_bf16_f32 : FVec Ideal S256x1024 .bf16) := by
  show StableHlo.after (List.flatten [hostOps0, hostOps0_1, hostOps0_2, hostOps0_3, hostOps0_4, hostOps0_5, hostOps0_6]) (fun b => m (c, b)) main_v18 = _
  simp only [hostOps0, hostOps0_1, hostOps0_2, hostOps0_3, hostOps0_4, hostOps0_5, hostOps0_6, List.flatten_cons, List.flatten_nil, List.append_nil, List.cons_append, List.nil_append]
  after_results
  rfl

/-- The heads' up-projections on the diagonal of one matrix: zero between different heads. -/
def wide (u : FVec Ideal S128x8x64 .f32) : FVec Ideal S512x1024 .bf16 :=
  truncf .bf16 (shapeCast S512x1024 (mulf
    (broadcastInDim S8x64x8x128 ![0, 1, 2, 3] bcast_S8x64x1x128_S8x64x8x128_0_1_2_3 (broadcastInDim S8x64x1x128 ![0, 1, 3] bcast_S8x64x128_S8x64x1x128_0_1_3 (transpose S8x64x128 [1, 2, 0] u transposes_S128x8x64_S8x64x128_1_2_0)))
    (broadcastInDim S8x64x8x128 ![0, 1, 2, 3] bcast_S8x1x8x1_S8x64x8x128_0_1_2_3 (broadcastInDim S8x1x8x1 ![0, 2] bcast_S8x8_S8x1x8x1_0_2
      (uitofp (F := Ideal) .f32 (cmpi .eq (addi (iotaInDim S8x8 32 0) (broadcastInDim S8x8 ![] bcast_S_S8x8 (constantI S_ 32 0#32))) (iotaInDim S8x8 32 1)))))
    : FVec Ideal S8x64x8x128 .f32) shapeCasts_S8x64x8x128_S512x1024 : FVec Ideal S512x1024 .f32) bitsLt_bf16_f32

theorem v15 (c : Dev nD) : V m c main_v15 = wide (m ((c : Thread nD τ).loc main_arg7)) := by
  show StableHlo.after (List.flatten [hostOps0, hostOps0_1, hostOps0_2, hostOps0_3, hostOps0_4, hostOps0_5, hostOps0_6]) (fun b => m (c, b)) main_v15 = _
  simp only [hostOps0, hostOps0_1, hostOps0_2, hostOps0_3, hostOps0_4, hostOps0_5, hostOps0_6, List.flatten_cons, List.flatten_nil, List.append_nil, List.cons_append, List.nil_append]
  after_results
  rfl

theorem one_bit : ∀ h g : Fin 8, IntOp.cmpi CmpIPredicate.eq (IntOp.addi (BitVec.ofNat 32 h.val) 0#32) (BitVec.ofNat 32 g.val) = if h = g then 1#1 else 0#1 := by
  decide +kernel

theorem up_one : (FloatOps.uitofp FTy.f32 1#1 : Ideal .f32) = (1 : EReal) := by
  show ((((1#1 : BitVec 1).toNat : ℕ) : ℝ) : EReal) = 1
  simp

theorem up_zero : (FloatOps.uitofp FTy.f32 0#1 : Ideal .f32) = (0 : EReal) := by
  show ((((0#1 : BitVec 1).toNat : ℕ) : ℝ) : EReal) = 0
  simp

theorem one_right (a : EReal) : a * 1 = a := mul_one a

theorem zero_right (a : EReal) : a * 0 = 0 := mul_zero a

theorem wide_apply (u : FVec Ideal S128x8x64 .f32) (k : Fin 512) (n : Fin 1024) (h g : Fin 8) (d : Fin 64) (r : Fin 128) (hk : k.val = h.val * 64 + d.val) (hn : n.val = g.val * 128 + r.val) :
    wide u (ix2 k n) = if h = g then u (ix3 r h d) else 0 := by
  have e1 : k.val / 64 = h.val := by omega
  have e2 : k.val % 64 = d.val := by omega
  have e3 : n.val / 128 = g.val := by omega
  have e4 : n.val % 128 = r.val := by omega
  pointwise [wide]
  simp only [e1, e2, e3, e4, one_bit]
  by_cases hg : h = g
  · simp only [hg, if_true]
    refine Eq.trans (congrArg (fun z : EReal => _ * z) up_one) ?_
    exact one_right _
  · simp only [hg, if_false]
    refine Eq.trans (congrArg (fun z : EReal => _ * z) up_zero) ?_
    exact zero_right _

theorem no_bits : (FloatOps.sitofp FTy.f32 0#32 : Ideal .f32) = (0 : EReal) := by
  show ((((0#32 : BitVec 32).toInt : ℤ) : ℝ) : EReal) = 0
  simp

theorem pad64 (v : FVec Ideal S64 .f32) (k : Fin 128) : (pad S128 ![0] ![64] ![0] v (sitofp (F := Ideal) .f32 (constantI S_ 32 0#32)) pads_S64_S128_0640 h_S_ : FVec Ideal S128 .f32) (ix1 k)
    = if h : k.val < 64 then v (ix1 ⟨k.val, h⟩) else 0 := by
  pointwise
  rw [no_bits]

/-- A row divided by the root of its mean square, and scaled. -/
abbrev unit (x : Fin 256 → EReal) (g : EReal) (k : Fin 256) : EReal :=
  x k * Ideal.rsqrt (Ideal.div (∑ i, x i * x i) (Ideal.ofBits FTy.f32 1132462080#32) + Ideal.ofBits FTy.f32 897988541#32) * g

/-- The same for a latent row. -/
abbrev unitKv (x : Fin 128 → EReal) (g : EReal) (k : Fin 128) : EReal :=
  x k * Ideal.rsqrt (Ideal.div (∑ i, x i * x i) (Ideal.ofBits FTy.f32 1124073472#32) + Ideal.ofBits FTy.f32 897988541#32) * g

abbrev mean (x : Fin 64 → EReal) : EReal := Ideal.div (∑ i, x i) (Ideal.ofBits FTy.f32 1115684864#32)

/-- An index key: its row brought to mean zero and variance one, scaled and shifted. -/
abbrev norm (x : Fin 64 → EReal) (g b : EReal) (k : Fin 64) : EReal :=
  (x k - mean x) * Ideal.rsqrt (Ideal.div (∑ i, (x i - mean x) * (x i - mean x)) (Ideal.ofBits FTy.f32 1115684864#32) + Ideal.ofBits FTy.f32 897988541#32) * g + b

theorem pay3 (x : Vec Ideal S256x256 .f32) (g : Vec Ideal S1x256 .f32) (r k : Fin 256) : k0_pay3 x g (ix2 r k) = unit (fun i => x (ix2 r i)) (g (ix2 0 k)) k := by
  pointwise [k0_pay3]

theorem pay22 (x : Vec Ideal S256x128 .f32) (g : Vec Ideal S1x128 .f32) (r : Fin 256) (k : Fin 128) : k0_pay22 x g (ix2 r k) = unitKv (fun i => x (ix2 r i)) (g (ix2 0 k)) k := by
  pointwise [k0_pay22]

theorem pay2 (x : Vec Ideal S256x128 .f32) (r : Fin 256) (k : Fin 128) : k0_pay2 x (ix2 r k) = x (ix2 r k) * Ideal.ofBits FTy.f32 1026884851#32 := by
  pointwise [k0_pay2]

theorem lane : ∀ k : Fin 128, IntOp.cmpi CmpIPredicate.slt (BitVec.ofNat 32 k.val) 64#32 = if k.val < 64 then 1#1 else 0#1 := by
  decide +kernel

theorem sel (k : Fin 128) (a b : EReal) : Scalar.select (IntOp.cmpi CmpIPredicate.slt (BitVec.ofNat 32 k.val) 64#32) a b = if k.val < 64 then a else b := by
  rw [lane]
  by_cases h : k.val < 64
  · rw [if_pos h, if_pos h]; rfl
  · rw [if_neg h, if_neg h]; rfl

theorem low (f : Fin 128 → EReal) (g : Fin 64 → EReal) (h0 : ∀ i : Fin 64, f ⟨i.val, by omega⟩ = g i) (h1 : ∀ k : Fin 128, 64 ≤ k.val → f k = 0) :
    (∑ k, f k) = ∑ i, g i := by
  rw [show (∑ k, f k) = ∑ k : Fin (64 + 64), f k from rfl, Fin.sum_univ_add]
  rw [Finset.sum_eq_zero (s := Finset.univ) (f := fun i : Fin 64 => f (Fin.natAdd 64 i)) fun i _ => h1 _ (by simp), add_zero]
  exact Finset.sum_congr rfl fun i _ => h0 i

theorem inv64 (s : EReal) : s * Ideal.ofBits FTy.f32 1015021568#32 = Ideal.div s (Ideal.ofBits FTy.f32 1115684864#32) := by
  have e1 : Ideal.ofBits FTy.f32 1015021568#32 = ((1 / 64 : ℝ) : EReal) := by simp [Ideal.ofBits, Ideal.ieee, -EReal.coe_mul]; norm_num
  have e2 : Ideal.ofBits FTy.f32 1115684864#32 = ((64 : ℝ) : EReal) := by simp [Ideal.ofBits, Ideal.ieee, -EReal.coe_mul]; norm_num
  rw [e1, e2, Ideal.div_coe (by norm_num)]

theorem pay1 (x : Vec Ideal S256x128 .f32) (g b : Vec Ideal S1x128 .f32) (r : Fin 256) (k : Fin 128) :
    k0_pay1 k0_pay23 (k0_pay24 x) (k0_pay25 x) g b (ix2 r k)
      = if h : k.val < 64 then norm (fun i => x (ix2 r ⟨i.val, by omega⟩)) (g (ix2 0 k)) (b (ix2 0 k)) ⟨k.val, h⟩ else 0 := by
  pointwise [k0_pay1, k0_pay23, k0_pay24, k0_pay25]
  simp only [sel, inv64]
  have e := low (fun i => if i.val < 64 then x (ix2 r i) else 0) (fun i => x (ix2 r ⟨i.val, by omega⟩)) (fun i => if_pos i.isLt) (fun k h => if_neg (by omega))
  rw [e]
  by_cases h : k.val < 64
  · rw [if_pos h, if_pos h, dif_pos h]
    rw [low _ (fun i : Fin 64 => (x (ix2 r ⟨i.val, by omega⟩) - mean (fun i => x (ix2 r ⟨i.val, by omega⟩))) * (x (ix2 r ⟨i.val, by omega⟩) - mean (fun i => x (ix2 r ⟨i.val, by omega⟩))))
      (fun i => (if_pos i.isLt).trans (if_pos i.isLt)) (fun k h => if_neg (by omega))]
  · rw [if_neg h, dif_neg h]

theorem pay5 (x : Vec Ideal S256x256 .f32) (g : Vec Ideal S1x256 .f32) (w : Vec Ideal S256x1024 .bf16) (r : Fin 256) (k : Fin 1024) :
    k0_pay5 x g w (ix2 r k) = ∑ i : Fin 256, k0_pay3 x g (ix2 r i) * w (ix2 i k) := by
  pointwise [k0_pay5]

theorem pay4 (x : Vec Ideal S256x256 .f32) (g : Vec Ideal S1x256 .f32) (w : Vec Ideal S256x512 .bf16) (u : Vec Ideal S512x1024 .bf16) (r : Fin 256) (k : Fin 1024) :
    k0_pay4 x g w u (ix2 r k) = (∑ e : Fin 512, (∑ i : Fin 256, k0_pay3 x g (ix2 r i) * w (ix2 i e)) * u (ix2 e k)) * Ideal.ofBits FTy.f32 1043900987#32 := by
  pointwise [k0_pay4]

theorem ref73 (x : FVec Ideal S32768x6144 .f32) (r : Fin 32768) (j : Fin 128) :
    Cert.Reference7Ideal.Read.val_main_v73 (F := Ideal) x (ix2 r j) = x (ix2 r ⟨2944 + j.val, by omega⟩) * Ideal.ofBits FTy.f32 1026884851#32 := by
  pointwise [Cert.Reference7Ideal.Read.val_main_v73, Cert.Reference7Ideal.Read.val_main_v72, Cert.Reference7Ideal.Read.val_main_cst_12, Cert.Reference7Ideal.Read.val_main_v0]

theorem ref59 (x : FVec Ideal S32768x6144 .f32) (g b : FVec Ideal S64 .f32) (r : Fin 32768) (j : Fin 64) :
    Cert.Reference7Ideal.Read.val_main_v59 (F := Ideal) x g b (ix2 r j) = norm (fun i => x (ix2 r ⟨2944 + i.val, by omega⟩)) (g (ix1 j)) (b (ix1 j)) j := by
  pointwise [Cert.Reference7Ideal.Read.val_main_v35, Cert.Reference7Ideal.Read.val_main_v36, Cert.Reference7Ideal.Read.val_main_v37, Cert.Reference7Ideal.Read.val_main_v38, Cert.Reference7Ideal.Read.val_main_v39, Cert.Reference7Ideal.Read.val_main_v40, Cert.Reference7Ideal.Read.val_main_v41, Cert.Reference7Ideal.Read.val_main_v42, Cert.Reference7Ideal.Read.val_main_v43, Cert.Reference7Ideal.Read.val_main_v44, Cert.Reference7Ideal.Read.val_main_v45, Cert.Reference7Ideal.Read.val_main_v46, Cert.Reference7Ideal.Read.val_main_v47, Cert.Reference7Ideal.Read.val_main_v48, Cert.Reference7Ideal.Read.val_main_v49, Cert.Reference7Ideal.Read.val_main_v50, Cert.Reference7Ideal.Read.val_main_v51, Cert.Reference7Ideal.Read.val_main_v52, Cert.Reference7Ideal.Read.val_main_v53, Cert.Reference7Ideal.Read.val_main_v54, Cert.Reference7Ideal.Read.val_main_v55, Cert.Reference7Ideal.Read.val_main_v56, Cert.Reference7Ideal.Read.val_main_v57, Cert.Reference7Ideal.Read.val_main_v58, Cert.Reference7Ideal.Read.val_main_v59, Cert.Reference7Ideal.Read.val_main_cst_6, Cert.Reference7Ideal.Read.val_main_cst_7, Cert.Reference7Ideal.Read.val_main_cst_8, Cert.Reference7Ideal.Read.val_main_cst_9, Cert.Reference7Ideal.Read.val_main_cst_10, Cert.Reference7Ideal.Read.val_main_v0]

theorem ref71 (x : FVec Ideal S32768x6144 .f32) (g b : FVec Ideal S64 .f32) (r : Fin 32768) (k : Fin 128) :
    Cert.Reference7Ideal.Read.val_main_v71 (F := Ideal) x g b (ix2 r k)
      = if h : k.val < 64 then norm (fun i => x (ix2 r ⟨2944 + i.val, by omega⟩)) (g (ix1 ⟨k.val, h⟩)) (b (ix1 ⟨k.val, h⟩)) ⟨k.val, h⟩ else 0 := by
  pointwise [Cert.Reference7Ideal.Read.val_main_v70, Cert.Reference7Ideal.Read.val_main_v71, Cert.Reference7Ideal.Read.val_main_call1_v0, Cert.Reference7Ideal.Read.val_main_c_11]
  simp only [no_bits, ref59]

theorem ref69 (x : FVec Ideal S32768x6144 .f32) (g : FVec Ideal S128 .f32) (r : Fin 32768) (k : Fin 128) :
    Cert.Reference7Ideal.Read.val_main_v69 (F := Ideal) x g (ix2 r k) = unitKv (fun i => x (ix2 r ⟨2816 + i.val, by omega⟩)) (g (ix1 k)) k := by
  pointwise [Cert.Reference7Ideal.Read.val_main_v21, Cert.Reference7Ideal.Read.val_main_v22, Cert.Reference7Ideal.Read.val_main_v23, Cert.Reference7Ideal.Read.val_main_v24, Cert.Reference7Ideal.Read.val_main_v25, Cert.Reference7Ideal.Read.val_main_v26, Cert.Reference7Ideal.Read.val_main_v27, Cert.Reference7Ideal.Read.val_main_v28, Cert.Reference7Ideal.Read.val_main_v29, Cert.Reference7Ideal.Read.val_main_v30, Cert.Reference7Ideal.Read.val_main_v31, Cert.Reference7Ideal.Read.val_main_v32, Cert.Reference7Ideal.Read.val_main_v33, Cert.Reference7Ideal.Read.val_main_v34, Cert.Reference7Ideal.Read.val_main_cst_3, Cert.Reference7Ideal.Read.val_main_cst_4, Cert.Reference7Ideal.Read.val_main_cst_5, Cert.Reference7Ideal.Read.val_main_v69]

theorem ref14 (x : FVec Ideal S32768x6144 .f32) (g : FVec Ideal S256 .f32) (r : Fin 32768) (k : Fin 256) :
    Cert.Reference7Ideal.Read.val_main_v14 (F := Ideal) x g (ix2 r k) = unit (fun i => x (ix2 r ⟨2560 + i.val, by omega⟩)) (g (ix1 k)) k := by
  pointwise [Cert.Reference7Ideal.Read.val_main_v1, Cert.Reference7Ideal.Read.val_main_v2, Cert.Reference7Ideal.Read.val_main_v3, Cert.Reference7Ideal.Read.val_main_v4, Cert.Reference7Ideal.Read.val_main_v5, Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_v12, Cert.Reference7Ideal.Read.val_main_v13, Cert.Reference7Ideal.Read.val_main_v14, Cert.Reference7Ideal.Read.val_main_cst, Cert.Reference7Ideal.Read.val_main_cst_0, Cert.Reference7Ideal.Read.val_main_cst_1]

theorem ref63 (x : FVec Ideal S32768x6144 .f32) (q : FVec Ideal S256 .f32) (w : FVec Ideal S256x8x64 .f32) (u : FVec Ideal S128x8x64 .f32) (R : Fin 262144) (j : Fin 128)
    (t : ℕ) (h : Fin 8) (r : Fin 256) (T : Fin 32768) (hR : R.val = t * 2048 + (h.val * 256 + r.val)) (hT : T.val = t * 256 + r.val) :
    Cert.Reference7Ideal.Read.val_main_v63 (F := Ideal) x q w u (ix2 R j)
      = (∑ d : Fin 64, u (ix3 j h d) * ∑ k : Fin 256, Cert.Reference7Ideal.Read.val_main_v14 (F := Ideal) x q (ix2 T k) * w (ix3 k h d)) * Ideal.ofBits FTy.f32 1043900987#32 := by
  have e1 : R.val / 256 % 8 = h.val := by omega
  have e2 : R.val / 2048 * 256 + R.val % 256 = T.val := by omega
  pointwise [Cert.Reference7Ideal.Read.val_main_v60, Cert.Reference7Ideal.Read.val_main_v61, Cert.Reference7Ideal.Read.val_main_v62, Cert.Reference7Ideal.Read.val_main_v63, Cert.Reference7Ideal.Read.val_main_v15, Cert.Reference7Ideal.Read.val_main_v16, Cert.Reference7Ideal.Read.val_main_v17, Cert.Reference7Ideal.Read.val_main_v18, Cert.Reference7Ideal.Read.val_main_v19, Cert.Reference7Ideal.Read.val_main_cst_2]
  simp only [e1, e2]

theorem ref68 (x : FVec Ideal S32768x6144 .f32) (q : FVec Ideal S256 .f32) (w : FVec Ideal S256x8x64 .f32) (R : Fin 262144) (j : Fin 128)
    (t : ℕ) (h : Fin 8) (r : Fin 256) (T : Fin 32768) (hR : R.val = t * 2048 + (h.val * 256 + r.val)) (hT : T.val = t * 256 + r.val) :
    Cert.Reference7Ideal.Read.val_main_v68 (F := Ideal) x q w (ix2 R j)
      = if hj : j.val < 64 then ∑ k : Fin 256, Cert.Reference7Ideal.Read.val_main_v14 (F := Ideal) x q (ix2 T k) * w (ix3 k h ⟨j.val, hj⟩) else 0 := by
  have e1 : R.val / 256 % 8 = h.val := by omega
  have e2 : R.val / 2048 * 256 + R.val % 256 = T.val := by omega
  pointwise [Cert.Reference7Ideal.Read.val_main_v64, Cert.Reference7Ideal.Read.val_main_v65, Cert.Reference7Ideal.Read.val_main_v66, Cert.Reference7Ideal.Read.val_main_v67, Cert.Reference7Ideal.Read.val_main_v68, Cert.Reference7Ideal.Read.val_main_call0_v0, Cert.Reference7Ideal.Read.val_main_c, Cert.Reference7Ideal.Read.val_main_v20]
  simp only [e1, e2, no_bits]
  by_cases hj : j.val < 64
  · have ht := T.isLt
    have hh := h.isLt
    simp only [hj, ht, hh, and_self, dite_true]
  · simp only [hj, and_false, dite_false]

theorem w0_apply (c : Dev nD) (t : Fin cfg0.N) (r : Fin 256) (k : Fin 256) (T : Fin 32768) (hT : T.val = t.val * 256 + r.val) :
    iblk m c 0 t (ix2 r k) = m ((c : Thread nD τ).loc main_arg0) (ix2 T ⟨2560 + k.val, by omega⟩) := by
  show V m c main_arg0 (((cfg0.win 0).blk t).view.emb _) = _
  rw [V_main_arg0]
  blk_ext [idx t]

theorem w1_apply (c : Dev nD) (t : Fin cfg0.N) (r : Fin 256) (k : Fin 128) (T : Fin 32768) (hT : T.val = t.val * 256 + r.val) :
    iblk m c 1 t (ix2 r k) = m ((c : Thread nD τ).loc main_arg0) (ix2 T ⟨2816 + k.val, by omega⟩) := by
  show V m c main_arg0 (((cfg0.win 1).blk t).view.emb _) = _
  rw [V_main_arg0]
  blk_ext [idx t]

theorem w2_apply (c : Dev nD) (t : Fin cfg0.N) (r : Fin 256) (k : Fin 128) (T : Fin 32768) (hT : T.val = t.val * 256 + r.val) :
    iblk m c 2 t (ix2 r k) = m ((c : Thread nD τ).loc main_arg0) (ix2 T ⟨2944 + k.val, by omega⟩) := by
  show V m c main_arg0 (((cfg0.win 2).blk t).view.emb _) = _
  rw [V_main_arg0]
  blk_ext [idx t]

theorem w3_apply (c : Dev nD) (t : Fin cfg0.N) (k : Fin 256) : iblk m c 3 t (ix2 0 k) = m ((c : Thread nD τ).loc main_arg1) (ix1 k) := by
  show V m c main_v19 (((cfg0.win 3).blk t).view.emb _) = _
  rw [v19]
  pointwise
  blk_ext [idx t]

theorem w4_apply (c : Dev nD) (t : Fin cfg0.N) (k : Fin 128) : iblk m c 4 t (ix2 0 k) = m ((c : Thread nD τ).loc main_arg2) (ix1 k) := by
  show V m c main_v20 (((cfg0.win 4).blk t).view.emb _) = _
  rw [v20]
  pointwise
  blk_ext [idx t]

theorem w5_apply (c : Dev nD) (t : Fin cfg0.N) (k : Fin 128) : iblk m c 5 t (ix2 0 k) = (if h : k.val < 64 then (m ((c : Thread nD τ).loc main_arg3) : FVec Ideal S64 .f32) (ix1 ⟨k.val, h⟩) else (0 : EReal) : EReal) := by
  refine Eq.trans ?_ (pad64 (m ((c : Thread nD τ).loc main_arg3)) k)
  show V m c main_v22 (((cfg0.win 5).blk t).view.emb _) = _
  rw [v22]
  generalize (pad S128 ![0] ![64] ![0] (m ((c : Thread nD τ).loc main_arg3) : FVec Ideal S64 .f32) (sitofp (F := Ideal) .f32 (constantI S_ 32 0#32)) pads_S64_S128_0640 h_S_ : FVec Ideal S128 .f32) = z
  pointwise
  blk_ext [idx t]

theorem w6_apply (c : Dev nD) (t : Fin cfg0.N) (k : Fin 128) : iblk m c 6 t (ix2 0 k) = (if h : k.val < 64 then (m ((c : Thread nD τ).loc main_arg4) : FVec Ideal S64 .f32) (ix1 ⟨k.val, h⟩) else (0 : EReal) : EReal) := by
  refine Eq.trans ?_ (pad64 (m ((c : Thread nD τ).loc main_arg4)) k)
  show V m c main_v24 (((cfg0.win 6).blk t).view.emb _) = _
  rw [v24]
  generalize (pad S128 ![0] ![64] ![0] (m ((c : Thread nD τ).loc main_arg4) : FVec Ideal S64 .f32) (sitofp (F := Ideal) .f32 (constantI S_ 32 0#32)) pads_S64_S128_0640 h_S_ : FVec Ideal S128 .f32) = z
  pointwise
  blk_ext [idx t]

theorem w7_apply (c : Dev nD) (t : Fin cfg0.N) (i : Fin 256) (k : Fin 512) (h : Fin 8) (d : Fin 64) (hk : k.val = h.val * 64 + d.val) :
    iblk m c 7 t (ix2 i k) = m ((c : Thread nD τ).loc main_arg5) (ix3 i h d) := by
  show V m c main_v1 (((cfg0.win 7).blk t).view.emb _) = _
  rw [v1]
  pointwise
  blk_ext [idx t]

theorem w8_apply (c : Dev nD) (t : Fin cfg0.N) (k : Fin 512) (n : Fin 1024) :
    iblk m c 8 t (ix2 k n) = wide (m ((c : Thread nD τ).loc main_arg7)) (ix2 k n) := by
  show V m c main_v15 (((cfg0.win 8).blk t).view.emb _) = _
  rw [v15]
  blk_ext [idx t]

/-- The index queries' weights, each head's 64 columns filled up to 128 with zeros. -/
theorem filled (w : FVec Ideal S256x8x64 .f32) (i : Fin 256) (n : Fin 1024) (h : Fin 8) (j : Fin 128) (hn : n.val = h.val * 128 + j.val) :
    (truncf .bf16 (shapeCast S256x1024 (pad S256x8x128 ![0, 0, 0] ![0, 0, 64] ![0, 0, 0] w (sitofp (F := Ideal) .f32 (constantI S_ 32 0#32)) pads_S256x8x64_S256x8x128_000_000_0640 h_S_ : FVec Ideal S256x8x128 .f32) shapeCasts_S256x8x128_S256x1024 : FVec Ideal S256x1024 .f32) bitsLt_bf16_f32 : FVec Ideal S256x1024 .bf16) (ix2 i n) = if hj : j.val < 64 then w (ix3 i h ⟨j.val, hj⟩) else 0 := by
  have e1 : n.val / 128 = h.val := by omega
  have e2 : n.val % 128 = j.val := by omega
  pointwise
  simp only [e1, e2, no_bits]
  by_cases hj : j.val < 64
  · have hi := i.isLt
    have hh := h.isLt
    simp only [hj, hi, hh, and_self, dite_true]
  · simp only [hj, and_false, dite_false]

theorem w9_apply (c : Dev nD) (t : Fin cfg0.N) (i : Fin 256) (n : Fin 1024) (h : Fin 8) (j : Fin 128) (hn : n.val = h.val * 128 + j.val) :
    iblk m c 9 t (ix2 i n) = (if hj : j.val < 64 then (m ((c : Thread nD τ).loc main_arg6) : FVec Ideal S256x8x64 .f32) (ix3 i h ⟨j.val, hj⟩) else (0 : EReal) : EReal) := by
  refine Eq.trans ?_ (filled (m ((c : Thread nD τ).loc main_arg6)) i n h j hn)
  show V m c main_v18 (((cfg0.win 9).blk t).view.emb _) = _
  rw [v18]
  generalize (truncf .bf16 (shapeCast S256x1024 (pad S256x8x128 ![0, 0, 0] ![0, 0, 64] ![0, 0, 0] (m ((c : Thread nD τ).loc main_arg6) : FVec Ideal S256x8x64 .f32) (sitofp (F := Ideal) .f32 (constantI S_ 32 0#32)) pads_S256x8x64_S256x8x128_000_000_0640 h_S_ : FVec Ideal S256x8x128 .f32) shapeCasts_S256x8x128_S256x1024 : FVec Ideal S256x1024 .f32) bitsLt_bf16_f32 : FVec Ideal S256x1024 .bf16) = z
  blk_ext [idx t]

/-- Where the eight stores leave a head's rows. -/
theorem out10 (x0 : Vec Ideal S256x256 .f32) (x1 : Vec Ideal S256x128 .f32) (x2 : Vec Ideal S256x128 .f32) (x3 : Vec Ideal S1x256 .f32) (x4 : Vec Ideal S1x128 .f32) (x5 : Vec Ideal S1x128 .f32) (x6 : Vec Ideal S1x128 .f32) (x7 : Vec Ideal S256x512 .bf16) (x8 : Vec Ideal S512x1024 .bf16) (x9 : Vec Ideal S256x1024 .bf16)
    (y : S2048x128.Idx) (h : Fin 8) (r : Fin 256) (j : Fin 128) (h0 : (y 0).val = h.val * 256 + r.val) (h1 : (y 1).val = j.val) :
    out0_10 x0 x1 x2 x3 x4 x5 x6 x7 x8 x9 y = k0_pay4 x0 x3 x7 x8 (ix2 r ⟨h.val * 128 + j.val, by omega⟩) := by
  have e0 : View.ld x0 r0_0 = x0 := by simp (disch := decide) only [r0_0, View.ld_unit_lit']
  have e3 : View.ld x3 r0_1 = x3 := by simp (disch := decide) only [r0_1, View.ld_unit_lit']
  have e7 : View.ld x7 r0_2 = x7 := by simp (disch := decide) only [r0_2, View.ld_unit_lit']
  have e8 : View.ld x8 r0_3 = x8 := by simp (disch := decide) only [r0_3, View.ld_unit_lit']
  unfold out0_10 k0_pay26
  simp only [e0, e3, e7, e8]
  refine View.canon_eq_of_allAt _ _ _ (cover0_10 ..) ?_
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1792 + a.val := hx 0
    have a1 : (y 1).val = 0 + b.val := hx 1
    have a2 := a.isLt
    have a3 := r.isLt
    pointwise [k0_pay20]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1536 + a.val := hx 0
    have a1 : (y 1).val = 0 + b.val := hx 1
    have a2 := a.isLt
    have a3 := r.isLt
    pointwise [k0_pay18]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1280 + a.val := hx 0
    have a1 : (y 1).val = 0 + b.val := hx 1
    have a2 := a.isLt
    have a3 := r.isLt
    pointwise [k0_pay16]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1024 + a.val := hx 0
    have a1 : (y 1).val = 0 + b.val := hx 1
    have a2 := a.isLt
    have a3 := r.isLt
    pointwise [k0_pay14]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 768 + a.val := hx 0
    have a1 : (y 1).val = 0 + b.val := hx 1
    have a2 := a.isLt
    have a3 := r.isLt
    pointwise [k0_pay12]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 512 + a.val := hx 0
    have a1 : (y 1).val = 0 + b.val := hx 1
    have a2 := a.isLt
    have a3 := r.isLt
    pointwise [k0_pay10]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 256 + a.val := hx 0
    have a1 : (y 1).val = 0 + b.val := hx 1
    have a2 := a.isLt
    have a3 := r.isLt
    pointwise [k0_pay8]
    exact congrArg (k0_pay4 x0 x3 x7 x8) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 0 + a.val := hx 0
    have a1 : (y 1).val = 0 + b.val := hx 1
    have a2 := a.isLt
    have a3 := r.isLt
    pointwise [k0_pay6]
    exact congrArg (k0_pay4 x0 x3 x7 x8) (congrArg₂ ix2 (Fin.ext (by omega)) (Fin.ext (by simp only; omega)))
  exact View.allAt_nil _ _

/-- And where they leave a head's index queries. -/
theorem out11 (x0 : Vec Ideal S256x256 .f32) (x1 : Vec Ideal S256x128 .f32) (x2 : Vec Ideal S256x128 .f32) (x3 : Vec Ideal S1x256 .f32) (x4 : Vec Ideal S1x128 .f32) (x5 : Vec Ideal S1x128 .f32) (x6 : Vec Ideal S1x128 .f32) (x7 : Vec Ideal S256x512 .bf16) (x8 : Vec Ideal S512x1024 .bf16) (x9 : Vec Ideal S256x1024 .bf16)
    (y : S2048x128.Idx) (h : Fin 8) (r : Fin 256) (j : Fin 128) (h0 : (y 0).val = h.val * 256 + r.val) (h1 : (y 1).val = j.val) :
    out0_11 x0 x1 x2 x3 x4 x5 x6 x7 x8 x9 y = k0_pay5 x0 x3 x9 (ix2 r ⟨h.val * 128 + j.val, by omega⟩) := by
  have e0 : View.ld x0 r0_0 = x0 := by simp (disch := decide) only [r0_0, View.ld_unit_lit']
  have e3 : View.ld x3 r0_1 = x3 := by simp (disch := decide) only [r0_1, View.ld_unit_lit']
  have e9 : View.ld x9 r0_4 = x9 := by simp (disch := decide) only [r0_4, View.ld_unit_lit']
  unfold out0_11 k0_pay27
  simp only [e0, e3, e9]
  refine View.canon_eq_of_allAt _ _ _ (cover0_11 ..) ?_
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1792 + a.val := hx 0
    have a1 : (y 1).val = 0 + b.val := hx 1
    have a2 := a.isLt
    have a3 := r.isLt
    pointwise [k0_pay21]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1536 + a.val := hx 0
    have a1 : (y 1).val = 0 + b.val := hx 1
    have a2 := a.isLt
    have a3 := r.isLt
    pointwise [k0_pay19]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1280 + a.val := hx 0
    have a1 : (y 1).val = 0 + b.val := hx 1
    have a2 := a.isLt
    have a3 := r.isLt
    pointwise [k0_pay17]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 1024 + a.val := hx 0
    have a1 : (y 1).val = 0 + b.val := hx 1
    have a2 := a.isLt
    have a3 := r.isLt
    pointwise [k0_pay15]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 768 + a.val := hx 0
    have a1 : (y 1).val = 0 + b.val := hx 1
    have a2 := a.isLt
    have a3 := r.isLt
    pointwise [k0_pay13]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 512 + a.val := hx 0
    have a1 : (y 1).val = 0 + b.val := hx 1
    have a2 := a.isLt
    have a3 := r.isLt
    pointwise [k0_pay11]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 256 + a.val := hx 0
    have a1 : (y 1).val = 0 + b.val := hx 1
    have a2 := a.isLt
    have a3 := r.isLt
    pointwise [k0_pay9]
    exact congrArg (k0_pay5 x0 x3 x9) (congrArg₂ ix2 (Fin.ext (by omega)) (Fin.ext (by simp only; omega)))
  refine View.allAt_cons_unit _ _ _ _ _ (fun x hx => ?_) ?_
  · obtain ⟨a, b, rfl⟩ : ∃ (a : Fin 256) (b : Fin 128), x = ix2 a b := ⟨x 0, x 1, by funext a; fin_cases a <;> rfl⟩
    have a0 : (y 0).val = 0 + a.val := hx 0
    have a1 : (y 1).val = 0 + b.val := hx 1
    have a2 := a.isLt
    have a3 := r.isLt
    pointwise [k0_pay7]
    exact congrArg (k0_pay5 x0 x3 x9) (congrArg₂ ix2 (Fin.ext (by omega)) (Fin.ext (by simp only; omega)))
  exact View.allAt_nil _ _

theorem latent (c : Dev nD) (t : Fin cfg0.N) (r k : Fin 256) (T : Fin 32768) (hT : T.val = t.val * 256 + r.val) :
    k0_pay3 (iblk m c 0 t) (iblk m c 3 t) (ix2 r k) = Cert.Reference7Ideal.Read.val_main_v14 (F := Ideal) (m ((c : Thread nD τ).loc main_arg0)) (m ((c : Thread nD τ).loc main_arg1)) (ix2 T k) := by
  rw [pay3, ref14, w3_apply]
  exact congrArg (fun z => unit z _ k) (funext fun i => w0_apply m c t r i T hT)

theorem point14 (c : Dev nD) (t : Fin cfg0.N) (r : Fin 256) (j : Fin 128) (T : Fin 32768) (hT : T.val = t.val * 256 + r.val) :
    k0_pay2 (iblk m c 2 t) (ix2 r j) = Cert.Reference7Ideal.Read.val_main_v73 (F := Ideal) (m ((c : Thread nD τ).loc main_arg0)) (ix2 T j) := by
  rw [pay2, ref73, w2_apply m c t r j T hT]

theorem point12 (c : Dev nD) (t : Fin cfg0.N) (r : Fin 256) (j : Fin 128) (T : Fin 32768) (hT : T.val = t.val * 256 + r.val) :
    k0_pay22 (iblk m c 1 t) (iblk m c 4 t) (ix2 r j) = Cert.Reference7Ideal.Read.val_main_v69 (F := Ideal) (m ((c : Thread nD τ).loc main_arg0)) (m ((c : Thread nD τ).loc main_arg2)) (ix2 T j) := by
  rw [pay22, ref69, w4_apply]
  exact congrArg (fun z => unitKv z _ j) (funext fun i => w1_apply m c t r i T hT)

theorem point13 (c : Dev nD) (t : Fin cfg0.N) (r : Fin 256) (j : Fin 128) (T : Fin 32768) (hT : T.val = t.val * 256 + r.val) :
    k0_pay1 k0_pay23 (k0_pay24 (iblk m c 2 t)) (k0_pay25 (iblk m c 2 t)) (iblk m c 5 t) (iblk m c 6 t) (ix2 r j)
      = Cert.Reference7Ideal.Read.val_main_v71 (F := Ideal) (m ((c : Thread nD τ).loc main_arg0)) (m ((c : Thread nD τ).loc main_arg3)) (m ((c : Thread nD τ).loc main_arg4)) (ix2 T j) := by
  rw [pay1, ref71]
  by_cases h : j.val < 64
  · rw [dif_pos h, dif_pos h, w5_apply, w6_apply, dif_pos h, dif_pos h]
    exact congrArg (fun z => norm z _ _ ⟨j.val, h⟩) (funext fun i => w2_apply m c t r ⟨i.val, by omega⟩ T hT)
  · rw [dif_neg h, dif_neg h]

theorem point11 (c : Dev nD) (t : Fin cfg0.N) (r : Fin 256) (h : Fin 8) (j : Fin 128) (R : Fin 262144) (hR : R.val = t.val * 2048 + (h.val * 256 + r.val)) :
    k0_pay5 (iblk m c 0 t) (iblk m c 3 t) (iblk m c 9 t) (ix2 r ⟨h.val * 128 + j.val, by omega⟩)
      = Cert.Reference7Ideal.Read.val_main_v68 (F := Ideal) (m ((c : Thread nD τ).loc main_arg0)) (m ((c : Thread nD τ).loc main_arg1)) (m ((c : Thread nD τ).loc main_arg6)) (ix2 R j) := by
  have hT : t.val * 256 + r.val < 32768 := by omega
  rw [pay5, ref68 _ _ _ R j t.val h r ⟨_, hT⟩ hR rfl]
  by_cases hj : j.val < 64
  · rw [dif_pos hj]
    refine Finset.sum_congr (M := EReal) rfl fun i _ => ?_
    rw [latent m c t r i ⟨_, hT⟩ rfl, w9_apply m c t i _ h j rfl, dif_pos hj]
  · rw [dif_neg hj]
    refine Finset.sum_eq_zero (M := EReal) fun i _ => ?_
    rw [w9_apply m c t i _ h j rfl, dif_neg hj]
    exact zero_right _

/-- A sum over the columns of all heads, of which one head's alone are not zero. -/
theorem one_head (f : Fin 512 → EReal) (g : Fin 64 → EReal) (h : Fin 8) (h0 : ∀ d : Fin 64, f ⟨h.val * 64 + d.val, by omega⟩ = g d)
    (h1 : ∀ (a : Fin 8) (d : Fin 64), a ≠ h → f ⟨a.val * 64 + d.val, by omega⟩ = 0) : (∑ k, f k) = ∑ d, g d := by
  have e : (∑ k : Fin 512, f k) = ∑ p : Fin 8 × Fin 64, f ⟨p.1.val * 64 + p.2.val, by omega⟩ :=
    (Fintype.sum_equiv (finProdFinEquiv (m := 8) (n := 64)) _ f fun p => congrArg f (Fin.ext (by
      show p.1.val * 64 + p.2.val = p.2.val + 64 * p.1.val
      omega))).symm
  rw [e, Fintype.sum_prod_type, Finset.sum_eq_single h (fun a _ ha => Finset.sum_eq_zero fun d _ => h1 a d ha) (fun n => absurd (Finset.mem_univ h) n)]
  exact Finset.sum_congr rfl fun d _ => h0 d

theorem point10 (c : Dev nD) (t : Fin cfg0.N) (r : Fin 256) (h : Fin 8) (j : Fin 128) (R : Fin 262144) (hR : R.val = t.val * 2048 + (h.val * 256 + r.val)) :
    k0_pay4 (iblk m c 0 t) (iblk m c 3 t) (iblk m c 7 t) (iblk m c 8 t) (ix2 r ⟨h.val * 128 + j.val, by omega⟩)
      = Cert.Reference7Ideal.Read.val_main_v63 (F := Ideal) (m ((c : Thread nD τ).loc main_arg0)) (m ((c : Thread nD τ).loc main_arg1)) (m ((c : Thread nD τ).loc main_arg5)) (m ((c : Thread nD τ).loc main_arg7)) (ix2 R j) := by
  have hT : t.val * 256 + r.val < 32768 := by omega
  rw [pay4, ref63 _ _ _ _ R j t.val h r ⟨_, hT⟩ hR rfl]
  refine congrArg (fun z : EReal => z * _) (one_head _ _ h (fun d => ?_) fun a d ha => ?_)
  · rw [w8_apply, wide_apply _ _ _ h h d j rfl rfl, if_pos rfl]
    refine (mul_comm (G := EReal) _ _).trans (congrArg (fun z : EReal => _ * z) (Finset.sum_congr (M := EReal) rfl fun i _ => ?_))
    rw [latent m c t r i ⟨_, hT⟩ rfl, w7_apply m c t i _ h d rfl]
  · rw [w8_apply, wide_apply _ _ _ a h d j rfl rfl, if_neg ha]
    exact zero_right _

theorem final10 (c : Dev nD) : (dats m 0 c).arrAt 10 cfg0.N = (Cert.Reference7Ideal.Read.val_main_v63 (F := Ideal) (m ((c : Thread nD τ).loc main_arg0)) (m ((c : Thread nD τ).loc main_arg1)) (m ((c : Thread nD τ).loc main_arg5)) (m ((c : Thread nD τ).loc main_arg7)) : FVec Ideal S262144x128 .bf16) := by
  refine (dats m 0 c).arrAt_eq_of_covers 10 _ (by decide +kernel) fun t hf y => ?_
  generalize hR : (Cert.Reference7Ideal.Read.val_main_v63 (F := Ideal) (m ((c : Thread nD τ).loc main_arg0)) (m ((c : Thread nD τ).loc main_arg1)) (m ((c : Thread nD τ).loc main_arg5)) (m ((c : Thread nD τ).loc main_arg7)) : FVec Ideal S262144x128 .bf16) = R
  blk_simp
  rw [after0_10]
  have b0 : (y 0).val < 2048 := (y 0).isLt
  have b1 : (y 1).val < 128 := (y 1).isLt
  have hr : t.val * 2048 + ((y 0).val / 256 * 256 + (y 0).val % 256) < 262144 := by
    have h0 := t.isLt
    have h1 : cfg0.grid.N = 128 := N_0
    omega
  refine (out10 _ _ _ _ _ _ _ _ _ _ y ⟨(y 0).val / 256, by omega⟩ ⟨(y 0).val % 256, by omega⟩ ⟨(y 1).val, b1⟩ (by simp only; omega) rfl).trans ?_
  have hp := point10 m c t ⟨(y 0).val % 256, by omega⟩ ⟨(y 0).val / 256, by omega⟩ ⟨(y 1).val, b1⟩ ⟨_, hr⟩ rfl
  rw [hR] at hp
  refine hp.trans (congrArg R ?_)
  have e0 : (y 0).val / 256 * 256 + (y 0).val % 256 = (y 0).val := by omega
  funext a
  refine Fin.ext ?_
  match a with
  | ⟨0, _⟩ => blk_simp [idx t, e0]; rfl
  | ⟨1, _⟩ => blk_simp [idx t]; rfl

theorem final11 (c : Dev nD) : (dats m 0 c).arrAt 11 cfg0.N = (Cert.Reference7Ideal.Read.val_main_v68 (F := Ideal) (m ((c : Thread nD τ).loc main_arg0)) (m ((c : Thread nD τ).loc main_arg1)) (m ((c : Thread nD τ).loc main_arg6)) : FVec Ideal S262144x128 .bf16) := by
  refine (dats m 0 c).arrAt_eq_of_covers 11 _ (by decide +kernel) fun t hf y => ?_
  generalize hR : (Cert.Reference7Ideal.Read.val_main_v68 (F := Ideal) (m ((c : Thread nD τ).loc main_arg0)) (m ((c : Thread nD τ).loc main_arg1)) (m ((c : Thread nD τ).loc main_arg6)) : FVec Ideal S262144x128 .bf16) = R
  blk_simp
  rw [after0_11]
  have b0 : (y 0).val < 2048 := (y 0).isLt
  have b1 : (y 1).val < 128 := (y 1).isLt
  have hr : t.val * 2048 + ((y 0).val / 256 * 256 + (y 0).val % 256) < 262144 := by
    have h0 := t.isLt
    have h1 : cfg0.grid.N = 128 := N_0
    omega
  refine (out11 _ _ _ _ _ _ _ _ _ _ y ⟨(y 0).val / 256, by omega⟩ ⟨(y 0).val % 256, by omega⟩ ⟨(y 1).val, b1⟩ (by simp only; omega) rfl).trans ?_
  have hp := point11 m c t ⟨(y 0).val % 256, by omega⟩ ⟨(y 0).val / 256, by omega⟩ ⟨(y 1).val, b1⟩ ⟨_, hr⟩ rfl
  rw [hR] at hp
  refine hp.trans (congrArg R ?_)
  have e0 : (y 0).val / 256 * 256 + (y 0).val % 256 = (y 0).val := by omega
  funext a
  refine Fin.ext ?_
  match a with
  | ⟨0, _⟩ => blk_simp [idx t, e0]; rfl
  | ⟨1, _⟩ => blk_simp [idx t]; rfl

theorem final12 (c : Dev nD) : (dats m 0 c).arrAt 12 cfg0.N = (Cert.Reference7Ideal.Read.val_main_v69 (F := Ideal) (m ((c : Thread nD τ).loc main_arg0)) (m ((c : Thread nD τ).loc main_arg2)) : FVec Ideal S32768x128 .bf16) := by
  refine (dats m 0 c).arrAt_eq_of_covers 12 _ (by decide +kernel) fun t hf y => ?_
  generalize hR : (Cert.Reference7Ideal.Read.val_main_v69 (F := Ideal) (m ((c : Thread nD τ).loc main_arg0)) (m ((c : Thread nD τ).loc main_arg2)) : FVec Ideal S32768x128 .bf16) = R
  blk_simp
  rw [after0_12]; frame_out []
  obtain ⟨r, j, rfl⟩ : ∃ r j, y = ix2 r j := ⟨y 0, y 1, by funext a; fin_cases a <;> rfl⟩
  have hr : t.val * 256 + r.val < 32768 := by
    have h0 := t.isLt
    have h1 : cfg0.grid.N = 128 := N_0
    have h2 := r.isLt
    omega
  have hp := point12 m c t r j ⟨t.val * 256 + r.val, hr⟩ rfl
  rw [hR] at hp
  refine Eq.trans ?_ (hp.trans (congrArg R ?_))
  · rfl
  funext a
  refine Fin.ext ?_
  match a with
  | ⟨0, _⟩ => blk_simp [idx t]
  | ⟨1, _⟩ => blk_simp [idx t]

theorem final13 (c : Dev nD) : (dats m 0 c).arrAt 13 cfg0.N = (Cert.Reference7Ideal.Read.val_main_v71 (F := Ideal) (m ((c : Thread nD τ).loc main_arg0)) (m ((c : Thread nD τ).loc main_arg3)) (m ((c : Thread nD τ).loc main_arg4)) : FVec Ideal S32768x128 .bf16) := by
  refine (dats m 0 c).arrAt_eq_of_covers 13 _ (by decide +kernel) fun t hf y => ?_
  generalize hR : (Cert.Reference7Ideal.Read.val_main_v71 (F := Ideal) (m ((c : Thread nD τ).loc main_arg0)) (m ((c : Thread nD τ).loc main_arg3)) (m ((c : Thread nD τ).loc main_arg4)) : FVec Ideal S32768x128 .bf16) = R
  blk_simp
  rw [after0_13]; frame_out []
  obtain ⟨r, j, rfl⟩ : ∃ r j, y = ix2 r j := ⟨y 0, y 1, by funext a; fin_cases a <;> rfl⟩
  have hr : t.val * 256 + r.val < 32768 := by
    have h0 := t.isLt
    have h1 : cfg0.grid.N = 128 := N_0
    have h2 := r.isLt
    omega
  have hp := point13 m c t r j ⟨t.val * 256 + r.val, hr⟩ rfl
  rw [hR] at hp
  refine Eq.trans ?_ (hp.trans (congrArg R ?_))
  · rfl
  funext a
  refine Fin.ext ?_
  match a with
  | ⟨0, _⟩ => blk_simp [idx t]
  | ⟨1, _⟩ => blk_simp [idx t]

theorem final14 (c : Dev nD) : (dats m 0 c).arrAt 14 cfg0.N = (Cert.Reference7Ideal.Read.val_main_v73 (F := Ideal) (m ((c : Thread nD τ).loc main_arg0)) : FVec Ideal S32768x128 .f32) := by
  refine (dats m 0 c).arrAt_eq_of_covers 14 _ (by decide +kernel) fun t hf y => ?_
  generalize hR : (Cert.Reference7Ideal.Read.val_main_v73 (F := Ideal) (m ((c : Thread nD τ).loc main_arg0)) : FVec Ideal S32768x128 .f32) = R
  blk_simp
  rw [after0_14]; frame_out []
  obtain ⟨r, j, rfl⟩ : ∃ r j, y = ix2 r j := ⟨y 0, y 1, by funext a; fin_cases a <;> rfl⟩
  have hr : t.val * 256 + r.val < 32768 := by
    have h0 := t.isLt
    have h1 : cfg0.grid.N = 128 := N_0
    have h2 := r.isLt
    omega
  have hp := point14 m c t r j ⟨t.val * 256 + r.val, hr⟩ rfl
  rw [hR] at hp
  refine Eq.trans ?_ (hp.trans (congrArg R ?_))
  · rfl
  funext a
  refine Fin.ext ?_
  match a with
  | ⟨0, _⟩ => blk_simp [idx t]
  | ⟨1, _⟩ => blk_simp [idx t]

end Cert.Kernel7Ideal.Main

namespace Cert.Proof

open Idealize.ShloMosaic Idealize.SL.Sem

theorem algebraic7 : Cert.algebraic_Kernel7Ideal_Reference7Ideal (hKernel7Ideal := Cert.Kernel7Ideal.Gen.facts) (hReference7Ideal := Cert.Reference7Ideal.Gen.facts) :=
  fun m g m' g' _ hagree => ⟨fun c => Cert.Reference7Ideal.Read.val_main_v63 (F := Ideal) (m (c.tc.loc Cert.Kernel7Ideal.main_arg0)) (m (c.tc.loc Cert.Kernel7Ideal.main_arg1)) (m (c.tc.loc Cert.Kernel7Ideal.main_arg5)) (m (c.tc.loc Cert.Kernel7Ideal.main_arg7)),
    fun c => Cert.Reference7Ideal.Read.val_main_v68 (F := Ideal) (m (c.tc.loc Cert.Kernel7Ideal.main_arg0)) (m (c.tc.loc Cert.Kernel7Ideal.main_arg1)) (m (c.tc.loc Cert.Kernel7Ideal.main_arg6)),
    fun c => Cert.Reference7Ideal.Read.val_main_v69 (F := Ideal) (m (c.tc.loc Cert.Kernel7Ideal.main_arg0)) (m (c.tc.loc Cert.Kernel7Ideal.main_arg2)),
    fun c => Cert.Reference7Ideal.Read.val_main_v71 (F := Ideal) (m (c.tc.loc Cert.Kernel7Ideal.main_arg0)) (m (c.tc.loc Cert.Kernel7Ideal.main_arg3)) (m (c.tc.loc Cert.Kernel7Ideal.main_arg4)),
    fun c => Cert.Reference7Ideal.Read.val_main_v73 (F := Ideal) (m (c.tc.loc Cert.Kernel7Ideal.main_arg0)),
    (θ_run _ _ _).mono (fun _ h c => ⟨(h c).1.trans (Cert.Kernel7Ideal.Main.final10 m c), (h c).2.1.trans (Cert.Kernel7Ideal.Main.final11 m c), (h c).2.2.1.trans (Cert.Kernel7Ideal.Main.final12 m c), (h c).2.2.2.1.trans (Cert.Kernel7Ideal.Main.final13 m c), (h c).2.2.2.2.1.trans (Cert.Kernel7Ideal.Main.final14 m c), (h c).2.2.2.2.2⟩) (Cert.Kernel7Ideal.Value.run_blocks m g),
    (θ_run _ _ _).mono (fun _ h c => by
      obtain ⟨h0, h1, h2, h3, h4, h5, h6, h7⟩ := hagree c
      refine ⟨(h c).1.trans ((Cert.Reference7Ideal.Read.val_main_v63_eq _ _ _ _ ).trans (by rw [h0, h1, h5, h7])),
        (h c).2.1.trans ((Cert.Reference7Ideal.Read.val_main_v68_eq _ _ _ ).trans (by rw [h0, h1, h6])),
        (h c).2.2.1.trans ((Cert.Reference7Ideal.Read.val_main_v69_eq _ _ ).trans (by rw [h0, h2])),
        (h c).2.2.2.1.trans ((Cert.Reference7Ideal.Read.val_main_v71_eq _ _ _ ).trans (by rw [h0, h3, h4])),
        (h c).2.2.2.2.1.trans ((Cert.Reference7Ideal.Read.val_main_v73_eq _ ).trans (by rw [h0])), (h c).2.2.2.2.2⟩) (Cert.Reference7Ideal.Value.run m' g')⟩

end Cert.Proof

end
-- ==== Proof.S8.lean ====
/- The reference's loop stated over one trip: a valuation that holds a state goes on to hold the next, so what the run leaves
   is the result of the state after the last trip. -/
module

public import proofs.«01_k».proof.Proof.Gen.Reference8Ideal.Run
public import proofs.«01_k».proof.Proof.Gen.Reference8Ideal.Step

@[expose] public section

noncomputable section

namespace Cert.Reference8Ideal.Steps

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v16_7) = s.main_v16_7
  f_8 : V0 (Proc.devRef .tc main_v16_8) = s.main_v16_8
  f_0 : V0 (Proc.devRef .tc main_v16_0) = s.main_v16_0
  f_1 : V0 (Proc.devRef .tc main_v16_1) = s.main_v16_1
  f_2 : V0 (Proc.devRef .tc main_v16_2) = s.main_v16_2
  f_3 : V0 (Proc.devRef .tc main_v16_3) = s.main_v16_3
  f_4 : V0 (Proc.devRef .tc main_v16_4) = s.main_v16_4
  f_5 : V0 (Proc.devRef .tc main_v16_5) = s.main_v16_5
  n_6 : V0 (Proc.devRef .tc main_v16_6) = constantI S_ 32 (BitVec.ofNat 32 j)

variable {V0 s j}

/-! One trip's step of the carried values is `step`, field by field; a counter steps to the next number. -/

set_option maxRecDepth 8192 in
theorem new_44 (h : Holds V0 s j) : res_main_while0b_v44 V0 = Cert.Reference8Ideal.Step.b36 j s := by
  unfold res_main_while0b_v44
  simp only [Cert.Reference8Ideal.Step.b36, Cert.Reference8Ideal.Step.b35, Cert.Reference8Ideal.Step.b23, Cert.Reference8Ideal.Step.b17, Cert.Reference8Ideal.Step.b18, Cert.Reference8Ideal.Step.b19, Cert.Reference8Ideal.Step.b20, Cert.Reference8Ideal.Step.b21, Cert.Reference8Ideal.Step.b22, Cert.Reference8Ideal.Step.b12, Cert.Reference8Ideal.Step.b13, Cert.Reference8Ideal.Step.b14, Cert.Reference8Ideal.Step.b15, Cert.Reference8Ideal.Step.b16]
  rw [← h.f_7, ← h.f_2, ← h.f_3, ← h.n_6]
  rfl

set_option maxRecDepth 8192 in
theorem step_7 (h : Holds V0 s j) : step_main_v16_7 V0 = (step j s).main_v16_7 := by
  unfold step_main_v16_7 step
  simp only [Cert.Reference8Ideal.Step.b44, Cert.Reference8Ideal.Step.b43, Cert.Reference8Ideal.Step.b42, Cert.Reference8Ideal.Step.b41, Cert.Reference8Ideal.Step.b40, Cert.Reference8Ideal.Step.b34, Cert.Reference8Ideal.Step.b33, Cert.Reference8Ideal.Step.b30, Cert.Reference8Ideal.Step.b31, Cert.Reference8Ideal.Step.b32, Cert.Reference8Ideal.Step.b11, Cert.Reference8Ideal.Step.b10, Cert.Reference8Ideal.Step.b6, Cert.Reference8Ideal.Step.b7, Cert.Reference8Ideal.Step.b8, Cert.Reference8Ideal.Step.b9]
  rw [← new_44 h, ← h.f_7, ← h.f_1, ← h.f_5, ← h.n_6]
  rfl

set_option maxRecDepth 8192 in
theorem step_8 (h : Holds V0 s j) : step_main_v16_8 V0 = (step j s).main_v16_8 := by
  unfold step_main_v16_8 step
  simp only [Cert.Reference8Ideal.Step.b50, Cert.Reference8Ideal.Step.b49, Cert.Reference8Ideal.Step.b48, Cert.Reference8Ideal.Step.b47, Cert.Reference8Ideal.Step.b46, Cert.Reference8Ideal.Step.b45, Cert.Reference8Ideal.Step.b39, Cert.Reference8Ideal.Step.b38, Cert.Reference8Ideal.Step.b37, Cert.Reference8Ideal.Step.b5, Cert.Reference8Ideal.Step.b4, Cert.Reference8Ideal.Step.b0, Cert.Reference8Ideal.Step.b1, Cert.Reference8Ideal.Step.b2, Cert.Reference8Ideal.Step.b3, Cert.Reference8Ideal.Step.b29, Cert.Reference8Ideal.Step.b28, Cert.Reference8Ideal.Step.b24, Cert.Reference8Ideal.Step.b25, Cert.Reference8Ideal.Step.b26, Cert.Reference8Ideal.Step.b27]
  rw [← new_44 h, ← h.f_7, ← h.f_8, ← h.f_0, ← h.f_4, ← h.n_6]
  rfl

theorem step_6 (h : Holds V0 s j) : step_main_v16_6 V0 = constantI S_ 32 (BitVec.ofNat 32 (j + 1)) := by
  unfold step_main_v16_6
  rw [h.n_6]
  funext i
  show BitVec.ofNat 32 j + 1#32 = BitVec.ofNat 32 (j + 1)
  simp only [BitVec.ofNat_add]

set_option maxRecDepth 8192 in
theorem out_main_v36_holds (h : Holds V0 s j) {x_main_arg6 : (⟨S32768x6144, .f32⟩ : BufTy).Contents (Elt F)} (h_main_arg6 : V0 (Proc.devRef .tc main_arg6) = x_main_arg6) {x_main_arg7 : (⟨S128, .f32⟩ : BufTy).Contents (Elt F)} (h_main_arg7 : V0 (Proc.devRef .tc main_arg7) = x_main_arg7) : out_main_v36 V0 = Cert.Reference8Ideal.Step.R_main_v36 s x_main_arg6 x_main_arg7 := by
  unfold out_main_v36 Cert.Reference8Ideal.Step.R_main_v36
  rw [h.f_8, h_main_arg6, h_main_arg7]
  try rfl

/-- One trip keeps the valuation holding: `step` of the state, the same set-up values, the next number. -/
theorem holds_step (h : Holds V0 s j) : Holds (STEP V0) (step j s) (j + 1) where
  f_7 := (STEP_main_v16_7 V0).trans (step_7 h)
  f_8 := (STEP_main_v16_8 V0).trans (step_8 h)
  n_6 := (STEP_main_v16_6 V0).trans (step_6 h)
  f_0 := (STEP_main_v16_0 V0).trans h.f_0
  f_1 := (STEP_main_v16_1 V0).trans h.f_1
  f_2 := (STEP_main_v16_2 V0).trans h.f_2
  f_3 := (STEP_main_v16_3 V0).trans h.f_3
  f_4 := (STEP_main_v16_4 V0).trans h.f_4
  f_5 := (STEP_main_v16_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference8Ideal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v36) = Cert.Reference8Ideal.Step.R_main_v36 (it c 128) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 128
    ⟨(h c).1.trans (out_main_v36_holds hk (iter_main_arg6 m c 128) (iter_main_arg7 m c 128)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.Reference8Ideal.Steps

end
-- ==== Proof.R8.lean ====
/- The sequential half of the gated delta rule as the reference runs it, over exact arithmetic: a loop over the chunks of
   one sequence, with one state matrix to a head, whose trip reads a chunk, writes its outputs and hands the state on. -/
module

public import proofs.«01_k».proof.Proof.S8
public import Idealize.ShloMosaic.Lib.Pipeline.ValueKit

@[expose] public section

set_option maxRecDepth 16384

noncomputable section

namespace Cert.Delta

open Idealize.ShloMosaic Idealize.ShloMosaic.TcCoe Idealize.SL.Sem

/-- A square block of a chunk, or a head's state. -/
abbrev Mat := Fin 128 → Fin 128 → EReal

/-- What a chunk adds to the state's memory: its values less what the state already answers. -/
def fresh (U W S : Mat) : Mat := fun c e => U c e - ∑ d, W c d * S d e

/-- A chunk's outputs. -/
def outp (Q A U W S : Mat) : Mat := fun c e => (∑ d, Q c d * S d e) + ∑ s, A c s * fresh U W S s e

/-- The state after a chunk. -/
def next (K U W S : Mat) (G : Fin 128 → EReal) : Mat := fun d e => S d e * G e + ∑ s, K d s * fresh U W S s e

/-- Row `c` of chunk `n` of sequence `b`. -/
def row (b : Fin 2) (n : ℕ) (c : Fin 128) : Fin 32768 := ⟨(b.val * 16384 + n * 128 + c.val) % 32768, Nat.mod_lt _ (by decide)⟩

/-- The row that holds the decay of chunk `n` of sequence `b`. -/
def row8 (b : Fin 2) (n : ℕ) : Fin 2048 := ⟨((b.val * 128 + n) * 8) % 2048, Nat.mod_lt _ (by decide)⟩

/-- Lane `d` of head `h`. -/
def col (h : Fin 4) (d : Fin 128) : Fin 512 := ⟨h.val * 128 + d.val, by omega⟩

/-- One head's block of one chunk. -/
def tile (X : FVec Ideal ⟨2, ![32768, 512]⟩ .f32) (b : Fin 2) (h : Fin 4) (n : ℕ) : Mat := fun c d => X (ix2 (row b n c) (col h d))

/-- One head's decay over one chunk. -/
def dec (X : FVec Ideal ⟨2, ![2048, 512]⟩ .f32) (b : Fin 2) (h : Fin 4) (n : ℕ) : Fin 128 → EReal := fun e => X (ix2 (row8 b n) (col h e))

section

variable (u w q k a : FVec Ideal ⟨2, ![32768, 512]⟩ .f32) (g : FVec Ideal ⟨2, ![2048, 512]⟩ .f32)

/-- A head's state before chunk `n`. -/
def st (b : Fin 2) (h : Fin 4) : ℕ → Mat
  | 0 => fun _ _ => 0
  | n + 1 => next (tile k b h n) (tile u b h n) (tile w b h n) (st b h n) (dec g b h n)

/-- A head's outputs of chunk `n`. -/
def ou (b : Fin 2) (h : Fin 4) (n : ℕ) : Mat := outp (tile q b h n) (tile a b h n) (tile u b h n) (tile w b h n) (st u w k g b h n)

end

end Cert.Delta

namespace Cert.Reference8Ideal.Main

open Cert.Reference8Ideal Cert.Reference8Ideal.Step Cert.Delta Idealize.ShloMosaic Idealize.ShloMosaic.TcCoe Idealize.SL.Sem

variable (u w q k a : FVec Ideal S32768x512 .f32) (g : FVec Ideal S2048x512 .f32)

/-- The reference's states: the first, then trip by trip. -/
def it : ℕ → State Ideal
  | 0 => init u w q k a g
  | n + 1 => step n (it n)

theorem it_0 : ∀ n, (it u w q k a g n).main_v16_0 = A_main_v5 u w q k a g
  | 0 => rfl
  | n + 1 => it_0 n

theorem it_1 : ∀ n, (it u w q k a g n).main_v16_1 = A_main_v7 u w q k a g
  | 0 => rfl
  | n + 1 => it_1 n

theorem it_2 : ∀ n, (it u w q k a g n).main_v16_2 = A_main_v9 u w q k a g
  | 0 => rfl
  | n + 1 => it_2 n

theorem it_3 : ∀ n, (it u w q k a g n).main_v16_3 = A_main_v11 u w q k a g
  | 0 => rfl
  | n + 1 => it_3 n

theorem it_4 : ∀ n, (it u w q k a g n).main_v16_4 = A_main_v13 u w q k a g
  | 0 => rfl
  | n + 1 => it_4 n

theorem it_5 : ∀ n, (it u w q k a g n).main_v16_5 = A_main_v3 u w q k a g
  | 0 => rfl
  | n + 1 => it_5 n

theorem start : ∀ n, n < 128 → (BitVec.ofNat 32 n).toInt = n := by
  intro n hn
  rw [BitVec.toInt_eq_toNat_of_lt (by simp; omega)]
  simp; omega

/-- Where a trip reads: its own chunk. -/
theorem cs0 (n : ℕ) (hn : n < 128) (H) : Host.clampedStart S128x2x4x128x128 S1x2x4x128x128 H
    (fun k => BitVec.toInt ((![constantI S_ 32 (BitVec.ofNat 32 n), constantI S_ 32 0#32, constantI S_ 32 0#32, constantI S_ 32 0#32, constantI S_ 32 0#32] : Fin 5 → (⟨S_, .i32⟩ : BufTy).Contents (Elt Ideal)) k (Shape.Idx.first Gen.h_S_))) 0 = n := by
  show (min (max (BitVec.ofNat 32 n).toInt 0) ((128 - 1 : Nat) : Int)).toNat = n
  rw [start n hn]; omega

theorem cs1 (n : ℕ) (H) : Host.clampedStart S128x2x4x128x128 S1x2x4x128x128 H
    (fun k => BitVec.toInt ((![constantI S_ 32 (BitVec.ofNat 32 n), constantI S_ 32 0#32, constantI S_ 32 0#32, constantI S_ 32 0#32, constantI S_ 32 0#32] : Fin 5 → (⟨S_, .i32⟩ : BufTy).Contents (Elt Ideal)) k (Shape.Idx.first Gen.h_S_))) 1 = 0 := rfl

theorem cs2 (n : ℕ) (H) : Host.clampedStart S128x2x4x128x128 S1x2x4x128x128 H
    (fun k => BitVec.toInt ((![constantI S_ 32 (BitVec.ofNat 32 n), constantI S_ 32 0#32, constantI S_ 32 0#32, constantI S_ 32 0#32, constantI S_ 32 0#32] : Fin 5 → (⟨S_, .i32⟩ : BufTy).Contents (Elt Ideal)) k (Shape.Idx.first Gen.h_S_))) 2 = 0 := rfl

theorem cs3 (n : ℕ) (H) : Host.clampedStart S128x2x4x128x128 S1x2x4x128x128 H
    (fun k => BitVec.toInt ((![constantI S_ 32 (BitVec.ofNat 32 n), constantI S_ 32 0#32, constantI S_ 32 0#32, constantI S_ 32 0#32, constantI S_ 32 0#32] : Fin 5 → (⟨S_, .i32⟩ : BufTy).Contents (Elt Ideal)) k (Shape.Idx.first Gen.h_S_))) 3 = 0 := rfl

theorem cs4 (n : ℕ) (H) : Host.clampedStart S128x2x4x128x128 S1x2x4x128x128 H
    (fun k => BitVec.toInt ((![constantI S_ 32 (BitVec.ofNat 32 n), constantI S_ 32 0#32, constantI S_ 32 0#32, constantI S_ 32 0#32, constantI S_ 32 0#32] : Fin 5 → (⟨S_, .i32⟩ : BufTy).Contents (Elt Ideal)) k (Shape.Idx.first Gen.h_S_))) 4 = 0 := rfl

theorem cd0 (n : ℕ) (hn : n < 128) (H) : Host.clampedStart S128x2x4x128 S1x2x4x128 H
    (fun k => BitVec.toInt ((![constantI S_ 32 (BitVec.ofNat 32 n), constantI S_ 32 0#32, constantI S_ 32 0#32, constantI S_ 32 0#32] : Fin 4 → (⟨S_, .i32⟩ : BufTy).Contents (Elt Ideal)) k (Shape.Idx.first Gen.h_S_))) 0 = n := by
  show (min (max (BitVec.ofNat 32 n).toInt 0) ((128 - 1 : Nat) : Int)).toNat = n
  rw [start n hn]; omega

theorem cd1 (n : ℕ) (H) : Host.clampedStart S128x2x4x128 S1x2x4x128 H
    (fun k => BitVec.toInt ((![constantI S_ 32 (BitVec.ofNat 32 n), constantI S_ 32 0#32, constantI S_ 32 0#32, constantI S_ 32 0#32] : Fin 4 → (⟨S_, .i32⟩ : BufTy).Contents (Elt Ideal)) k (Shape.Idx.first Gen.h_S_))) 1 = 0 := rfl

theorem cd2 (n : ℕ) (H) : Host.clampedStart S128x2x4x128 S1x2x4x128 H
    (fun k => BitVec.toInt ((![constantI S_ 32 (BitVec.ofNat 32 n), constantI S_ 32 0#32, constantI S_ 32 0#32, constantI S_ 32 0#32] : Fin 4 → (⟨S_, .i32⟩ : BufTy).Contents (Elt Ideal)) k (Shape.Idx.first Gen.h_S_))) 2 = 0 := rfl

theorem cd3 (n : ℕ) (H) : Host.clampedStart S128x2x4x128 S1x2x4x128 H
    (fun k => BitVec.toInt ((![constantI S_ 32 (BitVec.ofNat 32 n), constantI S_ 32 0#32, constantI S_ 32 0#32, constantI S_ 32 0#32] : Fin 4 → (⟨S_, .i32⟩ : BufTy).Contents (Elt Ideal)) k (Shape.Idx.first Gen.h_S_))) 3 = 0 := rfl

theorem v5 (n : Fin 128) (b : Fin 2) (h : Fin 4) (c d : Fin 128) : A_main_v5 (F := Ideal) u w q k a g (ix5 n b h c d) = tile q b h n.val c d := by
  pointwise [A_main_v5, A_main_v4]
  exact congrArg q (congrArg₂ ix2 (Fin.ext (by simp only [row]; omega)) (Fin.ext (by simp only [col])))

theorem v7 (n : Fin 128) (b : Fin 2) (h : Fin 4) (c d : Fin 128) : A_main_v7 (F := Ideal) u w q k a g (ix5 n b h c d) = tile k b h n.val c d := by
  pointwise [A_main_v7, A_main_v6]
  exact congrArg k (congrArg₂ ix2 (Fin.ext (by simp only [row]; omega)) (Fin.ext (by simp only [col])))

theorem v9 (n : Fin 128) (b : Fin 2) (h : Fin 4) (c d : Fin 128) : A_main_v9 (F := Ideal) u w q k a g (ix5 n b h c d) = tile u b h n.val c d := by
  pointwise [A_main_v9, A_main_v8]
  exact congrArg u (congrArg₂ ix2 (Fin.ext (by simp only [row]; omega)) (Fin.ext (by simp only [col])))

theorem v11 (n : Fin 128) (b : Fin 2) (h : Fin 4) (c d : Fin 128) : A_main_v11 (F := Ideal) u w q k a g (ix5 n b h c d) = tile w b h n.val c d := by
  pointwise [A_main_v11, A_main_v10]
  exact congrArg w (congrArg₂ ix2 (Fin.ext (by simp only [row]; omega)) (Fin.ext (by simp only [col])))

theorem v13 (n : Fin 128) (b : Fin 2) (h : Fin 4) (c d : Fin 128) : A_main_v13 (F := Ideal) u w q k a g (ix5 n b h c d) = tile a b h n.val c d := by
  pointwise [A_main_v13, A_main_v12]
  exact congrArg a (congrArg₂ ix2 (Fin.ext (by simp only [row]; omega)) (Fin.ext (by simp only [col])))

theorem v3 (n : Fin 128) (b : Fin 2) (h : Fin 4) (d : Fin 128) : A_main_v3 (F := Ideal) u w q k a g (ix4 n b h d) = dec g b h n.val d := by
  pointwise [A_main_v3, A_main_v2, A_main_v1, A_main_v0]
  exact congrArg g (congrArg₂ ix2 (Fin.ext (by simp only [row8]; omega)) (Fin.ext (by simp only [col])))

theorem b5_apply (n : ℕ) (hn : n < 128) (s : State Ideal) (b : Fin 2) (h : Fin 4) (c d : Fin 128) :
    b5 n s (ix4 b h c d) = s.main_v16_0 (ix5 ⟨n, hn⟩ b h c d) := by
  pointwise [b5, b4, b0, b1, b2, b3]
  simp only [cs0 n hn, cs1, cs2, cs3, cs4, Nat.zero_add, Nat.add_zero]

theorem b11_apply (n : ℕ) (hn : n < 128) (s : State Ideal) (b : Fin 2) (h : Fin 4) (c d : Fin 128) :
    b11 n s (ix4 b h c d) = s.main_v16_1 (ix5 ⟨n, hn⟩ b h c d) := by
  pointwise [b11, b10, b6, b7, b8, b9]
  simp only [cs0 n hn, cs1, cs2, cs3, cs4, Nat.zero_add, Nat.add_zero]

theorem b17_apply (n : ℕ) (hn : n < 128) (s : State Ideal) (b : Fin 2) (h : Fin 4) (c d : Fin 128) :
    b17 n s (ix4 b h c d) = s.main_v16_2 (ix5 ⟨n, hn⟩ b h c d) := by
  pointwise [b17, b16, b12, b13, b14, b15]
  simp only [cs0 n hn, cs1, cs2, cs3, cs4, Nat.zero_add, Nat.add_zero]

theorem b23_apply (n : ℕ) (hn : n < 128) (s : State Ideal) (b : Fin 2) (h : Fin 4) (c d : Fin 128) :
    b23 n s (ix4 b h c d) = s.main_v16_3 (ix5 ⟨n, hn⟩ b h c d) := by
  pointwise [b23, b22, b18, b19, b20, b21]
  simp only [cs0 n hn, cs1, cs2, cs3, cs4, Nat.zero_add, Nat.add_zero]

theorem b29_apply (n : ℕ) (hn : n < 128) (s : State Ideal) (b : Fin 2) (h : Fin 4) (c d : Fin 128) :
    b29 n s (ix4 b h c d) = s.main_v16_4 (ix5 ⟨n, hn⟩ b h c d) := by
  pointwise [b29, b28, b24, b25, b26, b27]
  simp only [cs0 n hn, cs1, cs2, cs3, cs4, Nat.zero_add, Nat.add_zero]

theorem b34_apply (n : ℕ) (hn : n < 128) (s : State Ideal) (b : Fin 2) (h : Fin 4) (d : Fin 128) :
    b34 n s (ix3 b h d) = s.main_v16_5 (ix4 ⟨n, hn⟩ b h d) := by
  pointwise [b34, b33, b30, b31, b32]
  simp only [cd0 n hn, cd1, cd2, cd3, Nat.zero_add, Nat.add_zero]

theorem b36_apply (n : ℕ) (s : State Ideal) (b : Fin 2) (h : Fin 4) (c e : Fin 128) :
    b36 n s (ix4 b h c e) = b17 n s (ix4 b h c e) - ∑ d : Fin 128, b23 n s (ix4 b h c d) * s.main_v16_7 (ix4 b h d e) := by
  pointwise [b36, b35]

theorem b39_apply (n : ℕ) (s : State Ideal) (b : Fin 2) (h : Fin 4) (c e : Fin 128) :
    b39 n s (ix4 b h c e) = (∑ d : Fin 128, b5 n s (ix4 b h c d) * s.main_v16_7 (ix4 b h d e)) + ∑ d : Fin 128, b29 n s (ix4 b h c d) * b36 n s (ix4 b h d e) := by
  pointwise [b39, b38, b37]

theorem b44_apply (n : ℕ) (s : State Ideal) (b : Fin 2) (h : Fin 4) (c e : Fin 128) :
    b44 n s (ix4 b h c e) = s.main_v16_7 (ix4 b h c e) * b34 n s (ix3 b h e) + ∑ d : Fin 128, b11 n s (ix4 b h c d) * b36 n s (ix4 b h d e) := by
  pointwise [b44, b43, b42, b41, b40]

theorem b50_apply (n : ℕ) (hn : n < 128) (s : State Ideal) (i : Fin 128) (b : Fin 2) (h : Fin 4) (c e : Fin 128) :
    b50 n s (ix5 i b h c e) = if i.val = n then b39 n s (ix4 b h c e) else s.main_v16_8 (ix5 i b h c e) := by
  pointwise [b50, b45, b46, b47, b48, b49]
  simp only [cs1, cs2, cs3, cs4, Nat.sub_zero, Nat.zero_le, and_true]
  by_cases hi : i.val = n
  · rw [if_pos hi]
    refine (dif_pos ⟨⟨?_, ?_⟩, Nat.zero_le _, Nat.zero_le _, Nat.zero_le _, Nat.zero_le _⟩).trans rfl
    · rw [cs0 n hn]; omega
    · rw [cs0 n hn]; omega
  · rw [if_neg hi]
    refine dif_neg fun h1 => hi ?_
    obtain ⟨⟨h2, h3⟩, _⟩ := h1
    rw [cs0 n hn] at h2 h3
    omega

/-- What the reference's state holds before chunk `n`: every head's state, and the outputs of the chunks before. -/
theorem it_holds : ∀ n, n ≤ 128 → (∀ b h d e, (it u w q k a g n).main_v16_7 (ix4 b h d e) = st u w k g b h n d e)
    ∧ ∀ (i : Fin 128) b h c e, i.val < n → (it u w q k a g n).main_v16_8 (ix5 i b h c e) = ou u w q k a g b h i.val c e
  | 0, _ => by
    refine ⟨fun b h d e => ?_, fun i b h c e hi => absurd hi (Nat.not_lt_zero _)⟩
    show K_main_v14 (F := Ideal) (ix4 b h d e) = (0 : EReal)
    pointwise [K_main_v14, K_main_cst]
  | n + 1, hn => by
    have hn' : n < 128 := by omega
    obtain ⟨h7, h8⟩ := it_holds n (by omega)
    have hf : ∀ b h c e, b36 n (it u w q k a g n) (ix4 b h c e) = fresh (tile u b h n) (tile w b h n) (st u w k g b h n) c e := by
      intro b h c e
      rw [b36_apply, b17_apply n hn', it_2, v9]
      simp only [b23_apply n hn', it_3, v11, h7, fresh]
    refine ⟨fun b h d e => ?_, fun i b h c e hi => ?_⟩
    · show b44 n (it u w q k a g n) (ix4 b h d e) = _
      rw [b44_apply, b34_apply n hn', it_5, v3, h7]
      simp only [b11_apply n hn', it_1, v7, hf, st, next]
    · show b50 n (it u w q k a g n) (ix5 i b h c e) = _
      rw [b50_apply n hn']
      by_cases hin : i.val = n
      · rw [if_pos hin, b39_apply]
        simp only [b5_apply n hn', b29_apply n hn', it_0, it_4, v5, v13, h7, hf, ou, outp, hin]
      · rw [if_neg hin]
        exact h8 i b h c e (by omega)

end Cert.Reference8Ideal.Main

end
-- ==== Proof.K8.lean ====
/- One grid point of the scan's kernel, over exact arithmetic: four chunks of one sequence, four heads to a chunk, written
   with the same few functions of square blocks that the reference's loop is written with. -/
module

public import proofs.«01_k».proof.Proof.R8
public import proofs.«01_k».proof.Proof.Gen.Kernel8Ideal.Value
public import Idealize.ShloMosaic.Lib.Pipeline.ReadBack

@[expose] public section

set_option maxRecDepth 16384

noncomputable section

namespace Cert.Delta

open Idealize.ShloMosaic Idealize.ShloMosaic.TcCoe Idealize.SL.Sem

/-- The outputs normalised along a head, scaled, and gated. -/
def gate (O Z : Mat) (g : Fin 128 → EReal) : Mat := fun c e =>
  O c e * Ideal.rsqrt (Ideal.div (∑ x, O c x * O c x) (Ideal.ofBits FTy.f32 0x43000000#32) + Ideal.ofBits FTy.f32 0x358637BD#32) * g e *
    (Z c e * Ideal.div 1 (1 + Ideal.exp (-Z c e)))

/-- The product of two blocks. -/
def mul (A B : Mat) : Mat := fun c e => ∑ d, A c d * B d e

end Cert.Delta

namespace Cert.Kernel8Ideal.Main

open Cert.Kernel8Ideal Cert.Kernel8Ideal.Gen Cert.Delta Idealize.ShloMosaic Idealize.ShloMosaic.TcCoe Idealize.SL.Sem

/-- A block as the vector that holds it. -/
def of (M : Mat) : FVec Ideal S128x128 .f32 := fun i => M (i 0) (i 1)

/-- A block as one head of the state's vector. -/
def of3 (M : Mat) : FVec Ideal S1x128x128 .f32 := fun i => M (i 1) (i 2)

/-- A lane vector as the row that holds it. -/
def ofl (g : Fin 128 → EReal) : FVec Ideal S1x128 .f32 := fun i => g (i 1)

/-- The block of a window at a row and a lane. -/
def cut (X : FVec Ideal S512x512 .f32) (r h : ℕ) : Mat := fun c e =>
  X (ix2 ⟨(r + c.val) % 512, Nat.mod_lt _ (by decide)⟩ ⟨(h + e.val) % 512, Nat.mod_lt _ (by decide)⟩)

/-- The decay of a chunk in a window. -/
def lane (G : FVec Ideal S32x512 .f32) (r h : ℕ) : Fin 128 → EReal := fun e =>
  G (ix2 ⟨r % 32, Nat.mod_lt _ (by decide)⟩ ⟨(h + e.val) % 512, Nat.mod_lt _ (by decide)⟩)

/-- One head of the state's vector. -/
def head (X : FVec Ideal S4x128x128 .f32) (h : ℕ) : Mat := fun d e => X (ix3 ⟨h % 4, Nat.mod_lt _ (by decide)⟩ d e)

theorem ld_of (X : FVec Ideal S512x512 .f32) (r h : ℕ) (inb : ∀ i, ![r, h] i + ![128, 128] i ≤ S512x512.size i) :
    (View.ld (Val := Elt Ideal) (e' := .f32) X (Rect.unit (s := S512x512) ![r, h] ![128, 128] inb) : FVec Ideal S128x128 .f32) = of (cut X r h) := by
  funext x
  refine View.ld_unit_apply_of _ _ _ _ _ _ fun a => ?_
  have b0 : r + 128 ≤ 512 := inb 0
  have b1 : h + 128 ≤ 512 := inb 1
  have x0 : (x 0).val < 128 := (x 0).isLt
  have x1 : (x 1).val < 128 := (x 1).isLt
  fin_cases a
  · exact Nat.mod_eq_of_lt (show r + (x 0).val < 512 by omega)
  · exact Nat.mod_eq_of_lt (show h + (x 1).val < 512 by omega)

theorem ldl_of (X : FVec Ideal S32x512 .f32) (r h : ℕ) (inb : ∀ i, ![r, h] i + ![1, 128] i ≤ S32x512.size i) :
    (View.ld (Val := Elt Ideal) (e' := .f32) X (Rect.unit (s := S32x512) ![r, h] ![1, 128] inb) : FVec Ideal S1x128 .f32) = ofl (lane X r h) := by
  funext x
  refine View.ld_unit_apply_of _ _ _ _ _ _ fun a => ?_
  have b0 : r + 1 ≤ 32 := inb 0
  have b1 : h + 128 ≤ 512 := inb 1
  have x0 : (x 0).val < 1 := (x 0).isLt
  have x1 : (x 1).val < 128 := (x 1).isLt
  fin_cases a
  · exact (Nat.mod_eq_of_lt (show r < 32 by omega)).trans (show r = r + (x 0).val by omega)
  · exact Nat.mod_eq_of_lt (show h + (x 1).val < 512 by omega)

theorem ldh_of (X : FVec Ideal S4x128x128 .f32) (h : ℕ) (inb : ∀ i, ![h, 0, 0] i + ![1, 128, 128] i ≤ S4x128x128.size i) :
    (View.ld (Val := Elt Ideal) (e' := .f32) X (Rect.unit (s := S4x128x128) ![h, 0, 0] ![1, 128, 128] inb) : FVec Ideal S1x128x128 .f32) = of3 (head X h) := by
  funext x
  refine View.ld_unit_apply_of _ _ _ _ _ _ fun a => ?_
  have b0 : h + 1 ≤ 4 := inb 0
  have x0 : (x 0).val < 1 := (x 0).isLt
  fin_cases a
  · exact (Nat.mod_eq_of_lt (show h < 4 by omega)).trans (show h = h + (x 0).val by omega)
  · exact (Nat.zero_add (x 1).val).symm
  · exact (Nat.zero_add (x 2).val).symm

theorem bc_of (g : Fin 128 → EReal) : broadcastTo S128x128 (ofl g) broadcasts_S1x128_S128x128 = of (fun _ e => g e) := by
  funext i
  obtain ⟨d, e, rfl⟩ : ∃ (d e : Fin 128), i = ix2 d e := ⟨i 0, i 1, by funext a; fin_cases a <;> rfl⟩
  pointwise [of, ofl]

theorem get_of (M : Mat) : shapeCast S128x128 (of3 M) shapeCasts_S1x128x128_S128x128 = of M := by
  funext i
  obtain ⟨d, e, rfl⟩ : ∃ (d e : Fin 128), i = ix2 d e := ⟨i 0, i 1, by funext a; fin_cases a <;> rfl⟩
  pointwise [of, of3]

theorem mm_of (A B : Mat) :
    matmul dot_S128x128_S128x128_S128x128_1_0_0_1_n_n none (truncf .bf16 (of A) bitsLt_bf16_f32) (truncf .bf16 (of B) bitsLt_bf16_f32) (constant (F := Ideal) S128x128 .f32 0x00000000#32) = of (mul A B) := by
  funext i
  obtain ⟨d, e, rfl⟩ : ∃ (d e : Fin 128), i = ix2 d e := ⟨i 0, i 1, by funext a; fin_cases a <;> rfl⟩
  pointwise [of, mul]

theorem sub_of (A B : Mat) : subf (of A) (of B) = of (fun c e => A c e - B c e) := rfl

theorem mul_of (A B : Mat) : mulf (of A) (of B) = of (fun c e => A c e * B c e) := rfl

theorem add_of (A B : Mat) : addf (of A) (of B) = of (fun c e => A c e + B c e) := rfl

theorem put_of (A : Mat) : shapeCast S1x128x128 (of A) shapeCasts_S128x128_S1x128x128 = of3 A := by
  funext i
  obtain ⟨z, d, e, rfl⟩ : ∃ (z : Fin 1) (d e : Fin 128), i = ix3 z d e := ⟨i 0, i 1, i 2, by funext a; fin_cases a <;> rfl⟩
  pointwise [of, of3]

/-- The tail of a tile, over the operations as they come. -/
def tail (v4 : FVec Ideal S1x128 .f32) (o z : FVec Ideal S128x128 .f32) : FVec Ideal S128x128 .f32 :=
  mulf (mulf (mulf o (broadcastTo S128x128 (rsqrt (addf (divf (shapeCast S128x1 (multiReduction .add [1] S128 (mulf o o) 0x00000000#32 reduces_S128x128_S128 (.inl rfl) rfl) shapeCasts_S128_S128x1) (broadcast S128x1 (Scalar.ofBits (F := Ideal) .f32 0x43000000#32))) (broadcast S128x1 (Scalar.ofBits (F := Ideal) .f32 0x358637BD#32)))) broadcasts_S128x1_S128x128)) (broadcastTo S128x128 v4 broadcasts_S1x128_S128x128)) (mulf z (divf (broadcast S128x128 (Scalar.ofBits (F := Ideal) .f32 0x3F800000#32)) (addf (broadcast S128x128 (Scalar.ofBits (F := Ideal) .f32 0x3F800000#32)) (exp (subf (broadcast S128x128 (Scalar.ofBits (F := Ideal) .f32 0x00000000#32)) z)))))

theorem t31 (v4 : FVec Ideal S1x128 .f32) (o z : FVec Ideal S128x128 .f32) : k0_pay31 v4 o z = tail v4 o z := rfl
theorem t35 (v4 : FVec Ideal S1x128 .f32) (o z : FVec Ideal S128x128 .f32) : k0_pay35 v4 o z = tail v4 o z := rfl
theorem t64 (v4 : FVec Ideal S1x128 .f32) (o z : FVec Ideal S128x128 .f32) : k0_pay64 v4 o z = tail v4 o z := rfl
theorem t67 (v4 : FVec Ideal S1x128 .f32) (o z : FVec Ideal S128x128 .f32) : k0_pay67 v4 o z = tail v4 o z := rfl
theorem t94 (v4 : FVec Ideal S1x128 .f32) (o z : FVec Ideal S128x128 .f32) : k0_pay94 v4 o z = tail v4 o z := rfl
theorem t95 (v4 : FVec Ideal S1x128 .f32) (o z : FVec Ideal S128x128 .f32) : k0_pay95 v4 o z = tail v4 o z := rfl
theorem t100 (v4 : FVec Ideal S1x128 .f32) (o z : FVec Ideal S128x128 .f32) : k0_pay100 v4 o z = tail v4 o z := rfl
theorem t126 (v4 : FVec Ideal S1x128 .f32) (o z : FVec Ideal S128x128 .f32) : k0_pay126 v4 o z = tail v4 o z := rfl
theorem t129 (v4 : FVec Ideal S1x128 .f32) (o z : FVec Ideal S128x128 .f32) : k0_pay129 v4 o z = tail v4 o z := rfl
theorem t34 (v4 : FVec Ideal S1x128 .f32) (o z : FVec Ideal S128x128 .f32) : k0_pay34 z (k0_pay32 v4 o) (k0_pay33 z) (Scalar.ofBits (F := Ideal) .f32 0x3F800000#32) = tail v4 o z := rfl
theorem t37 (v4 : FVec Ideal S1x128 .f32) (o z : FVec Ideal S128x128 .f32) : k0_pay37 z (k0_pay36 v4 o) = tail v4 o z := rfl
theorem t63 (v4 : FVec Ideal S1x128 .f32) (o z : FVec Ideal S128x128 .f32) : k0_pay63 v4 z (k0_pay62 o) = tail v4 o z := rfl
theorem t66 (v4 : FVec Ideal S1x128 .f32) (o z : FVec Ideal S128x128 .f32) : k0_pay66 v4 o z (k0_pay65 o) (Scalar.ofBits (F := Ideal) .f32 0x43000000#32) = tail v4 o z := rfl
theorem t99 (v4 : FVec Ideal S1x128 .f32) (o z : FVec Ideal S128x128 .f32) : k0_pay99 z (k0_pay96 v4 o) (k0_pay97 z) k0_pay98 = tail v4 o z := rfl
theorem t128 (v4 : FVec Ideal S1x128 .f32) (o z : FVec Ideal S128x128 .f32) : k0_pay128 v4 o z (k0_pay127 o) = tail v4 o z := rfl
theorem t131 (v4 : FVec Ideal S1x128 .f32) (o z : FVec Ideal S128x128 .f32) : k0_pay131 v4 o z (k0_pay130 o) = tail v4 o z := rfl

theorem tail_of (v4 : FVec Ideal S1x128 .f32) (O Z : Mat) : tail v4 (of O) (of Z) = of (gate O Z (fun e => v4 (ix2 0 e))) := by
  funext i
  obtain ⟨d, e, rfl⟩ : ∃ (d e : Fin 128), i = ix2 d e := ⟨i 0, i 1, by funext a; fin_cases a <;> rfl⟩
  pointwise [tail, of, gate]
  simp only [zero_sub]

theorem row_of (v : FVec Ideal S1x128 .f32) : shapeCast S1x128 v shapeCasts_S1x128_S1x128 = v := by
  funext i
  obtain ⟨d, e, rfl⟩ : ∃ (d : Fin 1) (e : Fin 128), i = ix2 d e := ⟨i 0, i 1, by funext a; fin_cases a <;> rfl⟩
  pointwise

/-- A head's state after some chunks of the point. -/
def adv (U W K : FVec Ideal S512x512 .f32) (G : FVec Ideal S32x512 .f32) (h : ℕ) (S : Mat) : ℕ → Mat
  | 0 => S
  | s + 1 => next (cut K (s * 128) (h * 128)) (cut U (s * 128) (h * 128)) (cut W (s * 128) (h * 128)) (adv U W K G h S s) (lane G (s * 8) (h * 128))

theorem tile3 (y : S4x128x128.Idx) (h : ℕ) (M : Mat) (v : EReal) (hv : (y 0).val = h → M (y 1) (y 2) = v) :
    View.TileAt (Val := Elt Ideal) (e := .f32) y ![h, 0, 0] ![1, 128, 128] (of3 M) v := by
  intro x hx
  have x0 : (x 0).val < 1 := (x 0).isLt
  have h0 : (y 0).val = h + (x 0).val := hx 0
  have h1 : (y 1).val = 0 + (x 1).val := hx 1
  have h2 : (y 2).val = 0 + (x 2).val := hx 2
  refine Eq.trans ?_ (hv (by omega))
  exact congrArg₂ M (Fin.ext (by omega)) (Fin.ext (by omega))

theorem piece3 (h : ℕ) (inb : ∀ i, ![h, 0, 0] i + ![1, 128, 128] i ≤ S4x128x128.size i) (M : Mat) (G : S4x128x128.Idx → EReal)
    (hG : ∀ y, (y 0).val = h → M (y 1) (y 2) = G y) :
    ∀ x, of3 M x = G ((Rect.unit (s := S4x128x128) ![h, 0, 0] ![1, 128, 128] inb).emb x) := fun x =>
  tile3 _ h M _ (hG _) x fun a => by rw [Rect.emb_apply]; exact congrArg (_ + ·) (Nat.one_mul _)

theorem tile2 (y : S512x512.Idx) (r h : ℕ) (M : Mat) (F : ℕ → ℕ → Mat) (hr : r % 128 = 0) (hh : h % 128 = 0)
    (hv : ∀ c e : Fin 128, M c e = F (r / 128) (h / 128) c e) :
    View.TileAt (Val := Elt Ideal) (e := .f32) y ![r, h] ![128, 128] (of M)
      (F ((y 0).val / 128) ((y 1).val / 128) ⟨(y 0).val % 128, Nat.mod_lt _ (by decide)⟩ ⟨(y 1).val % 128, Nat.mod_lt _ (by decide)⟩) := by
  intro x hx
  have x0 : (x 0).val < 128 := (x 0).isLt
  have x1 : (x 1).val < 128 := (x 1).isLt
  have h0 : (y 0).val = r + (x 0).val := hx 0
  have h1 : (y 1).val = h + (x 1).val := hx 1
  refine (hv (x 0) (x 1)).trans ?_
  rw [show (y 0).val / 128 = r / 128 by omega, show (y 1).val / 128 = h / 128 by omega]
  exact congrArg₂ (F (r / 128) (h / 128)) (Fin.ext (show (x 0).val = (y 0).val % 128 by omega)) (Fin.ext (show (x 1).val = (y 1).val % 128 by omega))

/-- One head's finished tile of one of the point's chunks. -/
def fin (U W Q K A : FVec Ideal S512x512 .f32) (G : FVec Ideal S32x512 .f32) (Z : FVec Ideal S512x512 .f32) (g : FVec Ideal S1x128 .f32) (S : ℕ → Mat) (s h : ℕ) : Mat :=
  gate (outp (cut Q (s * 128) (h * 128)) (cut A (s * 128) (h * 128)) (cut U (s * 128) (h * 128)) (cut W (s * 128) (h * 128)) (adv U W K G h (S h) s))
    (cut Z (s * 128) (h * 128)) (fun e => g (ix2 0 e))

theorem head_zero (h : ℕ) : head k0_pay3 h = fun _ _ => (0 : EReal) := by
  funext d e
  unfold head
  pointwise [k0_pay3]

end Cert.Kernel8Ideal.Main
end
-- ==== Proof.T8.lean ====
/- What one grid point of the scan's kernel leaves in its scratch and in its block of the output, for a sequence's first
   point, which starts from zero, and for the others, which start from what the point before left. -/
module

public import proofs.«01_k».proof.Proof.K8

@[expose] public section

set_option maxRecDepth 16384
set_option maxHeartbeats 4000000

noncomputable section

namespace Cert.Kernel8Ideal.Main

open Cert.Kernel8Ideal Cert.Kernel8Ideal.Gen Cert.Delta Idealize.ShloMosaic Idealize.ShloMosaic.TcCoe Idealize.SL.Sem

variable (m : (ℓ : Loc nD τ sig) → Buf (Elt Ideal) ℓ)

/-- The state after a sequence's first point. -/
theorem scratchA (c : Dev nD) (t : Fin cfg0.N) (h0 : t.val % 32 = 0) (y : S4x128x128.Idx) :
    (outsAt0 m c t.val t.isLt).2 y =
      adv (iblk m c 0 t) (iblk m c 1 t) (iblk m c 3 t) (iblk m c 5 t) (y 0).val (fun _ _ => 0) 4 (y 1) (y 2) := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y : S4x128x128.Idx => adv (iblk m c 0 t) (iblk m c 1 t) (iblk m c 3 t) (iblk m c 5 t) (y 0).val (fun _ _ => 0) 4 (y 1) (y 2)) [_] [_, _, _, _] ⟨?_, ?_, ?_, ?_, trivial⟩ y (View.cover_of_tiledL (s := S4x128x128) _ S1x128x128.size (by sl_kernel_rfl) y)
  all_goals
    simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
    simp only [ld_of, ldl_of, ldh_of, get_of, head_zero]
    simp only [bc_of, mul_of, mm_of, sub_of, add_of, put_of]
    refine piece3 _ _ _ (fun y : S4x128x128.Idx => adv (iblk m c 0 t) (iblk m c 1 t) (iblk m c 3 t) (iblk m c 5 t) (y 0).val (fun _ _ => 0) 4 (y 1) (y 2)) fun z hz => ?_
    simp only [hz]
    rfl

/-- The state after a later point. -/
theorem scratchB (c : Dev nD) (t : Fin cfg0.N) (h0 : ¬t.val % 32 = 0) (y : S4x128x128.Idx) :
    (outsAt0 m c t.val t.isLt).2 y =
      adv (iblk m c 0 t) (iblk m c 1 t) (iblk m c 3 t) (iblk m c 5 t) (y 0).val (head (outsAt0 m c (t.val - 1) (Nat.lt_of_le_of_lt (Nat.sub_le _ _) t.isLt)).2 (y 0).val) 4 (y 1) (y 2) := by
  rw [outsAt0_B m c t h0]
  frame_out
  refine View.canon_eq_of_allAt _ _ _ (View.cover_of_tiledL (s := S4x128x128) _ S1x128x128.size (by sl_kernel_rfl) y) ?_
  refine View.allAt_cons_unit _ _ _ _ _ ?_ ?_
  · simp only [read_unread_whole, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
    simp only [ld_of, ldl_of, ldh_of, get_of]
    simp only [bc_of, mul_of, mm_of, sub_of, add_of, put_of]
    refine tile3 y _ _ _ fun hy => ?_
    rw [hy]
    rfl
  refine View.allAt_cons_unit _ _ _ _ _ ?_ ?_
  · simp only [read_unread_whole, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
    simp only [ld_of, ldl_of, ldh_of, get_of]
    simp only [bc_of, mul_of, mm_of, sub_of, add_of, put_of]
    refine tile3 y _ _ _ fun hy => ?_
    rw [hy]
    rfl
  refine View.allAt_cons_unit _ _ _ _ _ ?_ ?_
  · simp only [read_unread_whole, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
    simp only [ld_of, ldl_of, ldh_of, get_of]
    simp only [bc_of, mul_of, mm_of, sub_of, add_of, put_of]
    refine tile3 y _ _ _ fun hy => ?_
    rw [hy]
    rfl
  refine View.allAt_cons_unit _ _ _ _ _ ?_ ?_
  · simp only [read_unread_whole, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
    simp only [ld_of, ldl_of, ldh_of, get_of]
    simp only [bc_of, mul_of, mm_of, sub_of, add_of, put_of]
    refine tile3 y _ _ _ fun hy => ?_
    rw [hy]
    rfl
  exact View.allAt_nil _ _

/-- The block a later point writes. -/
theorem outB (c : Dev nD) (t : Fin cfg0.N) (h0 : ¬t.val % 32 = 0) (y : S512x512.Idx) :
    (outsAt0 m c t.val t.isLt).1 y =
      fin (iblk m c 0 t) (iblk m c 1 t) (iblk m c 2 t) (iblk m c 3 t) (iblk m c 4 t) (iblk m c 5 t) (iblk m c 6 t) (iblk m c 7 t) (head (outsAt0 m c (t.val - 1) (Nat.lt_of_le_of_lt (Nat.sub_le _ _) t.isLt)).2)
        ((y 0).val / 128) ((y 1).val / 128) ⟨(y 0).val % 128, Nat.mod_lt _ (by decide)⟩ ⟨(y 1).val % 128, Nat.mod_lt _ (by decide)⟩ := by
  rw [outsAt0_B m c t h0]
  frame_out
  refine View.canon_eq_of_allAt _ _ _ (View.cover_of_tiledL (s := S512x512) _ S128x128.size (by sl_kernel_rfl) y) ?_
  iterate 16
    refine View.allAt_cons_unit _ _ _ _ _ ?_ ?_
    · simp only [read_unread_whole, t31, t35, t64, t67, t94, t95, t100, t126, t129, t34, t37, t63, t66, t99, t128, t131]
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
      simp only [ld_of, ldl_of, ldh_of, get_of, row_of]
      simp only [bc_of, mul_of, mm_of, sub_of, add_of, tail_of]
      exact tile2 y _ _ _ (fin (iblk m c 0 t) (iblk m c 1 t) (iblk m c 2 t) (iblk m c 3 t) (iblk m c 4 t) (iblk m c 5 t) (iblk m c 6 t) (iblk m c 7 t) (head (outsAt0 m c (t.val - 1) (Nat.lt_of_le_of_lt (Nat.sub_le _ _) t.isLt)).2)) rfl rfl fun _ _ => rfl
  exact View.allAt_nil _ _

/-- The block a sequence's first point writes. -/
theorem outA (c : Dev nD) (t : Fin cfg0.N) (h0 : t.val % 32 = 0) (y : S512x512.Idx) :
    (outsAt0 m c t.val t.isLt).1 y =
      fin (iblk m c 0 t) (iblk m c 1 t) (iblk m c 2 t) (iblk m c 3 t) (iblk m c 4 t) (iblk m c 5 t) (iblk m c 6 t) (iblk m c 7 t) (fun _ _ _ => 0)
        ((y 0).val / 128) ((y 1).val / 128) ⟨(y 0).val % 128, Nat.mod_lt _ (by decide)⟩ ⟨(y 1).val % 128, Nat.mod_lt _ (by decide)⟩ := by
  rw [outsAt0_A m c t h0]
  frame_open
  simp (disch := decide) only [↓ View.readCov_skip, ↓ View.readCov_cons_toLoadRect, ↓ View.readCov_fill]
  frame_out
  refine View.canon_eq_of_allAt _ _ _ (View.cover_of_tiledL (s := S512x512) _ S128x128.size (by sl_kernel_rfl) y) ?_
  iterate 16
    refine View.allAt_cons_unit _ _ _ _ _ ?_ ?_
    · simp only [t31, t35, t64, t67, t94, t95, t100, t126, t129, t34, t37, t63, t66, t99, t128, t131]
      simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
      simp only [ld_of, ldl_of, ldh_of, get_of, row_of, head_zero]
      simp only [bc_of, mul_of, mm_of, sub_of, add_of, tail_of]
      exact tile2 y _ _ _ (fin (iblk m c 0 t) (iblk m c 1 t) (iblk m c 2 t) (iblk m c 3 t) (iblk m c 4 t) (iblk m c 5 t) (iblk m c 6 t) (iblk m c 7 t) (fun _ _ _ => 0)) rfl rfl fun _ _ => rfl
  exact View.allAt_nil _ _

end Cert.Kernel8Ideal.Main
end
-- ==== Proof.V8.lean ====
/- What the gated delta rule's sequential half computes, over exact arithmetic: the state carried from point to point is the
   reference's state after four more chunks, and every finished tile is the reference's. -/
module

public import proofs.«01_k».proof.Defs
public import proofs.«01_k».proof.Proof.K8
public import proofs.«01_k».proof.Proof.T8
public import proofs.«01_k».proof.Proof.Gen.Kernel8
public import proofs.«01_k».proof.Proof.Gen.Kernel8.Frame

@[expose] public section

set_option maxRecDepth 16384

noncomputable section

namespace Cert.Kernel8Ideal.Main

open Cert.Kernel8Ideal Cert.Kernel8Ideal.Gen Cert.Delta Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 4]
    ∧ win0_7.index t = ![0, 0] ∧ win0_8.index t = ![t.val, 0] :=
  (by decide +kernel : ∀ t : Fin grid0.N, _)

theorem w0 (c : Dev nD) (t : Fin cfg0.N) (i j : Fin 512) (r : Fin 32768) (hr : r.val = t.val * 512 + i.val) :
    iblk m c 0 t (ix2 i j) = m ((c : Thread nD τ).loc main_arg0) (ix2 r j) := by
  blk_ext [iblk, V, idx t]

theorem w1 (c : Dev nD) (t : Fin cfg0.N) (i j : Fin 512) (r : Fin 32768) (hr : r.val = t.val * 512 + i.val) :
    iblk m c 1 t (ix2 i j) = m ((c : Thread nD τ).loc main_arg1) (ix2 r j) := by
  blk_ext [iblk, V, idx t]

theorem w2 (c : Dev nD) (t : Fin cfg0.N) (i j : Fin 512) (r : Fin 32768) (hr : r.val = t.val * 512 + i.val) :
    iblk m c 2 t (ix2 i j) = m ((c : Thread nD τ).loc main_arg2) (ix2 r j) := by
  blk_ext [iblk, V, idx t]

theorem w3 (c : Dev nD) (t : Fin cfg0.N) (i j : Fin 512) (r : Fin 32768) (hr : r.val = t.val * 512 + i.val) :
    iblk m c 3 t (ix2 i j) = m ((c : Thread nD τ).loc main_arg3) (ix2 r j) := by
  blk_ext [iblk, V, idx t]

theorem w4 (c : Dev nD) (t : Fin cfg0.N) (i j : Fin 512) (r : Fin 32768) (hr : r.val = t.val * 512 + i.val) :
    iblk m c 4 t (ix2 i j) = m ((c : Thread nD τ).loc main_arg4) (ix2 r j) := by
  blk_ext [iblk, V, idx t]

theorem w5 (c : Dev nD) (t : Fin cfg0.N) (i : Fin 32) (j : Fin 512) (r : Fin 2048) (hr : r.val = t.val * 32 + i.val) :
    iblk m c 5 t (ix2 i j) = m ((c : Thread nD τ).loc main_arg5) (ix2 r j) := by
  blk_ext [iblk, V, idx t]

theorem w6 (c : Dev nD) (t : Fin cfg0.N) (i j : Fin 512) (r : Fin 32768) (hr : r.val = t.val * 512 + i.val) :
    iblk m c 6 t (ix2 i j) = m ((c : Thread nD τ).loc main_arg6) (ix2 r ⟨2048 + j.val, by omega⟩) := by
  blk_ext [iblk, V, idx t]

theorem w7 (c : Dev nD) (t : Fin cfg0.N) (j : Fin 128) : iblk m c 7 t (ix2 0 j) = m ((c : Thread nD τ).loc main_arg7) (ix1 j) := by
  have e : V m c main_v0 = (shapeCast S1x128 (m ((c : Thread nD τ).loc main_arg7) : FVec Ideal S128 .f32) shapeCasts_S128_S1x128 : FVec Ideal S1x128 .f32) := by
    show StableHlo.after hostOps0 (fun b => m (c, b)) main_v0 = _
    after_results
    rfl
  show V m c main_v0 (((cfg0.win 7).blk t).view.emb _) = _
  rw [e]
  pointwise
  blk_ext [idx t]

/-- The sequence a point works on. -/
def seq (t : Fin cfg0.N) : Fin 2 := ⟨t.val / 32, by have h0 := t.isLt; have h1 : cfg0.N = 64 := N_0; omega⟩

/-- A window's block of a chunk is the argument's. -/
theorem cut_eq (X : FVec Ideal S512x512 .f32) (A : FVec Ideal S32768x512 .f32) (t : Fin cfg0.N)
    (hX : ∀ (i j : Fin 512) (r : Fin 32768), r.val = t.val * 512 + i.val → X (ix2 i j) = A (ix2 r j)) (h : Fin 4) (s : ℕ) (hs : s < 4) :
    cut X (s * 128) (h.val * 128) = tile A (seq t) h (4 * (t.val % 32) + s) := by
  funext c e
  have hc := c.isLt
  have he := e.isLt
  have hh := h.isLt
  have h0 := t.isLt
  have h1 : cfg0.N = 64 := N_0
  refine (hX _ _ (row (seq t) (4 * (t.val % 32) + s) c) ?_).trans (congrArg A (congrArg (ix2 _) (Fin.ext ?_)))
  · show (t.val / 32 * 16384 + (4 * (t.val % 32) + s) * 128 + c.val) % 32768 = t.val * 512 + (s * 128 + c.val) % 512
    omega
  · show (h.val * 128 + e.val) % 512 = h.val * 128 + e.val
    omega

theorem lane_eq (c : Dev nD) (t : Fin cfg0.N) (h : Fin 4) (s : ℕ) (hs : s < 4) :
    lane (iblk m c 5 t) (s * 8) (h.val * 128) = dec (m ((c : Thread nD τ).loc main_arg5)) (seq t) h (4 * (t.val % 32) + s) := by
  funext e
  have he := e.isLt
  have hh := h.isLt
  have h0 := t.isLt
  have h1 : cfg0.N = 64 := N_0
  refine (w5 m c t _ _ (row8 (seq t) (4 * (t.val % 32) + s)) ?_).trans (congrArg _ (congrArg (ix2 _) (Fin.ext ?_)))
  · show ((t.val / 32 * 128 + (4 * (t.val % 32) + s)) * 8) % 2048 = t.val * 32 + (s * 8) % 32
    omega
  · show (h.val * 128 + e.val) % 512 = h.val * 128 + e.val
    omega

/-- The reference's states over the kernel's arguments. -/
abbrev stm (c : Dev nD) (b : Fin 2) (h : Fin 4) (n : ℕ) : Mat :=
  st (m ((c : Thread nD τ).loc main_arg0)) (m ((c : Thread nD τ).loc main_arg1)) (m ((c : Thread nD τ).loc main_arg3)) (m ((c : Thread nD τ).loc main_arg5)) b h n

theorem adv_eq (c : Dev nD) (t : Fin cfg0.N) (h : Fin 4) : ∀ s, s ≤ 4 →
    adv (iblk m c 0 t) (iblk m c 1 t) (iblk m c 3 t) (iblk m c 5 t) h.val (stm m c (seq t) h (4 * (t.val % 32))) s = stm m c (seq t) h (4 * (t.val % 32) + s)
  | 0, _ => rfl
  | s + 1, hs => by
    have hs' : s < 4 := hs
    show next _ _ _ _ _ = next _ _ _ _ _
    rw [adv_eq c t h s (by omega), lane_eq m c t h s hs', cut_eq _ _ t (w0 m c t) h s hs', cut_eq _ _ t (w1 m c t) h s hs', cut_eq _ _ t (w3 m c t) h s hs']
    rfl

theorem head_apply (X : FVec Ideal S4x128x128 .f32) (h : Fin 4) (d e : Fin 128) : head X h.val d e = X (ix3 h d e) :=
  congrArg X (congrArg (ix3 · d e) (Fin.ext (Nat.mod_eq_of_lt h.isLt)))

/-- After a point the scratch holds the state after the point's four chunks. -/
theorem scratch (c : Dev nD) : ∀ (n : ℕ) (hn : n < cfg0.N) (h : Fin 4) (d e : Fin 128),
    (outsAt0 m c n hn).2 (ix3 h d e) = stm m c (seq ⟨n, hn⟩) h (4 * (n % 32) + 4) d e := by
  intro n
  induction n with
  | zero =>
    intro hn h d e
    refine (scratchA m c ⟨0, hn⟩ rfl _).trans ?_
    exact congrFun (congrFun (adv_eq m c ⟨0, hn⟩ h 4 le_rfl) d) e
  | succ n ih =>
    intro hn h d e
    by_cases h0 : (n + 1) % 32 = 0
    · refine (scratchA m c ⟨n + 1, hn⟩ h0 _).trans ?_
      refine Eq.trans ?_ (congrFun (congrFun (adv_eq m c ⟨n + 1, hn⟩ h 4 le_rfl) d) e)
      show _ = adv _ _ _ _ h.val (stm m c _ h (4 * ((n + 1) % 32))) 4 d e
      rw [h0]
      rfl
    · refine (scratchB m c ⟨n + 1, hn⟩ h0 _).trans ?_
      refine Eq.trans ?_ (congrFun (congrFun (adv_eq m c ⟨n + 1, hn⟩ h 4 le_rfl) d) e)
      have e1 : 4 * (n % 32) + 4 = 4 * ((n + 1) % 32) := by omega
      have e2 : seq ⟨n, Nat.lt_of_succ_lt hn⟩ = seq ⟨n + 1, hn⟩ := Fin.ext (show n / 32 = (n + 1) / 32 by omega)
      have hp : head (outsAt0 m c n (Nat.lt_of_succ_lt hn)).2 h.val = stm m c (seq ⟨n + 1, hn⟩) h (4 * ((n + 1) % 32)) := by
        funext d' e'
        rw [← e1, ← e2]
        exact (head_apply _ h d' e').trans (ih (Nat.lt_of_succ_lt hn) h d' e')
      rw [← hp]
      rfl

theorem gate_congr {O O' Z Z' : Mat} {g g' : Fin 128 → EReal} (c e : Fin 128) (hO : O = O') (hg : g = g') (hZ : Z c e = Z' c e) :
    gate O Z g c e = gate O' Z' g' c e := by
  unfold gate
  rw [hO, hg, hZ]

/-- The reference's result over the kernel's arguments. -/
abbrev ref (u w q k a : FVec Ideal S32768x512 .f32) (g : FVec Ideal S2048x512 .f32) (p : FVec Ideal S32768x6144 .f32) (ng : FVec Ideal S128 .f32) : FVec Ideal S32768x512 .f32 :=
  Cert.Reference8Ideal.Step.R_main_v36 (Cert.Reference8Ideal.Main.it u w q k a g 128) p ng

theorem ref_apply (u w q k a : FVec Ideal S32768x512 .f32) (g : FVec Ideal S2048x512 .f32) (p : FVec Ideal S32768x6144 .f32) (ng : FVec Ideal S128 .f32)
    (r : Fin 32768) (j : Fin 512) : ref u w q k a g p ng (ix2 r j) =
      gate (ou u w q k a g ⟨r.val / 16384, by omega⟩ ⟨j.val / 128, by omega⟩ (r.val / 128 % 128)) (fun _ _ => p (ix2 r ⟨2048 + j.val, by omega⟩)) (fun e => ng (ix1 e))
        ⟨r.val % 128, Nat.mod_lt _ (by decide)⟩ ⟨j.val % 128, Nat.mod_lt _ (by decide)⟩ := by
  have h8 := fun i b h c e => (Cert.Reference8Ideal.Main.it_holds u w q k a g 128 le_rfl).2 i b h c e i.isLt
  unfold ref
  generalize Cert.Reference8Ideal.Main.it u w q k a g 128 = s at h8
  pointwise [Cert.Reference8Ideal.Step.R_main_v36]
  simp only [h8]
  rfl

/-- What a point writes is the reference's. -/
theorem point (c : Dev nD) (t : Fin cfg0.N) (i j : Fin 512) (r : Fin 32768) (hr : r.val = t.val * 512 + i.val) :
    (outsAt0 m c t.val t.isLt).1 (ix2 i j) = ref (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 r j) := by
  rw [ref_apply]
  have hi := i.isLt
  have hj := j.isLt
  have h0 := t.isLt
  have h1 : cfg0.N = 64 := N_0
  obtain ⟨S, hS, hO⟩ : ∃ S : ℕ → Mat, (∀ h : Fin 4, S h.val = stm m c (seq t) h (4 * (t.val % 32))) ∧ (outsAt0 m c t.val t.isLt).1 (ix2 i j) =
      fin (iblk m c 0 t) (iblk m c 1 t) (iblk m c 2 t) (iblk m c 3 t) (iblk m c 4 t) (iblk m c 5 t) (iblk m c 6 t) (iblk m c 7 t) S
        (i.val / 128) (j.val / 128) ⟨i.val % 128, Nat.mod_lt _ (by decide)⟩ ⟨j.val % 128, Nat.mod_lt _ (by decide)⟩ := by
    by_cases h32 : t.val % 32 = 0
    · refine ⟨fun _ _ _ => 0, fun h => ?_, outA m c t h32 _⟩
      rw [h32]
      rfl
    · refine ⟨_, fun h => ?_, outB m c t h32 _⟩
      obtain ⟨n, hn⟩ := t
      cases n with
      | zero => exact absurd rfl h32
      | succ n =>
        have h33 : ¬(n + 1) % 32 = 0 := h32
        have e1 : 4 * (n % 32) + 4 = 4 * ((n + 1) % 32) := by omega
        have e2 : seq ⟨n, Nat.lt_of_succ_lt hn⟩ = seq ⟨n + 1, hn⟩ := Fin.ext (show n / 32 = (n + 1) / 32 by omega)
        funext d' e'
        show _ = stm m c _ h (4 * ((n + 1) % 32)) d' e'
        rw [← e1, ← e2]
        exact (head_apply _ h d' e').trans (scratch m c n (Nat.lt_of_succ_lt hn) h d' e')
  rw [hO]
  have hs : i.val / 128 < 4 := by omega
  obtain ⟨h, hh⟩ : ∃ h : Fin 4, h.val = j.val / 128 := ⟨⟨j.val / 128, by omega⟩, rfl⟩
  have hb : (⟨r.val / 16384, by omega⟩ : Fin 2) = seq t := Fin.ext (show r.val / 16384 = t.val / 32 by omega)
  have hn : r.val / 128 % 128 = 4 * (t.val % 32) + i.val / 128 := by omega
  have hc : (⟨r.val % 128, Nat.mod_lt _ (by decide)⟩ : Fin 128) = ⟨i.val % 128, Nat.mod_lt _ (by decide)⟩ := Fin.ext (show r.val % 128 = i.val % 128 by omega)
  have hh' : (⟨j.val / 128, by omega⟩ : Fin 4) = h := Fin.ext hh.symm
  rw [hb, hn, hc, hh', ← hh]
  refine gate_congr _ _ ?_ (funext fun e => w7 m c t e) ?_
  · rw [hS h, adv_eq m c t h _ hs.le, cut_eq _ _ t (w0 m c t) h _ hs, cut_eq _ _ t (w1 m c t) h _ hs, cut_eq _ _ t (w2 m c t) h _ hs, cut_eq _ _ t (w4 m c t) h _ hs]
    rfl
  · refine (w6 m c t _ _ r ?_).trans (congrArg _ (congrArg (ix2 _) (Fin.ext ?_)))
    · show r.val = t.val * 512 + (i.val / 128 * 128 + i.val % 128) % 512
      omega
    · show 2048 + (h.val * 128 + j.val % 128) % 512 = 2048 + j.val
      omega

theorem final (c : Dev nD) : (dats m 0 c).arrAt 8 cfg0.N
    = ref (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 8 _ (by decide +kernel) fun t hf y => ?_
  blk_simp
  rw [after0_8]
  obtain ⟨i, j, rfl⟩ : ∃ i j, y = ix2 i j := ⟨y 0, y 1, by funext a; fin_cases a <;> rfl⟩
  have hr : t.val * 512 + i.val < 32768 := by
    have h0 : t.val < cfg0.N := t.isLt
    have h1 : cfg0.N = 64 := N_0
    have h2 := i.isLt
    omega
  refine (point m c t i j ⟨t.val * 512 + i.val, hr⟩ rfl).trans (congrArg _ ?_)
  funext a
  refine Fin.ext ?_
  match a with
  | ⟨0, _⟩ => blk_simp [idx t]
  | ⟨1, _⟩ => blk_simp [idx t]

end Cert.Kernel8Ideal.Main

namespace Cert.Proof

open Idealize.ShloMosaic Idealize.SL.Sem

theorem algebraic8 : Cert.algebraic_Kernel8Ideal_Reference8Ideal (hKernel8Ideal := Cert.Kernel8Ideal.Gen.facts) (hReference8Ideal := Cert.Reference8Ideal.Gen.facts) :=
  fun m g m' g' _ hagree => ⟨fun c => Cert.Kernel8Ideal.Main.ref (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)),
    (θ_run _ _ _).mono (fun _ h c => ⟨(h c).1.trans (Cert.Kernel8Ideal.Main.final m c), (h c).2⟩) (Cert.Kernel8Ideal.Value.run_blocks m g),
    (θ_run _ _ _).mono (fun _ h c => ⟨(h c).1.trans (by
      obtain ⟨h0, h1, h2, h3, h4, h5, h6, h7⟩ := hagree c
      rw [h0, h1, h2, h3, h4, h5, h6, h7]), (h c).2⟩)
      (Cert.Reference8Ideal.Steps.run_iter m' g' (fun c => Cert.Reference8Ideal.Main.it (m' (c.tc.loc Cert.Reference8Ideal.main_arg0)) (m' (c.tc.loc Cert.Reference8Ideal.main_arg1)) (m' (c.tc.loc Cert.Reference8Ideal.main_arg2)) (m' (c.tc.loc Cert.Reference8Ideal.main_arg3)) (m' (c.tc.loc Cert.Reference8Ideal.main_arg4)) (m' (c.tc.loc Cert.Reference8Ideal.main_arg5))) (fun c => rfl) (fun c n => rfl))⟩

end Cert.Proof

end
-- ==== Proof.lean ====
module

public import proofs.«01_k».proof.Defs
public import proofs.«01_k».proof.Proof.Gen.Kernel
public import proofs.«01_k».proof.Proof.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.V2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.V3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.V4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.V5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.V6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.V7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.S8
public import proofs.«01_k».proof.Proof.R8
public import proofs.«01_k».proof.Proof.V8
public import Idealize.ShloMosaic.Adequacy
public import Idealize.ShloMosaic.Init

/-! # The claim: the frames of every call, and the values of the calls that have a reference -/

@[expose] public section

noncomputable section

namespace Cert.Proof

open Idealize.ShloMosaic Idealize.SL.Sem

theorem quiet2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiet3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiet4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiet5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiet6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiet7 : Cert.quiescent_Reference7Ideal := fun m ρ _ =>
  (θ_run Cert.Reference7Ideal.defs _ _).mono (fun r h => ⟨fun c => (h c).2.2.2.2.2, sem_eq_zero_of_no_sems (by decide) r.2⟩)
    (Cert.Reference7Ideal.Value.run (F := Ideal) m ρ)

theorem quiet8 : Cert.quiescent_Reference8Ideal := fun m ρ _ =>
  (θ_run Cert.Reference8Ideal.defs _ _).mono (fun r h => ⟨fun c => (h c).2, sem_eq_zero_of_no_sems (by decide) r.2⟩)
    (Cert.Reference8Ideal.Steps.run_iter (F := Ideal) m ρ (fun c => Cert.Reference8Ideal.Main.it (m (c.tc.loc Cert.Reference8Ideal.main_arg0)) (m (c.tc.loc Cert.Reference8Ideal.main_arg1)) (m (c.tc.loc Cert.Reference8Ideal.main_arg2)) (m (c.tc.loc Cert.Reference8Ideal.main_arg3)) (m (c.tc.loc Cert.Reference8Ideal.main_arg4)) (m (c.tc.loc Cert.Reference8Ideal.main_arg5))) (fun _ => rfl) (fun _ _ => rfl))

theorem claim : Cert.Claim :=
  ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite5.holds,
  fun m ρ _ => Cert.Kernel.Main.run_frame m ρ,
  fun m ρ _ => Cert.Kernel2.Gen.frame m ρ,
  fun m ρ _ => Cert.Kernel2Ideal.Gen.frame m ρ,
  quiet2,
  fun m ρ _ => Cert.Kernel3.Gen.frame m ρ,
  fun m ρ _ => Cert.Kernel3Ideal.Gen.frame m ρ,
  quiet3,
  fun m ρ _ => Cert.Kernel4.Gen.frame m ρ,
  fun m ρ _ => Cert.Kernel4Ideal.Gen.frame m ρ,
  quiet4,
  fun m ρ _ => Cert.Kernel5.Gen.frame m ρ,
  fun m ρ _ => Cert.Kernel5Ideal.Gen.frame m ρ,
  fun m ρ _ => Cert.Kernel5Ideal.Gen.frame m ρ,
  quiet5,
  fun m ρ _ => quiet5 m ρ trivial,
  fun m ρ _ => Cert.Kernel6.Gen.frame m ρ,
  fun m ρ _ => Cert.Kernel6Ideal.Gen.frame m ρ,
  quiet6,
  fun m ρ _ => Cert.Kernel7.Gen.frame m ρ,
  fun m ρ _ => Cert.Kernel7Ideal.Gen.frame m ρ,
  quiet7,
  fun m ρ _ => Cert.Kernel8.Gen.frame m ρ,
  fun m ρ _ => Cert.Kernel8Ideal.Gen.frame m ρ,
  quiet8,
  trivial,
  algebraic2,
  trivial,
  algebraic3,
  trivial,
  algebraic4,
  ⟨IdealRules.named_const.statement Cert.Kernel5Ideal.κ "scale" .f32 0x3E38AA3B#32 _ rfl,
    IdealRules.named_const.statement Cert.Kernel5Ideal.κ "mask" .f32 0xF149F2CA#32 _ rfl⟩,
  algebraic5,
  trivial,
  algebraic6,
  trivial,
  algebraic7,
  trivial,
  algebraic8⟩

end Cert.Proof

end
